-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![4, 1024, 8, 128]⟩ ⟨4, ![4, 16384, 8, 128]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![4, 1024, 8, 128]⟩ ⟨4, ![4, 16384, 8, 128]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4x256x1024 : Shape := ⟨3, ![4, 256, 1024]⟩
abbrev S1024x1024 : Shape := ⟨2, ![1024, 1024]⟩
abbrev S4x1024x8x128 : Shape := ⟨4, ![4, 1024, 8, 128]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x1024x8x128 : S_.BroadcastsInDim S4x1024x8x128 (![] : Fin 0 → Fin S4x1024x8x128.rank)
  reducesTo_S4x1024x8x128_S_d0_1_2_3 : S4x1024x8x128.ReducesTo [0, 1, 2, 3] S_

variable [Facts]

def fn_part1 {F : FTy → Type} [FloatOps F] (main_v5 : IVec S_ 1) (main_v11 : IVec S_ 1) (main_v13 : IVec S4x1024x8x128 1) (main_v15 : IVec S4x1024x8x128 1) : IVec S_ 1 × IVec S_ 1 × IVec S_ 1 :=
  let main_v16 : IVec S4x1024x8x128 1 := andi main_v13 main_v15
  let main_c_6 : IVec S_ 1 := constantI S_ 1 1#1
  let main_v17 : IVec S_ 1 := (fun x v => Host.reduce IntOp.andi x v reducesTo_S4x1024x8x128_S_d0_1_2_3 h_S_) main_v16 main_c_6
  (main_v5, main_v11, main_v17)

def fn {F : FTy → Type} [FloatOps F] (main_arg0 : FVec F S4x256x1024 .f32) (main_arg1 : FVec F S1024x1024 .f32) (main_arg2 : FVec F S4x1024x8x128 .f32) (main_arg3 : FVec F S4x1024x8x128 .f32) (main_arg4 : FVec F S1024x1024 .f32) : IVec S_ 1 × IVec S_ 1 × IVec S_ 1 :=
  let main_cst : FVec F S_ .f32 := constant S_ .f32 0xFF800000#32
  let main_v0 : FVec F S4x256x1024 .f32 := broadcastInDim S4x256x1024 ![] bcast_S_S4x256x1024 main_cst
  let main_v1 : IVec S4x256x1024 1 := cmpf .ogt main_arg0 main_v0
  let main_cst_0 : FVec F S_ .f32 := constant S_ .f32 0x7F800000#32
  let main_v2 : FVec F S4x256x1024 .f32 := broadcastInDim S4x256x1024 ![] bcast_S_S4x256x1024 main_cst_0
  let main_v3 : IVec S4x256x1024 1 := cmpf .olt main_arg0 main_v2
  let main_v4 : IVec S4x256x1024 1 := andi main_v1 main_v3
  let main_c : IVec S_ 1 := constantI S_ 1 1#1
  let main_v5 : IVec S_ 1 := (fun x v => Host.reduce IntOp.andi x v reducesTo_S4x256x1024_S_d0_1_2 h_S_) main_v4 main_c
  let main_cst_1 : FVec F S_ .f32 := constant S_ .f32 0xFF800000#32
  let main_v6 : FVec F S1024x1024 .f32 := broadcastInDim S1024x1024 ![] bcast_S_S1024x1024 main_cst_1
  let main_v7 : IVec S1024x1024 1 := cmpf .ogt main_arg1 main_v6
  let main_cst_2 : FVec F S_ .f32 := constant S_ .f32 0x7F800000#32
  let main_v8 : FVec F S1024x1024 .f32 := broadcastInDim S1024x1024 ![] bcast_S_S1024x1024 main_cst_2
  let main_v9 : IVec S1024x1024 1 := cmpf .olt main_arg1 main_v8
  let main_v10 : IVec S1024x1024 1 := andi main_v7 main_v9
  let main_c_3 : IVec S_ 1 := constantI S_ 1 1#1
  let main_v11 : IVec S_ 1 := (fun x v => Host.reduce IntOp.andi x v reducesTo_S1024x1024_S_d0_1 h_S_) main_v10 main_c_3
  let main_cst_4 : FVec F S_ .f32 := constant S_ .f32 0xFF800000#32
  let main_v12 : FVec F S4x1024x8x128 .f32 := broadcastInDim S4x1024x8x128 ![] bcast_S_S4x1024x8x128 main_cst_4
  let main_v13 : IVec S4x1024x8x128 1 := cmpf .ogt main_arg2 main_v12
  let main_cst_5 : FVec F S_ .f32 := constant S_ .f32 0x7F800000#32
  let main_v14 : FVec F S4x1024x8x128 .f32 := broadcastInDim S4x1024x8x128 ![] bcast_S_S4x1024x8x128 main_cst_5
  let main_v15 : IVec S4x1024x8x128 1 := cmpf .olt main_arg2 main_v14
  fn_part1 (F := F) main_v5 main_v11 main_v13 main_v15
-- ==== Pre_finite_ReferenceIdeal.lean ====
abbrev S4x256x1024 : Shape := ⟨3, ![4, 256, 1024]⟩
abbrev S1024x1024 : Shape := ⟨2, ![1024, 1024]⟩
abbrev S4x16384x8x128 : Shape := ⟨4, ![4, 16384, 8, 128]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x16384x8x128 : S_.BroadcastsInDim S4x16384x8x128 (![] : Fin 0 → Fin S4x16384x8x128.rank)
  reducesTo_S4x16384x8x128_S_d0_1_2_3 : S4x16384x8x128.ReducesTo [0, 1, 2, 3] S_

variable [Facts]

def fn_part1 {F : FTy → Type} [FloatOps F] (main_v5 : IVec S_ 1) (main_v11 : IVec S_ 1) (main_v13 : IVec S4x16384x8x128 1) (main_v15 : IVec S4x16384x8x128 1) : IVec S_ 1 × IVec S_ 1 × IVec S_ 1 :=
  let main_v16 : IVec S4x16384x8x128 1 := andi main_v13 main_v15
  let main_c_6 : IVec S_ 1 := constantI S_ 1 1#1
  let main_v17 : IVec S_ 1 := (fun x v => Host.reduce IntOp.andi x v reducesTo_S4x16384x8x128_S_d0_1_2_3 h_S_) main_v16 main_c_6
  (main_v5, main_v11, main_v17)

def fn {F : FTy → Type} [FloatOps F] (main_arg0 : FVec F S4x256x1024 .f32) (main_arg1 : FVec F S1024x1024 .f32) (main_arg2 : FVec F S4x16384x8x128 .f32) (main_arg3 : FVec F S4x16384x8x128 .f32) (main_arg4 : FVec F S1024x1024 .f32) : IVec S_ 1 × IVec S_ 1 × IVec S_ 1 :=
  let main_cst : FVec F S_ .f32 := constant S_ .f32 0xFF800000#32
  let main_v0 : FVec F S4x256x1024 .f32 := broadcastInDim S4x256x1024 ![] bcast_S_S4x256x1024 main_cst
  let main_v1 : IVec S4x256x1024 1 := cmpf .ogt main_arg0 main_v0
  let main_cst_0 : FVec F S_ .f32 := constant S_ .f32 0x7F800000#32
  let main_v2 : FVec F S4x256x1024 .f32 := broadcastInDim S4x256x1024 ![] bcast_S_S4x256x1024 main_cst_0
  let main_v3 : IVec S4x256x1024 1 := cmpf .olt main_arg0 main_v2
  let main_v4 : IVec S4x256x1024 1 := andi main_v1 main_v3
  let main_c : IVec S_ 1 := constantI S_ 1 1#1
  let main_v5 : IVec S_ 1 := (fun x v => Host.reduce IntOp.andi x v reducesTo_S4x256x1024_S_d0_1_2 h_S_) main_v4 main_c
  let main_cst_1 : FVec F S_ .f32 := constant S_ .f32 0xFF800000#32
  let main_v6 : FVec F S1024x1024 .f32 := broadcastInDim S1024x1024 ![] bcast_S_S1024x1024 main_cst_1
  let main_v7 : IVec S1024x1024 1 := cmpf .ogt main_arg1 main_v6
  let main_cst_2 : FVec F S_ .f32 := constant S_ .f32 0x7F800000#32
  let main_v8 : FVec F S1024x1024 .f32 := broadcastInDim S1024x1024 ![] bcast_S_S1024x1024 main_cst_2
  let main_v9 : IVec S1024x1024 1 := cmpf .olt main_arg1 main_v8
  let main_v10 : IVec S1024x1024 1 := andi main_v7 main_v9
  let main_c_3 : IVec S_ 1 := constantI S_ 1 1#1
  let main_v11 : IVec S_ 1 := (fun x v => Host.reduce IntOp.andi x v reducesTo_S1024x1024_S_d0_1 h_S_) main_v10 main_c_3
  let main_cst_4 : FVec F S_ .f32 := constant S_ .f32 0xFF800000#32
  let main_v12 : FVec F S4x16384x8x128 .f32 := broadcastInDim S4x16384x8x128 ![] bcast_S_S4x16384x8x128 main_cst_4
  let main_v13 : IVec S4x16384x8x128 1 := cmpf .ogt main_arg2 main_v12
  let main_cst_5 : FVec F S_ .f32 := constant S_ .f32 0x7F800000#32
  let main_v14 : FVec F S4x16384x8x128 .f32 := broadcastInDim S4x16384x8x128 ![] bcast_S_S4x16384x8x128 main_cst_5
  let main_v15 : IVec S4x16384x8x128 1 := cmpf .olt main_arg2 main_v14
  fn_part1 (F := F) main_v5 main_v11 main_v13 main_v15
-- ==== Kernel.lean ====
abbrev S4x256x1024 : Shape := ⟨3, ![4, 256, 1024]⟩
abbrev S1024x1024 : Shape := ⟨2, ![1024, 1024]⟩
abbrev S4x1024x8x128 : Shape := ⟨4, ![4, 1024, 8, 128]⟩
abbrev S16x9x64x128 : Shape := ⟨4, ![16, 9, 64, 128]⟩
abbrev S64x1024 : Shape := ⟨2, ![64, 1024]⟩
abbrev S16x64x1024 : Shape := ⟨3, ![16, 64, 1024]⟩
abbrev S2x1024x8x128 : Shape := ⟨4, ![2, 1024, 8, 128]⟩
abbrev S16 : Shape := ⟨1, ![16]⟩
abbrev S2x2 : Shape := ⟨2, ![2, 2]⟩
abbrev S_ : Shape := ⟨0, ![]⟩
abbrev S1x1 : Shape := ⟨2, ![1, 1]⟩
abbrev S1x1024x8x128 : Shape := ⟨4, ![1, 1024, 8, 128]⟩
abbrev S1024x8x128 : Shape := ⟨3, ![1024, 8, 128]⟩
abbrev S256x128 : Shape := ⟨2, ![256, 128]⟩
abbrev S1x1024x1x128 : Shape := ⟨4, ![1, 1024, 1, 128]⟩
abbrev S1024x128 : Shape := ⟨2, ![1024, 128]⟩
abbrev S256x1024 : Shape := ⟨2, ![256, 1024]⟩
abbrev S256 : Shape := ⟨1, ![256]⟩
abbrev S256x1 : Shape := ⟨2, ![256, 1]⟩
abbrev S64x128 : Shape := ⟨2, ![64, 128]⟩
abbrev S1x1x64x128 : Shape := ⟨4, ![1, 1, 64, 128]⟩
abbrev S64x1 : Shape := ⟨2, ![64, 1]⟩
abbrev S1x1x64x1 : Shape := ⟨4, ![1, 1, 64, 1]⟩
abbrev S1 : Shape := ⟨1, ![1]⟩
abbrev S1x9x64x128 : Shape := ⟨4, ![1, 9, 64, 128]⟩
abbrev S9x64x128 : Shape := ⟨3, ![9, 64, 128]⟩
abbrev S1x64x128 : Shape := ⟨3, ![1, 64, 128]⟩
abbrev S1x64x1 : Shape := ⟨3, ![1, 64, 1]⟩
abbrev S1x64x1024 : Shape := ⟨3, ![1, 64, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S4x1024x8x128, .f32⟩
  | .hbm, ⟨3, _⟩ => ⟨S4x1024x8x128, .f32⟩
  | .hbm, ⟨4, _⟩ => ⟨S1024x1024, .f32⟩
  | .hbm, ⟨5, _⟩ => ⟨S4x256x1024, .f32⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S4x256x1024, .f32⟩
  | .local _ .vmem, ⟨4, _⟩ => ⟨S1024x1024, .f32⟩
  | .local _ .vmem, ⟨5, _⟩ => ⟨S16x9x64x128, .bf16⟩
  | .local _ .vmem, ⟨6, _⟩ => ⟨S64x1024, .f32⟩
  | .local _ .vmem, ⟨7, _⟩ => ⟨S16x9x64x128, .bf16⟩
  | .local _ .vmem, ⟨8, _⟩ => ⟨S16x64x1024, .bf16⟩
  | .local _ .vmem, ⟨9, _⟩ => ⟨S2x1024x8x128, .f32⟩
  | .local _ .vmem, ⟨10, _⟩ => ⟨S2x1024x8x128, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_12 : BitVec 32 := 1#32
  let v32 : BitVec 32 := Scalar.addi v2 c1_i32_12
  let c16_i32_13 : BitVec 32 := 16#32
  let c0_i32_14 : BitVec 32 := 0#32
  let v33 : BitVec 1 := Scalar.cmpi .eq c16_i32_13 c0_i32_14
  let c1_i32_15 : BitVec 32 := 1#32
  let v34 : BitVec 32 := Scalar.select v33 c1_i32_15 c16_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c1_i32_20 : BitVec 32 := 1#32
  let v43 : BitVec 32 := Scalar.muli v42 c1_i32_20
  let v44 : BitVec 32 := Scalar.addi c0_i32_21 v43
  v44.toNat
def k0_dev2 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v45 : BitVec 32 := Scalar.addi v2 c2_i32
  let c16_i32_22 : BitVec 32 := 16#32
  let c0_i32_23 : BitVec 32 := 0#32
  let v46 : BitVec 1 := Scalar.cmpi .eq c16_i32_22 c0_i32_23
  let c1_i32_24 : BitVec 32 := 1#32
  let v47 : BitVec 32 := Scalar.select v46 c1_i32_24 c16_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c1_i32_29 : BitVec 32 := 1#32
  let v56 : BitVec 32 := Scalar.muli v55 c1_i32_29
  let v57 : BitVec 32 := Scalar.addi c0_i32_30 v56
  v57.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v58 : BitVec 32 := Scalar.addi v2 c3_i32
  let c16_i32_31 : BitVec 32 := 16#32
  let c0_i32_32 : BitVec 32 := 0#32
  let v59 : BitVec 1 := Scalar.cmpi .eq c16_i32_31 c0_i32_32
  let c1_i32_33 : BitVec 32 := 1#32
  let v60 : BitVec 32 := Scalar.select v59 c1_i32_33 c16_i32_31
  let v61 : BitVec 32 := Scalar.remsi v58 v60
  let c0_i32_35 : BitVec 32 := 0#32
  let v63 : BitVec 1 := Scalar.cmpi .slt v61 c0_i32_35
  let c0_i32_36 : BitVec 32 := 0#32
  let v64 : BitVec 1 := Scalar.cmpi .slt v60 c0_i32_36
  let v65 : BitVec 1 := Scalar.xori v63 v64
  let c0_i32_34 : BitVec 32 := 0#32
  let v62 : BitVec 1 := Scalar.cmpi .ne v61 c0_i32_34
  let v66 : BitVec 1 := Scalar.andi v65 v62
  let v67 : BitVec 32 := Scalar.addi v61 v60
  let v68 : BitVec 32 := Scalar.select v66 v67 v61
  let c1_i32_38 : BitVec 32 := 1#32
  let v69 : BitVec 32 := Scalar.muli v68 c1_i32_38
  let v70 : BitVec 32 := Scalar.addi c0_i32_39 v69
  v70.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_40 : BitVec 32 := 4#32
  let v71 : BitVec 32 := Scalar.addi v2 c4_i32_40
  let c16_i32_41 : BitVec 32 := 16#32
  let c0_i32_42 : BitVec 32 := 0#32
  let v72 : BitVec 1 := Scalar.cmpi .eq c16_i32_41 c0_i32_42
  let c1_i32_43 : BitVec 32 := 1#32
  let v73 : BitVec 32 := Scalar.select v72 c1_i32_43 c16_i32_41
  let v74 : BitVec 32 := Scalar.remsi v71 v73
  let c0_i32_45 : BitVec 32 := 0#32
  let v76 : BitVec 1 := Scalar.cmpi .slt v74 c0_i32_45
  let c0_i32_46 : BitVec 32 := 0#32
  let v77 : BitVec 1 := Scalar.cmpi .slt v73 c0_i32_46
  let v78 : BitVec 1 := Scalar.xori v76 v77
  let c0_i32_44 : BitVec 32 := 0#32
  let v75 : BitVec 1 := Scalar.cmpi .ne v74 c0_i32_44
  let v79 : BitVec 1 := Scalar.andi v78 v75
  let v80 : BitVec 32 := Scalar.addi v74 v73
  let v81 : BitVec 32 := Scalar.select v79 v80 v74
  let c1_i32_48 : BitVec 32 := 1#32
  let v82 : BitVec 32 := Scalar.muli v81 c1_i32_48
  let v83 : BitVec 32 := Scalar.addi c0_i32_49 v82
  v83.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v84 : BitVec 32 := Scalar.addi v2 c5_i32
  let c16_i32_50 : BitVec 32 := 16#32
  let c0_i32_51 : BitVec 32 := 0#32
  let v85 : BitVec 1 := Scalar.cmpi .eq c16_i32_50 c0_i32_51
  let c1_i32_52 : BitVec 32 := 1#32
  let v86 : BitVec 32 := Scalar.select v85 c1_i32_52 c16_i32_50
  let v87 : BitVec 32 := Scalar.remsi v84 v86
  let c0_i32_54 : BitVec 32 := 0#32
  let v89 : BitVec 1 := Scalar.cmpi .slt v87 c0_i32_54
  let c0_i32_55 : BitVec 32 := 0#32
  let v90 : BitVec 1 := Scalar.cmpi .slt v86 c0_i32_55
  let v91 : BitVec 1 := Scalar.xori v89 v90
  let c0_i32_53 : BitVec 32 := 0#32
  let v88 : BitVec 1 := Scalar.cmpi .ne v87 c0_i32_53
  let v92 : BitVec 1 := Scalar.andi v91 v88
  let v93 : BitVec 32 := Scalar.addi v87 v86
  let v94 : BitVec 32 := Scalar.select v92 v93 v87
  let c1_i32_57 : BitVec 32 := 1#32
  let v95 : BitVec 32 := Scalar.muli v94 c1_i32_57
  let v96 : BitVec 32 := Scalar.addi c0_i32_58 v95
  v96.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v97 : BitVec 32 := Scalar.addi v2 c6_i32
  let c16_i32_59 : BitVec 32 := 16#32
  let c0_i32_60 : BitVec 32 := 0#32
  let v98 : BitVec 1 := Scalar.cmpi .eq c16_i32_59 c0_i32_60
  let c1_i32_61 : BitVec 32 := 1#32
  let v99 : BitVec 32 := Scalar.select v98 c1_i32_61 c16_i32_59
  let v100 : BitVec 32 := Scalar.remsi v97 v99
  let c0_i32_63 : BitVec 32 := 0#32
  let v102 : BitVec 1 := Scalar.cmpi .slt v100 c0_i32_63
  let c0_i32_64 : BitVec 32 := 0#32
  let v103 : BitVec 1 := Scalar.cmpi .slt v99 c0_i32_64
  let v104 : BitVec 1 := Scalar.xori v102 v103
  let c0_i32_62 : BitVec 32 := 0#32
  let v101 : BitVec 1 := Scalar.cmpi .ne v100 c0_i32_62
  let v105 : BitVec 1 := Scalar.andi v104 v101
  let v106 : BitVec 32 := Scalar.addi v100 v99
  let v107 : BitVec 32 := Scalar.select v105 v106 v100
  let c1_i32_66 : BitVec 32 := 1#32
  let v108 : BitVec 32 := Scalar.muli v107 c1_i32_66
  let v109 : BitVec 32 := Scalar.addi c0_i32_67 v108
  v109.toNat
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v110 : BitVec 32 := Scalar.addi v2 c7_i32
  let c16_i32_68 : BitVec 32 := 16#32
  let c0_i32_69 : BitVec 32 := 0#32
  let v111 : BitVec 1 := Scalar.cmpi .eq c16_i32_68 c0_i32_69
  let c1_i32_70 : BitVec 32 := 1#32
  let v112 : BitVec 32 := Scalar.select v111 c1_i32_70 c16_i32_68
  let v113 : BitVec 32 := Scalar.remsi v110 v112
  let c0_i32_72 : BitVec 32 := 0#32
  let v115 : BitVec 1 := Scalar.cmpi .slt v113 c0_i32_72
  let c0_i32_73 : BitVec 32 := 0#32
  let v116 : BitVec 1 := Scalar.cmpi .slt v112 c0_i32_73
  let v117 : BitVec 1 := Scalar.xori v115 v116
  let c0_i32_71 : BitVec 32 := 0#32
  let v114 : BitVec 1 := Scalar.cmpi .ne v113 c0_i32_71
  let v118 : BitVec 1 := Scalar.andi v117 v114
  let v119 : BitVec 32 := Scalar.addi v113 v112
  let v120 : BitVec 32 := Scalar.select v118 v119 v113
  let c1_i32_75 : BitVec 32 := 1#32
  let v121 : BitVec 32 := Scalar.muli v120 c1_i32_75
  let v122 : BitVec 32 := Scalar.addi c0_i32_76 v121
  v122.toNat
def k0_dev8 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v123 : BitVec 32 := Scalar.addi v2 c8_i32
  let c16_i32_77 : BitVec 32 := 16#32
  let c0_i32_78 : BitVec 32 := 0#32
  let v124 : BitVec 1 := Scalar.cmpi .eq c16_i32_77 c0_i32_78
  let c1_i32_79 : BitVec 32 := 1#32
  let v125 : BitVec 32 := Scalar.select v124 c1_i32_79 c16_i32_77
  let v126 : BitVec 32 := Scalar.remsi v123 v125
  let c0_i32_81 : BitVec 32 := 0#32
  let v128 : BitVec 1 := Scalar.cmpi .slt v126 c0_i32_81
  let c0_i32_82 : BitVec 32 := 0#32
  let v129 : BitVec 1 := Scalar.cmpi .slt v125 c0_i32_82
  let v130 : BitVec 1 := Scalar.xori v128 v129
  let c0_i32_80 : BitVec 32 := 0#32
  let v127 : BitVec 1 := Scalar.cmpi .ne v126 c0_i32_80
  let v131 : BitVec 1 := Scalar.andi v130 v127
  let v132 : BitVec 32 := Scalar.addi v126 v125
  let v133 : BitVec 32 := Scalar.select v131 v132 v126
  let c1_i32_84 : BitVec 32 := 1#32
  let v134 : BitVec 32 := Scalar.muli v133 c1_i32_84
  let v135 : BitVec 32 := Scalar.addi c0_i32_85 v134
  v135.toNat
def k0_dev9 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v136 : BitVec 32 := Scalar.addi v2 c9_i32
  let c16_i32_86 : BitVec 32 := 16#32
  let c0_i32_87 : BitVec 32 := 0#32
  let v137 : BitVec 1 := Scalar.cmpi .eq c16_i32_86 c0_i32_87
  let c1_i32_88 : BitVec 32 := 1#32
  let v138 : BitVec 32 := Scalar.select v137 c1_i32_88 c16_i32_86
  let v139 : BitVec 32 := Scalar.remsi v136 v138
  let c0_i32_90 : BitVec 32 := 0#32
  let v141 : BitVec 1 := Scalar.cmpi .slt v139 c0_i32_90
  let c0_i32_91 : BitVec 32 := 0#32
  let v142 : BitVec 1 := Scalar.cmpi .slt v138 c0_i32_91
  let v143 : BitVec 1 := Scalar.xori v141 v142
  let c0_i32_89 : BitVec 32 := 0#32
  let v140 : BitVec 1 := Scalar.cmpi .ne v139 c0_i32_89
  let v144 : BitVec 1 := Scalar.andi v143 v140
  let v145 : BitVec 32 := Scalar.addi v139 v138
  let v146 : BitVec 32 := Scalar.select v144 v145 v139
  let c1_i32_93 : BitVec 32 := 1#32
  let v147 : BitVec 32 := Scalar.muli v146 c1_i32_93
  let v148 : BitVec 32 := Scalar.addi c0_i32_94 v147
  v148.toNat
def k0_dev10 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v149 : BitVec 32 := Scalar.addi v2 c10_i32
  let c16_i32_95 : BitVec 32 := 16#32
  let c0_i32_96 : BitVec 32 := 0#32
  let v150 : BitVec 1 := Scalar.cmpi .eq c16_i32_95 c0_i32_96
  let c1_i32_97 : BitVec 32 := 1#32
  let v151 : BitVec 32 := Scalar.select v150 c1_i32_97 c16_i32_95
  let v152 : BitVec 32 := Scalar.remsi v149 v151
  let c0_i32_99 : BitVec 32 := 0#32
  let v154 : BitVec 1 := Scalar.cmpi .slt v152 c0_i32_99
  let c0_i32_100 : BitVec 32 := 0#32
  let v155 : BitVec 1 := Scalar.cmpi .slt v151 c0_i32_100
  let v156 : BitVec 1 := Scalar.xori v154 v155
  let c0_i32_98 : BitVec 32 := 0#32
  let v153 : BitVec 1 := Scalar.cmpi .ne v152 c0_i32_98
  let v157 : BitVec 1 := Scalar.andi v156 v153
  let v158 : BitVec 32 := Scalar.addi v152 v151
  let v159 : BitVec 32 := Scalar.select v157 v158 v152
  let c1_i32_102 : BitVec 32 := 1#32
  let v160 : BitVec 32 := Scalar.muli v159 c1_i32_102
  let v161 : BitVec 32 := Scalar.addi c0_i32_103 v160
  v161.toNat
def k0_dev11 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v162 : BitVec 32 := Scalar.addi v2 c11_i32
  let c16_i32_104 : BitVec 32 := 16#32
  let c0_i32_105 : BitVec 32 := 0#32
  let v163 : BitVec 1 := Scalar.cmpi .eq c16_i32_104 c0_i32_105
  let c1_i32_106 : BitVec 32 := 1#32
  let v164 : BitVec 32 := Scalar.select v163 c1_i32_106 c16_i32_104
  let v165 : BitVec 32 := Scalar.remsi v162 v164
  let c0_i32_108 : BitVec 32 := 0#32
  let v167 : BitVec 1 := Scalar.cmpi .slt v165 c0_i32_108
  let c0_i32_109 : BitVec 32 := 0#32
  let v168 : BitVec 1 := Scalar.cmpi .slt v164 c0_i32_109
  let v169 : BitVec 1 := Scalar.xori v167 v168
  let c0_i32_107 : BitVec 32 := 0#32
  let v166 : BitVec 1 := Scalar.cmpi .ne v165 c0_i32_107
  let v170 : BitVec 1 := Scalar.andi v169 v166
  let v171 : BitVec 32 := Scalar.addi v165 v164
  let v172 : BitVec 32 := Scalar.select v170 v171 v165
  let c1_i32_111 : BitVec 32 := 1#32
  let v173 : BitVec 32 := Scalar.muli v172 c1_i32_111
  let v174 : BitVec 32 := Scalar.addi c0_i32_112 v173
  v174.toNat
def k0_dev12 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v175 : BitVec 32 := Scalar.addi v2 c12_i32
  let c16_i32_113 : BitVec 32 := 16#32
  let c0_i32_114 : BitVec 32 := 0#32
  let v176 : BitVec 1 := Scalar.cmpi .eq c16_i32_113 c0_i32_114
  let c1_i32_115 : BitVec 32 := 1#32
  let v177 : BitVec 32 := Scalar.select v176 c1_i32_115 c16_i32_113
  let v178 : BitVec 32 := Scalar.remsi v175 v177
  let c0_i32_117 : BitVec 32 := 0#32
  let v180 : BitVec 1 := Scalar.cmpi .slt v178 c0_i32_117
  let c0_i32_118 : BitVec 32 := 0#32
  let v181 : BitVec 1 := Scalar.cmpi .slt v177 c0_i32_118
  let v182 : BitVec 1 := Scalar.xori v180 v181
  let c0_i32_116 : BitVec 32 := 0#32
  let v179 : BitVec 1 := Scalar.cmpi .ne v178 c0_i32_116
  let v183 : BitVec 1 := Scalar.andi v182 v179
  let v184 : BitVec 32 := Scalar.addi v178 v177
  let v185 : BitVec 32 := Scalar.select v183 v184 v178
  let c1_i32_120 : BitVec 32 := 1#32
  let v186 : BitVec 32 := Scalar.muli v185 c1_i32_120
  let v187 : BitVec 32 := Scalar.addi c0_i32_121 v186
  v187.toNat
def k0_dev13 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v188 : BitVec 32 := Scalar.addi v2 c13_i32
  let c16_i32_122 : BitVec 32 := 16#32
  let c0_i32_123 : BitVec 32 := 0#32
  let v189 : BitVec 1 := Scalar.cmpi .eq c16_i32_122 c0_i32_123
  let c1_i32_124 : BitVec 32 := 1#32
  let v190 : BitVec 32 := Scalar.select v189 c1_i32_124 c16_i32_122
  let v191 : BitVec 32 := Scalar.remsi v188 v190
  let c0_i32_126 : BitVec 32 := 0#32
  let v193 : BitVec 1 := Scalar.cmpi .slt v191 c0_i32_126
  let c0_i32_127 : BitVec 32 := 0#32
  let v194 : BitVec 1 := Scalar.cmpi .slt v190 c0_i32_127
  let v195 : BitVec 1 := Scalar.xori v193 v194
  let c0_i32_125 : BitVec 32 := 0#32
  let v192 : BitVec 1 := Scalar.cmpi .ne v191 c0_i32_125
  let v196 : BitVec 1 := Scalar.andi v195 v192
  let v197 : BitVec 32 := Scalar.addi v191 v190
  let v198 : BitVec 32 := Scalar.select v196 v197 v191
  let c1_i32_129 : BitVec 32 := 1#32
  let v199 : BitVec 32 := Scalar.muli v198 c1_i32_129
  let v200 : BitVec 32 := Scalar.addi c0_i32_130 v199
  v200.toNat
def k0_dev14 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v201 : BitVec 32 := Scalar.addi v2 c14_i32
  let c16_i32_131 : BitVec 32 := 16#32
  let c0_i32_132 : BitVec 32 := 0#32
  let v202 : BitVec 1 := Scalar.cmpi .eq c16_i32_131 c0_i32_132
  let c1_i32_133 : BitVec 32 := 1#32
  let v203 : BitVec 32 := Scalar.select v202 c1_i32_133 c16_i32_131
  let v204 : BitVec 32 := Scalar.remsi v201 v203
  let c0_i32_135 : BitVec 32 := 0#32
  let v206 : BitVec 1 := Scalar.cmpi .slt v204 c0_i32_135
  let c0_i32_136 : BitVec 32 := 0#32
  let v207 : BitVec 1 := Scalar.cmpi .slt v203 c0_i32_136
  let v208 : BitVec 1 := Scalar.xori v206 v207
  let c0_i32_134 : BitVec 32 := 0#32
  let v205 : BitVec 1 := Scalar.cmpi .ne v204 c0_i32_134
  let v209 : BitVec 1 := Scalar.andi v208 v205
  let v210 : BitVec 32 := Scalar.addi v204 v203
  let v211 : BitVec 32 := Scalar.select v209 v210 v204
  let c1_i32_138 : BitVec 32 := 1#32
  let v212 : BitVec 32 := Scalar.muli v211 c1_i32_138
  let v213 : BitVec 32 := Scalar.addi c0_i32_139 v212
  v213.toNat
def k0_dev15 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v214 : BitVec 32 := Scalar.addi v2 c15_i32
  let c16_i32_140 : BitVec 32 := 16#32
  let c0_i32_141 : BitVec 32 := 0#32
  let v215 : BitVec 1 := Scalar.cmpi .eq c16_i32_140 c0_i32_141
  let c1_i32_142 : BitVec 32 := 1#32
  let v216 : BitVec 32 := Scalar.select v215 c1_i32_142 c16_i32_140
  let v217 : BitVec 32 := Scalar.remsi v214 v216
  let c0_i32_144 : BitVec 32 := 0#32
  let v219 : BitVec 1 := Scalar.cmpi .slt v217 c0_i32_144
  let c0_i32_145 : BitVec 32 := 0#32
  let v220 : BitVec 1 := Scalar.cmpi .slt v216 c0_i32_145
  let v221 : BitVec 1 := Scalar.xori v219 v220
  let c0_i32_143 : BitVec 32 := 0#32
  let v218 : BitVec 1 := Scalar.cmpi .ne v217 c0_i32_143
  let v222 : BitVec 1 := Scalar.andi v221 v218
  let v223 : BitVec 32 := Scalar.addi v217 v216
  let v224 : BitVec 32 := Scalar.select v222 v223 v217
  let c1_i32_147 : BitVec 32 := 1#32
  let v225 : BitVec 32 := Scalar.muli v224 c1_i32_147
  let v226 : BitVec 32 := Scalar.addi c0_i32_148 v225
  v226.toNat
def k0_off1 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_156 : BitVec 32 := 0#32
  let c0_i32_157 : BitVec 32 := 0#32
  let c0_i32_158 : BitVec 32 := 0#32
  ![v19.toNat, 0, 0, 0]
@[reducible] def k0_t1_loop : Scf.Loop 32 :=
  let c0_i32_175 : BitVec 32 := 0#32
  let c4_i32_176 : BitVec 32 := 4#32
  let v250 : BitVec 32 := Scalar.addi c0_i32_175 c4_i32_176
  let c1_i32_177 : BitVec 32 := 1#32
  ⟨c0_i32_175, v250, c1_i32_177⟩
def k0_cond1 (k0_t1 : Fin k0_t1_loop.trips) : BitVec 1 :=
  let c0_i32_175 : BitVec 32 := 0#32
  let c1_i32_177 : BitVec 32 := 1#32
  let arg18 : BitVec 32 := Scf.iv c0_i32_175 c1_i32_177 k0_t1
  let c1_i32_1732 : BitVec 32 := 1#32
  let v2676 : BitVec 32 := Scalar.addi arg18 c1_i32_1732
  let c4_i32_1733 : BitVec 32 := 4#32
  let v2677 : BitVec 1 := Scalar.cmpi .slt v2676 c4_i32_1733
  let v2678 : BitVec 32 := Scalar.extui v2677
  let c0_i32_1734 : BitVec 32 := 0#32
  let v2679 : BitVec 1 := Scalar.cmpi .ne v2678 c0_i32_1734
  v2679

def k0_off2 (k0_t1 : Fin k0_t1_loop.trips) : Fin 2 → Nat :=
  let c0_i32_175 : BitVec 32 := 0#32
  let c1_i32_177 : BitVec 32 := 1#32
  let arg18 : BitVec 32 := Scf.iv c0_i32_175 c1_i32_177 k0_t1
  let c1_i32_2169 : BitVec 32 := 1#32
  let v3348 : BitVec 32 := Scalar.addi arg18 c1_i32_2169
  let c2_i32_2170 : BitVec 32 := 2#32
  let c0_i32_2171 : BitVec 32 := 0#32
  let v3349 : BitVec 1 := Scalar.cmpi .eq c2_i32_2170 c0_i32_2171
  let c1_i32_2172 : BitVec 32 := 1#32
  let v3350 : BitVec 32 := Scalar.select v3349 c1_i32_2172 c2_i32_2170
  let v3351 : BitVec 32 := Scalar.remsi v3348 v3350
  let c0_i32_2174 : BitVec 32 := 0#32
  let v3353 : BitVec 1 := Scalar.cmpi .slt v3351 c0_i32_2174
  let c0_i32_2175 : BitVec 32 := 0#32
  let v3354 : BitVec 1 := Scalar.cmpi .slt v3350 c0_i32_2175
  let v3355 : BitVec 1 := Scalar.xori v3353 v3354
  let c0_i32_2173 : BitVec 32 := 0#32
  let v3352 : BitVec 1 := Scalar.cmpi .ne v3351 c0_i32_2173
  let v3356 : BitVec 1 := Scalar.andi v3355 v3352
  let v3357 : BitVec 32 := Scalar.addi v3351 v3350
  let v3358 : BitVec 32 := Scalar.select v3356 v3357 v3351
  let c0_i32_2176 : BitVec 32 := 0#32
  ![v3358.toNat, 0]
def k0_off3 (k0_t1 : Fin k0_t1_loop.trips) : Fin 4 → Nat :=
  let c0_i32_175 : BitVec 32 := 0#32
  let c1_i32_177 : BitVec 32 := 1#32
  let arg18 : BitVec 32 := Scf.iv c0_i32_175 c1_i32_177 k0_t1
  let c1_i32_2169 : BitVec 32 := 1#32
  let v3348 : BitVec 32 := Scalar.addi arg18 c1_i32_2169
  let c2_i32_2170 : BitVec 32 := 2#32
  let c0_i32_2171 : BitVec 32 := 0#32
  let v3349 : BitVec 1 := Scalar.cmpi .eq c2_i32_2170 c0_i32_2171
  let c1_i32_2172 : BitVec 32 := 1#32
  let v3350 : BitVec 32 := Scalar.select v3349 c1_i32_2172 c2_i32_2170
  let v3351 : BitVec 32 := Scalar.remsi v3348 v3350
  let c0_i32_2174 : BitVec 32 := 0#32
  let v3353 : BitVec 1 := Scalar.cmpi .slt v3351 c0_i32_2174
  let c0_i32_2175 : BitVec 32 := 0#32
  let v3354 : BitVec 1 := Scalar.cmpi .slt v3350 c0_i32_2175
  let v3355 : BitVec 1 := Scalar.xori v3353 v3354
  let c0_i32_2173 : BitVec 32 := 0#32
  let v3352 : BitVec 1 := Scalar.cmpi .ne v3351 c0_i32_2173
  let v3356 : BitVec 1 := Scalar.andi v3355 v3352
  let v3357 : BitVec 32 := Scalar.addi v3351 v3350
  let v3358 : BitVec 32 := Scalar.select v3356 v3357 v3351
  let c0_i32_2177 : BitVec 32 := 0#32
  let c0_i32_2178 : BitVec 32 := 0#32
  let c0_i32_2179 : BitVec 32 := 0#32
  ![v3358.toNat, 0, 0, 0]
def k0_off4 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v3336 : BitVec 32 := Scalar.subi v19 arg18
  let c1_i32_2162 : BitVec 32 := 1#32
  let v3337 : BitVec 32 := Scalar.subi v3336 c1_i32_2162
  let c4_i32_2163 : BitVec 32 := 4#32
  let c0_i32_2164 : BitVec 32 := 0#32
  let v3338 : BitVec 1 := Scalar.cmpi .eq c4_i32_2163 c0_i32_2164
  let c1_i32_2165 : BitVec 32 := 1#32
  let v3339 : BitVec 32 := Scalar.select v3338 c1_i32_2165 c4_i32_2163
  let v3340 : BitVec 32 := Scalar.remsi v3337 v3339
  let c0_i32_2167 : BitVec 32 := 0#32
  let v3342 : BitVec 1 := Scalar.cmpi .slt v3340 c0_i32_2167
  let c0_i32_2168 : BitVec 32 := 0#32
  let v3343 : BitVec 1 := Scalar.cmpi .slt v3339 c0_i32_2168
  let v3344 : BitVec 1 := Scalar.xori v3342 v3343
  let c0_i32_2166 : BitVec 32 := 0#32
  let v3341 : BitVec 1 := Scalar.cmpi .ne v3340 c0_i32_2166
  let v3345 : BitVec 1 := Scalar.andi v3344 v3341
  let v3346 : BitVec 32 := Scalar.addi v3340 v3339
  let v3347 : BitVec 32 := Scalar.select v3345 v3346 v3340
  let c0_i32_2180 : BitVec 32 := 0#32
  let c0_i32_2181 : BitVec 32 := 0#32
  let c0_i32_2182 : BitVec 32 := 0#32
  ![v3347.toNat, 0, 0, 0]
def k0_off5 (k0_t1 : Fin k0_t1_loop.trips) : Fin 2 → Nat :=
  let c0_i32_175 : BitVec 32 := 0#32
  let c1_i32_177 : BitVec 32 := 1#32
  let arg18 : BitVec 32 := Scf.iv c0_i32_175 c1_i32_177 k0_t1
  let c1_i32_2169 : BitVec 32 := 1#32
  let v3348 : BitVec 32 := Scalar.addi arg18 c1_i32_2169
  let c2_i32_2170 : BitVec 32 := 2#32
  let c0_i32_2171 : BitVec 32 := 0#32
  let v3349 : BitVec 1 := Scalar.cmpi .eq c2_i32_2170 c0_i32_2171
  let c1_i32_2172 : BitVec 32 := 1#32
  let v3350 : BitVec 32 := Scalar.select v3349 c1_i32_2172 c2_i32_2170
  let v3351 : BitVec 32 := Scalar.remsi v3348 v3350
  let c0_i32_2174 : BitVec 32 := 0#32
  let v3353 : BitVec 1 := Scalar.cmpi .slt v3351 c0_i32_2174
  let c0_i32_2175 : BitVec 32 := 0#32
  let v3354 : BitVec 1 := Scalar.cmpi .slt v3350 c0_i32_2175
  let v3355 : BitVec 1 := Scalar.xori v3353 v3354
  let c0_i32_2173 : BitVec 32 := 0#32
  let v3352 : BitVec 1 := Scalar.cmpi .ne v3351 c0_i32_2173
  let v3356 : BitVec 1 := Scalar.andi v3355 v3352
  let v3357 : BitVec 32 := Scalar.addi v3351 v3350
  let v3358 : BitVec 32 := Scalar.select v3356 v3357 v3351
  let c1_i32_2183 : BitVec 32 := 1#32
  ![v3358.toNat, 1]
def k0_off6 (k0_t1 : Fin k0_t1_loop.trips) : Fin 2 → Nat :=
  let c0_i32_175 : BitVec 32 := 0#32
  let c1_i32_177 : BitVec 32 := 1#32
  let arg18 : BitVec 32 := Scf.iv c0_i32_175 c1_i32_177 k0_t1
  let c2_i32_1726 : BitVec 32 := 2#32
  let c0_i32_1727 : BitVec 32 := 0#32
  let v2666 : BitVec 1 := Scalar.cmpi .eq c2_i32_1726 c0_i32_1727
  let c1_i32_1728 : BitVec 32 := 1#32
  let v2667 : BitVec 32 := Scalar.select v2666 c1_i32_1728 c2_i32_1726
  let v2668 : BitVec 32 := Scalar.remsi arg18 v2667
  let c0_i32_1730 : BitVec 32 := 0#32
  let v2670 : BitVec 1 := Scalar.cmpi .slt v2668 c0_i32_1730
  let c0_i32_1731 : BitVec 32 := 0#32
  let v2671 : BitVec 1 := Scalar.cmpi .slt v2667 c0_i32_1731
  let v2672 : BitVec 1 := Scalar.xori v2670 v2671
  let c0_i32_1729 : BitVec 32 := 0#32
  let v2669 : BitVec 1 := Scalar.cmpi .ne v2668 c0_i32_1729
  let v2673 : BitVec 1 := Scalar.andi v2672 v2669
  let v2674 : BitVec 32 := Scalar.addi v2668 v2667
  let v2675 : BitVec 32 := Scalar.select v2673 v2674 v2668
  let c0_i32_1736 : BitVec 32 := 0#32
  ![v2675.toNat, 0]
def k0_off7 (k0_t1 : Fin k0_t1_loop.trips) : Fin 4 → Nat :=
  let c0_i32_175 : BitVec 32 := 0#32
  let c1_i32_177 : BitVec 32 := 1#32
  let arg18 : BitVec 32 := Scf.iv c0_i32_175 c1_i32_177 k0_t1
  let c2_i32_1726 : BitVec 32 := 2#32
  let c0_i32_1727 : BitVec 32 := 0#32
  let v2666 : BitVec 1 := Scalar.cmpi .eq c2_i32_1726 c0_i32_1727
  let c1_i32_1728 : BitVec 32 := 1#32
  let v2667 : BitVec 32 := Scalar.select v2666 c1_i32_1728 c2_i32_1726
  let v2668 : BitVec 32 := Scalar.remsi arg18 v2667
  let c0_i32_1730 : BitVec 32 := 0#32
  let v2670 : BitVec 1 := Scalar.cmpi .slt v2668 c0_i32_1730
  let c0_i32_1731 : BitVec 32 := 0#32
  let v2671 : BitVec 1 := Scalar.cmpi .slt v2667 c0_i32_1731
  let v2672 : BitVec 1 := Scalar.xori v2670 v2671
  let c0_i32_1729 : BitVec 32 := 0#32
  let v2669 : BitVec 1 := Scalar.cmpi .ne v2668 c0_i32_1729
  let v2673 : BitVec 1 := Scalar.andi v2672 v2669
  let v2674 : BitVec 32 := Scalar.addi v2668 v2667
  let v2675 : BitVec 32 := Scalar.select v2673 v2674 v2668
  let c0_i32_1737 : BitVec 32 := 0#32
  let c0_i32_1738 : BitVec 32 := 0#32
  let c0_i32_1739 : BitVec 32 := 0#32
  ![v2675.toNat, 0, 0, 0]
def k0_off8 (k0_t1 : Fin k0_t1_loop.trips) : Fin 2 → Nat :=
  let c0_i32_175 : BitVec 32 := 0#32
  let c1_i32_177 : BitVec 32 := 1#32
  let arg18 : BitVec 32 := Scf.iv c0_i32_175 c1_i32_177 k0_t1
  let c2_i32_1726 : BitVec 32 := 2#32
  let c0_i32_1727 : BitVec 32 := 0#32
  let v2666 : BitVec 1 := Scalar.cmpi .eq c2_i32_1726 c0_i32_1727
  let c1_i32_1728 : BitVec 32 := 1#32
  let v2667 : BitVec 32 := Scalar.select v2666 c1_i32_1728 c2_i32_1726
  let v2668 : BitVec 32 := Scalar.remsi arg18 v2667
  let c0_i32_1730 : BitVec 32 := 0#32
  let v2670 : BitVec 1 := Scalar.cmpi .slt v2668 c0_i32_1730
  let c0_i32_1731 : BitVec 32 := 0#32
  let v2671 : BitVec 1 := Scalar.cmpi .slt v2667 c0_i32_1731
  let v2672 : BitVec 1 := Scalar.xori v2670 v2671
  let c0_i32_1729 : BitVec 32 := 0#32
  let v2669 : BitVec 1 := Scalar.cmpi .ne v2668 c0_i32_1729
  let v2673 : BitVec 1 := Scalar.andi v2672 v2669
  let v2674 : BitVec 32 := Scalar.addi v2668 v2667
  let v2675 : BitVec 32 := Scalar.select v2673 v2674 v2668
  let c1_i32_1744 : BitVec 32 := 1#32
  ![v2675.toNat, 1]
def k0_off9 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c256_i32 : BitVec 32 := 256#32
  let v2692 : BitVec 32 := Scalar.muli v2665 c256_i32
  let v2693 : Index := Scalar.indexCast v2692
  let c0_1751 : Index := 0#32
  ![v2693.toNat, 0]
def k0_off10 (k0_t1 : Fin k0_t1_loop.trips) : Fin 4 → Nat :=
  let c0_i32_175 : BitVec 32 := 0#32
  let c1_i32_177 : BitVec 32 := 1#32
  let arg18 : BitVec 32 := Scf.iv c0_i32_175 c1_i32_177 k0_t1
  let c2_i32_1726 : BitVec 32 := 2#32
  let c0_i32_1727 : BitVec 32 := 0#32
  let v2666 : BitVec 1 := Scalar.cmpi .eq c2_i32_1726 c0_i32_1727
  let c1_i32_1728 : BitVec 32 := 1#32
  let v2667 : BitVec 32 := Scalar.select v2666 c1_i32_1728 c2_i32_1726
  let v2668 : BitVec 32 := Scalar.remsi arg18 v2667
  let c0_i32_1730 : BitVec 32 := 0#32
  let v2670 : BitVec 1 := Scalar.cmpi .slt v2668 c0_i32_1730
  let c0_i32_1731 : BitVec 32 := 0#32
  let v2671 : BitVec 1 := Scalar.cmpi .slt v2667 c0_i32_1731
  let v2672 : BitVec 1 := Scalar.xori v2670 v2671
  let c0_i32_1729 : BitVec 32 := 0#32
  let v2669 : BitVec 1 := Scalar.cmpi .ne v2668 c0_i32_1729
  let v2673 : BitVec 1 := Scalar.andi v2672 v2669
  let v2674 : BitVec 32 := Scalar.addi v2668 v2667
  let v2675 : BitVec 32 := Scalar.select v2673 v2674 v2668
  let v2695 : Index := Scalar.indexCast v2675
  let c0_1752 : Index := 0#32
  let c0_1753 : Index := 0#32
  let c0_1754 : Index := 0#32
  ![v2695.toNat, 0, 0, 0]
def k0_off11 (d0 : Dev nD) (k0_t1 : Fin k0_t1_loop.trips) (c0_i32_1762 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_1761 : BitVec 32 := 4#32
  let v2708 : BitVec 32 := Scalar.muli v2665 c4_i32_1761
  let v2709 : BitVec 32 := Scalar.addi v2708 c0_i32_1762
  let v2710 : Index := Scalar.indexCast v2709
  let c0_1763 : Index := 0#32
  let c0_1764 : Index := 0#32
  let c0_1765 : Index := 0#32
  ![v2710.toNat, 0, 0, 0]
def k0_off12 (d0 : Dev nD) (k0_t1 : Fin k0_t1_loop.trips) (c0_i32_1767 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_1766 : BitVec 32 := 4#32
  let v2716 : BitVec 32 := Scalar.muli v2665 c4_i32_1766
  let v2717 : BitVec 32 := Scalar.addi v2716 c0_i32_1767
  let v2718 : Index := Scalar.indexCast v2717
  let c8 : Index := 8#32
  let c0_1768 : Index := 0#32
  let c0_1769 : Index := 0#32
  ![v2718.toNat, 8, 0, 0]
def k0_off13 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c256_i32_1800 : BitVec 32 := 256#32
  let v2770 : BitVec 32 := Scalar.muli v2665 c256_i32_1800
  let v2771 : Index := Scalar.indexCast v2770
  let c128_1801 : Index := 128#32
  ![v2771.toNat, 128]
def k0_off14 (k0_t1 : Fin k0_t1_loop.trips) : Fin 4 → Nat :=
  let c0_i32_175 : BitVec 32 := 0#32
  let c1_i32_177 : BitVec 32 := 1#32
  let arg18 : BitVec 32 := Scf.iv c0_i32_175 c1_i32_177 k0_t1
  let c2_i32_1726 : BitVec 32 := 2#32
  let c0_i32_1727 : BitVec 32 := 0#32
  let v2666 : BitVec 1 := Scalar.cmpi .eq c2_i32_1726 c0_i32_1727
  let c1_i32_1728 : BitVec 32 := 1#32
  let v2667 : BitVec 32 := Scalar.select v2666 c1_i32_1728 c2_i32_1726
  let v2668 : BitVec 32 := Scalar.remsi arg18 v2667
  let c0_i32_1730 : BitVec 32 := 0#32
  let v2670 : BitVec 1 := Scalar.cmpi .slt v2668 c0_i32_1730
  let c0_i32_1731 : BitVec 32 := 0#32
  let v2671 : BitVec 1 := Scalar.cmpi .slt v2667 c0_i32_1731
  let v2672 : BitVec 1 := Scalar.xori v2670 v2671
  let c0_i32_1729 : BitVec 32 := 0#32
  let v2669 : BitVec 1 := Scalar.cmpi .ne v2668 c0_i32_1729
  let v2673 : BitVec 1 := Scalar.andi v2672 v2669
  let v2674 : BitVec 32 := Scalar.addi v2668 v2667
  let v2675 : BitVec 32 := Scalar.select v2673 v2674 v2668
  let v2773 : Index := Scalar.indexCast v2675
  let c0_1802 : Index := 0#32
  let c1 : Index := 1#32
  let c0_1803 : Index := 0#32
  ![v2773.toNat, 0, 1, 0]
def k0_off15 (d0 : Dev nD) (k0_t1 : Fin k0_t1_loop.trips) (c0_i32_1811 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_1810 : BitVec 32 := 4#32
  let v2786 : BitVec 32 := Scalar.muli v2665 c4_i32_1810
  let v2787 : BitVec 32 := Scalar.addi v2786 c0_i32_1811
  let v2788 : Index := Scalar.indexCast v2787
  let c1_1812 : Index := 1#32
  let c0_1813 : Index := 0#32
  let c0_1814 : Index := 0#32
  ![v2788.toNat, 1, 0, 0]
def k0_off16 (d0 : Dev nD) (k0_t1 : Fin k0_t1_loop.trips) (c0_i32_1816 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_1815 : BitVec 32 := 4#32
  let v2794 : BitVec 32 := Scalar.muli v2665 c4_i32_1815
  let v2795 : BitVec 32 := Scalar.addi v2794 c0_i32_1816
  let v2796 : Index := Scalar.indexCast v2795
  let c8_1817 : Index := 8#32
  let c0_1818 : Index := 0#32
  let c1_1819 : Index := 1#32
  ![v2796.toNat, 8, 0, 1]
def k0_off17 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c256_i32_1850 : BitVec 32 := 256#32
  let v2848 : BitVec 32 := Scalar.muli v2665 c256_i32_1850
  let v2849 : Index := Scalar.indexCast v2848
  let c256_1851 : Index := 256#32
  ![v2849.toNat, 256]
def k0_off18 (k0_t1 : Fin k0_t1_loop.trips) : Fin 4 → Nat :=
  let c0_i32_175 : BitVec 32 := 0#32
  let c1_i32_177 : BitVec 32 := 1#32
  let arg18 : BitVec 32 := Scf.iv c0_i32_175 c1_i32_177 k0_t1
  let c2_i32_1726 : BitVec 32 := 2#32
  let c0_i32_1727 : BitVec 32 := 0#32
  let v2666 : BitVec 1 := Scalar.cmpi .eq c2_i32_1726 c0_i32_1727
  let c1_i32_1728 : BitVec 32 := 1#32
  let v2667 : BitVec 32 := Scalar.select v2666 c1_i32_1728 c2_i32_1726
  let v2668 : BitVec 32 := Scalar.remsi arg18 v2667
  let c0_i32_1730 : BitVec 32 := 0#32
  let v2670 : BitVec 1 := Scalar.cmpi .slt v2668 c0_i32_1730
  let c0_i32_1731 : BitVec 32 := 0#32
  let v2671 : BitVec 1 := Scalar.cmpi .slt v2667 c0_i32_1731
  let v2672 : BitVec 1 := Scalar.xori v2670 v2671
  let c0_i32_1729 : BitVec 32 := 0#32
  let v2669 : BitVec 1 := Scalar.cmpi .ne v2668 c0_i32_1729
  let v2673 : BitVec 1 := Scalar.andi v2672 v2669
  let v2674 : BitVec 32 := Scalar.addi v2668 v2667
  let v2675 : BitVec 32 := Scalar.select v2673 v2674 v2668
  let v2851 : Index := Scalar.indexCast v2675
  let c0_1852 : Index := 0#32
  let c2 : Index := 2#32
  let c0_1853 : Index := 0#32
  ![v2851.toNat, 0, 2, 0]
def k0_off19 (d0 : Dev nD) (k0_t1 : Fin k0_t1_loop.trips) (c0_i32_1861 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_1860 : BitVec 32 := 4#32
  let v2864 : BitVec 32 := Scalar.muli v2665 c4_i32_1860
  let v2865 : BitVec 32 := Scalar.addi v2864 c0_i32_1861
  let v2866 : Index := Scalar.indexCast v2865
  let c2_1862 : Index := 2#32
  let c0_1863 : Index := 0#32
  let c0_1864 : Index := 0#32
  ![v2866.toNat, 2, 0, 0]
def k0_off20 (d0 : Dev nD) (k0_t1 : Fin k0_t1_loop.trips) (c0_i32_1866 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_1865 : BitVec 32 := 4#32
  let v2872 : BitVec 32 := Scalar.muli v2665 c4_i32_1865
  let v2873 : BitVec 32 := Scalar.addi v2872 c0_i32_1866
  let v2874 : Index := Scalar.indexCast v2873
  let c8_1867 : Index := 8#32
  let c0_1868 : Index := 0#32
  let c2_1869 : Index := 2#32
  ![v2874.toNat, 8, 0, 2]
def k0_off21 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c256_i32_1900 : BitVec 32 := 256#32
  let v2926 : BitVec 32 := Scalar.muli v2665 c256_i32_1900
  let v2927 : Index := Scalar.indexCast v2926
  let c384_1901 : Index := 384#32
  ![v2927.toNat, 384]
def k0_off22 (k0_t1 : Fin k0_t1_loop.trips) : Fin 4 → Nat :=
  let c0_i32_175 : BitVec 32 := 0#32
  let c1_i32_177 : BitVec 32 := 1#32
  let arg18 : BitVec 32 := Scf.iv c0_i32_175 c1_i32_177 k0_t1
  let c2_i32_1726 : BitVec 32 := 2#32
  let c0_i32_1727 : BitVec 32 := 0#32
  let v2666 : BitVec 1 := Scalar.cmpi .eq c2_i32_1726 c0_i32_1727
  let c1_i32_1728 : BitVec 32 := 1#32
  let v2667 : BitVec 32 := Scalar.select v2666 c1_i32_1728 c2_i32_1726
  let v2668 : BitVec 32 := Scalar.remsi arg18 v2667
  let c0_i32_1730 : BitVec 32 := 0#32
  let v2670 : BitVec 1 := Scalar.cmpi .slt v2668 c0_i32_1730
  let c0_i32_1731 : BitVec 32 := 0#32
  let v2671 : BitVec 1 := Scalar.cmpi .slt v2667 c0_i32_1731
  let v2672 : BitVec 1 := Scalar.xori v2670 v2671
  let c0_i32_1729 : BitVec 32 := 0#32
  let v2669 : BitVec 1 := Scalar.cmpi .ne v2668 c0_i32_1729
  let v2673 : BitVec 1 := Scalar.andi v2672 v2669
  let v2674 : BitVec 32 := Scalar.addi v2668 v2667
  let v2675 : BitVec 32 := Scalar.select v2673 v2674 v2668
  let v2929 : Index := Scalar.indexCast v2675
  let c0_1902 : Index := 0#32
  let c3 : Index := 3#32
  let c0_1903 : Index := 0#32
  ![v2929.toNat, 0, 3, 0]
def k0_off23 (d0 : Dev nD) (k0_t1 : Fin k0_t1_loop.trips) (c0_i32_1911 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_1910 : BitVec 32 := 4#32
  let v2942 : BitVec 32 := Scalar.muli v2665 c4_i32_1910
  let v2943 : BitVec 32 := Scalar.addi v2942 c0_i32_1911
  let v2944 : Index := Scalar.indexCast v2943
  let c3_1912 : Index := 3#32
  let c0_1913 : Index := 0#32
  let c0_1914 : Index := 0#32
  ![v2944.toNat, 3, 0, 0]
def k0_off24 (d0 : Dev nD) (k0_t1 : Fin k0_t1_loop.trips) (c0_i32_1916 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_1915 : BitVec 32 := 4#32
  let v2950 : BitVec 32 := Scalar.muli v2665 c4_i32_1915
  let v2951 : BitVec 32 := Scalar.addi v2950 c0_i32_1916
  let v2952 : Index := Scalar.indexCast v2951
  let c8_1917 : Index := 8#32
  let c0_1918 : Index := 0#32
  let c3_1919 : Index := 3#32
  ![v2952.toNat, 8, 0, 3]
def k0_off25 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c256_i32_1950 : BitVec 32 := 256#32
  let v3004 : BitVec 32 := Scalar.muli v2665 c256_i32_1950
  let v3005 : Index := Scalar.indexCast v3004
  let c512_1951 : Index := 512#32
  ![v3005.toNat, 512]
def k0_off26 (k0_t1 : Fin k0_t1_loop.trips) : Fin 4 → Nat :=
  let c0_i32_175 : BitVec 32 := 0#32
  let c1_i32_177 : BitVec 32 := 1#32
  let arg18 : BitVec 32 := Scf.iv c0_i32_175 c1_i32_177 k0_t1
  let c2_i32_1726 : BitVec 32 := 2#32
  let c0_i32_1727 : BitVec 32 := 0#32
  let v2666 : BitVec 1 := Scalar.cmpi .eq c2_i32_1726 c0_i32_1727
  let c1_i32_1728 : BitVec 32 := 1#32
  let v2667 : BitVec 32 := Scalar.select v2666 c1_i32_1728 c2_i32_1726
  let v2668 : BitVec 32 := Scalar.remsi arg18 v2667
  let c0_i32_1730 : BitVec 32 := 0#32
  let v2670 : BitVec 1 := Scalar.cmpi .slt v2668 c0_i32_1730
  let c0_i32_1731 : BitVec 32 := 0#32
  let v2671 : BitVec 1 := Scalar.cmpi .slt v2667 c0_i32_1731
  let v2672 : BitVec 1 := Scalar.xori v2670 v2671
  let c0_i32_1729 : BitVec 32 := 0#32
  let v2669 : BitVec 1 := Scalar.cmpi .ne v2668 c0_i32_1729
  let v2673 : BitVec 1 := Scalar.andi v2672 v2669
  let v2674 : BitVec 32 := Scalar.addi v2668 v2667
  let v2675 : BitVec 32 := Scalar.select v2673 v2674 v2668
  let v3007 : Index := Scalar.indexCast v2675
  let c0_1952 : Index := 0#32
  let c4 : Index := 4#32
  let c0_1953 : Index := 0#32
  ![v3007.toNat, 0, 4, 0]
def k0_off27 (d0 : Dev nD) (k0_t1 : Fin k0_t1_loop.trips) (c0_i32_1961 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_1960 : BitVec 32 := 4#32
  let v3020 : BitVec 32 := Scalar.muli v2665 c4_i32_1960
  let v3021 : BitVec 32 := Scalar.addi v3020 c0_i32_1961
  let v3022 : Index := Scalar.indexCast v3021
  let c4_1962 : Index := 4#32
  let c0_1963 : Index := 0#32
  let c0_1964 : Index := 0#32
  ![v3022.toNat, 4, 0, 0]
def k0_off28 (d0 : Dev nD) (k0_t1 : Fin k0_t1_loop.trips) (c0_i32_1966 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_1965 : BitVec 32 := 4#32
  let v3028 : BitVec 32 := Scalar.muli v2665 c4_i32_1965
  let v3029 : BitVec 32 := Scalar.addi v3028 c0_i32_1966
  let v3030 : Index := Scalar.indexCast v3029
  let c8_1967 : Index := 8#32
  let c0_1968 : Index := 0#32
  let c4_1969 : Index := 4#32
  ![v3030.toNat, 8, 0, 4]
def k0_off29 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c256_i32_2000 : BitVec 32 := 256#32
  let v3082 : BitVec 32 := Scalar.muli v2665 c256_i32_2000
  let v3083 : Index := Scalar.indexCast v3082
  let c640_2001 : Index := 640#32
  ![v3083.toNat, 640]
def k0_off30 (k0_t1 : Fin k0_t1_loop.trips) : Fin 4 → Nat :=
  let c0_i32_175 : BitVec 32 := 0#32
  let c1_i32_177 : BitVec 32 := 1#32
  let arg18 : BitVec 32 := Scf.iv c0_i32_175 c1_i32_177 k0_t1
  let c2_i32_1726 : BitVec 32 := 2#32
  let c0_i32_1727 : BitVec 32 := 0#32
  let v2666 : BitVec 1 := Scalar.cmpi .eq c2_i32_1726 c0_i32_1727
  let c1_i32_1728 : BitVec 32 := 1#32
  let v2667 : BitVec 32 := Scalar.select v2666 c1_i32_1728 c2_i32_1726
  let v2668 : BitVec 32 := Scalar.remsi arg18 v2667
  let c0_i32_1730 : BitVec 32 := 0#32
  let v2670 : BitVec 1 := Scalar.cmpi .slt v2668 c0_i32_1730
  let c0_i32_1731 : BitVec 32 := 0#32
  let v2671 : BitVec 1 := Scalar.cmpi .slt v2667 c0_i32_1731
  let v2672 : BitVec 1 := Scalar.xori v2670 v2671
  let c0_i32_1729 : BitVec 32 := 0#32
  let v2669 : BitVec 1 := Scalar.cmpi .ne v2668 c0_i32_1729
  let v2673 : BitVec 1 := Scalar.andi v2672 v2669
  let v2674 : BitVec 32 := Scalar.addi v2668 v2667
  let v2675 : BitVec 32 := Scalar.select v2673 v2674 v2668
  let v3085 : Index := Scalar.indexCast v2675
  let c0_2002 : Index := 0#32
  let c5 : Index := 5#32
  let c0_2003 : Index := 0#32
  ![v3085.toNat, 0, 5, 0]
def k0_off31 (d0 : Dev nD) (k0_t1 : Fin k0_t1_loop.trips) (c0_i32_2011 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2010 : BitVec 32 := 4#32
  let v3098 : BitVec 32 := Scalar.muli v2665 c4_i32_2010
  let v3099 : BitVec 32 := Scalar.addi v3098 c0_i32_2011
  let v3100 : Index := Scalar.indexCast v3099
  let c5_2012 : Index := 5#32
  let c0_2013 : Index := 0#32
  let c0_2014 : Index := 0#32
  ![v3100.toNat, 5, 0, 0]
def k0_off32 (d0 : Dev nD) (k0_t1 : Fin k0_t1_loop.trips) (c0_i32_2016 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2015 : BitVec 32 := 4#32
  let v3106 : BitVec 32 := Scalar.muli v2665 c4_i32_2015
  let v3107 : BitVec 32 := Scalar.addi v3106 c0_i32_2016
  let v3108 : Index := Scalar.indexCast v3107
  let c8_2017 : Index := 8#32
  let c0_2018 : Index := 0#32
  let c5_2019 : Index := 5#32
  ![v3108.toNat, 8, 0, 5]
def k0_off33 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c256_i32_2050 : BitVec 32 := 256#32
  let v3160 : BitVec 32 := Scalar.muli v2665 c256_i32_2050
  let v3161 : Index := Scalar.indexCast v3160
  let c768_2051 : Index := 768#32
  ![v3161.toNat, 768]
def k0_off34 (k0_t1 : Fin k0_t1_loop.trips) : Fin 4 → Nat :=
  let c0_i32_175 : BitVec 32 := 0#32
  let c1_i32_177 : BitVec 32 := 1#32
  let arg18 : BitVec 32 := Scf.iv c0_i32_175 c1_i32_177 k0_t1
  let c2_i32_1726 : BitVec 32 := 2#32
  let c0_i32_1727 : BitVec 32 := 0#32
  let v2666 : BitVec 1 := Scalar.cmpi .eq c2_i32_1726 c0_i32_1727
  let c1_i32_1728 : BitVec 32 := 1#32
  let v2667 : BitVec 32 := Scalar.select v2666 c1_i32_1728 c2_i32_1726
  let v2668 : BitVec 32 := Scalar.remsi arg18 v2667
  let c0_i32_1730 : BitVec 32 := 0#32
  let v2670 : BitVec 1 := Scalar.cmpi .slt v2668 c0_i32_1730
  let c0_i32_1731 : BitVec 32 := 0#32
  let v2671 : BitVec 1 := Scalar.cmpi .slt v2667 c0_i32_1731
  let v2672 : BitVec 1 := Scalar.xori v2670 v2671
  let c0_i32_1729 : BitVec 32 := 0#32
  let v2669 : BitVec 1 := Scalar.cmpi .ne v2668 c0_i32_1729
  let v2673 : BitVec 1 := Scalar.andi v2672 v2669
  let v2674 : BitVec 32 := Scalar.addi v2668 v2667
  let v2675 : BitVec 32 := Scalar.select v2673 v2674 v2668
  let v3163 : Index := Scalar.indexCast v2675
  let c0_2052 : Index := 0#32
  let c6 : Index := 6#32
  let c0_2053 : Index := 0#32
  ![v3163.toNat, 0, 6, 0]
def k0_off35 (d0 : Dev nD) (k0_t1 : Fin k0_t1_loop.trips) (c0_i32_2061 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2060 : BitVec 32 := 4#32
  let v3176 : BitVec 32 := Scalar.muli v2665 c4_i32_2060
  let v3177 : BitVec 32 := Scalar.addi v3176 c0_i32_2061
  let v3178 : Index := Scalar.indexCast v3177
  let c6_2062 : Index := 6#32
  let c0_2063 : Index := 0#32
  let c0_2064 : Index := 0#32
  ![v3178.toNat, 6, 0, 0]
def k0_off36 (d0 : Dev nD) (k0_t1 : Fin k0_t1_loop.trips) (c0_i32_2066 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2065 : BitVec 32 := 4#32
  let v3184 : BitVec 32 := Scalar.muli v2665 c4_i32_2065
  let v3185 : BitVec 32 := Scalar.addi v3184 c0_i32_2066
  let v3186 : Index := Scalar.indexCast v3185
  let c8_2067 : Index := 8#32
  let c0_2068 : Index := 0#32
  let c6_2069 : Index := 6#32
  ![v3186.toNat, 8, 0, 6]
def k0_off37 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c256_i32_2100 : BitVec 32 := 256#32
  let v3238 : BitVec 32 := Scalar.muli v2665 c256_i32_2100
  let v3239 : Index := Scalar.indexCast v3238
  let c896_2101 : Index := 896#32
  ![v3239.toNat, 896]
def k0_off38 (k0_t1 : Fin k0_t1_loop.trips) : Fin 4 → Nat :=
  let c0_i32_175 : BitVec 32 := 0#32
  let c1_i32_177 : BitVec 32 := 1#32
  let arg18 : BitVec 32 := Scf.iv c0_i32_175 c1_i32_177 k0_t1
  let c2_i32_1726 : BitVec 32 := 2#32
  let c0_i32_1727 : BitVec 32 := 0#32
  let v2666 : BitVec 1 := Scalar.cmpi .eq c2_i32_1726 c0_i32_1727
  let c1_i32_1728 : BitVec 32 := 1#32
  let v2667 : BitVec 32 := Scalar.select v2666 c1_i32_1728 c2_i32_1726
  let v2668 : BitVec 32 := Scalar.remsi arg18 v2667
  let c0_i32_1730 : BitVec 32 := 0#32
  let v2670 : BitVec 1 := Scalar.cmpi .slt v2668 c0_i32_1730
  let c0_i32_1731 : BitVec 32 := 0#32
  let v2671 : BitVec 1 := Scalar.cmpi .slt v2667 c0_i32_1731
  let v2672 : BitVec 1 := Scalar.xori v2670 v2671
  let c0_i32_1729 : BitVec 32 := 0#32
  let v2669 : BitVec 1 := Scalar.cmpi .ne v2668 c0_i32_1729
  let v2673 : BitVec 1 := Scalar.andi v2672 v2669
  let v2674 : BitVec 32 := Scalar.addi v2668 v2667
  let v2675 : BitVec 32 := Scalar.select v2673 v2674 v2668
  let v3241 : Index := Scalar.indexCast v2675
  let c0_2102 : Index := 0#32
  let c7 : Index := 7#32
  let c0_2103 : Index := 0#32
  ![v3241.toNat, 0, 7, 0]
def k0_off39 (d0 : Dev nD) (k0_t1 : Fin k0_t1_loop.trips) (c0_i32_2111 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2110 : BitVec 32 := 4#32
  let v3254 : BitVec 32 := Scalar.muli v2665 c4_i32_2110
  let v3255 : BitVec 32 := Scalar.addi v3254 c0_i32_2111
  let v3256 : Index := Scalar.indexCast v3255
  let c7_2112 : Index := 7#32
  let c0_2113 : Index := 0#32
  let c0_2114 : Index := 0#32
  ![v3256.toNat, 7, 0, 0]
def k0_off40 (d0 : Dev nD) (k0_t1 : Fin k0_t1_loop.trips) (c0_i32_2116 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2115 : BitVec 32 := 4#32
  let v3262 : BitVec 32 := Scalar.muli v2665 c4_i32_2115
  let v3263 : BitVec 32 := Scalar.addi v3262 c0_i32_2116
  let v3264 : Index := Scalar.indexCast v3263
  let c8_2117 : Index := 8#32
  let c0_2118 : Index := 0#32
  let c7_2119 : Index := 7#32
  ![v3264.toNat, 8, 0, 7]
def k0_cond2 (d0 : Dev nD) (k0_t1 : Fin k0_t1_loop.trips) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2150 : BitVec 32 := 4#32
  let v3316 : BitVec 32 := Scalar.muli v2665 c4_i32_2150
  let c0_i32_2151 : BitVec 32 := 0#32
  let v3317 : BitVec 32 := Scalar.addi v3316 c0_i32_2151
  let c1_i32_5 : BitVec 32 := 1#32
  let v20 : BitVec 32 := Scalar.addi v2 c1_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v20 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v3318 : BitVec 1 := Scalar.cmpi .ne v3317 v30
  let v3319 : BitVec 32 := Scalar.extui v3318
  let c0_i32_2152 : BitVec 32 := 0#32
  let v3320 : BitVec 1 := Scalar.cmpi .ne v3319 c0_i32_2152
  v3320

def k0_off41 (d0 : Dev nD) (k0_t1 : Fin k0_t1_loop.trips) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2150 : BitVec 32 := 4#32
  let v3316 : BitVec 32 := Scalar.muli v2665 c4_i32_2150
  let c0_i32_2151 : BitVec 32 := 0#32
  let v3317 : BitVec 32 := Scalar.addi v3316 c0_i32_2151
  ![v3317.toNat]
def k0_off42 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off43 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2171 : BitVec 32 := 0#32
  let c0_i32_2172 : BitVec 32 := 0#32
  let c0_i32_2173 : BitVec 32 := 0#32
  ![v2.toNat, 0, 0, 0]
def k0_off44 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2150 : BitVec 32 := 4#32
  let v3316 : BitVec 32 := Scalar.muli v2665 c4_i32_2150
  let c0_i32_2151 : BitVec 32 := 0#32
  let v3317 : BitVec 32 := Scalar.addi v3316 c0_i32_2151
  let c0_i32_2174 : BitVec 32 := 0#32
  let c0_i32_2175 : BitVec 32 := 0#32
  let c0_i32_2176 : BitVec 32 := 0#32
  ![v3317.toNat, 0, 0, 0]
def k0_dev16 (d0 : Dev nD) (k0_t1 : Fin k0_t1_loop.trips) : Nat :=
  let c0_i32_2170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2150 : BitVec 32 := 4#32
  let v3316 : BitVec 32 := Scalar.muli v2665 c4_i32_2150
  let c0_i32_2151 : BitVec 32 := 0#32
  let v3317 : BitVec 32 := Scalar.addi v3316 c0_i32_2151
  let c1_i32_2162 : BitVec 32 := 1#32
  let v3336 : BitVec 32 := Scalar.subi v3317 c1_i32_2162
  let c16_i32_2163 : BitVec 32 := 16#32
  let c0_i32_2164 : BitVec 32 := 0#32
  let v3337 : BitVec 1 := Scalar.cmpi .eq c16_i32_2163 c0_i32_2164
  let c1_i32_2165 : BitVec 32 := 1#32
  let v3338 : BitVec 32 := Scalar.select v3337 c1_i32_2165 c16_i32_2163
  let v3339 : BitVec 32 := Scalar.remsi v3336 v3338
  let c0_i32_2167 : BitVec 32 := 0#32
  let v3341 : BitVec 1 := Scalar.cmpi .slt v3339 c0_i32_2167
  let c0_i32_2168 : BitVec 32 := 0#32
  let v3342 : BitVec 1 := Scalar.cmpi .slt v3338 c0_i32_2168
  let v3343 : BitVec 1 := Scalar.xori v3341 v3342
  let c0_i32_2166 : BitVec 32 := 0#32
  let v3340 : BitVec 1 := Scalar.cmpi .ne v3339 c0_i32_2166
  let v3344 : BitVec 1 := Scalar.andi v3343 v3340
  let v3345 : BitVec 32 := Scalar.addi v3339 v3338
  let v3346 : BitVec 32 := Scalar.select v3344 v3345 v3339
  let c1_i32_2169 : BitVec 32 := 1#32
  let v3347 : BitVec 32 := Scalar.muli v3346 c1_i32_2169
  let v3348 : BitVec 32 := Scalar.addi c0_i32_2170 v3347
  v3348.toNat
def k0_cond3 (d0 : Dev nD) (k0_t1 : Fin k0_t1_loop.trips) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2153 : BitVec 32 := 4#32
  let v3321 : BitVec 32 := Scalar.muli v2665 c4_i32_2153
  let c1_i32_2154 : BitVec 32 := 1#32
  let v3322 : BitVec 32 := Scalar.addi v3321 c1_i32_2154
  let c1_i32_5 : BitVec 32 := 1#32
  let v20 : BitVec 32 := Scalar.addi v2 c1_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v20 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v3323 : BitVec 1 := Scalar.cmpi .ne v3322 v30
  let v3324 : BitVec 32 := Scalar.extui v3323
  let c0_i32_2155 : BitVec 32 := 0#32
  let v3325 : BitVec 1 := Scalar.cmpi .ne v3324 c0_i32_2155
  v3325

def k0_off45 (d0 : Dev nD) (k0_t1 : Fin k0_t1_loop.trips) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2153 : BitVec 32 := 4#32
  let v3321 : BitVec 32 := Scalar.muli v2665 c4_i32_2153
  let c1_i32_2154 : BitVec 32 := 1#32
  let v3322 : BitVec 32 := Scalar.addi v3321 c1_i32_2154
  ![v3322.toNat]
def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off47 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2171 : BitVec 32 := 0#32
  let c0_i32_2172 : BitVec 32 := 0#32
  let c0_i32_2173 : BitVec 32 := 0#32
  ![v2.toNat, 0, 0, 0]
def k0_off48 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2153 : BitVec 32 := 4#32
  let v3321 : BitVec 32 := Scalar.muli v2665 c4_i32_2153
  let c1_i32_2154 : BitVec 32 := 1#32
  let v3322 : BitVec 32 := Scalar.addi v3321 c1_i32_2154
  let c0_i32_2174 : BitVec 32 := 0#32
  let c0_i32_2175 : BitVec 32 := 0#32
  let c0_i32_2176 : BitVec 32 := 0#32
  ![v3322.toNat, 0, 0, 0]
def k0_dev17 (d0 : Dev nD) (k0_t1 : Fin k0_t1_loop.trips) : Nat :=
  let c0_i32_2170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2153 : BitVec 32 := 4#32
  let v3321 : BitVec 32 := Scalar.muli v2665 c4_i32_2153
  let c1_i32_2154 : BitVec 32 := 1#32
  let v3322 : BitVec 32 := Scalar.addi v3321 c1_i32_2154
  let c1_i32_2162 : BitVec 32 := 1#32
  let v3336 : BitVec 32 := Scalar.subi v3322 c1_i32_2162
  let c16_i32_2163 : BitVec 32 := 16#32
  let c0_i32_2164 : BitVec 32 := 0#32
  let v3337 : BitVec 1 := Scalar.cmpi .eq c16_i32_2163 c0_i32_2164
  let c1_i32_2165 : BitVec 32 := 1#32
  let v3338 : BitVec 32 := Scalar.select v3337 c1_i32_2165 c16_i32_2163
  let v3339 : BitVec 32 := Scalar.remsi v3336 v3338
  let c0_i32_2167 : BitVec 32 := 0#32
  let v3341 : BitVec 1 := Scalar.cmpi .slt v3339 c0_i32_2167
  let c0_i32_2168 : BitVec 32 := 0#32
  let v3342 : BitVec 1 := Scalar.cmpi .slt v3338 c0_i32_2168
  let v3343 : BitVec 1 := Scalar.xori v3341 v3342
  let c0_i32_2166 : BitVec 32 := 0#32
  let v3340 : BitVec 1 := Scalar.cmpi .ne v3339 c0_i32_2166
  let v3344 : BitVec 1 := Scalar.andi v3343 v3340
  let v3345 : BitVec 32 := Scalar.addi v3339 v3338
  let v3346 : BitVec 32 := Scalar.select v3344 v3345 v3339
  let c1_i32_2169 : BitVec 32 := 1#32
  let v3347 : BitVec 32 := Scalar.muli v3346 c1_i32_2169
  let v3348 : BitVec 32 := Scalar.addi c0_i32_2170 v3347
  v3348.toNat
def k0_cond4 (d0 : Dev nD) (k0_t1 : Fin k0_t1_loop.trips) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2156 : BitVec 32 := 4#32
  let v3326 : BitVec 32 := Scalar.muli v2665 c4_i32_2156
  let c2_i32_2157 : BitVec 32 := 2#32
  let v3327 : BitVec 32 := Scalar.addi v3326 c2_i32_2157
  let c1_i32_5 : BitVec 32 := 1#32
  let v20 : BitVec 32 := Scalar.addi v2 c1_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v20 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v3328 : BitVec 1 := Scalar.cmpi .ne v3327 v30
  let v3329 : BitVec 32 := Scalar.extui v3328
  let c0_i32_2158 : BitVec 32 := 0#32
  let v3330 : BitVec 1 := Scalar.cmpi .ne v3329 c0_i32_2158
  v3330

def k0_off49 (d0 : Dev nD) (k0_t1 : Fin k0_t1_loop.trips) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2156 : BitVec 32 := 4#32
  let v3326 : BitVec 32 := Scalar.muli v2665 c4_i32_2156
  let c2_i32_2157 : BitVec 32 := 2#32
  let v3327 : BitVec 32 := Scalar.addi v3326 c2_i32_2157
  ![v3327.toNat]
def k0_off50 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off51 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2171 : BitVec 32 := 0#32
  let c0_i32_2172 : BitVec 32 := 0#32
  let c0_i32_2173 : BitVec 32 := 0#32
  ![v2.toNat, 0, 0, 0]
def k0_off52 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2156 : BitVec 32 := 4#32
  let v3326 : BitVec 32 := Scalar.muli v2665 c4_i32_2156
  let c2_i32_2157 : BitVec 32 := 2#32
  let v3327 : BitVec 32 := Scalar.addi v3326 c2_i32_2157
  let c0_i32_2174 : BitVec 32 := 0#32
  let c0_i32_2175 : BitVec 32 := 0#32
  let c0_i32_2176 : BitVec 32 := 0#32
  ![v3327.toNat, 0, 0, 0]
def k0_dev18 (d0 : Dev nD) (k0_t1 : Fin k0_t1_loop.trips) : Nat :=
  let c0_i32_2170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2156 : BitVec 32 := 4#32
  let v3326 : BitVec 32 := Scalar.muli v2665 c4_i32_2156
  let c2_i32_2157 : BitVec 32 := 2#32
  let v3327 : BitVec 32 := Scalar.addi v3326 c2_i32_2157
  let c1_i32_2162 : BitVec 32 := 1#32
  let v3336 : BitVec 32 := Scalar.subi v3327 c1_i32_2162
  let c16_i32_2163 : BitVec 32 := 16#32
  let c0_i32_2164 : BitVec 32 := 0#32
  let v3337 : BitVec 1 := Scalar.cmpi .eq c16_i32_2163 c0_i32_2164
  let c1_i32_2165 : BitVec 32 := 1#32
  let v3338 : BitVec 32 := Scalar.select v3337 c1_i32_2165 c16_i32_2163
  let v3339 : BitVec 32 := Scalar.remsi v3336 v3338
  let c0_i32_2167 : BitVec 32 := 0#32
  let v3341 : BitVec 1 := Scalar.cmpi .slt v3339 c0_i32_2167
  let c0_i32_2168 : BitVec 32 := 0#32
  let v3342 : BitVec 1 := Scalar.cmpi .slt v3338 c0_i32_2168
  let v3343 : BitVec 1 := Scalar.xori v3341 v3342
  let c0_i32_2166 : BitVec 32 := 0#32
  let v3340 : BitVec 1 := Scalar.cmpi .ne v3339 c0_i32_2166
  let v3344 : BitVec 1 := Scalar.andi v3343 v3340
  let v3345 : BitVec 32 := Scalar.addi v3339 v3338
  let v3346 : BitVec 32 := Scalar.select v3344 v3345 v3339
  let c1_i32_2169 : BitVec 32 := 1#32
  let v3347 : BitVec 32 := Scalar.muli v3346 c1_i32_2169
  let v3348 : BitVec 32 := Scalar.addi c0_i32_2170 v3347
  v3348.toNat
def k0_cond5 (d0 : Dev nD) (k0_t1 : Fin k0_t1_loop.trips) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2159 : BitVec 32 := 4#32
  let v3331 : BitVec 32 := Scalar.muli v2665 c4_i32_2159
  let c3_i32_2160 : BitVec 32 := 3#32
  let v3332 : BitVec 32 := Scalar.addi v3331 c3_i32_2160
  let c1_i32_5 : BitVec 32 := 1#32
  let v20 : BitVec 32 := Scalar.addi v2 c1_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v20 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v3333 : BitVec 1 := Scalar.cmpi .ne v3332 v30
  let v3334 : BitVec 32 := Scalar.extui v3333
  let c0_i32_2161 : BitVec 32 := 0#32
  let v3335 : BitVec 1 := Scalar.cmpi .ne v3334 c0_i32_2161
  v3335

def k0_off53 (d0 : Dev nD) (k0_t1 : Fin k0_t1_loop.trips) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2159 : BitVec 32 := 4#32
  let v3331 : BitVec 32 := Scalar.muli v2665 c4_i32_2159
  let c3_i32_2160 : BitVec 32 := 3#32
  let v3332 : BitVec 32 := Scalar.addi v3331 c3_i32_2160
  ![v3332.toNat]
def k0_off54 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off55 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2171 : BitVec 32 := 0#32
  let c0_i32_2172 : BitVec 32 := 0#32
  let c0_i32_2173 : BitVec 32 := 0#32
  ![v2.toNat, 0, 0, 0]
def k0_off56 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2159 : BitVec 32 := 4#32
  let v3331 : BitVec 32 := Scalar.muli v2665 c4_i32_2159
  let c3_i32_2160 : BitVec 32 := 3#32
  let v3332 : BitVec 32 := Scalar.addi v3331 c3_i32_2160
  let c0_i32_2174 : BitVec 32 := 0#32
  let c0_i32_2175 : BitVec 32 := 0#32
  let c0_i32_2176 : BitVec 32 := 0#32
  ![v3332.toNat, 0, 0, 0]
def k0_dev19 (d0 : Dev nD) (k0_t1 : Fin k0_t1_loop.trips) : Nat :=
  let c0_i32_2170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_175 : BitVec 32 := 0#32
  let c1_i32_177 : BitVec 32 := 1#32
  let arg18 : BitVec 32 := Scf.iv c0_i32_175 c1_i32_177 k0_t1
  let v2655 : BitVec 32 := Scalar.subi v19 arg18
  let c4_i32_1720 : BitVec 32 := 4#32
  let c0_i32_1721 : BitVec 32 := 0#32
  let v2656 : BitVec 1 := Scalar.cmpi .eq c4_i32_1720 c0_i32_1721
  let c1_i32_1722 : BitVec 32 := 1#32
  let v2657 : BitVec 32 := Scalar.select v2656 c1_i32_1722 c4_i32_1720
  let v2658 : BitVec 32 := Scalar.remsi v2655 v2657
  let c0_i32_1724 : BitVec 32 := 0#32
  let v2660 : BitVec 1 := Scalar.cmpi .slt v2658 c0_i32_1724
  let c0_i32_1725 : BitVec 32 := 0#32
  let v2661 : BitVec 1 := Scalar.cmpi .slt v2657 c0_i32_1725
  let v2662 : BitVec 1 := Scalar.xori v2660 v2661
  let c0_i32_1723 : BitVec 32 := 0#32
  let v2659 : BitVec 1 := Scalar.cmpi .ne v2658 c0_i32_1723
  let v2663 : BitVec 1 := Scalar.andi v2662 v2659
  let v2664 : BitVec 32 := Scalar.addi v2658 v2657
  let v2665 : BitVec 32 := Scalar.select v2663 v2664 v2658
  let c4_i32_2159 : BitVec 32 := 4#32
  let v3331 : BitVec 32 := Scalar.muli v2665 c4_i32_2159
  let c3_i32_2160 : BitVec 32 := 3#32
  let v3332 : BitVec 32 := Scalar.addi v3331 c3_i32_2160
  let c1_i32_2162 : BitVec 32 := 1#32
  let v3336 : BitVec 32 := Scalar.subi v3332 c1_i32_2162
  let c16_i32_2163 : BitVec 32 := 16#32
  let c0_i32_2164 : BitVec 32 := 0#32
  let v3337 : BitVec 1 := Scalar.cmpi .eq c16_i32_2163 c0_i32_2164
  let c1_i32_2165 : BitVec 32 := 1#32
  let v3338 : BitVec 32 := Scalar.select v3337 c1_i32_2165 c16_i32_2163
  let v3339 : BitVec 32 := Scalar.remsi v3336 v3338
  let c0_i32_2167 : BitVec 32 := 0#32
  let v3341 : BitVec 1 := Scalar.cmpi .slt v3339 c0_i32_2167
  let c0_i32_2168 : BitVec 32 := 0#32
  let v3342 : BitVec 1 := Scalar.cmpi .slt v3338 c0_i32_2168
  let v3343 : BitVec 1 := Scalar.xori v3341 v3342
  let c0_i32_2166 : BitVec 32 := 0#32
  let v3340 : BitVec 1 := Scalar.cmpi .ne v3339 c0_i32_2166
  let v3344 : BitVec 1 := Scalar.andi v3343 v3340
  let v3345 : BitVec 32 := Scalar.addi v3339 v3338
  let v3346 : BitVec 32 := Scalar.select v3344 v3345 v3339
  let c1_i32_2169 : BitVec 32 := 1#32
  let v3347 : BitVec 32 := Scalar.muli v3346 c1_i32_2169
  let v3348 : BitVec 32 := Scalar.addi c0_i32_2170 v3347
  v3348.toNat
def k0_off57 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v20 : BitVec 32 := Scalar.addi v2 c1_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v20 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v251 : Index := Scalar.indexCast v30
  let c0_179 : Index := 0#32
  let c0_180 : Index := 0#32
  let c0_181 : Index := 0#32
  ![v251.toNat, 0, 0, 0]
def k0_off58 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v254 : Index := Scalar.indexCast v2
  let c0_182 : Index := 0#32
  let c0_183 : Index := 0#32
  let c0_184 : Index := 0#32
  ![v254.toNat, 0, 0, 0]
def k0_off59 (d0 : Dev nD) (c1_i32_185 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v258 : BitVec 32 := Scalar.addi v2 c1_i32_185
  let c16_i32_186 : BitVec 32 := 16#32
  let c0_i32_187 : BitVec 32 := 0#32
  let v259 : BitVec 1 := Scalar.cmpi .eq c16_i32_186 c0_i32_187
  let c1_i32_188 : BitVec 32 := 1#32
  let v260 : BitVec 32 := Scalar.select v259 c1_i32_188 c16_i32_186
  let v261 : BitVec 32 := Scalar.remsi v258 v260
  let c0_i32_190 : BitVec 32 := 0#32
  let v263 : BitVec 1 := Scalar.cmpi .slt v261 c0_i32_190
  let c0_i32_191 : BitVec 32 := 0#32
  let v264 : BitVec 1 := Scalar.cmpi .slt v260 c0_i32_191
  let v265 : BitVec 1 := Scalar.xori v263 v264
  let c0_i32_189 : BitVec 32 := 0#32
  let v262 : BitVec 1 := Scalar.cmpi .ne v261 c0_i32_189
  let v266 : BitVec 1 := Scalar.andi v265 v262
  let v267 : BitVec 32 := Scalar.addi v261 v260
  let v268 : BitVec 32 := Scalar.select v266 v267 v261
  ![v268.toNat]
def k0_off60 (d0 : Dev nD) (c1_i32_185 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v258 : BitVec 32 := Scalar.addi v2 c1_i32_185
  let c16_i32_186 : BitVec 32 := 16#32
  let c0_i32_187 : BitVec 32 := 0#32
  let v259 : BitVec 1 := Scalar.cmpi .eq c16_i32_186 c0_i32_187
  let c1_i32_188 : BitVec 32 := 1#32
  let v260 : BitVec 32 := Scalar.select v259 c1_i32_188 c16_i32_186
  let v261 : BitVec 32 := Scalar.remsi v258 v260
  let c0_i32_190 : BitVec 32 := 0#32
  let v263 : BitVec 1 := Scalar.cmpi .slt v261 c0_i32_190
  let c0_i32_191 : BitVec 32 := 0#32
  let v264 : BitVec 1 := Scalar.cmpi .slt v260 c0_i32_191
  let v265 : BitVec 1 := Scalar.xori v263 v264
  let c0_i32_189 : BitVec 32 := 0#32
  let v262 : BitVec 1 := Scalar.cmpi .ne v261 c0_i32_189
  let v266 : BitVec 1 := Scalar.andi v265 v262
  let v267 : BitVec 32 := Scalar.addi v261 v260
  let v268 : BitVec 32 := Scalar.select v266 v267 v261
  let c0_i32_196 : BitVec 32 := 0#32
  let c0_i32_197 : BitVec 32 := 0#32
  let c0_i32_198 : BitVec 32 := 0#32
  ![v268.toNat, 0, 0, 0]
def k0_off61 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v623 : Index := Scalar.indexCast v2
  let c0_459 : Index := 0#32
  let c0_460 : Index := 0#32
  ![v623.toNat, 0, 0]
def k0_off62 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v20 : BitVec 32 := Scalar.addi v2 c1_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v20 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_462 : BitVec 32 := 0#32
  let v628 : BitVec 1 := Scalar.cmpi .sgt v30 c0_i32_462
  let v629 : BitVec 32 := Scalar.extui v628
  let c0_i32_463 : BitVec 32 := 0#32
  let v630 : BitVec 1 := Scalar.cmpi .slt v30 c0_i32_463
  let v631 : BitVec 32 := Scalar.extui v630
  let v632 : BitVec 32 := Scalar.subi v629 v631
  let c4_i32_461 : BitVec 32 := 4#32
  let c0_i32_464 : BitVec 32 := 0#32
  let v633 : BitVec 1 := Scalar.cmpi .sgt c4_i32_461 c0_i32_464
  let v634 : BitVec 32 := Scalar.extui v633
  let c0_i32_465 : BitVec 32 := 0#32
  let v635 : BitVec 1 := Scalar.cmpi .slt c4_i32_461 c0_i32_465
  let v636 : BitVec 32 := Scalar.extui v635
  let v637 : BitVec 32 := Scalar.subi v634 v636
  let v638 : BitVec 1 := Scalar.cmpi .ne v632 v637
  let v639 : BitVec 32 := Scalar.remsi v30 c4_i32_461
  let c0_i32_466 : BitVec 32 := 0#32
  let v640 : BitVec 1 := Scalar.cmpi .ne v639 c0_i32_466
  let v641 : BitVec 1 := Scalar.andi v638 v640
  let v627 : BitVec 32 := Scalar.divsi v30 c4_i32_461
  let c1_i32_467 : BitVec 32 := 1#32
  let v642 : BitVec 32 := Scalar.subi v627 c1_i32_467
  let v643 : BitVec 32 := Scalar.select v641 v642 v627
  let v655 : Index := Scalar.indexCast v643
  let c4_i32_468 : BitVec 32 := 4#32
  let c0_i32_469 : BitVec 32 := 0#32
  let v644 : BitVec 1 := Scalar.cmpi .eq c4_i32_468 c0_i32_469
  let c1_i32_470 : BitVec 32 := 1#32
  let v645 : BitVec 32 := Scalar.select v644 c1_i32_470 c4_i32_468
  let v646 : BitVec 32 := Scalar.remsi v30 v645
  let c0_i32_472 : BitVec 32 := 0#32
  let v648 : BitVec 1 := Scalar.cmpi .slt v646 c0_i32_472
  let c0_i32_473 : BitVec 32 := 0#32
  let v649 : BitVec 1 := Scalar.cmpi .slt v645 c0_i32_473
  let v650 : BitVec 1 := Scalar.xori v648 v649
  let c0_i32_471 : BitVec 32 := 0#32
  let v647 : BitVec 1 := Scalar.cmpi .ne v646 c0_i32_471
  let v651 : BitVec 1 := Scalar.andi v650 v647
  let v652 : BitVec 32 := Scalar.addi v646 v645
  let v653 : BitVec 32 := Scalar.select v651 v652 v646
  let c64_i32 : BitVec 32 := 64#32
  let v654 : BitVec 32 := Scalar.muli v653 c64_i32
  let v656 : Index := Scalar.indexCast v654
  let c0_474 : Index := 0#32
  ![v655.toNat, v656.toNat, 0]
def k0_off63 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_484 : BitVec 32 := 0#32
  let c0_i32_485 : BitVec 32 := 0#32
  ![v2.toNat, 0, 0]
def k0_dev20 (d0 : Dev nD) : Nat :=
  let c0_i32_483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_475 : BitVec 32 := 1#32
  let v660 : BitVec 32 := Scalar.addi v2 c1_i32_475
  let c16_i32_476 : BitVec 32 := 16#32
  let c0_i32_477 : BitVec 32 := 0#32
  let v661 : BitVec 1 := Scalar.cmpi .eq c16_i32_476 c0_i32_477
  let c1_i32_478 : BitVec 32 := 1#32
  let v662 : BitVec 32 := Scalar.select v661 c1_i32_478 c16_i32_476
  let v663 : BitVec 32 := Scalar.remsi v660 v662
  let c0_i32_480 : BitVec 32 := 0#32
  let v665 : BitVec 1 := Scalar.cmpi .slt v663 c0_i32_480
  let c0_i32_481 : BitVec 32 := 0#32
  let v666 : BitVec 1 := Scalar.cmpi .slt v662 c0_i32_481
  let v667 : BitVec 1 := Scalar.xori v665 v666
  let c0_i32_479 : BitVec 32 := 0#32
  let v664 : BitVec 1 := Scalar.cmpi .ne v663 c0_i32_479
  let v668 : BitVec 1 := Scalar.andi v667 v664
  let v669 : BitVec 32 := Scalar.addi v663 v662
  let v670 : BitVec 32 := Scalar.select v668 v669 v663
  let c1_i32_482 : BitVec 32 := 1#32
  let v671 : BitVec 32 := Scalar.muli v670 c1_i32_482
  let v672 : BitVec 32 := Scalar.addi c0_i32_483 v671
  v672.toNat
def k0_dev21 (d0 : Dev nD) : Nat :=
  let c0_i32_496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_488 : BitVec 32 := 2#32
  let v681 : BitVec 32 := Scalar.addi v2 c2_i32_488
  let c16_i32_489 : BitVec 32 := 16#32
  let c0_i32_490 : BitVec 32 := 0#32
  let v682 : BitVec 1 := Scalar.cmpi .eq c16_i32_489 c0_i32_490
  let c1_i32_491 : BitVec 32 := 1#32
  let v683 : BitVec 32 := Scalar.select v682 c1_i32_491 c16_i32_489
  let v684 : BitVec 32 := Scalar.remsi v681 v683
  let c0_i32_493 : BitVec 32 := 0#32
  let v686 : BitVec 1 := Scalar.cmpi .slt v684 c0_i32_493
  let c0_i32_494 : BitVec 32 := 0#32
  let v687 : BitVec 1 := Scalar.cmpi .slt v683 c0_i32_494
  let v688 : BitVec 1 := Scalar.xori v686 v687
  let c0_i32_492 : BitVec 32 := 0#32
  let v685 : BitVec 1 := Scalar.cmpi .ne v684 c0_i32_492
  let v689 : BitVec 1 := Scalar.andi v688 v685
  let v690 : BitVec 32 := Scalar.addi v684 v683
  let v691 : BitVec 32 := Scalar.select v689 v690 v684
  let c1_i32_495 : BitVec 32 := 1#32
  let v692 : BitVec 32 := Scalar.muli v691 c1_i32_495
  let v693 : BitVec 32 := Scalar.addi c0_i32_496 v692
  v693.toNat
def k0_dev22 (d0 : Dev nD) : Nat :=
  let c0_i32_509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_501 : BitVec 32 := 3#32
  let v702 : BitVec 32 := Scalar.addi v2 c3_i32_501
  let c16_i32_502 : BitVec 32 := 16#32
  let c0_i32_503 : BitVec 32 := 0#32
  let v703 : BitVec 1 := Scalar.cmpi .eq c16_i32_502 c0_i32_503
  let c1_i32_504 : BitVec 32 := 1#32
  let v704 : BitVec 32 := Scalar.select v703 c1_i32_504 c16_i32_502
  let v705 : BitVec 32 := Scalar.remsi v702 v704
  let c0_i32_506 : BitVec 32 := 0#32
  let v707 : BitVec 1 := Scalar.cmpi .slt v705 c0_i32_506
  let c0_i32_507 : BitVec 32 := 0#32
  let v708 : BitVec 1 := Scalar.cmpi .slt v704 c0_i32_507
  let v709 : BitVec 1 := Scalar.xori v707 v708
  let c0_i32_505 : BitVec 32 := 0#32
  let v706 : BitVec 1 := Scalar.cmpi .ne v705 c0_i32_505
  let v710 : BitVec 1 := Scalar.andi v709 v706
  let v711 : BitVec 32 := Scalar.addi v705 v704
  let v712 : BitVec 32 := Scalar.select v710 v711 v705
  let c1_i32_508 : BitVec 32 := 1#32
  let v713 : BitVec 32 := Scalar.muli v712 c1_i32_508
  let v714 : BitVec 32 := Scalar.addi c0_i32_509 v713
  v714.toNat
def k0_dev23 (d0 : Dev nD) : Nat :=
  let c0_i32_522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_514 : BitVec 32 := 4#32
  let v723 : BitVec 32 := Scalar.addi v2 c4_i32_514
  let c16_i32_515 : BitVec 32 := 16#32
  let c0_i32_516 : BitVec 32 := 0#32
  let v724 : BitVec 1 := Scalar.cmpi .eq c16_i32_515 c0_i32_516
  let c1_i32_517 : BitVec 32 := 1#32
  let v725 : BitVec 32 := Scalar.select v724 c1_i32_517 c16_i32_515
  let v726 : BitVec 32 := Scalar.remsi v723 v725
  let c0_i32_519 : BitVec 32 := 0#32
  let v728 : BitVec 1 := Scalar.cmpi .slt v726 c0_i32_519
  let c0_i32_520 : BitVec 32 := 0#32
  let v729 : BitVec 1 := Scalar.cmpi .slt v725 c0_i32_520
  let v730 : BitVec 1 := Scalar.xori v728 v729
  let c0_i32_518 : BitVec 32 := 0#32
  let v727 : BitVec 1 := Scalar.cmpi .ne v726 c0_i32_518
  let v731 : BitVec 1 := Scalar.andi v730 v727
  let v732 : BitVec 32 := Scalar.addi v726 v725
  let v733 : BitVec 32 := Scalar.select v731 v732 v726
  let c1_i32_521 : BitVec 32 := 1#32
  let v734 : BitVec 32 := Scalar.muli v733 c1_i32_521
  let v735 : BitVec 32 := Scalar.addi c0_i32_522 v734
  v735.toNat
def k0_dev24 (d0 : Dev nD) : Nat :=
  let c0_i32_535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_527 : BitVec 32 := 5#32
  let v744 : BitVec 32 := Scalar.addi v2 c5_i32_527
  let c16_i32_528 : BitVec 32 := 16#32
  let c0_i32_529 : BitVec 32 := 0#32
  let v745 : BitVec 1 := Scalar.cmpi .eq c16_i32_528 c0_i32_529
  let c1_i32_530 : BitVec 32 := 1#32
  let v746 : BitVec 32 := Scalar.select v745 c1_i32_530 c16_i32_528
  let v747 : BitVec 32 := Scalar.remsi v744 v746
  let c0_i32_532 : BitVec 32 := 0#32
  let v749 : BitVec 1 := Scalar.cmpi .slt v747 c0_i32_532
  let c0_i32_533 : BitVec 32 := 0#32
  let v750 : BitVec 1 := Scalar.cmpi .slt v746 c0_i32_533
  let v751 : BitVec 1 := Scalar.xori v749 v750
  let c0_i32_531 : BitVec 32 := 0#32
  let v748 : BitVec 1 := Scalar.cmpi .ne v747 c0_i32_531
  let v752 : BitVec 1 := Scalar.andi v751 v748
  let v753 : BitVec 32 := Scalar.addi v747 v746
  let v754 : BitVec 32 := Scalar.select v752 v753 v747
  let c1_i32_534 : BitVec 32 := 1#32
  let v755 : BitVec 32 := Scalar.muli v754 c1_i32_534
  let v756 : BitVec 32 := Scalar.addi c0_i32_535 v755
  v756.toNat
def k0_dev25 (d0 : Dev nD) : Nat :=
  let c0_i32_548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_540 : BitVec 32 := 6#32
  let v765 : BitVec 32 := Scalar.addi v2 c6_i32_540
  let c16_i32_541 : BitVec 32 := 16#32
  let c0_i32_542 : BitVec 32 := 0#32
  let v766 : BitVec 1 := Scalar.cmpi .eq c16_i32_541 c0_i32_542
  let c1_i32_543 : BitVec 32 := 1#32
  let v767 : BitVec 32 := Scalar.select v766 c1_i32_543 c16_i32_541
  let v768 : BitVec 32 := Scalar.remsi v765 v767
  let c0_i32_545 : BitVec 32 := 0#32
  let v770 : BitVec 1 := Scalar.cmpi .slt v768 c0_i32_545
  let c0_i32_546 : BitVec 32 := 0#32
  let v771 : BitVec 1 := Scalar.cmpi .slt v767 c0_i32_546
  let v772 : BitVec 1 := Scalar.xori v770 v771
  let c0_i32_544 : BitVec 32 := 0#32
  let v769 : BitVec 1 := Scalar.cmpi .ne v768 c0_i32_544
  let v773 : BitVec 1 := Scalar.andi v772 v769
  let v774 : BitVec 32 := Scalar.addi v768 v767
  let v775 : BitVec 32 := Scalar.select v773 v774 v768
  let c1_i32_547 : BitVec 32 := 1#32
  let v776 : BitVec 32 := Scalar.muli v775 c1_i32_547
  let v777 : BitVec 32 := Scalar.addi c0_i32_548 v776
  v777.toNat
def k0_dev26 (d0 : Dev nD) : Nat :=
  let c0_i32_561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_553 : BitVec 32 := 7#32
  let v786 : BitVec 32 := Scalar.addi v2 c7_i32_553
  let c16_i32_554 : BitVec 32 := 16#32
  let c0_i32_555 : BitVec 32 := 0#32
  let v787 : BitVec 1 := Scalar.cmpi .eq c16_i32_554 c0_i32_555
  let c1_i32_556 : BitVec 32 := 1#32
  let v788 : BitVec 32 := Scalar.select v787 c1_i32_556 c16_i32_554
  let v789 : BitVec 32 := Scalar.remsi v786 v788
  let c0_i32_558 : BitVec 32 := 0#32
  let v791 : BitVec 1 := Scalar.cmpi .slt v789 c0_i32_558
  let c0_i32_559 : BitVec 32 := 0#32
  let v792 : BitVec 1 := Scalar.cmpi .slt v788 c0_i32_559
  let v793 : BitVec 1 := Scalar.xori v791 v792
  let c0_i32_557 : BitVec 32 := 0#32
  let v790 : BitVec 1 := Scalar.cmpi .ne v789 c0_i32_557
  let v794 : BitVec 1 := Scalar.andi v793 v790
  let v795 : BitVec 32 := Scalar.addi v789 v788
  let v796 : BitVec 32 := Scalar.select v794 v795 v789
  let c1_i32_560 : BitVec 32 := 1#32
  let v797 : BitVec 32 := Scalar.muli v796 c1_i32_560
  let v798 : BitVec 32 := Scalar.addi c0_i32_561 v797
  v798.toNat
def k0_dev27 (d0 : Dev nD) : Nat :=
  let c0_i32_574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_566 : BitVec 32 := 8#32
  let v807 : BitVec 32 := Scalar.addi v2 c8_i32_566
  let c16_i32_567 : BitVec 32 := 16#32
  let c0_i32_568 : BitVec 32 := 0#32
  let v808 : BitVec 1 := Scalar.cmpi .eq c16_i32_567 c0_i32_568
  let c1_i32_569 : BitVec 32 := 1#32
  let v809 : BitVec 32 := Scalar.select v808 c1_i32_569 c16_i32_567
  let v810 : BitVec 32 := Scalar.remsi v807 v809
  let c0_i32_571 : BitVec 32 := 0#32
  let v812 : BitVec 1 := Scalar.cmpi .slt v810 c0_i32_571
  let c0_i32_572 : BitVec 32 := 0#32
  let v813 : BitVec 1 := Scalar.cmpi .slt v809 c0_i32_572
  let v814 : BitVec 1 := Scalar.xori v812 v813
  let c0_i32_570 : BitVec 32 := 0#32
  let v811 : BitVec 1 := Scalar.cmpi .ne v810 c0_i32_570
  let v815 : BitVec 1 := Scalar.andi v814 v811
  let v816 : BitVec 32 := Scalar.addi v810 v809
  let v817 : BitVec 32 := Scalar.select v815 v816 v810
  let c1_i32_573 : BitVec 32 := 1#32
  let v818 : BitVec 32 := Scalar.muli v817 c1_i32_573
  let v819 : BitVec 32 := Scalar.addi c0_i32_574 v818
  v819.toNat
def k0_dev28 (d0 : Dev nD) : Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_579 : BitVec 32 := 9#32
  let v828 : BitVec 32 := Scalar.addi v2 c9_i32_579
  let c16_i32_580 : BitVec 32 := 16#32
  let c0_i32_581 : BitVec 32 := 0#32
  let v829 : BitVec 1 := Scalar.cmpi .eq c16_i32_580 c0_i32_581
  let c1_i32_582 : BitVec 32 := 1#32
  let v830 : BitVec 32 := Scalar.select v829 c1_i32_582 c16_i32_580
  let v831 : BitVec 32 := Scalar.remsi v828 v830
  let c0_i32_584 : BitVec 32 := 0#32
  let v833 : BitVec 1 := Scalar.cmpi .slt v831 c0_i32_584
  let c0_i32_585 : BitVec 32 := 0#32
  let v834 : BitVec 1 := Scalar.cmpi .slt v830 c0_i32_585
  let v835 : BitVec 1 := Scalar.xori v833 v834
  let c0_i32_583 : BitVec 32 := 0#32
  let v832 : BitVec 1 := Scalar.cmpi .ne v831 c0_i32_583
  let v836 : BitVec 1 := Scalar.andi v835 v832
  let v837 : BitVec 32 := Scalar.addi v831 v830
  let v838 : BitVec 32 := Scalar.select v836 v837 v831
  let c1_i32_586 : BitVec 32 := 1#32
  let v839 : BitVec 32 := Scalar.muli v838 c1_i32_586
  let v840 : BitVec 32 := Scalar.addi c0_i32_587 v839
  v840.toNat
def k0_dev29 (d0 : Dev nD) : Nat :=
  let c0_i32_600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_592 : BitVec 32 := 10#32
  let v849 : BitVec 32 := Scalar.addi v2 c10_i32_592
  let c16_i32_593 : BitVec 32 := 16#32
  let c0_i32_594 : BitVec 32 := 0#32
  let v850 : BitVec 1 := Scalar.cmpi .eq c16_i32_593 c0_i32_594
  let c1_i32_595 : BitVec 32 := 1#32
  let v851 : BitVec 32 := Scalar.select v850 c1_i32_595 c16_i32_593
  let v852 : BitVec 32 := Scalar.remsi v849 v851
  let c0_i32_597 : BitVec 32 := 0#32
  let v854 : BitVec 1 := Scalar.cmpi .slt v852 c0_i32_597
  let c0_i32_598 : BitVec 32 := 0#32
  let v855 : BitVec 1 := Scalar.cmpi .slt v851 c0_i32_598
  let v856 : BitVec 1 := Scalar.xori v854 v855
  let c0_i32_596 : BitVec 32 := 0#32
  let v853 : BitVec 1 := Scalar.cmpi .ne v852 c0_i32_596
  let v857 : BitVec 1 := Scalar.andi v856 v853
  let v858 : BitVec 32 := Scalar.addi v852 v851
  let v859 : BitVec 32 := Scalar.select v857 v858 v852
  let c1_i32_599 : BitVec 32 := 1#32
  let v860 : BitVec 32 := Scalar.muli v859 c1_i32_599
  let v861 : BitVec 32 := Scalar.addi c0_i32_600 v860
  v861.toNat
def k0_dev30 (d0 : Dev nD) : Nat :=
  let c0_i32_613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_605 : BitVec 32 := 11#32
  let v870 : BitVec 32 := Scalar.addi v2 c11_i32_605
  let c16_i32_606 : BitVec 32 := 16#32
  let c0_i32_607 : BitVec 32 := 0#32
  let v871 : BitVec 1 := Scalar.cmpi .eq c16_i32_606 c0_i32_607
  let c1_i32_608 : BitVec 32 := 1#32
  let v872 : BitVec 32 := Scalar.select v871 c1_i32_608 c16_i32_606
  let v873 : BitVec 32 := Scalar.remsi v870 v872
  let c0_i32_610 : BitVec 32 := 0#32
  let v875 : BitVec 1 := Scalar.cmpi .slt v873 c0_i32_610
  let c0_i32_611 : BitVec 32 := 0#32
  let v876 : BitVec 1 := Scalar.cmpi .slt v872 c0_i32_611
  let v877 : BitVec 1 := Scalar.xori v875 v876
  let c0_i32_609 : BitVec 32 := 0#32
  let v874 : BitVec 1 := Scalar.cmpi .ne v873 c0_i32_609
  let v878 : BitVec 1 := Scalar.andi v877 v874
  let v879 : BitVec 32 := Scalar.addi v873 v872
  let v880 : BitVec 32 := Scalar.select v878 v879 v873
  let c1_i32_612 : BitVec 32 := 1#32
  let v881 : BitVec 32 := Scalar.muli v880 c1_i32_612
  let v882 : BitVec 32 := Scalar.addi c0_i32_613 v881
  v882.toNat
def k0_dev31 (d0 : Dev nD) : Nat :=
  let c0_i32_626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_618 : BitVec 32 := 12#32
  let v891 : BitVec 32 := Scalar.addi v2 c12_i32_618
  let c16_i32_619 : BitVec 32 := 16#32
  let c0_i32_620 : BitVec 32 := 0#32
  let v892 : BitVec 1 := Scalar.cmpi .eq c16_i32_619 c0_i32_620
  let c1_i32_621 : BitVec 32 := 1#32
  let v893 : BitVec 32 := Scalar.select v892 c1_i32_621 c16_i32_619
  let v894 : BitVec 32 := Scalar.remsi v891 v893
  let c0_i32_623 : BitVec 32 := 0#32
  let v896 : BitVec 1 := Scalar.cmpi .slt v894 c0_i32_623
  let c0_i32_624 : BitVec 32 := 0#32
  let v897 : BitVec 1 := Scalar.cmpi .slt v893 c0_i32_624
  let v898 : BitVec 1 := Scalar.xori v896 v897
  let c0_i32_622 : BitVec 32 := 0#32
  let v895 : BitVec 1 := Scalar.cmpi .ne v894 c0_i32_622
  let v899 : BitVec 1 := Scalar.andi v898 v895
  let v900 : BitVec 32 := Scalar.addi v894 v893
  let v901 : BitVec 32 := Scalar.select v899 v900 v894
  let c1_i32_625 : BitVec 32 := 1#32
  let v902 : BitVec 32 := Scalar.muli v901 c1_i32_625
  let v903 : BitVec 32 := Scalar.addi c0_i32_626 v902
  v903.toNat
def k0_dev32 (d0 : Dev nD) : Nat :=
  let c0_i32_639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_631 : BitVec 32 := 13#32
  let v912 : BitVec 32 := Scalar.addi v2 c13_i32_631
  let c16_i32_632 : BitVec 32 := 16#32
  let c0_i32_633 : BitVec 32 := 0#32
  let v913 : BitVec 1 := Scalar.cmpi .eq c16_i32_632 c0_i32_633
  let c1_i32_634 : BitVec 32 := 1#32
  let v914 : BitVec 32 := Scalar.select v913 c1_i32_634 c16_i32_632
  let v915 : BitVec 32 := Scalar.remsi v912 v914
  let c0_i32_636 : BitVec 32 := 0#32
  let v917 : BitVec 1 := Scalar.cmpi .slt v915 c0_i32_636
  let c0_i32_637 : BitVec 32 := 0#32
  let v918 : BitVec 1 := Scalar.cmpi .slt v914 c0_i32_637
  let v919 : BitVec 1 := Scalar.xori v917 v918
  let c0_i32_635 : BitVec 32 := 0#32
  let v916 : BitVec 1 := Scalar.cmpi .ne v915 c0_i32_635
  let v920 : BitVec 1 := Scalar.andi v919 v916
  let v921 : BitVec 32 := Scalar.addi v915 v914
  let v922 : BitVec 32 := Scalar.select v920 v921 v915
  let c1_i32_638 : BitVec 32 := 1#32
  let v923 : BitVec 32 := Scalar.muli v922 c1_i32_638
  let v924 : BitVec 32 := Scalar.addi c0_i32_639 v923
  v924.toNat
def k0_dev33 (d0 : Dev nD) : Nat :=
  let c0_i32_652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_644 : BitVec 32 := 14#32
  let v933 : BitVec 32 := Scalar.addi v2 c14_i32_644
  let c16_i32_645 : BitVec 32 := 16#32
  let c0_i32_646 : BitVec 32 := 0#32
  let v934 : BitVec 1 := Scalar.cmpi .eq c16_i32_645 c0_i32_646
  let c1_i32_647 : BitVec 32 := 1#32
  let v935 : BitVec 32 := Scalar.select v934 c1_i32_647 c16_i32_645
  let v936 : BitVec 32 := Scalar.remsi v933 v935
  let c0_i32_649 : BitVec 32 := 0#32
  let v938 : BitVec 1 := Scalar.cmpi .slt v936 c0_i32_649
  let c0_i32_650 : BitVec 32 := 0#32
  let v939 : BitVec 1 := Scalar.cmpi .slt v935 c0_i32_650
  let v940 : BitVec 1 := Scalar.xori v938 v939
  let c0_i32_648 : BitVec 32 := 0#32
  let v937 : BitVec 1 := Scalar.cmpi .ne v936 c0_i32_648
  let v941 : BitVec 1 := Scalar.andi v940 v937
  let v942 : BitVec 32 := Scalar.addi v936 v935
  let v943 : BitVec 32 := Scalar.select v941 v942 v936
  let c1_i32_651 : BitVec 32 := 1#32
  let v944 : BitVec 32 := Scalar.muli v943 c1_i32_651
  let v945 : BitVec 32 := Scalar.addi c0_i32_652 v944
  v945.toNat
def k0_dev34 (d0 : Dev nD) : Nat :=
  let c0_i32_665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_657 : BitVec 32 := 15#32
  let v954 : BitVec 32 := Scalar.addi v2 c15_i32_657
  let c16_i32_658 : BitVec 32 := 16#32
  let c0_i32_659 : BitVec 32 := 0#32
  let v955 : BitVec 1 := Scalar.cmpi .eq c16_i32_658 c0_i32_659
  let c1_i32_660 : BitVec 32 := 1#32
  let v956 : BitVec 32 := Scalar.select v955 c1_i32_660 c16_i32_658
  let v957 : BitVec 32 := Scalar.remsi v954 v956
  let c0_i32_662 : BitVec 32 := 0#32
  let v959 : BitVec 1 := Scalar.cmpi .slt v957 c0_i32_662
  let c0_i32_663 : BitVec 32 := 0#32
  let v960 : BitVec 1 := Scalar.cmpi .slt v956 c0_i32_663
  let v961 : BitVec 1 := Scalar.xori v959 v960
  let c0_i32_661 : BitVec 32 := 0#32
  let v958 : BitVec 1 := Scalar.cmpi .ne v957 c0_i32_661
  let v962 : BitVec 1 := Scalar.andi v961 v958
  let v963 : BitVec 32 := Scalar.addi v957 v956
  let v964 : BitVec 32 := Scalar.select v962 v963 v957
  let c1_i32_664 : BitVec 32 := 1#32
  let v965 : BitVec 32 := Scalar.muli v964 c1_i32_664
  let v966 : BitVec 32 := Scalar.addi c0_i32_665 v965
  v966.toNat
def k0_off65 (d0 : Dev nD) (c1_i32_670 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v975 : BitVec 32 := Scalar.addi v2 c1_i32_670
  let c16_i32_671 : BitVec 32 := 16#32
  let c0_i32_672 : BitVec 32 := 0#32
  let v976 : BitVec 1 := Scalar.cmpi .eq c16_i32_671 c0_i32_672
  let c1_i32_673 : BitVec 32 := 1#32
  let v977 : BitVec 32 := Scalar.select v976 c1_i32_673 c16_i32_671
  let v978 : BitVec 32 := Scalar.remsi v975 v977
  let c0_i32_675 : BitVec 32 := 0#32
  let v980 : BitVec 1 := Scalar.cmpi .slt v978 c0_i32_675
  let c0_i32_676 : BitVec 32 := 0#32
  let v981 : BitVec 1 := Scalar.cmpi .slt v977 c0_i32_676
  let v982 : BitVec 1 := Scalar.xori v980 v981
  let c0_i32_674 : BitVec 32 := 0#32
  let v979 : BitVec 1 := Scalar.cmpi .ne v978 c0_i32_674
  let v983 : BitVec 1 := Scalar.andi v982 v979
  let v984 : BitVec 32 := Scalar.addi v978 v977
  let v985 : BitVec 32 := Scalar.select v983 v984 v978
  let c0_i32_679 : BitVec 32 := 0#32
  let c0_i32_680 : BitVec 32 := 0#32
  ![v985.toNat, 0, 0]
def k0_off66 (d0 : Dev nD) (c1_i32_670 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v975 : BitVec 32 := Scalar.addi v2 c1_i32_670
  let c16_i32_671 : BitVec 32 := 16#32
  let c0_i32_672 : BitVec 32 := 0#32
  let v976 : BitVec 1 := Scalar.cmpi .eq c16_i32_671 c0_i32_672
  let c1_i32_673 : BitVec 32 := 1#32
  let v977 : BitVec 32 := Scalar.select v976 c1_i32_673 c16_i32_671
  let v978 : BitVec 32 := Scalar.remsi v975 v977
  let c0_i32_675 : BitVec 32 := 0#32
  let v980 : BitVec 1 := Scalar.cmpi .slt v978 c0_i32_675
  let c0_i32_676 : BitVec 32 := 0#32
  let v981 : BitVec 1 := Scalar.cmpi .slt v977 c0_i32_676
  let v982 : BitVec 1 := Scalar.xori v980 v981
  let c0_i32_674 : BitVec 32 := 0#32
  let v979 : BitVec 1 := Scalar.cmpi .ne v978 c0_i32_674
  let v983 : BitVec 1 := Scalar.andi v982 v979
  let v984 : BitVec 32 := Scalar.addi v978 v977
  let v985 : BitVec 32 := Scalar.select v983 v984 v978
  let v1005 : Index := Scalar.indexCast v985
  let c0_690 : Index := 0#32
  let c0_691 : Index := 0#32
  ![v1005.toNat, 0, 0]
def k0_off67 (d0 : Dev nD) (c1_i32_670 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v975 : BitVec 32 := Scalar.addi v2 c1_i32_670
  let c16_i32_671 : BitVec 32 := 16#32
  let c0_i32_672 : BitVec 32 := 0#32
  let v976 : BitVec 1 := Scalar.cmpi .eq c16_i32_671 c0_i32_672
  let c1_i32_673 : BitVec 32 := 1#32
  let v977 : BitVec 32 := Scalar.select v976 c1_i32_673 c16_i32_671
  let v978 : BitVec 32 := Scalar.remsi v975 v977
  let c0_i32_675 : BitVec 32 := 0#32
  let v980 : BitVec 1 := Scalar.cmpi .slt v978 c0_i32_675
  let c0_i32_676 : BitVec 32 := 0#32
  let v981 : BitVec 1 := Scalar.cmpi .slt v977 c0_i32_676
  let v982 : BitVec 1 := Scalar.xori v980 v981
  let c0_i32_674 : BitVec 32 := 0#32
  let v979 : BitVec 1 := Scalar.cmpi .ne v978 c0_i32_674
  let v983 : BitVec 1 := Scalar.andi v982 v979
  let v984 : BitVec 32 := Scalar.addi v978 v977
  let v985 : BitVec 32 := Scalar.select v983 v984 v978
  let c1_i32_683 : BitVec 32 := 1#32
  let v994 : BitVec 32 := Scalar.addi v985 c1_i32_683
  let c16_i32_684 : BitVec 32 := 16#32
  let c0_i32_685 : BitVec 32 := 0#32
  let v995 : BitVec 1 := Scalar.cmpi .eq c16_i32_684 c0_i32_685
  let c1_i32_686 : BitVec 32 := 1#32
  let v996 : BitVec 32 := Scalar.select v995 c1_i32_686 c16_i32_684
  let v997 : BitVec 32 := Scalar.remsi v994 v996
  let c0_i32_688 : BitVec 32 := 0#32
  let v999 : BitVec 1 := Scalar.cmpi .slt v997 c0_i32_688
  let c0_i32_689 : BitVec 32 := 0#32
  let v1000 : BitVec 1 := Scalar.cmpi .slt v996 c0_i32_689
  let v1001 : BitVec 1 := Scalar.xori v999 v1000
  let c0_i32_687 : BitVec 32 := 0#32
  let v998 : BitVec 1 := Scalar.cmpi .ne v997 c0_i32_687
  let v1002 : BitVec 1 := Scalar.andi v1001 v998
  let v1003 : BitVec 32 := Scalar.addi v997 v996
  let v1004 : BitVec 32 := Scalar.select v1002 v1003 v997
  let c0_i32_693 : BitVec 32 := 0#32
  let v1010 : BitVec 1 := Scalar.cmpi .sgt v1004 c0_i32_693
  let v1011 : BitVec 32 := Scalar.extui v1010
  let c0_i32_694 : BitVec 32 := 0#32
  let v1012 : BitVec 1 := Scalar.cmpi .slt v1004 c0_i32_694
  let v1013 : BitVec 32 := Scalar.extui v1012
  let v1014 : BitVec 32 := Scalar.subi v1011 v1013
  let c4_i32_692 : BitVec 32 := 4#32
  let c0_i32_695 : BitVec 32 := 0#32
  let v1015 : BitVec 1 := Scalar.cmpi .sgt c4_i32_692 c0_i32_695
  let v1016 : BitVec 32 := Scalar.extui v1015
  let c0_i32_696 : BitVec 32 := 0#32
  let v1017 : BitVec 1 := Scalar.cmpi .slt c4_i32_692 c0_i32_696
  let v1018 : BitVec 32 := Scalar.extui v1017
  let v1019 : BitVec 32 := Scalar.subi v1016 v1018
  let v1020 : BitVec 1 := Scalar.cmpi .ne v1014 v1019
  let v1021 : BitVec 32 := Scalar.remsi v1004 c4_i32_692
  let c0_i32_697 : BitVec 32 := 0#32
  let v1022 : BitVec 1 := Scalar.cmpi .ne v1021 c0_i32_697
  let v1023 : BitVec 1 := Scalar.andi v1020 v1022
  let v1009 : BitVec 32 := Scalar.divsi v1004 c4_i32_692
  let c1_i32_698 : BitVec 32 := 1#32
  let v1024 : BitVec 32 := Scalar.subi v1009 c1_i32_698
  let v1025 : BitVec 32 := Scalar.select v1023 v1024 v1009
  let v1037 : Index := Scalar.indexCast v1025
  let c4_i32_699 : BitVec 32 := 4#32
  let c0_i32_700 : BitVec 32 := 0#32
  let v1026 : BitVec 1 := Scalar.cmpi .eq c4_i32_699 c0_i32_700
  let c1_i32_701 : BitVec 32 := 1#32
  let v1027 : BitVec 32 := Scalar.select v1026 c1_i32_701 c4_i32_699
  let v1028 : BitVec 32 := Scalar.remsi v1004 v1027
  let c0_i32_703 : BitVec 32 := 0#32
  let v1030 : BitVec 1 := Scalar.cmpi .slt v1028 c0_i32_703
  let c0_i32_704 : BitVec 32 := 0#32
  let v1031 : BitVec 1 := Scalar.cmpi .slt v1027 c0_i32_704
  let v1032 : BitVec 1 := Scalar.xori v1030 v1031
  let c0_i32_702 : BitVec 32 := 0#32
  let v1029 : BitVec 1 := Scalar.cmpi .ne v1028 c0_i32_702
  let v1033 : BitVec 1 := Scalar.andi v1032 v1029
  let v1034 : BitVec 32 := Scalar.addi v1028 v1027
  let v1035 : BitVec 32 := Scalar.select v1033 v1034 v1028
  let c64_i32_705 : BitVec 32 := 64#32
  let v1036 : BitVec 32 := Scalar.muli v1035 c64_i32_705
  let v1038 : Index := Scalar.indexCast v1036
  let c0_706 : Index := 0#32
  ![v1037.toNat, v1038.toNat, 0]
def k0_off68 (d0 : Dev nD) (c1_i32_1225 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v20 : BitVec 32 := Scalar.addi v2 c1_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v20 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v1980 : BitVec 32 := Scalar.addi v30 c1_i32_1225
  let c16_i32_1226 : BitVec 32 := 16#32
  let c0_i32_1227 : BitVec 32 := 0#32
  let v1981 : BitVec 1 := Scalar.cmpi .eq c16_i32_1226 c0_i32_1227
  let c1_i32_1228 : BitVec 32 := 1#32
  let v1982 : BitVec 32 := Scalar.select v1981 c1_i32_1228 c16_i32_1226
  let v1983 : BitVec 32 := Scalar.remsi v1980 v1982
  let c0_i32_1230 : BitVec 32 := 0#32
  let v1985 : BitVec 1 := Scalar.cmpi .slt v1983 c0_i32_1230
  let c0_i32_1231 : BitVec 32 := 0#32
  let v1986 : BitVec 1 := Scalar.cmpi .slt v1982 c0_i32_1231
  let v1987 : BitVec 1 := Scalar.xori v1985 v1986
  let c0_i32_1229 : BitVec 32 := 0#32
  let v1984 : BitVec 1 := Scalar.cmpi .ne v1983 c0_i32_1229
  let v1988 : BitVec 1 := Scalar.andi v1987 v1984
  let v1989 : BitVec 32 := Scalar.addi v1983 v1982
  let v1990 : BitVec 32 := Scalar.select v1988 v1989 v1983
  ![v1990.toNat]
def k0_off69 (d0 : Dev nD) (c1_i32_1225 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v20 : BitVec 32 := Scalar.addi v2 c1_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v20 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v1980 : BitVec 32 := Scalar.addi v30 c1_i32_1225
  let c16_i32_1226 : BitVec 32 := 16#32
  let c0_i32_1227 : BitVec 32 := 0#32
  let v1981 : BitVec 1 := Scalar.cmpi .eq c16_i32_1226 c0_i32_1227
  let c1_i32_1228 : BitVec 32 := 1#32
  let v1982 : BitVec 32 := Scalar.select v1981 c1_i32_1228 c16_i32_1226
  let v1983 : BitVec 32 := Scalar.remsi v1980 v1982
  let c0_i32_1230 : BitVec 32 := 0#32
  let v1985 : BitVec 1 := Scalar.cmpi .slt v1983 c0_i32_1230
  let c0_i32_1231 : BitVec 32 := 0#32
  let v1986 : BitVec 1 := Scalar.cmpi .slt v1982 c0_i32_1231
  let v1987 : BitVec 1 := Scalar.xori v1985 v1986
  let c0_i32_1229 : BitVec 32 := 0#32
  let v1984 : BitVec 1 := Scalar.cmpi .ne v1983 c0_i32_1229
  let v1988 : BitVec 1 := Scalar.andi v1987 v1984
  let v1989 : BitVec 32 := Scalar.addi v1983 v1982
  let v1990 : BitVec 32 := Scalar.select v1988 v1989 v1983
  let c0_i32_1240 : BitVec 32 := 0#32
  let c0_i32_1241 : BitVec 32 := 0#32
  let c0_i32_1242 : BitVec 32 := 0#32
  ![v1990.toNat, 0, 0, 0]
def k0_off70 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1243 : BitVec 32 := 0#32
  let c0_i32_1244 : BitVec 32 := 0#32
  let c0_i32_1245 : BitVec 32 := 0#32
  ![v2.toNat, 0, 0, 0]
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x256x1024 : Shape := ⟨3, ![4, 256, 1024]⟩
abbrev S1024x1024 : Shape := ⟨2, ![1024, 1024]⟩
abbrev S4x16384x8x128 : Shape := ⟨4, ![4, 16384, 8, 128]⟩
abbrev S4x256x8x128 : Shape := ⟨4, ![4, 256, 8, 128]⟩
abbrev S4x8x256x16384 : Shape := ⟨4, ![4, 8, 256, 16384]⟩
abbrev S_ : Shape := ⟨0, ![]⟩
abbrev S4x8x256 : Shape := ⟨3, ![4, 8, 256]⟩
abbrev S4x8x256x1 : Shape := ⟨4, ![4, 8, 256, 1]⟩
abbrev S4x8x128x256 : Shape := ⟨4, ![4, 8, 128, 256]⟩
abbrev S4x256x8x1 : Shape := ⟨4, ![4, 256, 8, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S4x16384x8x128, .f32⟩
  | .hbm, ⟨3, _⟩ => ⟨S4x16384x8x128, .f32⟩
  | .hbm, ⟨4, _⟩ => ⟨S1024x1024, .f32⟩
  | .hbm, ⟨5, _⟩ => ⟨S4x256x1024, .f32⟩
  | .hbm, ⟨6, _⟩ => ⟨S4x256x8x128, .f32⟩
  | .hbm, ⟨7, _⟩ => ⟨S4x8x256x16384, .f32⟩
  | .hbm, ⟨8, _⟩ => ⟨S_, .f32⟩
  | .hbm, ⟨9, _⟩ => ⟨S4x8x256x16384, .f32⟩
  | .hbm, ⟨10, _⟩ => ⟨S4x8x256x16384, .f32⟩
  | .hbm, ⟨11, _⟩ => ⟨S_, .f32⟩
  | .hbm, ⟨12, _⟩ => ⟨S4x8x256, .f32⟩
  | .hbm, ⟨13, _⟩ => ⟨S4x8x256x1, .f32⟩
  | .hbm, ⟨14, _⟩ => ⟨S4x8x256x16384, .f32⟩
  | .hbm, ⟨15, _⟩ => ⟨S4x8x256x16384, .f32⟩
  | .hbm, ⟨16, _⟩ => ⟨S4x8x256x16384, .f32⟩
  | .hbm, ⟨17, _⟩ => ⟨S_, .f32⟩
  | .hbm, ⟨18, _⟩ => ⟨S4x8x256, .f32⟩
  | .hbm, ⟨19, _⟩ => ⟨S4x8x256x1, .f32⟩
  | .hbm, ⟨20, _⟩ => ⟨S4x8x128x256, .f32⟩
  | .hbm, ⟨21, _⟩ => ⟨S4x256x8x128, .f32⟩
  | .hbm, ⟨22, _⟩ => ⟨S4x256x8x1, .f32⟩
  | .hbm, ⟨23, _⟩ => ⟨S4x256x8x128, .f32⟩
  | .hbm, ⟨24, _⟩ => ⟨S4x256x8x128, .f32⟩
  | .hbm, ⟨25, _⟩ => ⟨S4x256x1024, .f32⟩
  | .hbm, ⟨26, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Offs.lean ====
/-
# The kernel's addresses in closed form

Every offset, device and condition the kernel computes from its place `c` on the ring of sixteen
(and, inside its loop, from the trip), each read off by evaluation over the sixteen places and four trips.
-/
module

public import proofs.«01_k».proof.Proof.Gen.KernelIdeal

@[expose] public section

namespace Cert.KProof

open Cert.KernelIdeal Cert.KernelIdeal.Gen Idealize.ShloMosaic

/-- The batch entry device number `c` works on in trip `t`. -/
def bOf (c t : ℕ) : ℕ := (c / 4 + 4 - t) % 4

abbrev Trip := Fin k0_t1_loop.trips

theorem trips_eq : k0_t1_loop.trips = 4 := by decide +kernel

theorem trip_lt (t : Trip) : t.val < 4 := lt_of_lt_of_eq t.isLt trips_eq

theorem bOf_lt (c t : ℕ) : bOf c t < 4 := Nat.mod_lt _ (by decide)

/-! ## The copies of the key and value slots -/

theorem off1_eq : ∀ c : Dev nD, k0_off1 c = ![bOf c.val 0, 0, 0, 0] := by decide +kernel
theorem cond1_iff : ∀ t : Trip, k0_cond1 t = 1#1 ↔ t.val + 1 < 4 := by decide +kernel
theorem off2_eq : ∀ t : Trip, k0_off2 t = ![(t.val + 1) % 2, 0] := by decide +kernel
theorem off3_eq : ∀ t : Trip, k0_off3 t = ![(t.val + 1) % 2, 0, 0, 0] := by decide +kernel
theorem off4_eq : ∀ (c : Dev nD) (t : Trip), k0_off4 c t = ![bOf c.val (t.val + 1), 0, 0, 0] := by decide +kernel
theorem off5_eq : ∀ t : Trip, k0_off5 t = ![(t.val + 1) % 2, 1] := by decide +kernel
theorem off6_eq : ∀ t : Trip, k0_off6 t = ![t.val % 2, 0] := by decide +kernel
theorem off7_eq : ∀ t : Trip, k0_off7 t = ![t.val % 2, 0, 0, 0] := by decide +kernel
theorem off8_eq : ∀ t : Trip, k0_off8 t = ![t.val % 2, 1] := by decide +kernel

/-! ## Where each head reads its queries -/

theorem off9_eq : ∀ (c : Dev nD) (t : Trip), k0_off9 c t = ![256 * bOf c.val t.val, 0] := by decide +kernel
theorem off13_eq : ∀ (c : Dev nD) (t : Trip), k0_off13 c t = ![256 * bOf c.val t.val, 128] := by decide +kernel
theorem off17_eq : ∀ (c : Dev nD) (t : Trip), k0_off17 c t = ![256 * bOf c.val t.val, 256] := by decide +kernel
theorem off21_eq : ∀ (c : Dev nD) (t : Trip), k0_off21 c t = ![256 * bOf c.val t.val, 384] := by decide +kernel
theorem off25_eq : ∀ (c : Dev nD) (t : Trip), k0_off25 c t = ![256 * bOf c.val t.val, 512] := by decide +kernel
theorem off29_eq : ∀ (c : Dev nD) (t : Trip), k0_off29 c t = ![256 * bOf c.val t.val, 640] := by decide +kernel
theorem off33_eq : ∀ (c : Dev nD) (t : Trip), k0_off33 c t = ![256 * bOf c.val t.val, 768] := by decide +kernel
theorem off37_eq : ∀ (c : Dev nD) (t : Trip), k0_off37 c t = ![256 * bOf c.val t.val, 896] := by decide +kernel

/-! ## Where each head reads its keys and values -/

theorem off10_eq : ∀ t : Trip, k0_off10 t = ![t.val % 2, 0, 0, 0] := by decide +kernel
theorem off14_eq : ∀ t : Trip, k0_off14 t = ![t.val % 2, 0, 1, 0] := by decide +kernel
theorem off18_eq : ∀ t : Trip, k0_off18 t = ![t.val % 2, 0, 2, 0] := by decide +kernel
theorem off22_eq : ∀ t : Trip, k0_off22 t = ![t.val % 2, 0, 3, 0] := by decide +kernel
theorem off26_eq : ∀ t : Trip, k0_off26 t = ![t.val % 2, 0, 4, 0] := by decide +kernel
theorem off30_eq : ∀ t : Trip, k0_off30 t = ![t.val % 2, 0, 5, 0] := by decide +kernel
theorem off34_eq : ∀ t : Trip, k0_off34 t = ![t.val % 2, 0, 6, 0] := by decide +kernel
theorem off38_eq : ∀ t : Trip, k0_off38 t = ![t.val % 2, 0, 7, 0] := by decide +kernel

/-! ## Where each head's sums go -/

theorem off11_eq : ∀ (c : Dev nD) (t : Trip) (r : Fin 4), k0_off11 c t (BitVec.ofNat 32 r.val) = ![4 * bOf c.val t.val + r.val, 0, 0, 0] := by decide +kernel
theorem off15_eq : ∀ (c : Dev nD) (t : Trip) (r : Fin 4), k0_off15 c t (BitVec.ofNat 32 r.val) = ![4 * bOf c.val t.val + r.val, 1, 0, 0] := by decide +kernel
theorem off19_eq : ∀ (c : Dev nD) (t : Trip) (r : Fin 4), k0_off19 c t (BitVec.ofNat 32 r.val) = ![4 * bOf c.val t.val + r.val, 2, 0, 0] := by decide +kernel
theorem off23_eq : ∀ (c : Dev nD) (t : Trip) (r : Fin 4), k0_off23 c t (BitVec.ofNat 32 r.val) = ![4 * bOf c.val t.val + r.val, 3, 0, 0] := by decide +kernel
theorem off27_eq : ∀ (c : Dev nD) (t : Trip) (r : Fin 4), k0_off27 c t (BitVec.ofNat 32 r.val) = ![4 * bOf c.val t.val + r.val, 4, 0, 0] := by decide +kernel
theorem off31_eq : ∀ (c : Dev nD) (t : Trip) (r : Fin 4), k0_off31 c t (BitVec.ofNat 32 r.val) = ![4 * bOf c.val t.val + r.val, 5, 0, 0] := by decide +kernel
theorem off35_eq : ∀ (c : Dev nD) (t : Trip) (r : Fin 4), k0_off35 c t (BitVec.ofNat 32 r.val) = ![4 * bOf c.val t.val + r.val, 6, 0, 0] := by decide +kernel
theorem off39_eq : ∀ (c : Dev nD) (t : Trip) (r : Fin 4), k0_off39 c t (BitVec.ofNat 32 r.val) = ![4 * bOf c.val t.val + r.val, 7, 0, 0] := by decide +kernel
theorem off12_eq : ∀ (c : Dev nD) (t : Trip) (r : Fin 4), k0_off12 c t (BitVec.ofNat 32 r.val) = ![4 * bOf c.val t.val + r.val, 8, 0, 0] := by decide +kernel
theorem off16_eq : ∀ (c : Dev nD) (t : Trip) (r : Fin 4), k0_off16 c t (BitVec.ofNat 32 r.val) = ![4 * bOf c.val t.val + r.val, 8, 0, 1] := by decide +kernel
theorem off20_eq : ∀ (c : Dev nD) (t : Trip) (r : Fin 4), k0_off20 c t (BitVec.ofNat 32 r.val) = ![4 * bOf c.val t.val + r.val, 8, 0, 2] := by decide +kernel
theorem off24_eq : ∀ (c : Dev nD) (t : Trip) (r : Fin 4), k0_off24 c t (BitVec.ofNat 32 r.val) = ![4 * bOf c.val t.val + r.val, 8, 0, 3] := by decide +kernel
theorem off28_eq : ∀ (c : Dev nD) (t : Trip) (r : Fin 4), k0_off28 c t (BitVec.ofNat 32 r.val) = ![4 * bOf c.val t.val + r.val, 8, 0, 4] := by decide +kernel
theorem off32_eq : ∀ (c : Dev nD) (t : Trip) (r : Fin 4), k0_off32 c t (BitVec.ofNat 32 r.val) = ![4 * bOf c.val t.val + r.val, 8, 0, 5] := by decide +kernel
theorem off36_eq : ∀ (c : Dev nD) (t : Trip) (r : Fin 4), k0_off36 c t (BitVec.ofNat 32 r.val) = ![4 * bOf c.val t.val + r.val, 8, 0, 6] := by decide +kernel
theorem off40_eq : ∀ (c : Dev nD) (t : Trip) (r : Fin 4), k0_off40 c t (BitVec.ofNat 32 r.val) = ![4 * bOf c.val t.val + r.val, 8, 0, 7] := by decide +kernel

/-! ## The sends of the four chunks of a trip -/

theorem cond2_iff : ∀ (c : Dev nD) (t : Trip), k0_cond2 c t = 1#1 ↔ 4 * bOf c.val t.val + 0 ≠ (c.val + 1) % 16 := by decide +kernel
theorem cond3_iff : ∀ (c : Dev nD) (t : Trip), k0_cond3 c t = 1#1 ↔ 4 * bOf c.val t.val + 1 ≠ (c.val + 1) % 16 := by decide +kernel
theorem cond4_iff : ∀ (c : Dev nD) (t : Trip), k0_cond4 c t = 1#1 ↔ 4 * bOf c.val t.val + 2 ≠ (c.val + 1) % 16 := by decide +kernel
theorem cond5_iff : ∀ (c : Dev nD) (t : Trip), k0_cond5 c t = 1#1 ↔ 4 * bOf c.val t.val + 3 ≠ (c.val + 1) % 16 := by decide +kernel
theorem off41_eq : ∀ (c : Dev nD) (t : Trip), k0_off41 c t = ![4 * bOf c.val t.val + 0] := by decide +kernel
theorem off45_eq : ∀ (c : Dev nD) (t : Trip), k0_off45 c t = ![4 * bOf c.val t.val + 1] := by decide +kernel
theorem off49_eq : ∀ (c : Dev nD) (t : Trip), k0_off49 c t = ![4 * bOf c.val t.val + 2] := by decide +kernel
theorem off53_eq : ∀ (c : Dev nD) (t : Trip), k0_off53 c t = ![4 * bOf c.val t.val + 3] := by decide +kernel
theorem off44_eq : ∀ (c : Dev nD) (t : Trip), k0_off44 c t = ![4 * bOf c.val t.val + 0, 0, 0, 0] := by decide +kernel
theorem off48_eq : ∀ (c : Dev nD) (t : Trip), k0_off48 c t = ![4 * bOf c.val t.val + 1, 0, 0, 0] := by decide +kernel
theorem off52_eq : ∀ (c : Dev nD) (t : Trip), k0_off52 c t = ![4 * bOf c.val t.val + 2, 0, 0, 0] := by decide +kernel
theorem off56_eq : ∀ (c : Dev nD) (t : Trip), k0_off56 c t = ![4 * bOf c.val t.val + 3, 0, 0, 0] := by decide +kernel
theorem dev16_eq : ∀ (c : Dev nD) (t : Trip), k0_dev16 c t = (4 * bOf c.val t.val + 0 + 15) % 16 := by decide +kernel
theorem dev17_eq : ∀ (c : Dev nD) (t : Trip), k0_dev17 c t = (4 * bOf c.val t.val + 1 + 15) % 16 := by decide +kernel
theorem dev18_eq : ∀ (c : Dev nD) (t : Trip), k0_dev18 c t = (4 * bOf c.val t.val + 2 + 15) % 16 := by decide +kernel
theorem dev19_eq : ∀ (c : Dev nD) (t : Trip), k0_dev19 c t = (4 * bOf c.val t.val + 3 + 15) % 16 := by decide +kernel

/-! ## After the loop -/

theorem off57_eq : ∀ c : Dev nD, k0_off57 c = ![(c.val + 1) % 16, 0, 0, 0] := by decide +kernel
theorem off59_eq : ∀ (c : Dev nD) (o : Fin 16), k0_off59 c (BitVec.ofNat 32 o.val) = ![(c.val + o.val) % 16] := by decide +kernel
theorem off60_eq : ∀ (c : Dev nD) (o : Fin 16), k0_off60 c (BitVec.ofNat 32 o.val) = ![(c.val + o.val) % 16, 0, 0, 0] := by decide +kernel
theorem off62_eq : ∀ c : Dev nD, k0_off62 c = ![(c.val + 1) % 16 / 4, 64 * ((c.val + 1) % 16 % 4), 0] := by decide +kernel
theorem off65_eq : ∀ (c : Dev nD) (o : Fin 16), k0_off65 c (BitVec.ofNat 32 o.val) = ![(c.val + o.val) % 16, 0, 0] := by decide +kernel
theorem off66_eq : ∀ (c : Dev nD) (o : Fin 16), k0_off66 c (BitVec.ofNat 32 o.val) = ![(c.val + o.val) % 16, 0, 0] := by decide +kernel
theorem off67_eq : ∀ (c : Dev nD) (o : Fin 16), k0_off67 c (BitVec.ofNat 32 o.val) = ![(c.val + o.val + 1) % 16 / 4, 64 * ((c.val + o.val + 1) % 16 % 4), 0] := by decide +kernel
theorem off68_eq : ∀ (c : Dev nD) (o : Fin 16), k0_off68 c (BitVec.ofNat 32 o.val) = ![(c.val + 1 + o.val) % 16] := by decide +kernel
theorem off69_eq : ∀ (c : Dev nD) (o : Fin 16), k0_off69 c (BitVec.ofNat 32 o.val) = ![(c.val + 1 + o.val) % 16, 0, 0, 0] := by decide +kernel

/-! ## The peers signalled and sent to -/

theorem dev1_eq : ∀ c : Dev nD, k0_dev1 c = (c.val + 1) % 16 := by decide +kernel
theorem dev2_eq : ∀ c : Dev nD, k0_dev2 c = (c.val + 2) % 16 := by decide +kernel
theorem dev3_eq : ∀ c : Dev nD, k0_dev3 c = (c.val + 3) % 16 := by decide +kernel
theorem dev4_eq : ∀ c : Dev nD, k0_dev4 c = (c.val + 4) % 16 := by decide +kernel
theorem dev5_eq : ∀ c : Dev nD, k0_dev5 c = (c.val + 5) % 16 := by decide +kernel
theorem dev6_eq : ∀ c : Dev nD, k0_dev6 c = (c.val + 6) % 16 := by decide +kernel
theorem dev7_eq : ∀ c : Dev nD, k0_dev7 c = (c.val + 7) % 16 := by decide +kernel
theorem dev8_eq : ∀ c : Dev nD, k0_dev8 c = (c.val + 8) % 16 := by decide +kernel
theorem dev9_eq : ∀ c : Dev nD, k0_dev9 c = (c.val + 9) % 16 := by decide +kernel
theorem dev10_eq : ∀ c : Dev nD, k0_dev10 c = (c.val + 10) % 16 := by decide +kernel
theorem dev11_eq : ∀ c : Dev nD, k0_dev11 c = (c.val + 11) % 16 := by decide +kernel
theorem dev12_eq : ∀ c : Dev nD, k0_dev12 c = (c.val + 12) % 16 := by decide +kernel
theorem dev13_eq : ∀ c : Dev nD, k0_dev13 c = (c.val + 13) % 16 := by decide +kernel
theorem dev14_eq : ∀ c : Dev nD, k0_dev14 c = (c.val + 14) % 16 := by decide +kernel
theorem dev15_eq : ∀ c : Dev nD, k0_dev15 c = (c.val + 15) % 16 := by decide +kernel
theorem dev20_eq : ∀ c : Dev nD, k0_dev20 c = (c.val + 1) % 16 := by decide +kernel
theorem dev21_eq : ∀ c : Dev nD, k0_dev21 c = (c.val + 2) % 16 := by decide +kernel
theorem dev22_eq : ∀ c : Dev nD, k0_dev22 c = (c.val + 3) % 16 := by decide +kernel
theorem dev23_eq : ∀ c : Dev nD, k0_dev23 c = (c.val + 4) % 16 := by decide +kernel
theorem dev24_eq : ∀ c : Dev nD, k0_dev24 c = (c.val + 5) % 16 := by decide +kernel
theorem dev25_eq : ∀ c : Dev nD, k0_dev25 c = (c.val + 6) % 16 := by decide +kernel
theorem dev26_eq : ∀ c : Dev nD, k0_dev26 c = (c.val + 7) % 16 := by decide +kernel
theorem dev27_eq : ∀ c : Dev nD, k0_dev27 c = (c.val + 8) % 16 := by decide +kernel
theorem dev28_eq : ∀ c : Dev nD, k0_dev28 c = (c.val + 9) % 16 := by decide +kernel
theorem dev29_eq : ∀ c : Dev nD, k0_dev29 c = (c.val + 10) % 16 := by decide +kernel
theorem dev30_eq : ∀ c : Dev nD, k0_dev30 c = (c.val + 11) % 16 := by decide +kernel
theorem dev31_eq : ∀ c : Dev nD, k0_dev31 c = (c.val + 12) % 16 := by decide +kernel
theorem dev32_eq : ∀ c : Dev nD, k0_dev32 c = (c.val + 13) % 16 := by decide +kernel
theorem dev33_eq : ∀ c : Dev nD, k0_dev33 c = (c.val + 14) % 16 := by decide +kernel
theorem dev34_eq : ∀ c : Dev nD, k0_dev34 c = (c.val + 15) % 16 := by decide +kernel

end Cert.KProof
-- ==== Proof.Geom.lean ====
/-
# The kernel's buffers, cut along their first coordinate

Every buffer the devices exchange is cut into slabs along its first coordinate: sixteen chunks of the partial
results, sixteen rows of finished chunks, two slots of the key and value buffers, four batch entries of the
keys and values. This module names the slabs, and reads each memory slice the kernel takes as one of them.
-/
module

public import proofs.«01_k».proof.Proof.Offs
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic Idealize.ShloMosaic.TcCoe

/-! ## Slabs -/

/-- The indices of a shape whose coordinate on axis `a` is `k`. -/
def slab (S : Shape) (a : Fin S.rank) (k : ℕ) : Finset S.Idx := Finset.univ.filter fun i => (i a : ℕ) = k

theorem mem_slab {S : Shape} {a : Fin S.rank} {k : ℕ} {i : S.Idx} : i ∈ slab S a k ↔ (i a : ℕ) = k := by
  simp [slab]

theorem slab_disjoint (S : Shape) (a : Fin S.rank) {k k' : ℕ} (h : k ≠ k') : Disjoint (slab S a k) (slab S a k') := by
  rw [Finset.disjoint_left]; intro i hi hi'
  rw [mem_slab] at hi hi'; exact h (hi.symm.trans hi')

/-- The slabs of all the axis' coordinates are the whole shape. -/
theorem slab_cover (S : Shape) (a : Fin S.rank) {n : ℕ} (h : S.size a = n) :
    (Finset.range n).biUnion (slab S a) = Finset.univ := by
  ext i; simp only [Finset.mem_biUnion, Finset.mem_range, Finset.mem_univ, iff_true]
  exact ⟨i a, h ▸ (i a).isLt, mem_slab.2 rfl⟩

/-- A rectangle one wide on axis `a` and full on every other is the slab at its offset. -/
theorem unit_slab {S : Shape} (a : Fin S.rank) {off size : Fin S.rank → ℕ} (inb : ∀ b, off b + size b ≤ S.size b) {k : ℕ}
    (h1 : off a = k) (h2 : size a = 1) (h3 : ∀ b, b ≠ a → off b = 0 ∧ size b = S.size b) :
    (Rect.unit off size inb).set = slab S a k := by
  ext i; rw [Rect.mem_set_unit, mem_slab]
  constructor
  · intro h; have := h a; omega
  · intro h b
    by_cases hb : b = a
    · subst hb; omega
    · have := h3 b hb; have := (i b).isLt; omega

/-- Two rectangles of the same sizes, whose offsets differ on axis `a` alone, where they are one wide: the
    element under an index of the second is the first's with the coordinate changed. -/
theorem unit_emb_update {S : Shape} (a : Fin S.rank) {off off' size : Fin S.rank → ℕ} (inb : ∀ b, off b + size b ≤ S.size b)
    (inb' : ∀ b, off' b + size b ≤ S.size b) (h2 : size a = 1) (h3 : ∀ b, b ≠ a → off b = off' b)
    (k : Fin (S.size a)) (hk : off' a = k)
    (y : (Rect.unit off size inb).shape.Idx) :
    (Rect.unit off' size inb').emb y = Function.update ((Rect.unit off size inb).emb y) a k := by
  funext b
  by_cases hb : b = a
  · subst hb
    rw [Function.update_self]
    apply Fin.ext; rw [Rect.emb_apply]
    have : (y b : ℕ) < 1 := lt_of_lt_of_eq (y b).isLt h2
    show off' b + 1 * (y b : ℕ) = k
    omega
  · rw [Function.update_of_ne hb]
    apply Fin.ext; rw [Rect.emb_apply, Rect.emb_apply]
    show off' b + 1 * (y b : ℕ) = off b + 1 * (y b : ℕ)
    rw [h3 b hb]

/-! ## The buffers -/

abbrev xM : Memref sig .tc .vmem S4x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev kM : Memref sig .tc .hbm S4x1024x8x128 .f32 := Memref.whole main_arg2
abbrev vM : Memref sig .tc .hbm S4x1024x8x128 .f32 := Memref.whole main_arg3
abbrev oM : Memref sig .tc .vmem S4x256x1024 .f32 := Memref.whole cc0_stg3_0
abbrev qsM : Memref sig .tc .vmem S1024x1024 .f32 := Memref.whole cc0_scratch0
abbrev partM : Memref sig .tc .vmem S16x9x64x128 .bf16 := Memref.whole cc0_scratch1
abbrev nckM : Memref sig .tc .vmem S64x1024 .f32 := Memref.whole cc0_scratch2
abbrev commM : Memref sig .tc .vmem S16x9x64x128 .bf16 := Memref.whole cc0_scratch3
abbrev comm2M : Memref sig .tc .vmem S16x64x1024 .bf16 := Memref.whole cc0_scratch4
abbrev kbM : Memref sig .tc .vmem S2x1024x8x128 .f32 := Memref.whole cc0_scratch5
abbrev vbM : Memref sig .tc .vmem S2x1024x8x128 .f32 := Memref.whole cc0_scratch6

/-- Chunk `k` of a buffer of sixteen chunks of partial results. -/
abbrev chunk (k : ℕ) : Finset S16x9x64x128.Idx := slab S16x9x64x128 (0 : Fin 4) k
/-- Row `k` of the buffer of finished chunks. -/
abbrev crow (k : ℕ) : Finset S16x64x1024.Idx := slab S16x64x1024 (0 : Fin 3) k
/-- Slot `s` of a double buffer. -/
abbrev kslot (s : ℕ) : Finset S2x1024x8x128.Idx := slab S2x1024x8x128 (0 : Fin 4) s
/-- Batch entry `b` of the keys or the values. -/
abbrev kblk (b : ℕ) : Finset S4x1024x8x128.Idx := slab S4x1024x8x128 (0 : Fin 4) b

theorem ax4 {P : Fin 4 → Prop} : (∀ b : Fin 4, b ≠ 0 → P b) ↔ P 1 ∧ P 2 ∧ P 3 := by
  simp [Fin.forall_fin_succ]
theorem ax3 {P : Fin 3 → Prop} : (∀ b : Fin 3, b ≠ 0 → P b) ↔ P 1 ∧ P 2 := by
  simp [Fin.forall_fin_succ]

theorem chunk_unit {off : Fin 4 → ℕ} (inb : ∀ b, off b + S1x9x64x128.size b ≤ S16x9x64x128.size b) {k : ℕ} (h : off = ![k, 0, 0, 0]) :
    (Rect.unit (s := S16x9x64x128) off S1x9x64x128.size inb).set = chunk k := by
  subst h; exact unit_slab _ _ rfl rfl (ax4.2 ⟨⟨rfl, rfl⟩, ⟨rfl, rfl⟩, rfl, rfl⟩)

theorem crow_unit {off : Fin 3 → ℕ} (inb : ∀ b, off b + S1x64x1024.size b ≤ S16x64x1024.size b) {k : ℕ} (h : off = ![k, 0, 0]) :
    (Rect.unit (s := S16x64x1024) off S1x64x1024.size inb).set = crow k := by
  subst h; exact unit_slab _ _ rfl rfl (ax3.2 ⟨⟨rfl, rfl⟩, rfl, rfl⟩)

theorem kslot_unit {off : Fin 4 → ℕ} (inb : ∀ b, off b + S1x1024x8x128.size b ≤ S2x1024x8x128.size b) {k : ℕ} (h : off = ![k, 0, 0, 0]) :
    (Rect.unit (s := S2x1024x8x128) off S1x1024x8x128.size inb).set = kslot k := by
  subst h; exact unit_slab _ _ rfl rfl (ax4.2 ⟨⟨rfl, rfl⟩, ⟨rfl, rfl⟩, rfl, rfl⟩)

theorem kblk_unit {off : Fin 4 → ℕ} (inb : ∀ b, off b + S1x1024x8x128.size b ≤ S4x1024x8x128.size b) {k : ℕ} (h : off = ![k, 0, 0, 0]) :
    (Rect.unit (s := S4x1024x8x128) off S1x1024x8x128.size inb).set = kblk k := by
  subst h; exact unit_slab _ _ rfl rfl (ax4.2 ⟨⟨rfl, rfl⟩, ⟨rfl, rfl⟩, rfl, rfl⟩)

/-! ## The slices the copies name -/

abbrev partSl (off : Fin 4 → ℕ) (inb : ∀ b, off b + S1x9x64x128.size b ≤ S16x9x64x128.size b) : Memref sig .tc .vmem S9x64x128 .bf16 :=
  (partM.slice (Rect.unit (s := S16x9x64x128) off S1x9x64x128.size inb) (fun _ => rfl)).squeeze S9x64x128 squeezes_S1x9x64x128_S9x64x128
abbrev commSl (off : Fin 4 → ℕ) (inb : ∀ b, off b + S1x9x64x128.size b ≤ S16x9x64x128.size b) : Memref sig .tc .vmem S9x64x128 .bf16 :=
  (commM.slice (Rect.unit (s := S16x9x64x128) off S1x9x64x128.size inb) (fun _ => rfl)).squeeze S9x64x128 squeezes_S1x9x64x128_S9x64x128
abbrev comm2Sl (off : Fin 3 → ℕ) (inb : ∀ b, off b + S1x64x1024.size b ≤ S16x64x1024.size b) : Memref sig .tc .vmem S64x1024 .bf16 :=
  (comm2M.slice (Rect.unit (s := S16x64x1024) off S1x64x1024.size inb) (fun _ => rfl)).squeeze S64x1024 squeezes_S1x64x1024_S64x1024
abbrev kbSl (off : Fin 4 → ℕ) (inb : ∀ b, off b + S1x1024x8x128.size b ≤ S2x1024x8x128.size b) : Memref sig .tc .vmem S1024x8x128 .f32 :=
  (kbM.slice (Rect.unit (s := S2x1024x8x128) off S1x1024x8x128.size inb) (fun _ => rfl)).squeeze S1024x8x128 squeezes_S1x1024x8x128_S1024x8x128
abbrev vbSl (off : Fin 4 → ℕ) (inb : ∀ b, off b + S1x1024x8x128.size b ≤ S2x1024x8x128.size b) : Memref sig .tc .vmem S1024x8x128 .f32 :=
  (vbM.slice (Rect.unit (s := S2x1024x8x128) off S1x1024x8x128.size inb) (fun _ => rfl)).squeeze S1024x8x128 squeezes_S1x1024x8x128_S1024x8x128
abbrev kSl (off : Fin 4 → ℕ) (inb : ∀ b, off b + S1x1024x8x128.size b ≤ S4x1024x8x128.size b) : Memref sig .tc .hbm S1024x8x128 .f32 :=
  (kM.slice (Rect.unit (s := S4x1024x8x128) off S1x1024x8x128.size inb) (fun _ => rfl)).squeeze S1024x8x128 squeezes_S1x1024x8x128_S1024x8x128
abbrev vSl (off : Fin 4 → ℕ) (inb : ∀ b, off b + S1x1024x8x128.size b ≤ S4x1024x8x128.size b) : Memref sig .tc .hbm S1024x8x128 .f32 :=
  (vM.slice (Rect.unit (s := S4x1024x8x128) off S1x1024x8x128.size inb) (fun _ => rfl)).squeeze S1024x8x128 squeezes_S1x1024x8x128_S1024x8x128

section Sets
variable {k : ℕ}

theorem partSl_set {off} (inb) (h : off = ![k, 0, 0, 0]) : (partSl off inb).view.set = chunk k :=
  (View.set_reshape _ _).trans ((View.set_slice_whole cc0_scratch1 _).trans (chunk_unit inb h))
theorem commSl_set {off} (inb) (h : off = ![k, 0, 0, 0]) : (commSl off inb).view.set = chunk k :=
  (View.set_reshape _ _).trans ((View.set_slice_whole cc0_scratch3 _).trans (chunk_unit inb h))
theorem comm2Sl_set {off} (inb) (h : off = ![k, 0, 0]) : (comm2Sl off inb).view.set = crow k :=
  (View.set_reshape _ _).trans ((View.set_slice_whole cc0_scratch4 _).trans (crow_unit inb h))
theorem kbSl_set {off} (inb) (h : off = ![k, 0, 0, 0]) : (kbSl off inb).view.set = kslot k :=
  (View.set_reshape _ _).trans ((View.set_slice_whole cc0_scratch5 _).trans (kslot_unit inb h))
theorem vbSl_set {off} (inb) (h : off = ![k, 0, 0, 0]) : (vbSl off inb).view.set = kslot k :=
  (View.set_reshape _ _).trans ((View.set_slice_whole cc0_scratch6 _).trans (kslot_unit inb h))
theorem kSl_set {off} (inb) (h : off = ![k, 0, 0, 0]) : (kSl off inb).view.set = kblk k :=
  (View.set_reshape _ _).trans ((View.set_slice_whole main_arg2 _).trans (kblk_unit inb h))
theorem vSl_set {off} (inb) (h : off = ![k, 0, 0, 0]) : (vSl off inb).view.set = kblk k :=
  (View.set_reshape _ _).trans ((View.set_slice_whole main_arg3 _).trans (kblk_unit inb h))

end Sets

/-! ## What a copy leaves -/

section Landing
variable {Val : EltTy → Type}

/-- Chunk `k` of the partial results copied onto chunk `o` of the receive buffer. -/
theorem land_comm {off off' : Fin 4 → ℕ} (inb inb') {k o : ℕ} (hk : k < 16) (h : off = ![k, 0, 0, 0]) (h' : off' = ![o, 0, 0, 0])
    (fs : (partSl off inb).view.ty.Contents Val) (fd : (commSl off' inb').view.ty.Contents Val) (i : S16x9x64x128.Idx) (hi : i ∈ chunk o) :
    (commSl off' inb').view.write Val fd ((partSl off inb).view.read Val fs) Finset.univ i
      = fs (Function.update i (0 : Fin 4) (⟨k, hk⟩ : Fin 16)) := by
  rw [← commSl_set inb' h'] at hi
  obtain ⟨y, -, rfl⟩ := Finset.mem_map.1 hi
  rw [View.write_emb_of_mem _ _ (Finset.mem_univ _), View.read_apply]
  subst h h'
  exact congrArg fs (unit_emb_update (S := S16x9x64x128) (0 : Fin 4) inb' inb rfl (ax4.2 ⟨rfl, rfl, rfl⟩) (⟨k, hk⟩ : Fin 16) rfl _)

/-- Row `k` of the finished chunks copied onto another device's row `k`. -/
theorem land_comm2 {off : Fin 3 → ℕ} (inb) {k : ℕ} (h : off = ![k, 0, 0])
    (fs fd : (comm2Sl off inb).view.ty.Contents Val) (i : S16x64x1024.Idx) (hi : i ∈ crow k) :
    (comm2Sl off inb).view.write Val fd ((comm2Sl off inb).view.read Val fs) Finset.univ i = fs i := by
  rw [← comm2Sl_set inb h] at hi
  obtain ⟨y, -, rfl⟩ := Finset.mem_map.1 hi
  rw [View.write_emb_of_mem _ _ (Finset.mem_univ _), View.read_apply]
  rfl

/-- The index of the keys or values under a slot's index, at batch entry `b`. -/
def kIdx (b : Fin 4) (i : S2x1024x8x128.Idx) : S4x1024x8x128.Idx := fun a => match a with
  | 0 => b | 1 => i (1 : Fin 4) | 2 => i (2 : Fin 4) | 3 => i (3 : Fin 4)

theorem unit_emb_kIdx {off off' : Fin 4 → ℕ} (inb : ∀ b, off b + S1x1024x8x128.size b ≤ S4x1024x8x128.size b)
    (inb' : ∀ b, off' b + S1x1024x8x128.size b ≤ S2x1024x8x128.size b) {b : Fin 4} {s : ℕ} (h : off = ![b.val, 0, 0, 0])
    (h' : off' = ![s, 0, 0, 0]) (y : S1x1024x8x128.Idx) :
    (Rect.unit (s := S4x1024x8x128) off S1x1024x8x128.size inb).emb y
      = kIdx b ((Rect.unit (s := S2x1024x8x128) off' S1x1024x8x128.size inb').emb y) := by
  subst h h'
  have h0 : (y (0 : Fin 4) : ℕ) < 1 := (y (0 : Fin 4)).isLt
  funext a; apply Fin.ext
  match a with
  | 0 => show b.val + 1 * (y (0 : Fin 4) : ℕ) = b.val; omega
  | 1 => rfl
  | 2 => rfl
  | 3 => rfl

theorem land_kb {off off' : Fin 4 → ℕ} (inb inb') {b : Fin 4} {s : ℕ} (h : off = ![b.val, 0, 0, 0]) (h' : off' = ![s, 0, 0, 0])
    (fs : (kSl off inb).view.ty.Contents Val) (fd : (kbSl off' inb').view.ty.Contents Val) (i : S2x1024x8x128.Idx) (hi : i ∈ kslot s) :
    (kbSl off' inb').view.write Val fd ((kSl off inb).view.read Val fs) Finset.univ i = fs (kIdx b i) := by
  rw [← kbSl_set inb' h'] at hi
  obtain ⟨y, -, rfl⟩ := Finset.mem_map.1 hi
  rw [View.write_emb_of_mem _ _ (Finset.mem_univ _), View.read_apply]
  exact congrArg fs (unit_emb_kIdx inb inb' h h' _)

theorem land_vb {off off' : Fin 4 → ℕ} (inb inb') {b : Fin 4} {s : ℕ} (h : off = ![b.val, 0, 0, 0]) (h' : off' = ![s, 0, 0, 0])
    (fs : (vSl off inb).view.ty.Contents Val) (fd : (vbSl off' inb').view.ty.Contents Val) (i : S2x1024x8x128.Idx) (hi : i ∈ kslot s) :
    (vbSl off' inb').view.write Val fd ((vSl off inb).view.read Val fs) Finset.univ i = fs (kIdx b i) := by
  rw [← vbSl_set inb' h'] at hi
  obtain ⟨y, -, rfl⟩ := Finset.mem_map.1 hi
  rw [View.write_emb_of_mem _ _ (Finset.mem_univ _), View.read_apply]
  exact congrArg fs (unit_emb_kIdx inb inb' h h' _)

end Landing

/-! ## The semaphores -/

abbrev barS : Sem sig := (SemArray.scalar (sig.barrier 0 rfl) : Sems sig S_).sem

/-- The DMA semaphore the schedule names by its number. -/
abbrev dsem (n : ℕ) (h : n < 72) : DmaSem sig := (⟨n, h⟩ : Fin 72)

theorem inb16 (k : Fin 16) : ∀ a, (![k.val] : Fin 1 → ℕ) a + S1.size a ≤ S16.size a := by
  intro a; fin_cases a; have := k.isLt; show k.val + 1 ≤ 16; omega
theorem inb22 (s v : Fin 2) : ∀ a, (![s.val, v.val] : Fin 2 → ℕ) a + S1x1.size a ≤ S2x2.size a := by
  intro a; have := s.isLt; have := v.isLt
  fin_cases a
  · show s.val + 1 ≤ 2; omega
  · show v.val + 1 ≤ 2; omega

abbrev s16 (A : DmaSems sig S16) (off : Fin 1 → ℕ) (inb : ∀ a, off a + S1.size a ≤ S16.size a) : DmaSem sig :=
  ((A.slice (Rect.unit (s := S16) off S1.size inb)).squeeze S_ squeezes_S1_S_).sem
abbrev s22 (off : Fin 2 → ℕ) (inb : ∀ a, off a + S1x1.size a ≤ S2x2.size a) : DmaSem sig :=
  ((cc0_scratch11.slice (Rect.unit (s := S2x2) off S1x1.size inb)).squeeze S_ squeezes_S1x1_S_).sem

theorem rsS_all : ∀ k : Fin 16, s16 cc0_scratch7 ![k.val] (inb16 k) = dsem (4 + k.val) (by omega) := by decide +kernel
theorem rsR_all : ∀ k : Fin 16, s16 cc0_scratch8 ![k.val] (inb16 k) = dsem (20 + k.val) (by omega) := by decide +kernel
theorem agS_all : ∀ k : Fin 16, s16 cc0_scratch9 ![k.val] (inb16 k) = dsem (36 + k.val) (by omega) := by decide +kernel
theorem agR_all : ∀ k : Fin 16, s16 cc0_scratch10 ![k.val] (inb16 k) = dsem (52 + k.val) (by omega) := by decide +kernel
theorem loc_all : ∀ s v : Fin 2, s22 ![s.val, v.val] (inb22 s v) = dsem (68 + 2 * s.val + v.val) (by omega) := by decide +kernel

theorem rsS_sem {off : Fin 1 → ℕ} (inb) (k : Fin 16) (h : off = ![k.val]) : s16 cc0_scratch7 off inb = dsem (4 + k.val) (by omega) := by
  subst h; exact rsS_all k
theorem rsR_sem {off : Fin 1 → ℕ} (inb) (k : Fin 16) (h : off = ![k.val]) : s16 cc0_scratch8 off inb = dsem (20 + k.val) (by omega) := by
  subst h; exact rsR_all k
theorem agS_sem {off : Fin 1 → ℕ} (inb) (k : Fin 16) (h : off = ![k.val]) : s16 cc0_scratch9 off inb = dsem (36 + k.val) (by omega) := by
  subst h; exact agS_all k
theorem agR_sem {off : Fin 1 → ℕ} (inb) (k : Fin 16) (h : off = ![k.val]) : s16 cc0_scratch10 off inb = dsem (52 + k.val) (by omega) := by
  subst h; exact agR_all k
theorem loc_sem {off : Fin 2 → ℕ} (inb) (s v : Fin 2) (h : off = ![s.val, v.val]) : s22 off inb = dsem (68 + 2 * s.val + v.val) (by omega) := by
  subst h; exact loc_all s v

/-! ## What a copy is worth on its semaphores -/

/-- A chunk of partial results, a finished chunk, a batch entry of the keys or values. -/
def N1 : ℕ := (commSl ![0, 0, 0, 0] inb_S16x9x64x128_S1x9x64x128_0_0_0_0).view.dmaCredit
def N2 : ℕ := (comm2Sl ![0, 0, 0] (by decide)).view.dmaCredit
def N3 : ℕ := (kbSl ![0, 0, 0, 0] inb_S2x1024x8x128_S1x1024x8x128_0_0_0_0).view.dmaCredit

theorem N1_pos : 0 < N1 := View.dmaCredit_pos _ (by decide)
theorem N2_pos : 0 < N2 := View.dmaCredit_pos _ (by decide)
theorem N3_pos : 0 < N3 := View.dmaCredit_pos _ (by decide)

theorem credit_comm {off} (inb) : (commSl off inb).view.dmaCredit = N1 := rfl
theorem credit_part {off} (inb) : (partSl off inb).view.dmaCredit = N1 := rfl
theorem credit_comm2 {off} (inb) : (comm2Sl off inb).view.dmaCredit = N2 := rfl
theorem credit_kb {off} (inb) : (kbSl off inb).view.dmaCredit = N3 := rfl
theorem credit_vb {off} (inb) : (vbSl off inb).view.dmaCredit = N3 := rfl

end Cert.KProof

end
-- ==== Proof.Vals.lean ====
/-
# What the kernel computes, buffer by buffer

The contents the kernel leaves in each buffer, as functions of a device's arguments as launched. The last row
of a chunk of partial results is written in its first eight columns only, so what is stated of a chunk is
stated of the entries the kernel writes.
-/
module

public import proofs.«01_k».proof.Proof.Geom

@[expose] public section

noncomputable section

namespace Cert.KProof

open Cert.KernelIdeal Cert.KernelIdeal.Gen
open Idealize.ShloMosaic Idealize.ShloMosaic.TcCoe

variable {F : FTy → Type} [FloatOps F]
variable (m : (ℓ : Loc nD τ sig) → Buf (Elt F) ℓ)

/-- The next device on the ring: the number of the chunk a device finishes. -/
def nx (c : Fin 16) : Fin 16 := ⟨(c.val + 1) % 16, Nat.mod_lt _ (by decide)⟩
/-- The device `o` places on. -/
def pl (c : Fin 16) (o : ℕ) : Fin 16 := ⟨(c.val + o) % 16, Nat.mod_lt _ (by decide)⟩
/-- The batch entry of trip `t`. -/
def bF (c : Fin 16) (t : ℕ) : Fin 4 := ⟨bOf c.val t, bOf_lt _ _⟩

/-! ## The arguments -/

def xstg (c : Dev nD) : Vec F S4x256x1024 .f32 :=
  (win0_0.blk (0 : Fin 1)).view.read (Elt F) (m ((c : Thread nD τ).loc main_arg0))
def wqstg (c : Dev nD) : Vec F S1024x1024 .f32 :=
  (win0_1.blk (0 : Fin 1)).view.read (Elt F) (m ((c : Thread nD τ).loc main_arg1))
def wostg (c : Dev nD) : Vec F S1024x1024 .f32 :=
  (win0_2.blk (0 : Fin 1)).view.read (Elt F) (m ((c : Thread nD τ).loc main_arg4))
def kfun (c : Dev nD) : Vec F S4x1024x8x128 .f32 := m ((c : Thread nD τ).loc main_arg2)
def vfun (c : Dev nD) : Vec F S4x1024x8x128 .f32 := m ((c : Thread nD τ).loc main_arg3)

/-! ## The attention of one batch entry and head over the device's own keys -/

def qsOf (c : Dev nD) : Vec F S1024x1024 .f32 := k0_pay101 (xstg m c) (wqstg m c)

theorem inbQ (b : Fin 4) (h : Fin 8) : ∀ a, (![256 * b.val, 128 * h.val] : Fin 2 → ℕ) a + S256x128.size a ≤ S1024x1024.size a := by
  intro a; have := b.isLt; have := h.isLt
  fin_cases a
  · show 256 * b.val + 256 ≤ 1024; omega
  · show 128 * h.val + 128 ≤ 1024; omega
theorem inbK (b : Fin 4) (h : Fin 8) : ∀ a, (![b.val, 0, h.val, 0] : Fin 4 → ℕ) a + S1x1024x1x128.size a ≤ S4x1024x8x128.size a := by
  intro a; have := b.isLt; have := h.isLt
  fin_cases a
  · show b.val + 1 ≤ 4; omega
  · show 0 + 1024 ≤ 1024; omega
  · show h.val + 1 ≤ 8; omega
  · show 0 + 128 ≤ 128; omega

def qTile (c : Dev nD) (b : Fin 4) (h : Fin 8) : Vec F S256x128 .f32 := fun y =>
  qsOf m c ((Rect.unit (s := S1024x1024) ![256 * b.val, 128 * h.val] S256x128.size (inbQ b h)).emb y)
def kTile (c : Dev nD) (b : Fin 4) (h : Fin 8) : Vec F S1x1024x1x128 .f32 := fun y =>
  kfun m c ((Rect.unit (s := S4x1024x8x128) ![b.val, 0, h.val, 0] S1x1024x1x128.size (inbK b h)).emb y)
def vTile (c : Dev nD) (b : Fin 4) (h : Fin 8) : Vec F S1x1024x1x128 .f32 := fun y =>
  vfun m c ((Rect.unit (s := S4x1024x8x128) ![b.val, 0, h.val, 0] S1x1024x1x128.size (inbK b h)).emb y)

/-- The weighted values and the weights' sums. -/
def ovH (c : Dev nD) (b : Fin 4) (h : Fin 8) : FVec F S256x128 .f32 := k0_pay2 (qTile m c b h) (kTile m c b h) (vTile m c b h)
def lvH (c : Dev nD) (b : Fin 4) (h : Fin 8) : FVec F S256x1 .f32 := k0_pay3 (qTile m c b h) (kTile m c b h)

theorem slicesOv : ∀ r : Fin 4, S256x128.Slices ![64 * r.val, 0] S64x128 := by decide
theorem slicesLv : ∀ r : Fin 4, S256x1.Slices ![64 * r.val, 0] S64x1 := by decide

def ovTile (r : Fin 4) (ov : FVec F S256x128 .f32) : FVec F S1x1x64x128 .bf16 :=
  shapeCast S1x1x64x128 (truncf .bf16 (extractStridedSlice S64x128 ![64 * r.val, 0] ov (slicesOv r)) bitsLt_bf16_f32) shapeCasts_S64x128_S1x1x64x128
def lvTile (r : Fin 4) (lv : FVec F S256x1 .f32) : FVec F S1x1x64x1 .bf16 :=
  shapeCast S1x1x64x1 (truncf .bf16 (extractStridedSlice S64x1 ![64 * r.val, 0] lv (slicesLv r)) bitsLt_bf16_f32) shapeCasts_S64x1_S1x1x64x1

example (q k v) : k0_pay4 (F := F) q k v = ovTile 0 (k0_pay2 q k v) := rfl
example (ov) : k0_pay11 (F := F) ov = ovTile 3 ov := rfl
example (q k) : k0_pay6 (F := F) (k0_pay5 q k) = lvTile 0 (k0_pay3 q k) := rfl

/-- The index inside a tile of the weighted values, and inside a column of sums. -/
def ovIdx (i : S16x9x64x128.Idx) : S1x1x64x128.Idx := fun a => match a with
  | 0 => (0 : Fin 1) | 1 => (0 : Fin 1) | 2 => i (2 : Fin 4) | 3 => i (3 : Fin 4)
def lvIdx (i : S16x9x64x128.Idx) : S1x1x64x1.Idx := fun a => match a with
  | 0 => (0 : Fin 1) | 1 => (0 : Fin 1) | 2 => i (2 : Fin 4) | 3 => (0 : Fin 1)

abbrev i0 (i : S16x9x64x128.Idx) : Fin 16 := i (0 : Fin 4)
abbrev i1 (i : S16x9x64x128.Idx) : Fin 9 := i (1 : Fin 4)
abbrev i3 (i : S16x9x64x128.Idx) : Fin 128 := i (3 : Fin 4)

/-- The batch entry and the quarter of its rows a chunk is. -/
def chB (k : Fin 16) : Fin 4 := ⟨k.val / 4, by omega⟩
def chR (k : Fin 16) : Fin 4 := ⟨k.val % 4, by omega⟩
/-- A number read as a head. -/
def hd (n : ℕ) : Fin 8 := ⟨n % 8, Nat.mod_lt _ (by decide)⟩

/-- The partial results device `c` computes, entry by entry. -/
def T (c : Dev nD) (i : S16x9x64x128.Idx) : Elt F .bf16 :=
  if (i1 i).val < 8 then ovTile (chR (i0 i)) (ovH m c (chB (i0 i)) (hd (i1 i).val)) (ovIdx i)
  else lvTile (chR (i0 i)) (lvH m c (chB (i0 i)) (hd (i3 i).val)) (lvIdx i)

/-- The entries the kernel writes. -/
def rel (i : S16x9x64x128.Idx) : Prop := (i1 i).val < 8 ∨ (i3 i).val < 8

/-- A buffer of partial results holding device `c`'s on chunk `k`. -/
def PartGood (c : Dev nD) (k : ℕ) (f : S16x9x64x128.Idx → Elt F .bf16) : Prop :=
  ∀ i ∈ chunk k, rel i → f i = T m c i

/-- Slot `o` of device `d`'s receive buffer holding device `o`'s partial results of the chunk `d` finishes. -/
def CommAt (d o : Fin 16) (f : S16x9x64x128.Idx → Elt F .bf16) : Prop :=
  ∀ i ∈ chunk o.val, rel i → f i = T m o (Function.update i (0 : Fin 4) (nx d))

/-- Device `d`'s receive buffer filled. -/
def CommGood (d : Fin 16) (f : S16x9x64x128.Idx → Elt F .bf16) : Prop := ∀ o, CommAt m d o f

/-- Slot `s` of the key (value) buffer holding batch entry `b`. -/
def KGood (c : Dev nD) (b : Fin 4) (s : ℕ) (f : S2x1024x8x128.Idx → Elt F .f32) : Prop :=
  ∀ i ∈ kslot s, f i = kfun m c (kIdx b i)
def VGood (c : Dev nD) (b : Fin 4) (s : ℕ) (f : S2x1024x8x128.Idx → Elt F .f32) : Prop :=
  ∀ i ∈ kslot s, f i = vfun m c (kIdx b i)

/-! ## The finished chunk -/

theorem slicesA : ∀ h : Fin 8, S9x64x128.Slices ![h.val, 0, 0] S1x64x128 := by decide
theorem slicesB : ∀ h : Fin 8, S9x64x128.Slices ![8, 0, h.val] S1x64x1 := by decide

/-- Head `h`'s columns of the quotient. -/
def colTile (h : Fin 8) (fin : FVec F S9x64x128 .f32) : FVec F S64x128 .f32 :=
  shapeCast S64x128 (divf (shapeCast S64x128 (extractStridedSlice S1x64x128 ![h.val, 0, 0] fin (slicesA h)) shapeCasts_S1x64x128_S64x128)
    (broadcastTo S64x128 (shapeCast S64x1 (extractStridedSlice S1x64x1 ![8, 0, h.val] fin (slicesB h)) shapeCasts_S1x64x1_S64x1) broadcasts_S64x1_S64x128))
    shapeCasts_S64x128_S64x128

example (cm : Vec F S16x9x64x128 .bf16) : k0_pay106 cm = colTile 1 (k0_pay104 cm) := rfl
example (fin : FVec F S9x64x128 .f32) : k0_pay114 (k0_pay113 fin) = colTile 7 fin := rfl

def colIdx (j : S64x1024.Idx) : S64x128.Idx := fun a => match a with
  | 0 => j (0 : Fin 2) | 1 => (⟨(j (1 : Fin 2)).val % 128, Nat.mod_lt _ (by decide)⟩ : Fin 128)

/-- The normalised attention of a device's chunk, from its filled receive buffer. -/
def nckOf (cm : Vec F S16x9x64x128 .bf16) : Vec F S64x1024 .f32 := fun j =>
  colTile (hd ((j (1 : Fin 2)).val / 128)) (k0_pay104 cm) (colIdx j)

def resOf (cm : Vec F S16x9x64x128 .bf16) (wo : Vec F S1024x1024 .f32) : FVec F S64x1024 .f32 := k0_pay115 (nckOf cm) wo
def c2Of (cm : Vec F S16x9x64x128 .bf16) (wo : Vec F S1024x1024 .f32) : FVec F S1x64x1024 .bf16 := k0_pay116 (nckOf cm) wo

theorem inbRow (o : Fin 16) : ∀ a, (![o.val, 0, 0] : Fin 3 → ℕ) a + S1x64x1024.size a ≤ S16x64x1024.size a := by
  intro a; have := o.isLt
  fin_cases a
  · show o.val + 1 ≤ 16; omega
  · show 0 + 64 ≤ 64; omega
  · show 0 + 1024 ≤ 1024; omega
theorem inbOut (k : Fin 16) : ∀ a, (![k.val / 4, 64 * (k.val % 4), 0] : Fin 3 → ℕ) a + S1x64x1024.size a ≤ S4x256x1024.size a := by
  intro a; have := k.isLt
  fin_cases a
  · show k.val / 4 + 1 ≤ 4; omega
  · show 64 * (k.val % 4) + 64 ≤ 256; omega
  · show 0 + 1024 ≤ 1024; omega

/-- The entry under a chunk's index in the rows' buffer, and in the result. -/
def rowEmb (o : Fin 16) (y : S1x64x1024.Idx) : S16x64x1024.Idx :=
  (Rect.unit (s := S16x64x1024) ![o.val, 0, 0] S1x64x1024.size (inbRow o)).emb y
def outEmb (k : Fin 16) (y : S1x64x1024.Idx) : S4x256x1024.Idx :=
  (Rect.unit (s := S4x256x1024) ![k.val / 4, 64 * (k.val % 4), 0] S1x64x1024.size (inbOut k)).emb y

/-- Row `o` holding device `o`'s finished chunk. -/
def C2Good (o : Fin 16) (f : S16x64x1024.Idx → Elt F .bf16) : Prop :=
  ∃ cm, CommGood m o cm ∧ ∀ y, f (rowEmb o y) = c2Of cm (wostg m o) y

/-- What device `c` stores of device `o`'s finished chunk: its own at full precision, another's as received. -/
def outVal (c o : Fin 16) (cm : Vec F S16x9x64x128 .bf16) : FVec F S1x64x1024 .f32 :=
  if o = c then k0_pay117 (resOf cm (wostg m o)) else k0_pay119 (k0_pay118 (c2Of cm (wostg m o)))

/-- The result holding, at device `o`'s chunk, what device `c` stores there. -/
def OutAt (c o : Fin 16) (X : S4x256x1024.Idx → Elt F .f32) : Prop :=
  ∃ cm, CommGood m o cm ∧ ∀ y, X (outEmb (nx o) y) = outVal m c o cm y

/-- The whole result of device `c`. -/
def OutGood (c : Fin 16) (X : S4x256x1024.Idx → Elt F .f32) : Prop := ∀ o, OutAt m c o X

end Cert.KProof

end
-- ==== Proof.Sched.lean ====
/-
# The protocol

Sixteen devices. Each device's barrier semaphore is raised once by each of the other fifteen, which thereby
lends the device two landing places: its slot of that peer's receive buffer and its row of that peer's buffer
of finished chunks. A transfer of partial results pays the sender's and the receiver's semaphore of that pair;
so does a transfer of a finished chunk. Each of the four local semaphores (slot, keys or values) is
paid twice, by the copies of the two batch entries that use the slot.
-/
module

public import proofs.«01_k».proof.Proof.Vals
public import Idealize.ShloMosaic.Lib.ShareLeaves

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The kernel's own semaphores: the four families of sixteen (partial results sent, received; finished chunks
    sent, received), and the local ones by slot and by keys or values. -/
abbrev OK : Type := (Fin 4 × Fin 16) ⊕ (Fin 2 × Fin 2)
/-- All the protocol's cells: the barrier, and the own ones. -/
abbrev CK : Type := Unit ⊕ OK

def osem : OK → SemLoc sig
  | .inl (a, k) => .dma (dsem (4 + 16 * a.val + k.val) (by omega))
  | .inr (s, v) => .dma (dsem (68 + 2 * s.val + v.val) (by omega))

def csem : CK → SemLoc sig
  | .inl _ => .reg barS
  | .inr k => osem k

def kindOf : SemLoc sig → Option CK
  | .reg _ => some (.inl ())
  | .dma q =>
    if q.val < 4 then none
    else if q.val < 68 then some (.inr (.inl (⟨(q.val - 4) / 16 % 4, Nat.mod_lt _ (by decide)⟩, ⟨(q.val - 4) % 16, Nat.mod_lt _ (by decide)⟩)))
    else some (.inr (.inr (⟨(q.val - 68) / 2 % 2, Nat.mod_lt _ (by decide)⟩, ⟨(q.val - 68) % 2, Nat.mod_lt _ (by decide)⟩)))

theorem kind_osem : ∀ k : OK, kindOf (osem k) = some (.inr k) := by decide +kernel
theorem kind_csem : ∀ k : CK, kindOf (csem k) = some k
  | .inl () => rfl
  | .inr k => kind_osem k

theorem csem_inj : Function.Injective csem := fun k k' h => by
  have := congrArg kindOf h; rw [kind_csem, kind_csem] at this; exact Option.some.inj this

abbrev rsS (k : Fin 16) : CK := .inr (.inl (0, k))
abbrev rsR (o : Fin 16) : CK := .inr (.inl (1, o))
abbrev agS (t : Fin 16) : CK := .inr (.inl (2, t))
abbrev agR (o : Fin 16) : CK := .inr (.inl (3, o))
abbrev lc (s v : Fin 2) : CK := .inr (.inr (s, v))
abbrev bar : CK := .inl ()

abbrev kcell (c : Dev nD) (k : CK) : GSem nD τ sig := ((c : Thread nD τ), csem k)

/-! ## The resources that move -/

section Pts
variable (c : Dev nD)

abbrev partL : Loc nD τ sig := (c : Thread nD τ).loc cc0_scratch1
abbrev commL : Loc nD τ sig := (c : Thread nD τ).loc cc0_scratch3
abbrev comm2L : Loc nD τ sig := (c : Thread nD τ).loc cc0_scratch4
abbrev kbL : Loc nD τ sig := (c : Thread nD τ).loc cc0_scratch5
abbrev vbL : Loc nD τ sig := (c : Thread nD τ).loc cc0_scratch6
abbrev kL : Loc nD τ sig := (c : Thread nD τ).loc main_arg2
abbrev vL : Loc nD τ sig := (c : Thread nD τ).loc main_arg3

/-- Chunk `k` of the partial results, at any contents. -/
def partAny (k : ℕ) : sProp 𝕄 := iprop(∃ f, partL c ↦[chunk k]{fullShare} f)
def commAny (k : ℕ) : sProp 𝕄 := iprop(∃ f, commL c ↦[chunk k]{fullShare} f)
def comm2Any (k : ℕ) : sProp 𝕄 := iprop(∃ f, comm2L c ↦[crow k]{fullShare} f)
/-- The share of row `k` that goes with the transfer to device `t`. -/
def comm2Leaf (k : ℕ) (t : Fin 16) : sProp 𝕄 := iprop(∃ f, comm2L c ↦[crow k]{ShareLeaves.leaf 4 fullShare t} f)
def kbAny (s : ℕ) : sProp 𝕄 := iprop(∃ f, kbL c ↦[kslot s]{fullShare} f)
def vbAny (s : ℕ) : sProp 𝕄 := iprop(∃ f, vbL c ↦[kslot s]{fullShare} f)
/-- Batch entry `b` of the keys. -/
def kPts (b : ℕ) : sProp 𝕄 := kL c ↦[kblk b]{fullShare} m (kL c)
def vPts (b : ℕ) : sProp 𝕄 := vL c ↦[kblk b]{fullShare} m (vL c)

def commGot (o : Fin 16) : sProp 𝕄 := iprop(∃ f, ⌜CommAt m c o f⌝ ∗ commL c ↦[chunk o.val]{fullShare} f)
def comm2Got (o : Fin 16) : sProp 𝕄 := iprop(∃ f, ⌜C2Good m o f⌝ ∗ comm2L c ↦[crow o.val]{fullShare} f)
def kbGot (b : Fin 4) (s : ℕ) : sProp 𝕄 := iprop(∃ f, ⌜KGood m c b s f⌝ ∗ kbL c ↦[kslot s]{fullShare} f)
def vbGot (b : Fin 4) (s : ℕ) : sProp 𝕄 := iprop(∃ f, ⌜VGood m c b s f⌝ ∗ vbL c ↦[kslot s]{fullShare} f)

instance partAny_st (k) : BI.Storable (upEmb : UEmb _ 𝕄) (partAny (F := F) c k) := by unfold partAny; infer_instance
instance commAny_st (k) : BI.Storable (upEmb : UEmb _ 𝕄) (commAny (F := F) c k) := by unfold commAny; infer_instance
instance comm2Any_st (k) : BI.Storable (upEmb : UEmb _ 𝕄) (comm2Any (F := F) c k) := by unfold comm2Any; infer_instance
instance comm2Leaf_st (k t) : BI.Storable (upEmb : UEmb _ 𝕄) (comm2Leaf (F := F) c k t) := by unfold comm2Leaf; infer_instance
instance commGot_st (o) : BI.Storable (upEmb : UEmb _ 𝕄) (commGot m c o) := by unfold commGot; infer_instance
instance comm2Got_st (o) : BI.Storable (upEmb : UEmb _ 𝕄) (comm2Got m c o) := by unfold comm2Got; infer_instance
instance kbGot_st (b s) : BI.Storable (upEmb : UEmb _ 𝕄) (kbGot m c b s) := by unfold kbGot; infer_instance
instance vbGot_st (b s) : BI.Storable (upEmb : UEmb _ 𝕄) (vbGot m c b s) := by unfold vbGot; infer_instance
instance kPts_st (b) : BI.Storable (upEmb : UEmb _ 𝕄) (kPts m c b) := by unfold kPts; infer_instance
instance vPts_st (b) : BI.Storable (upEmb : UEmb _ 𝕄) (vPts m c b) := by unfold vPts; infer_instance

end Pts

/-! ## The schedule -/

/-- Which of a family's sixteen cells are used: all but the one of the chunk, or the device, that stays. -/
def live (c : Fin 16) (a : Fin 4) (k : Fin 16) : Bool := if a = 0 then k != nx c else k != c

def dutiesK (c : Fin 16) : CK → ℕ → Finset (Fin 16)
  | .inl _, r => if r = 0 then Finset.univ.erase c else ∅
  | .inr (.inl (a, k)), r => if r = 0 ∧ live c a k then {0} else ∅
  | .inr (.inr _), r => if r < 2 then {0} else ∅

def amountK : CK → ℕ
  | .inl _ => 1
  | .inr (.inl (a, _)) => if a.val < 2 then N1 else N2
  | .inr (.inr _) => N3

theorem amountK_pos : ∀ k, 0 < amountK k
  | .inl _ => Nat.one_pos
  | .inr (.inl (a, _)) => by
    show 0 < if a.val < 2 then N1 else N2
    split; exacts [N1_pos, N2_pos]
  | .inr (.inr _) => N3_pos

def payloadK (c : Fin 16) : CK → ℕ → Fin 16 → sProp 𝕄
  | .inl _, _, d => iprop(commAny d c.val ∗ comm2Any d c.val)
  | .inr (.inl (0, k)), _, _ => partAny c k.val
  | .inr (.inl (1, o)), _, _ => commGot m c o
  | .inr (.inl (2, t)), _, _ => comm2Leaf c c.val t
  | .inr (.inl (3, o)), _, _ => comm2Got m c o
  | .inr (.inr (s, v)), r, _ =>
      if v = 0 then iprop(kbGot m c (bF c (2 * r + s.val)) s.val ∗ kPts m c (bOf c.val (2 * r + s.val)))
      else iprop(vbGot m c (bF c (2 * r + s.val)) s.val ∗ vPts m c (bOf c.val (2 * r + s.val)))

instance payloadK_st (c : Fin 16) : ∀ k r d, BI.Storable (upEmb : UEmb _ 𝕄) (payloadK m c k r d)
  | .inl _, _, d => by unfold payloadK; infer_instance
  | .inr (.inl (0, k)), _, _ => by unfold payloadK; infer_instance
  | .inr (.inl (1, o)), _, _ => by unfold payloadK; infer_instance
  | .inr (.inl (2, t)), _, _ => by unfold payloadK; infer_instance
  | .inr (.inl (3, o)), _, _ => by unfold payloadK; infer_instance
  | .inr (.inr (s, v)), r, _ => by
    by_cases h : v = 0
    · subst h; show BI.Storable upEmb iprop(kbGot m c _ _ ∗ kPts m c _); infer_instance
    · show BI.Storable upEmb (if v = 0 then _ else _); rw [if_neg h]; infer_instance

def Rd : Rounds.Schedule (GSem nD τ sig) (Fin 16) 𝕄 where
  duties g r := match kindOf g.2 with | some k => dutiesK g.1.1 k r | none => ∅
  unitless _ := False
  amount g _ _ := match kindOf g.2 with | some k => amountK k | none => 1
  payload g r d := match kindOf g.2 with | some k => payloadK m g.1.1 k r d | none => iprop(emp)
  amount_pos g _ _ _ := by
    cases kindOf g.2 with
    | none => exact Nat.one_pos
    | some k => exact amountK_pos k

instance Rd_payload_st (g : GSem nD τ sig) (r : ℕ) (d : Fin 16) : BI.Storable (upEmb : UEmb _ 𝕄) ((Rd (F := F) m).payload g r d) := by
  show BI.Storable upEmb (match kindOf g.2 with | some k => payloadK m g.1.1 k r d | none => iprop(emp))
  split <;> infer_instance

section Tables
variable (c : Dev nD)

theorem Rd_duties (k : CK) (r : ℕ) : (Rd m).duties (kcell c k) r = dutiesK c k r := by
  show (match kindOf (csem k) with | some k => dutiesK c k r | none => ∅) = _
  rw [kind_csem]
theorem Rd_amount (k : CK) (r : ℕ) (d : Fin 16) : (Rd m).amount (kcell c k) r d = amountK k := by
  show (match kindOf (csem k) with | some k => amountK k | none => 1) = _
  rw [kind_csem]
theorem Rd_payload (k : CK) (r : ℕ) (d : Fin 16) : (Rd m).payload (kcell c k) r d = payloadK m c k r d := by
  show (match kindOf (csem k) with | some k => payloadK m c k r d | none => iprop(emp)) = _
  rw [kind_csem]
theorem Rd_expect (k : CK) (r : ℕ) : (Rd m).expect (kcell c k) r = (dutiesK c k r).card * amountK k := by
  unfold Schedule.expect Schedule.amountOf
  rw [Rd_duties, Finset.sum_congr rfl fun d _ => Rd_amount m c k r d, Finset.sum_const, smul_eq_mul]

theorem Rd_expect_bar : (Rd m).expect (kcell c bar) 0 = 15 := by
  rw [Rd_expect]; show (Finset.univ.erase c).card * 1 = 15
  rw [Finset.card_erase_of_mem (Finset.mem_univ _)]; rfl

/-- A cell of one duty in the round: the units it expects, and the payload its wait gives. -/
theorem Rd_expect_one {k : CK} {r : ℕ} (h : dutiesK c k r = {0}) : (Rd m).expect (kcell c k) r = amountK k := by
  rw [Rd_expect, h, Finset.card_singleton, Nat.one_mul]
theorem Rd_rest_one {k : CK} {r : ℕ} (h : dutiesK c k r = {0}) :
    bigSep ((Rd m).duties (kcell c k) r \ ∅) (fun d => (Rd m).payload (kcell c k) r d) = payloadK m c k r 0 := by
  rw [Finset.sdiff_empty, Rd_duties, h, bigSep_singleton, Rd_payload]
theorem Rd_mem_one {k : CK} {r : ℕ} (h : dutiesK c k r = {0}) : (0 : Fin 16) ∈ (Rd m).duties (kcell c k) r := by
  rw [Rd_duties, h]; exact Finset.mem_singleton_self _

theorem duties_fam {c : Fin 16} {a : Fin 4} {k : Fin 16} (h : live c a k = true) : dutiesK c (.inr (.inl (a, k))) 0 = {0} := by
  exact if_pos ⟨rfl, h⟩
theorem duties_lc {c : Fin 16} {s v : Fin 2} {r : ℕ} (h : r < 2) : dutiesK c (lc s v) r = {0} := by
  exact if_pos h

/-- The round at which a device leaves a cell, having spent all its duties. -/
def lastR (c : Fin 16) : CK → ℕ
  | .inl _ => 1
  | .inr (.inl (a, k)) => if live c a k then 1 else 0
  | .inr (.inr _) => 2

theorem Rd_over (k : CK) (r : ℕ) (h : lastR c k ≤ r) : (Rd m).duties (kcell c k) r = ∅ := by
  rw [Rd_duties]
  match k with
  | .inl _ => have h' : 1 ≤ r := h; exact if_neg (by omega)
  | .inr (.inl (a, k)) =>
    refine if_neg ?_; rintro ⟨h0, hl⟩
    have h' : (if live c a k then 1 else 0) ≤ r := h
    rw [if_pos hl] at h'; omega
  | .inr (.inr _) => have h' : 2 ≤ r := h; exact if_neg (by omega)

end Tables

/-! ## What each device owes at launch -/

abbrev Tally := CellTallies nD τ sig Unit

/-- The barrier units still to give, from offset `n` on. -/
def oBar (c : Dev nD) (n : ℕ) : Tally := ∑ o ∈ Finset.Ico n 16, tallyAt (kcell (pl c o) bar) () 1
/-- The transfer of chunk `k` of the partial results: to the device that finishes it, unless that is the sender. -/
def oChunk (c : Dev nD) (k : ℕ) : Tally := if k = (nx c).val then 0 else tallyAt (kcell (pl 15 k) (rsR c)) () N1
def oTrip (c : Dev nD) (b q : ℕ) : Tally := ∑ j ∈ Finset.Ico q 4, oChunk c (4 * b + j)
def oRs (c : Dev nD) (t : ℕ) : Tally := ∑ j ∈ Finset.Ico t 4, oTrip c (bOf c.val j) 0
/-- The transfers of the finished chunk still to make. -/
def oAg (c : Dev nD) (n : ℕ) : Tally := ∑ o ∈ Finset.Ico n 16, tallyAt (kcell (pl c o) (agR c)) () N2

def O₀ (c : Dev nD) : Tally := oBar c 1 + oRs c 0 + oAg c 1

/-! ## Levels -/

def L (g : GSem nD τ sig) : Finset Unit := if g.1.2 = .tc then {()} else ∅

def lvK : CK → ℕ
  | .inl _ => 1
  | .inr (.inl (a, _)) => if a = 1 then 2 else if a = 3 then 3 else 0
  | .inr (.inr _) => 0
/-- Barriers below partial results received, below finished chunks received; everything else at the bottom. -/
def lv (g : GSem nD τ sig) (_ : Unit) : ℕ := match kindOf g.2 with | some k => lvK k | none => 0

theorem lv_kcell (c : Dev nD) (k : CK) (u : Unit) : lv (kcell c k) u = lvK k := by
  show (match kindOf (csem k) with | some k => lvK k | none => 0) = _
  rw [kind_csem]

theorem L_of_ne (g : GSem nD τ sig) (h : g.1.2 ≠ .tc) : L g = ∅ := if_neg h
theorem L_tc (c : Dev nD) (sm : SemLoc sig) : L ((c : Thread nD τ), sm) = {()} := if_pos rfl

/-- Everything owed is to cells above level `n`. -/
def Above (n : ℕ) (O : Tally) : Prop := ∀ g u, 0 < O g u → u ∈ L g ∧ n < lv g u

theorem above_zero (n : ℕ) : Above n 0 := fun g u h => absurd h (Nat.lt_irrefl 0)
theorem above_add {n : ℕ} {A B : Tally} (hA : Above n A) (hB : Above n B) : Above n (A + B) := fun g u h => by
  rw [Pi.add_apply, Finsupp.add_apply] at h
  rcases Nat.eq_zero_or_pos (A g u) with h0 | h0
  · exact hB g u (by omega)
  · exact hA g u h0
theorem above_sum {ι : Type} {n : ℕ} (s : Finset ι) (f : ι → Tally) (h : ∀ i ∈ s, Above n (f i)) : Above n (∑ i ∈ s, f i) := by
  classical
  induction s using Finset.induction_on with
  | empty => rw [Finset.sum_empty]; exact above_zero n
  | insert a s ha ih =>
    rw [Finset.sum_insert ha]
    exact above_add (h a (Finset.mem_insert_self _ _)) (ih fun i hi => h i (Finset.mem_insert_of_mem hi))
theorem above_tally {n : ℕ} (c : Dev nD) (k : CK) (N : ℕ) (h : n < lvK k) : Above n (tallyAt (kcell c k) () N) := fun g u hg => by
  rw [tallyAt_apply] at hg
  by_cases h' : g = kcell c k ∧ u = ()
  · rw [h'.1, L_tc, lv_kcell]; exact ⟨Finset.mem_singleton_self _, h⟩
  · rw [if_neg h'] at hg; exact absurd hg (Nat.lt_irrefl 0)

theorem above_oBar (c : Dev nD) (n : ℕ) : Above 0 (oBar c n) := above_sum _ _ fun o _ => above_tally _ _ _ (by decide)
theorem above_oTrip (c : Dev nD) (b q : ℕ) {n : ℕ} (hn : n < 2) : Above n (oTrip c b q) := above_sum _ _ fun o _ => by
  unfold oChunk; split
  · exact above_zero n
  · exact above_tally _ _ _ hn
theorem above_oRs (c : Dev nD) (t : ℕ) {n : ℕ} (hn : n < 2) : Above n (oRs c t) := above_sum _ _ fun o _ => above_oTrip _ _ _ hn
theorem above_oAg (c : Dev nD) (t : ℕ) {n : ℕ} (hn : n < 3) : Above n (oAg c t) := above_sum _ _ fun o _ => above_tally _ _ _ hn

theorem above_mono {n n' : ℕ} {O : Tally} (h : n ≤ n') (hO : Above n' O) : Above n O := fun g u hg => ⟨(hO g u hg).1, lt_of_le_of_lt h (hO g u hg).2⟩

theorem above_O₀ (c : Dev nD) : Above 0 (O₀ c) :=
  above_add (above_add (above_oBar c 1) (above_oRs c 0 (by decide))) (above_oAg c 1 (by decide))

/-- A device may wait on its cell at level at most `n` while all it owes is above `n`. -/
theorem mayWait_of (c : Dev nD) (sm : SemLoc sig) {n : ℕ} (hn : lv ((c : Thread nD τ), sm) () ≤ n) {O : Tally} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hn)
    (fun g u hg => (hO g u hg).2)

end Cert.KProof

end
-- ==== Proof.Steps.lean ====
/-
# The barrier

The steps of the opening handshake: fifteen signals, each lending the peer its landing places, and the wait for
the peers' fifteen.
-/
module

public import proofs.«01_k».proof.Proof.Sched
public import Idealize.SL.BI.BigOpNat
public import Idealize.ShloMosaic.Lib.Tactic
public import Mathlib.Algebra.BigOperators.Intervals

@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ UU ℕ

variable (m : (ℓ : Loc nD τ sig) → Buf (Elt F) ℓ) (K : Dev nD × CK → ℕ)

abbrev 𝒱₀ : Variants := Variants.none

/-- The body's programs, and what is left to show of one. -/
abbrev PT (α : Type) : Type 1 := Prog (TpuEff nD τ sig (Elt F) Λ₀ .tc) α
abbrev WP (c : Dev nD) {α : Type} (p : PT (F := F) α) (Q : α → sProp 𝕄) : sProp 𝕄 :=
  wp frame (wpE (defs₀ (F := F)) 𝒱₀ (c : Thread nD τ) none) Set.univ p Q

/-! ## The records every device holds -/

/-- Every cell's invariant, that every cell has reached its first round, and the levels. -/
def Rec : sProp 𝕄 :=
  iprop((bigSep Finset.univ fun ck : Dev nD × CK => cellInv ER (Rd m) (K ck) (kcell ck.1 ck.2))
    ∗ (bigSep Finset.univ fun ck : Dev nD × CK => reached ER (kcell ck.1 ck.2) 0) ∗ levAts L lv)

instance Rec_persistent : BI.Persistent (Rec m K) := by unfold Rec; infer_instance

theorem Rec_inv (c : Dev nD) (k : CK) : Rec m K ⊢ cellInv ER (Rd m) (K (c, k)) (kcell c k) := by
  unfold Rec
  exact (sep_elim_left).trans (bigSep_elim (Φ := fun ck : Dev nD × CK => cellInv ER (Rd m) (K ck) (kcell ck.1 ck.2)) (Finset.mem_univ (c, k)))
theorem Rec_reached (c : Dev nD) (k : CK) : Rec m K ⊢ reached ER (kcell c k) 0 := by
  unfold Rec
  exact (sep_elim_right).trans ((sep_elim_left).trans (bigSep_elim (Φ := fun ck : Dev nD × CK => (reached ER (kcell ck.1 ck.2) 0 : sProp 𝕄)) (Finset.mem_univ (c, k))))
theorem Rec_lev : Rec m K ⊢ (levAts L lv : sProp 𝕄) := by
  unfold Rec
  iintro ⟨-, -, H⟩
  iexact H

theorem mw (c : Dev nD) (k : CK) {n : ℕ} {O : Tally} (hn : lvK k ≤ n) (hO : Above n O) :
    Rec m K ⊢ (MayWait (c : Thread nD τ) (csem k) () O : sProp 𝕄) := by
  have h1 : lv ((c : Thread nD τ), csem k) () ≤ n := by
    have h := lv_kcell c k ()
    exact h ▸ hn
  have h2 := mayWait_of (F := F) c (csem k) h1 hO
  exact (Rec_lev m K).trans h2

/-- What a device owes, whatever waits it has made. -/
def OW (c : Dev nD) (O : Tally) : sProp 𝕄 := iprop(∃ W, owes (c : Thread nD τ) O W)

theorem add4 (X T A B : Tally) : X + T + A + B = X + A + B + T := by rw [add_right_comm X T A, add_right_comm (X + A) T B]

/-! ## The signals -/

/-- What a device gives its peer `o` places on: the token of its duty there, and its own landing places for it. -/
def Lend (c : Dev nD) (o : ℕ) : sProp 𝕄 :=
  iprop(dutyTok ER (kcell (pl c o) bar) 0 c ∗ commAny c (pl c o).val ∗ comm2Any c (pl c o).val)

def StA (c : Dev nD) (n : ℕ) : sProp 𝕄 :=
  iprop(OW c (oBar c n + oRs c 0 + oAg c 1) ∗ bigSep (Finset.Ico n 16) (Lend (F := F) c))

theorem mem_bar {c : Dev nD} {n : ℕ} (h1 : 1 ≤ n) (h2 : n < 16) : c ∈ (Rd m).duties (kcell (pl c n) bar) 0 := by
  rw [Rd_duties]
  show c ∈ Finset.univ.erase (pl c n)
  refine Finset.mem_erase.2 ⟨fun h => ?_, Finset.mem_univ _⟩
  have := congrArg Fin.val h
  have h3 : c.val = (c.val + n) % 16 := this
  have := c.isLt
  omega

theorem oBar_step (c : Dev nD) {n : ℕ} (h2 : n < 16) : oBar c n = oBar c (n + 1) + tallyAt (kcell (pl c n) bar) () 1 := by
  unfold oBar; rw [Finset.sum_eq_sum_Ico_succ_bot h2, add_comm]

theorem pay_bar (c d : Dev nD) : iprop(commAny (F := F) c d.val ∗ comm2Any c d.val) ⊢ (Rd m).payload ((d : Thread nD τ), SemLoc.reg barS) 0 c :=
  Entails.of_eq (Rd_payload m d bar 0 c).symm

theorem step_signal {α : Type} (c : Dev nD) (n : ℕ) (h1 : 1 ≤ n) (h2 : n < 16) {d : Dev nD} (hd : d.val = (c.val + n) % 16)
    {k : PUnit → PT (F := F) α} {Q : α → sProp 𝕄} {R : sProp 𝕄}
    (h : iprop(Rec m K ∗ StA c (n + 1) ∗ R) ⊢ WP c (k ⟨⟩) Q) :
    iprop(Rec m K ∗ StA c n ∗ R) ⊢ WP c (.op (.semSignal (d : Thread nD τ) barS 1) k) Q := by
  obtain rfl : d = pl c n := Fin.ext hd
  unfold StA OW
  rw [bigSep_Ico_succ_bot h2]; unfold Lend
  iintro ⟨#HR, ⟨⟨%W, HO⟩, ⟨⟨Ht, Hc, Hc2⟩, Hs⟩⟩, HF⟩
  ihave #Hi := (Rec_inv m K (pl c n) bar) $$ HR
  ihave #Hr := (Rec_reached m K (pl c n) bar) $$ HR
  iapply (Rounds.wp_signal 𝒱₀ ER (Rd m) (c : Thread nD τ) none (dst := (pl c n : Thread nD τ)) (sem := barS) (κ := K (pl c n, bar)) (d := c)
    (mem_bar m h1 h2) (Rd_amount m (pl c n) bar 0 c) () (oBar c (n + 1) + oRs c 0 + oAg c 1)
    (by rw [oBar_step c h2]; show _ = _ + tallyAt (kcell (pl c n) bar) () 1; exact add4 _ _ _ _) (W := W) (O₀ := oBar c n + oRs c 0 + oAg c 1)) $$ [HO Ht Hc Hc2]
  · isplitr; · iexact Hi
    isplitl [HO]; · iexact HO
    isplitl [Ht]; · iexact Ht
    isplitl [Hc Hc2]
    · iapply (pay_bar m c (pl c n))
      isplitl [Hc] <;> iassumption
    · iexact Hr
  iintro HO
  iapply h
  isplitr; · iexact HR
  isplitl [HO Hs]
  · unfold StA OW
    isplitl [HO]
    · iexists W; iexact HO
    · iexact Hs
  · iexact HF

/-! ## The wait -/

/-- The landing places a peer lends. -/
def Lent (c : Dev nD) (d : Fin 16) : sProp 𝕄 := iprop(commAny d c.val ∗ comm2Any (F := F) d c.val)
theorem pay_lent (c : Dev nD) (d : Fin 16) : (Rd m).payload ((c : Thread nD τ), SemLoc.reg barS) 0 d ⊢ Lent (F := F) c d :=
  Entails.of_eq (Rd_payload m c bar 0 d)
theorem lent_all (c : Dev nD) : bigSep (Finset.univ.erase c) (fun d => (Rd m).payload ((c : Thread nD τ), SemLoc.reg barS) 0 d)
    ⊢ (bigSep (Finset.univ.erase c) (Lent (F := F) c) : sProp 𝕄) :=
  bigSep_mono fun d _ => pay_lent m c d

def StB (c : Dev nD) : sProp 𝕄 :=
  iprop(OW c (oRs c 0 + oAg c 1) ∗ bigSep (Finset.univ.erase c) (Lent (F := F) c) ∗ atPos ER (kcell c bar) 1 ∅ 0)

theorem step_barrier {α : Type} (c : Dev nD) {k : PUnit → PT (F := F) α} {Q : α → sProp 𝕄} {R : sProp 𝕄}
    (h : iprop(Rec m K ∗ StB c ∗ R) ⊢ WP c (k ⟨⟩) Q) :
    iprop(Rec m K ∗ (StA c 16 ∗ atPos ER (kcell c bar) 0 ∅ 0 ∗ cred (tallyAt (kcell c bar) () 15)) ∗ R) ⊢ WP c (.op (.semWait barS 15) k) Q := by
  unfold StA OW
  rw [show oBar c 16 = 0 from rfl, zero_add]
  iintro ⟨#HR, ⟨⟨⟨%W, HO⟩, -⟩, Ha, Hc⟩, HF⟩
  ihave #Hi := (Rec_inv m K c bar) $$ HR
  ihave Hw := (mw m K c bar (n := 1) (by decide) (above_add (above_oRs c 0 (by decide)) (above_oAg c 1 (by decide)))) $$ HR
  iapply (Rounds.wp_wait_rest_token 𝒱₀ ER (Rd m) (c : Thread nD τ) none (κ := K (c, bar)) (wpE_semWait_eq 𝒱₀ (c : Thread nD τ) none Set.univ) (Set.mem_univ _) ()
    (O := oRs c 0 + oAg c 1) (W := W) (R := 0) (m := 0) (T := ∅) (by rw [Nat.zero_add]; exact (Rd_expect_bar m c).symm)) $$ [HO Ha Hc Hw]
  · isplitr; · iexact Hi
    isplitl [Hc]; · iexact Hc
    isplitl [HO]; · iexact HO
    isplitl [Hw]
    · iexact Hw
    · iexact Ha
  rw [show ((Rd m).duties ((c : Thread nD τ), SemLoc.reg barS) 0 \ ∅) = Finset.univ.erase c from by
    rw [Finset.sdiff_empty]; exact Rd_duties m c bar 0]
  iintro ⟨HO, Ha, -, Hp⟩
  iapply h
  isplitr; · iexact HR
  isplitl [HO Hp Ha]
  · unfold StB OW
    isplitl [HO]
    · iexists _; iexact HO
    isplitl [Hp]
    · iapply (lent_all m c) $$ Hp
    · iexact Ha
  · iexact HF

/-! ## The parts of the program -/

/-- A part of the program at the kernel's operands. -/
abbrev App {α : Type 1} (f : (arg0 : Memref sig .tc .vmem S4x256x1024 .f32) → arg0.IsWhole → (arg1 : Memref sig .tc .vmem S1024x1024 .f32) → arg1.IsWhole →
    (arg2 : Memref sig .tc .vmem S1024x1024 .f32) → arg2.IsWhole → (arg3 : Memref sig .tc .hbm S4x1024x8x128 .f32) → arg3.IsWhole →
    (arg4 : Memref sig .tc .hbm S4x1024x8x128 .f32) → arg4.IsWhole → (arg5 : Memref sig .tc .vmem S4x256x1024 .f32) → arg5.IsWhole →
    (arg6 : Memref sig .tc .vmem S1024x1024 .f32) → arg6.IsWhole → (arg7 : Memref sig .tc .vmem S16x9x64x128 .bf16) → arg7.IsWhole →
    (arg8 : Memref sig .tc .vmem S64x1024 .f32) → arg8.IsWhole → (arg9 : Memref sig .tc .vmem S16x9x64x128 .bf16) → arg9.IsWhole →
    (arg10 : Memref sig .tc .vmem S16x64x1024 .bf16) → arg10.IsWhole → (arg11 : Memref sig .tc .vmem S2x1024x8x128 .f32) → arg11.IsWhole →
    (arg12 : Memref sig .tc .vmem S2x1024x8x128 .f32) → arg12.IsWhole →
    DmaSems sig S16 → DmaSems sig S16 → DmaSems sig S16 → DmaSems sig S16 → DmaSems sig S2x2 → α) : α :=
  f xM (Memref.isWhole_whole _) wqM (Memref.isWhole_whole _) woM (Memref.isWhole_whole _) kM (Memref.isWhole_whole _) vM (Memref.isWhole_whole _)
    oM (Memref.isWhole_whole _) qsM (Memref.isWhole_whole _) partM (Memref.isWhole_whole _) nckM (Memref.isWhole_whole _) commM (Memref.isWhole_whole _)
    comm2M (Memref.isWhole_whole _) kbM (Memref.isWhole_whole _) vbM (Memref.isWhole_whole _) cc0_scratch7 cc0_scratch8 cc0_scratch9 cc0_scratch10 cc0_scratch11

/-- The barrier semaphore as the program reads it. -/
abbrev barA : Sems sig S_ := SemArray.scalar (sig.barrier 0 rfl)

/-! ### The opening parts -/

end Cert.KProof

end
-- ==== Proof.Xfer.lean ====
/-
# Waits and transfers

The steps that wait on a transfer or start one.
-/
module

public import proofs.«01_k».proof.Proof.Steps

@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ UU ℕ

variable (m : (ℓ : Loc nD τ sig) → Buf (Elt F) ℓ) (K : Dev nD × CK → ℕ)

/-! ## Waits -/

theorem waitDma_spec (c : Dev nD) {sp sp' : Space} {s s' : Shape} {e e' : EltTy} {sem : DmaSem sig} {src : Memref sig .tc sp' s' e'} {κ' : Kind}
    {dst : Memref sig κ' sp s e} {hsrc hdst} {sm : SemLoc sig} (hs : SemLoc.dma sem = sm) {N : ℕ} (hN : dst.view.dmaCredit = N) (G : PUnit → sProp 𝕄) :
    wpE (defs₀ (F := F)) 𝒱₀ (c : Thread nD τ) none Set.univ (.waitDma2 sem src dst hsrc hdst) G = waitSpec (c : Thread nD τ) Set.univ sm N G := by
  subst hs hN; rfl

/-- A wait for the one transfer that pays a cell's round. -/
theorem step_wait {α : Type} (c : Dev nD) (k : CK) (r n : ℕ) {O : Tally} (hl : lvK k ≤ n) (hO : Above n O) (hd : dutiesK c k r = {0})
    {sp sp' : Space} {s s' : Shape} {e e' : EltTy} {sem : DmaSem sig} {src : Memref sig .tc sp' s' e'} {κ' : Kind}
    {dst : Memref sig κ' sp s e} {hsrc hdst} (hs : SemLoc.dma sem = csem k) (hN : dst.view.dmaCredit = amountK k)
    {kk : PUnit → PT (F := F) α} {Q : α → sProp 𝕄} :
    iprop(Rec m K ∗ OW c O ∗ atPos ER (kcell c k) r ∅ 0 ∗ cred (tallyAt (kcell c k) () (amountK k)))
      ⊢ iprop(((OW c O ∗ atPos ER (kcell c k) (r + 1) ∅ 0 ∗ reached ER (kcell c k) (r + 1) ∗ payloadK m c k r 0) -∗ WP c (kk ⟨⟩) Q)
          -∗ WP c (.op (.waitDma2 sem src dst hsrc hdst) kk) Q) := by
  unfold OW
  iintro ⟨#HR, ⟨%W, HO⟩, Ha, Hc⟩ Hk
  ihave #Hi := (Rec_inv m K c k) $$ HR
  ihave Hw := (mw m K c k hl hO) $$ HR
  iapply (Rounds.wp_wait_rest_token 𝒱₀ ER (Rd m) (c : Thread nD τ) none (κ := K (c, k)) (sm := csem k) (k' := amountK k)
    (fun G => waitDma_spec c hs hN G) (Set.mem_univ _) () (O := O) (W := W) (R := r) (m := 0) (T := ∅)
    (by rw [Nat.zero_add]; exact (Rd_expect_one m c hd).symm)) $$ [HO Ha Hc Hw]
  · isplitr; · iexact Hi
    isplitl [Hc]; · iexact Hc
    isplitl [HO]; · iexact HO
    isplitl [Hw]
    · iexact Hw
    · iexact Ha
  rw [show bigSep ((Rd m).duties ((c : Thread nD τ), csem k) r \ ∅) (fun d => (Rd m).payload ((c : Thread nD τ), csem k) r d) = payloadK m c k r 0 from Rd_rest_one m c hd]
  iintro ⟨HO, Ha, Hr, Hp⟩
  iapply Hk
  isplitl [HO]; · iexists _; iexact HO
  isplitl [Ha]; · iexact Ha
  isplitl [Hr]; · iexact Hr
  iexact Hp

/-! ## Copies of keys and values -/

theorem pay_k (c : Dev nD) (s : Fin 2) (r : ℕ) {off off' : Fin 4 → ℕ} (inb inb') (ho : off = ![bOf c.val (2 * r + s.val), 0, 0, 0]) (ho' : off' = ![s.val, 0, 0, 0]) {fd} :
    iprop(((kbSl off' inb').view.loc (c : Thread nD τ) ↦[(kbSl off' inb').view.set]{fullShare} ((kbSl off' inb').view.write (Elt F) fd ((kSl off inb).view.read (Elt F) (m (kL c))) Finset.univ))
      ∗ ((kSl off inb).view.loc (c : Thread nD τ) ↦[(kSl off inb).view.set]{fullShare} m (kL c)))
      ⊢ (Rd m).payload ((c : Thread nD τ), csem (lc s 0)) r 0 := by
  rw [show (Rd m).payload ((c : Thread nD τ), csem (lc s 0)) r 0 = payloadK m c (lc s 0) r 0 from Rd_payload m c _ _ _]
  show _ ⊢ iprop(kbGot m c (bF c (2 * r + s.val)) s.val ∗ kPts m c (bOf c.val (2 * r + s.val)))
  rw [kbSl_set inb' ho', kSl_set inb ho]
  unfold kbGot kPts
  iintro ⟨Hd, Hs⟩
  isplitl [Hd]
  · iexists _; isplitr
    rotate_left
    · iexact Hd
    · ipureintro; exact fun i hi => land_kb inb inb' (b := bF c (2 * r + s.val)) ho ho' _ _ i hi
  · iexact Hs

theorem pay_v (c : Dev nD) (s : Fin 2) (r : ℕ) {off off' : Fin 4 → ℕ} (inb inb') (ho : off = ![bOf c.val (2 * r + s.val), 0, 0, 0]) (ho' : off' = ![s.val, 0, 0, 0]) {fd} :
    iprop(((vbSl off' inb').view.loc (c : Thread nD τ) ↦[(vbSl off' inb').view.set]{fullShare} ((vbSl off' inb').view.write (Elt F) fd ((vSl off inb).view.read (Elt F) (m (vL c))) Finset.univ))
      ∗ ((vSl off inb).view.loc (c : Thread nD τ) ↦[(vSl off inb).view.set]{fullShare} m (vL c)))
      ⊢ (Rd m).payload ((c : Thread nD τ), csem (lc s 1)) r 0 := by
  rw [show (Rd m).payload ((c : Thread nD τ), csem (lc s 1)) r 0 = payloadK m c (lc s 1) r 0 from Rd_payload m c _ _ _]
  show _ ⊢ iprop(vbGot m c (bF c (2 * r + s.val)) s.val ∗ vPts m c (bOf c.val (2 * r + s.val)))
  rw [vbSl_set inb' ho', vSl_set inb ho]
  unfold vbGot vPts
  iintro ⟨Hd, Hs⟩
  isplitl [Hd]
  · iexists _; isplitr
    rotate_left
    · iexact Hd
    · ipureintro; exact fun i hi => land_vb inb inb' (b := bF c (2 * r + s.val)) ho ho' _ _ i hi
  · iexact Hs

theorem step_kcopy {α : Type} (c : Dev nD) (s : Fin 2) (r : ℕ) (hr : r < 2) {off off' : Fin 4 → ℕ} {inb inb'}
    (ho : off = ![bOf c.val (2 * r + s.val), 0, 0, 0]) (ho' : off' = ![s.val, 0, 0, 0]) {sem : DmaSem sig} (hs : SemLoc.dma sem = csem (lc s 0)) {h1 h2 h3}
    {kk : PUnit → PT (F := F) α} {Q : α → sProp 𝕄} :
    iprop(Rec m K ∗ kPts m c (bOf c.val (2 * r + s.val)) ∗ kbAny c s.val ∗ dutyTok ER (kcell c (lc s 0)) r 0 ∗ reached ER (kcell c (lc s 0)) r)
      ⊢ iprop((cred (tallyAt (kcell c (lc s 0)) () N3) -∗ WP c (kk ⟨⟩) Q)
          -∗ WP c (.op (.enqueueDma (kSl off inb) (.here (kbSl off' inb')) (.dma sem) h1 h2 h3) kk) Q) := by
  unfold kbAny kPts
  iintro ⟨#HR, Hs, ⟨%fd, Hd⟩, Ht, Hr⟩ Hk
  ihave #Hi := (Rec_inv m K c (lc s 0)) $$ HR
  revert h3; rw [hs]; intro h3
  iapply (Rounds.wp_copy_pointsTo 𝒱₀ ER (Rd m) (c : Thread nD τ) none (src := kSl off inb) (dst := kbSl off' inb') (sem := csem (lc s 0)) (q := fullShare)
    (fs := m (kL c)) (fd := fd) (r := r) (d := 0) (κ := K (c, lc s 0)) (Rd_mem_one m c (duties_lc hr)) () N3 (credit_kb inb')
    (Rd_amount m c (lc s 0) r 0) (pay_k m c s r inb inb' ho ho')) $$ [Hs Hd Ht Hr]
  · isplitr; · iexact Hi
    rw [kbSl_set inb' ho', kSl_set inb ho]
    isplitl [Hs]; · iexact Hs
    isplitl [Hd]; · iexact Hd
    isplitl [Ht]; · iexact Ht
    iexact Hr
  iintro Hc
  iapply Hk
  iexact Hc

theorem step_vcopy {α : Type} (c : Dev nD) (s : Fin 2) (r : ℕ) (hr : r < 2) {off off' : Fin 4 → ℕ} {inb inb'}
    (ho : off = ![bOf c.val (2 * r + s.val), 0, 0, 0]) (ho' : off' = ![s.val, 0, 0, 0]) {sem : DmaSem sig} (hs : SemLoc.dma sem = csem (lc s 1)) {h1 h2 h3}
    {kk : PUnit → PT (F := F) α} {Q : α → sProp 𝕄} :
    iprop(Rec m K ∗ vPts m c (bOf c.val (2 * r + s.val)) ∗ vbAny c s.val ∗ dutyTok ER (kcell c (lc s 1)) r 0 ∗ reached ER (kcell c (lc s 1)) r)
      ⊢ iprop((cred (tallyAt (kcell c (lc s 1)) () N3) -∗ WP c (kk ⟨⟩) Q)
          -∗ WP c (.op (.enqueueDma (vSl off inb) (.here (vbSl off' inb')) (.dma sem) h1 h2 h3) kk) Q) := by
  unfold vbAny vPts
  iintro ⟨#HR, Hs, ⟨%fd, Hd⟩, Ht, Hr⟩ Hk
  ihave #Hi := (Rec_inv m K c (lc s 1)) $$ HR
  revert h3; rw [hs]; intro h3
  iapply (Rounds.wp_copy_pointsTo 𝒱₀ ER (Rd m) (c : Thread nD τ) none (src := vSl off inb) (dst := vbSl off' inb') (sem := csem (lc s 1)) (q := fullShare)
    (fs := m (vL c)) (fd := fd) (r := r) (d := 0) (κ := K (c, lc s 1)) (Rd_mem_one m c (duties_lc hr)) () N3 (credit_vb inb')
    (Rd_amount m c (lc s 1) r 0) (pay_v m c s r inb inb' ho ho')) $$ [Hs Hd Ht Hr]
  · isplitr; · iexact Hi
    rw [vbSl_set inb' ho', vSl_set inb ho]
    isplitl [Hs]; · iexact Hs
    isplitl [Hd]; · iexact Hd
    isplitl [Ht]; · iexact Ht
    iexact Hr
  iintro Hc
  iapply Hk
  iexact Hc

/-! ## The transfers between devices -/

theorem live_rsS {c k : Fin 16} (h : k ≠ nx c) : live c 0 k = true := by
  show (if (0 : Fin 4) = 0 then k != nx c else k != c) = true
  rw [if_pos rfl]; exact bne_iff_ne.2 h
theorem live_ne {c k : Fin 16} {a : Fin 4} (ha : a ≠ 0) (h : k ≠ c) : live c a k = true := by
  show (if a = 0 then k != nx c else k != c) = true
  rw [if_neg ha]; exact bne_iff_ne.2 h

theorem nx_pl (k : Fin 16) : nx (pl 15 k.val) = k := by
  apply Fin.ext; show ((15 + k.val) % 16 + 1) % 16 = k.val; omega
theorem pl_ne {c k : Fin 16} (h : k ≠ nx c) : c ≠ pl 15 k.val := fun hc => h (by rw [hc, nx_pl])

/-- Chunk `k` of the partial results, computed. -/
def partGood (c : Dev nD) (k : ℕ) : sProp 𝕄 := iprop(∃ f, ⌜PartGood m c k f⌝ ∗ partL c ↦[chunk k]{fullShare} f)

theorem upd_mem {k o : Fin 16} {i : S16x9x64x128.Idx} (hr : rel i) : Function.update i (0 : Fin 4) k ∈ chunk k.val ∧ rel (Function.update i (0 : Fin 4) k) := by
  constructor
  · rw [mem_slab]
    exact congrArg Fin.val (Function.update_self (β := fun a => S16x9x64x128.Coord a) (0 : Fin 4) k i)
  · have h1 : Function.update i (0 : Fin 4) k (1 : Fin 4) = i (1 : Fin 4) := Function.update_of_ne (by decide) _ _
    have h3 : Function.update i (0 : Fin 4) k (3 : Fin 4) = i (3 : Fin 4) := Function.update_of_ne (by decide) _ _
    unfold rel i1 i3 at hr ⊢
    rw [h1, h3]; exact hr

theorem pay_rsS (c : Dev nD) (k : Fin 16) {off : Fin 4 → ℕ} (inb) (ho : off = ![k.val, 0, 0, 0]) {f} :
    ((partSl off inb).view.loc (c : Thread nD τ) ↦[(partSl off inb).view.set]{fullShare} f) ⊢ (Rd m).payload ((c : Thread nD τ), csem (rsS k)) 0 0 := by
  rw [show (Rd m).payload ((c : Thread nD τ), csem (rsS k)) 0 0 = payloadK m c (rsS k) 0 0 from Rd_payload m c _ _ _]
  show _ ⊢ partAny c k.val
  rw [partSl_set inb ho]
  unfold partAny
  iintro H; iexists f; iexact H

theorem pay_rsR (c d : Dev nD) (k : Fin 16) (hd : nx d = k) {off off' : Fin 4 → ℕ} (inb inb') (ho : off = ![k.val, 0, 0, 0]) (ho' : off' = ![c.val, 0, 0, 0]) {f fd}
    (hf : PartGood m c k.val f) :
    ((commSl off' inb').view.loc (d : Thread nD τ) ↦[(commSl off' inb').view.set]{fullShare} ((commSl off' inb').view.write (Elt F) fd ((partSl off inb).view.read (Elt F) f) Finset.univ))
      ⊢ (Rd m).payload ((d : Thread nD τ), csem (rsR c)) 0 0 := by
  rw [show (Rd m).payload ((d : Thread nD τ), csem (rsR c)) 0 0 = payloadK m d (rsR c) 0 0 from Rd_payload m d _ _ _]
  show _ ⊢ commGot m d c
  rw [commSl_set inb' ho']
  unfold commGot
  iintro H; iexists _; isplitr
  rotate_left
  · iexact H
  · ipureintro
    intro i hi hr
    rw [land_comm inb inb' k.isLt ho ho' f fd i hi, hd]
    exact hf _ (upd_mem (k := k) (o := k) hr).1 (upd_mem (k := k) (o := k) hr).2

theorem step_psend {α : Type} (c : Dev nD) (k : Fin 16) (hk : k ≠ nx c) {d : Dev nD} (hd : d.val = (k.val + 15) % 16)
    {off off' : Fin 4 → ℕ} {inb inb'} (ho : off = ![k.val, 0, 0, 0]) (ho' : off' = ![c.val, 0, 0, 0])
    {sS sR : DmaSem sig} (hs : SemLoc.dma sS = csem (rsS k)) (hs' : SemLoc.dma sR = csem (rsR c)) {h0 h1 h2 h3}
    {O₁ : Tally} (O : Tally) (hO : O₁ = O + tallyAt (kcell (pl 15 k.val) (rsR c)) () N1)
    {kk : PUnit → PT (F := F) α} {Q : α → sProp 𝕄} :
    iprop(Rec m K ∗ partGood m c k.val ∗ commAny (pl 15 k.val) c.val ∗ OW c O₁ ∗ dutyTok ER (kcell c (rsS k)) 0 0 ∗ dutyTok ER (kcell (pl 15 k.val) (rsR c)) 0 0)
      ⊢ iprop(((cred (tallyAt (kcell c (rsS k)) () N1) ∗ OW c O) -∗ WP c (kk ⟨⟩) Q)
          -∗ WP c (.op (.enqueueDma (partSl off inb) (.remote (Dev.tc d) (commSl off' inb') (.dma sS) h0) (.dma sR) h1 h2 h3) kk) Q) := by
  obtain rfl : d = pl 15 k.val := Fin.ext (by rw [hd]; show _ = (15 + k.val) % 16; rw [Nat.add_comm])
  unfold partGood commAny OW
  iintro ⟨#HR, ⟨%f, %hf, Hs⟩, ⟨%fd, Hd⟩, ⟨%W, HO⟩, Ht, Ht'⟩ Hk
  ihave #Hi := (Rec_inv m K c (rsS k)) $$ HR
  ihave #Hi' := (Rec_inv m K (pl 15 k.val) (rsR c)) $$ HR
  ihave #Hr := (Rec_reached m K c (rsS k)) $$ HR
  ihave #Hr' := (Rec_reached m K (pl 15 k.val) (rsR c)) $$ HR
  revert h3; rw [hs, hs']; intro h3
  iapply (Rounds.wp_send_pointsTo 𝒱₀ ER (Rd m) (c : Thread nD τ) none (c' := (pl 15 k.val : Thread nD τ)) (src := partSl off inb) (dst := commSl off' inb') (sS := csem (rsS k)) (sem := csem (rsR c)) (q := fullShare)
    (fs := f) (fd := fd) (r₁ := 0) (r₂ := 0) (d₁ := 0) (d₂ := 0) (κ₁ := K (c, rsS k)) (κ₂ := K (pl 15 k.val, rsR c))
    (Rd_mem_one m c (duties_fam (live_rsS hk))) (Rd_mem_one m (pl 15 k.val) (duties_fam (live_ne (by decide) (pl_ne hk)))) () () N1 (credit_comm inb')
    (Rd_amount m c (rsS k) 0 0) (Rd_amount m (pl 15 k.val) (rsR c) 0 0) O hO (W := W) (pay_rsS m c k inb ho) (pay_rsR m c (pl 15 k.val) k (nx_pl k) inb inb' ho ho' hf)) $$ [Hs Hd HO Ht Ht']
  · isplitr; · iexact Hi
    isplitr; · iexact Hi'
    rw [commSl_set inb' ho', partSl_set inb ho]
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

theorem pay_agS (c : Dev nD) (t : Fin 16) {off : Fin 3 → ℕ} (inb) (ho : off = ![c.val, 0, 0]) {f} :
    ((comm2Sl off inb).view.loc (c : Thread nD τ) ↦[(comm2Sl off inb).view.set]{ShareLeaves.leaf 4 fullShare t} f) ⊢ (Rd m).payload ((c : Thread nD τ), csem (agS t)) 0 0 := by
  rw [show (Rd m).payload ((c : Thread nD τ), csem (agS t)) 0 0 = payloadK m c (agS t) 0 0 from Rd_payload m c _ _ _]
  show _ ⊢ comm2Leaf c c.val t
  rw [comm2Sl_set inb ho]
  unfold comm2Leaf
  iintro H; iexists f; iexact H

theorem rowEmb_mem (o : Fin 16) (y) : rowEmb o y ∈ crow o.val := by
  rw [mem_slab]
  have hy : (y (0 : Fin 3)).val < 1 := (y (0 : Fin 3)).isLt
  show o.val + 1 * (y (0 : Fin 3)).val = o.val
  omega

theorem C2Good_congr {o : Fin 16} {f g : S16x64x1024.Idx → Elt F .bf16} (h : ∀ i ∈ crow o.val, g i = f i) (hf : C2Good m o f) : C2Good m o g := by
  obtain ⟨cm, h1, h2⟩ := hf
  exact ⟨cm, h1, fun y => (h _ (rowEmb_mem o y)).trans (h2 y)⟩

theorem pay_agR (c d : Dev nD) {off off' : Fin 3 → ℕ} (inb inb') (ho : off = ![c.val, 0, 0]) (ho' : off' = ![c.val, 0, 0]) {f fd} (hf : C2Good m c f) :
    ((comm2Sl off' inb').view.loc (d : Thread nD τ) ↦[(comm2Sl off' inb').view.set]{fullShare} ((comm2Sl off' inb').view.write (Elt F) fd ((comm2Sl off inb).view.read (Elt F) f) Finset.univ))
      ⊢ (Rd m).payload ((d : Thread nD τ), csem (agR c)) 0 0 := by
  rw [show (Rd m).payload ((d : Thread nD τ), csem (agR c)) 0 0 = payloadK m d (agR c) 0 0 from Rd_payload m d _ _ _]
  show _ ⊢ comm2Got m d c
  rw [comm2Sl_set inb' ho']
  unfold comm2Got
  iintro H; iexists _; isplitr
  rotate_left
  · iexact H
  · ipureintro
    obtain rfl : off = off' := ho.trans ho'.symm
    exact C2Good_congr m (fun i hi => land_comm2 inb ho f fd i hi) hf

theorem pl_ne' {c : Fin 16} {o : ℕ} (h1 : 1 ≤ o) (h2 : o < 16) : c ≠ pl c o := fun h => by
  have h3 : c.val = (c.val + o) % 16 := congrArg Fin.val h
  omega

theorem step_agsend {α : Type} (c : Dev nD) (o : ℕ) (h1 : 1 ≤ o) (h2 : o < 16) {d : Dev nD} (hd : d.val = (c.val + o) % 16)
    {off off' : Fin 3 → ℕ} {inb inb'} (ho : off = ![c.val, 0, 0]) (ho' : off' = ![c.val, 0, 0])
    {sS sR : DmaSem sig} (hs : SemLoc.dma sS = csem (agS (pl c o))) (hs' : SemLoc.dma sR = csem (agR c)) {h0 h3 h4 h5}
    {O₁ : Tally} (O : Tally) (hO : O₁ = O + tallyAt (kcell (pl c o) (agR c)) () N2) {f : S16x64x1024.Idx → Elt F .bf16} (hf : C2Good m c f)
    {kk : PUnit → PT (F := F) α} {Q : α → sProp 𝕄} :
    iprop(Rec m K ∗ (comm2L c ↦[crow c.val]{ShareLeaves.leaf 4 fullShare (pl c o)} f) ∗ comm2Any (pl c o) c.val ∗ OW c O₁ ∗ dutyTok ER (kcell c (agS (pl c o))) 0 0 ∗ dutyTok ER (kcell (pl c o) (agR c)) 0 0)
      ⊢ iprop(((cred (tallyAt (kcell c (agS (pl c o))) () N2) ∗ OW c O) -∗ WP c (kk ⟨⟩) Q)
          -∗ WP c (.op (.enqueueDma (comm2Sl off inb) (.remote (Dev.tc d) (comm2Sl off' inb') (.dma sS) h0) (.dma sR) h3 h4 h5) kk) Q) := by
  obtain rfl : d = pl c o := Fin.ext hd
  unfold comm2Any OW
  iintro ⟨#HR, Hs, ⟨%fd, Hd⟩, ⟨%W, HO⟩, Ht, Ht'⟩ Hk
  ihave #Hi := (Rec_inv m K c (agS (pl c o))) $$ HR
  ihave #Hi' := (Rec_inv m K (pl c o) (agR c)) $$ HR
  ihave #Hr := (Rec_reached m K c (agS (pl c o))) $$ HR
  ihave #Hr' := (Rec_reached m K (pl c o) (agR c)) $$ HR
  revert h5; rw [hs, hs']; intro h5
  iapply (Rounds.wp_send_pointsTo 𝒱₀ ER (Rd m) (c : Thread nD τ) none (c' := (pl c o : Thread nD τ)) (src := comm2Sl off inb) (dst := comm2Sl off' inb') (sS := csem (agS (pl c o))) (sem := csem (agR c)) (q := ShareLeaves.leaf 4 fullShare (pl c o))
    (fs := f) (fd := fd) (r₁ := 0) (r₂ := 0) (d₁ := 0) (d₂ := 0) (κ₁ := K (c, agS (pl c o))) (κ₂ := K (pl c o, agR c))
    (Rd_mem_one m c (duties_fam (live_ne (by decide) (pl_ne' h1 h2).symm))) (Rd_mem_one m (pl c o) (duties_fam (live_ne (by decide) (pl_ne' h1 h2)))) () () N2 (credit_comm2 inb')
    (Rd_amount m c (agS (pl c o)) 0 0) (Rd_amount m (pl c o) (agR c) 0 0) O hO (W := W) (pay_agS m c (pl c o) inb ho) (pay_agR m c (pl c o) inb inb' ho ho' hf)) $$ [Hs Hd HO Ht Ht']
  · isplitr; · iexact Hi
    isplitr; · iexact Hi'
    rw [comm2Sl_set inb' ho', comm2Sl_set inb ho]
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

end Cert.KProof

end
-- ==== Proof.Comp.lean ====
/-
# The compute steps

What a trip's loads read and what its stores leave.
-/
module

public import proofs.«01_k».proof.Proof.Steps

@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ UU ℕ

variable (m : (ℓ : Loc nD τ sig) → Buf (Elt F) ℓ) (K : Dev nD × CK → ℕ)

/-! ## The local copies of the compute phase -/

/-- The queries, scaled and projected. -/
def QsP (c : Dev nD) : sProp 𝕄 := ((c : Thread nD τ).loc cc0_scratch0) ↦{fullShare} qsOf m c

/-- The four chunks of batch entry `b`. -/
def grp (b : ℕ) : Finset S16x9x64x128.Idx := Finset.univ.filter fun i => (i0 i).val / 4 = b

/-- The entries the first `n` stores of a trip have written: head by head, quarter by quarter, the weighted values and
    then the sums. -/
def wrt (n : ℕ) (i : S16x9x64x128.Idx) : Prop :=
  if (i1 i).val < 8 then 8 * (i1 i).val + 2 * ((i0 i).val % 4) < n
  else (i3 i).val < 8 ∧ 8 * (i3 i).val + 2 * ((i0 i).val % 4) + 1 < n

def PartSt (c : Dev nD) (b n : ℕ) : sProp 𝕄 :=
  iprop(∃ f, ⌜∀ i, (i0 i).val / 4 = b → wrt n i → f i = T m c i⌝ ∗ partL c ↦[grp b]{fullShare} f)

/-- The state of trip `t` after `n` stores. -/
def CSt (c : Dev nD) (t n : ℕ) : sProp 𝕄 :=
  iprop(QsP m c ∗ kbGot m c (bF c t) (t % 2) ∗ vbGot m c (bF c t) (t % 2) ∗ PartSt m c (bOf c.val t) n)

section Values
theorem read_q (c : Dev nD) {b h : Fin _} {off : Fin 2 → ℕ} {inb} (ho : off = ![256 * (b : Fin 4).val, 128 * (h : Fin 8).val]) :
    (qsM.access (Rect.unit (s := S1024x1024) off S256x128.size inb)).read (Elt F) (qsOf m c) = qTile m c b h := by
  subst ho; rfl

theorem kv_mem {s h : ℕ} {off : Fin 4 → ℕ} {inb} (ho : off = ![s, 0, h, 0]) (y) :
    (Rect.unit (s := S2x1024x8x128) off S1x1024x1x128.size inb).emb y ∈ kslot s := by
  subst ho
  rw [mem_slab]
  have hy : (y (0 : Fin 4)).val < 1 := (y (0 : Fin 4)).isLt
  show s + 1 * (y (0 : Fin 4)).val = s
  omega

theorem kv_idx {s : ℕ} {b : Fin 4} {h : Fin 8} {off : Fin 4 → ℕ} {inb} (ho : off = ![s, 0, h.val, 0]) (y) :
    kIdx b ((Rect.unit (s := S2x1024x8x128) off S1x1024x1x128.size inb).emb y)
      = (Rect.unit (s := S4x1024x8x128) ![b.val, 0, h.val, 0] S1x1024x1x128.size (inbK b h)).emb y := by
  subst ho
  funext a; apply Fin.ext
  have hy : (y (0 : Fin 4)).val < 1 := (y (0 : Fin 4)).isLt
  fin_cases a
  · show b.val = b.val + 1 * (y (0 : Fin 4)).val; omega
  · rfl
  · rfl
  · rfl

theorem kb_set {s h : ℕ} {off : Fin 4 → ℕ} {inb} (ho : off = ![s, 0, h, 0]) :
    (kbM.access (Rect.unit (s := S2x1024x8x128) off S1x1024x1x128.size inb)).set ⊆ kslot s := fun i hi => by
  obtain ⟨y, -, rfl⟩ := Finset.mem_map.1 hi
  exact kv_mem ho y
theorem vb_set {s h : ℕ} {off : Fin 4 → ℕ} {inb} (ho : off = ![s, 0, h, 0]) :
    (vbM.access (Rect.unit (s := S2x1024x8x128) off S1x1024x1x128.size inb)).set ⊆ kslot s := fun i hi => by
  obtain ⟨y, -, rfl⟩ := Finset.mem_map.1 hi
  exact kv_mem ho y

theorem read_k (c : Dev nD) {s : ℕ} {b : Fin 4} {h : Fin 8} {off : Fin 4 → ℕ} {inb} (ho : off = ![s, 0, h.val, 0])
    {f} (hf : KGood m c b s f) :
    (kbM.access (Rect.unit (s := S2x1024x8x128) off S1x1024x1x128.size inb)).read (Elt F) f = kTile m c b h := by
  funext y
  exact (hf _ (kv_mem ho y)).trans (congrArg (kfun m c) (kv_idx ho y))
theorem read_v (c : Dev nD) {s : ℕ} {b : Fin 4} {h : Fin 8} {off : Fin 4 → ℕ} {inb} (ho : off = ![s, 0, h.val, 0])
    {f} (hf : VGood m c b s f) :
    (vbM.access (Rect.unit (s := S2x1024x8x128) off S1x1024x1x128.size inb)).read (Elt F) f = vTile m c b h := by
  funext y
  exact (hf _ (kv_mem ho y)).trans (congrArg (vfun m c) (kv_idx ho y))
end Values

section Loads
variable {α : Type} (c : Dev nD) {t n : ℕ}

theorem ld_q {Q : α → sProp 𝕄} {R : sProp 𝕄} {k : (S256x128.Idx → Elt F .f32) → PT (F := F) α} (h : Fin 8) {off : Fin 2 → ℕ} {inb hl} (ho : off = ![256 * bOf c.val t, 128 * h.val])
    (hk : iprop(CSt m c t n ∗ R) ⊢ WP c (k (qTile m c (bF c t) h)) Q) :
    iprop(CSt m c t n ∗ R) ⊢ WP c (.op (.load qsM (Rect.unit (s := S1024x1024) off S256x128.size inb).toLoadRect hl) k) Q := by
  unfold CSt QsP
  iintro ⟨⟨Hq, HS⟩, HR⟩
  iapply (wp_load_rect 𝒱₀ (c : Thread nD τ) none Set.univ (m := qsM) (r := Rect.unit (s := S1024x1024) off S256x128.size inb) (q := fullShare) (f := qsOf m c) (Finset.subset_univ _)) $$ Hq
  rw [read_q m c (b := bF c t) (h := h) ho]
  iintro Hq
  iapply hk
  unfold CSt QsP
  isplitr [HR]
  · isplitl [Hq]; · iexact Hq
    iexact HS
  · iexact HR

theorem ld_k {Q : α → sProp 𝕄} {R : sProp 𝕄} {k : (S1x1024x1x128.Idx → Elt F .f32) → PT (F := F) α} (h : Fin 8) {off : Fin 4 → ℕ} {inb hl} (ho : off = ![t % 2, 0, h.val, 0])
    (hk : iprop(CSt m c t n ∗ R) ⊢ WP c (k (kTile m c (bF c t) h)) Q) :
    iprop(CSt m c t n ∗ R) ⊢ WP c (.op (.load kbM (Rect.unit (s := S2x1024x8x128) off S1x1024x1x128.size inb).toLoadRect hl) k) Q := by
  unfold CSt kbGot
  iintro ⟨⟨Hq, ⟨%f, %hf, Hk⟩, HS⟩, HR⟩
  iapply (wp_load_rect 𝒱₀ (c : Thread nD τ) none Set.univ (m := kbM) (r := Rect.unit (s := S2x1024x8x128) off S1x1024x1x128.size inb) (q := fullShare) (f := f) (kb_set ho)) $$ Hk
  rw [read_k m c (h := h) ho hf]
  iintro Hk
  iapply hk
  unfold CSt kbGot
  isplitr [HR]
  · isplitl [Hq]; · iexact Hq
    isplitl [Hk]
    · iexists f; isplitr; · ipureintro; exact hf
      iexact Hk
    iexact HS
  · iexact HR

theorem ld_v {Q : α → sProp 𝕄} {R : sProp 𝕄} {k : (S1x1024x1x128.Idx → Elt F .f32) → PT (F := F) α} (h : Fin 8) {off : Fin 4 → ℕ} {inb hl} (ho : off = ![t % 2, 0, h.val, 0])
    (hk : iprop(CSt m c t n ∗ R) ⊢ WP c (k (vTile m c (bF c t) h)) Q) :
    iprop(CSt m c t n ∗ R) ⊢ WP c (.op (.load vbM (Rect.unit (s := S2x1024x8x128) off S1x1024x1x128.size inb).toLoadRect hl) k) Q := by
  unfold CSt vbGot
  iintro ⟨⟨Hq, Hk, ⟨%f, %hf, Hv⟩, HS⟩, HR⟩
  iapply (wp_load_rect 𝒱₀ (c : Thread nD τ) none Set.univ (m := vbM) (r := Rect.unit (s := S2x1024x8x128) off S1x1024x1x128.size inb) (q := fullShare) (f := f) (vb_set ho)) $$ Hv
  rw [read_v m c (h := h) ho hf]
  iintro Hv
  iapply hk
  unfold CSt vbGot
  isplitr [HR]
  · isplitl [Hq]; · iexact Hq
    isplitl [Hk]; · iexact Hk
    isplitl [Hv]
    · iexists f; isplitr; · ipureintro; exact hf
      iexact Hv
    iexact HS
  · iexact HR

end Loads

/-! ### The partial results -/

theorem ov_at {b h : ℕ} {r : Fin 4} {off : Fin 4 → ℕ} {inb} (ho : off = ![4 * b + r.val, h, 0, 0]) (y) :
    (i0 ((Rect.unit (s := S16x9x64x128) off S1x1x64x128.size inb).emb y)).val = 4 * b + r.val
      ∧ (i1 ((Rect.unit (s := S16x9x64x128) off S1x1x64x128.size inb).emb y)).val = h
      ∧ ovIdx ((Rect.unit (s := S16x9x64x128) off S1x1x64x128.size inb).emb y) = y := by
  subst ho
  have h0 : (y (0 : Fin 4)).val < 1 := (y (0 : Fin 4)).isLt
  have h1 : (y (1 : Fin 4)).val < 1 := (y (1 : Fin 4)).isLt
  refine ⟨?_, ?_, ?_⟩
  · show 4 * b + r.val + 1 * (y (0 : Fin 4)).val = _; omega
  · show h + 1 * (y (1 : Fin 4)).val = _; omega
  · funext a; apply Fin.ext
    fin_cases a
    · show 0 = (y (0 : Fin 4)).val; omega
    · show 0 = (y (1 : Fin 4)).val; omega
    · show 0 + 1 * (y (2 : Fin 4)).val = (y (2 : Fin 4)).val; omega
    · show 0 + 1 * (y (3 : Fin 4)).val = (y (3 : Fin 4)).val; omega

theorem ov_mem {b h : ℕ} {r : Fin 4} {off : Fin 4 → ℕ} {inb} (ho : off = ![4 * b + r.val, h, 0, 0]) {i : S16x9x64x128.Idx}
    (h0 : (i0 i).val = 4 * b + r.val) (h1 : (i1 i).val = h) : i ∈ (partM.access (Rect.unit (s := S16x9x64x128) off S1x1x64x128.size inb)).set := by
  rw [View.set_slice_whole, Rect.mem_set_unit]
  subst ho
  intro a
  have h2 : (i (2 : Fin 4)).val < 64 := (i (2 : Fin 4)).isLt
  have h3 : (i (3 : Fin 4)).val < 128 := (i (3 : Fin 4)).isLt
  fin_cases a
  · show 4 * b + r.val ≤ (i0 i).val ∧ (i0 i).val < 4 * b + r.val + 1; omega
  · show h ≤ (i1 i).val ∧ (i1 i).val < h + 1; omega
  · show 0 ≤ (i (2 : Fin 4)).val ∧ (i (2 : Fin 4)).val < 0 + 64; omega
  · show 0 ≤ (i (3 : Fin 4)).val ∧ (i (3 : Fin 4)).val < 0 + 128; omega

theorem lv_at {b h : ℕ} {r : Fin 4} {off : Fin 4 → ℕ} {inb} (ho : off = ![4 * b + r.val, 8, 0, h]) (y) :
    (i0 ((Rect.unit (s := S16x9x64x128) off S1x1x64x1.size inb).emb y)).val = 4 * b + r.val
      ∧ (i1 ((Rect.unit (s := S16x9x64x128) off S1x1x64x1.size inb).emb y)).val = 8
      ∧ (i3 ((Rect.unit (s := S16x9x64x128) off S1x1x64x1.size inb).emb y)).val = h
      ∧ lvIdx ((Rect.unit (s := S16x9x64x128) off S1x1x64x1.size inb).emb y) = y := by
  subst ho
  have h0 : (y (0 : Fin 4)).val < 1 := (y (0 : Fin 4)).isLt
  have h1 : (y (1 : Fin 4)).val < 1 := (y (1 : Fin 4)).isLt
  have h3 : (y (3 : Fin 4)).val < 1 := (y (3 : Fin 4)).isLt
  refine ⟨?_, ?_, ?_, ?_⟩
  · show 4 * b + r.val + 1 * (y (0 : Fin 4)).val = _; omega
  · show 8 + 1 * (y (1 : Fin 4)).val = _; omega
  · show h + 1 * (y (3 : Fin 4)).val = _; omega
  · funext a; apply Fin.ext
    fin_cases a
    · show 0 = (y (0 : Fin 4)).val; omega
    · show 0 = (y (1 : Fin 4)).val; omega
    · show 0 + 1 * (y (2 : Fin 4)).val = (y (2 : Fin 4)).val; omega
    · show 0 = (y (3 : Fin 4)).val; omega

theorem lv_mem {b h : ℕ} {r : Fin 4} {off : Fin 4 → ℕ} {inb} (ho : off = ![4 * b + r.val, 8, 0, h]) {i : S16x9x64x128.Idx}
    (h0 : (i0 i).val = 4 * b + r.val) (h1 : (i1 i).val = 8) (h3 : (i3 i).val = h) : i ∈ (partM.access (Rect.unit (s := S16x9x64x128) off S1x1x64x1.size inb)).set := by
  rw [View.set_slice_whole, Rect.mem_set_unit]
  subst ho
  intro a
  have h2 : (i (2 : Fin 4)).val < 64 := (i (2 : Fin 4)).isLt
  fin_cases a
  · show 4 * b + r.val ≤ (i0 i).val ∧ (i0 i).val < 4 * b + r.val + 1; omega
  · show 8 ≤ (i1 i).val ∧ (i1 i).val < 8 + 1; omega
  · show 0 ≤ (i (2 : Fin 4)).val ∧ (i (2 : Fin 4)).val < 0 + 64; omega
  · show h ≤ (i3 i).val ∧ (i3 i).val < h + 1; omega

theorem ov_sub {b h : ℕ} {r : Fin 4} {off : Fin 4 → ℕ} {inb} (ho : off = ![4 * b + r.val, h, 0, 0]) :
    (partM.access (Rect.unit (s := S16x9x64x128) off S1x1x64x128.size inb)).set ⊆ grp b := fun i hi => by
  obtain ⟨y, -, rfl⟩ := Finset.mem_map.1 hi
  refine Finset.mem_filter.2 ⟨Finset.mem_univ _, ?_⟩
  have h := (ov_at ho y).1
  have hr := r.isLt
  show (i0 ((Rect.unit (s := S16x9x64x128) off S1x1x64x128.size inb).emb y)).val / 4 = b
  omega
theorem lv_sub {b h : ℕ} {r : Fin 4} {off : Fin 4 → ℕ} {inb} (ho : off = ![4 * b + r.val, 8, 0, h]) :
    (partM.access (Rect.unit (s := S16x9x64x128) off S1x1x64x1.size inb)).set ⊆ grp b := fun i hi => by
  obtain ⟨y, -, rfl⟩ := Finset.mem_map.1 hi
  refine Finset.mem_filter.2 ⟨Finset.mem_univ _, ?_⟩
  have h := (lv_at ho y).1
  have hr := r.isLt
  show (i0 ((Rect.unit (s := S16x9x64x128) off S1x1x64x1.size inb).emb y)).val / 4 = b
  omega

theorem T_ov (c : Dev nD) {b : Fin 4} {r : Fin 4} {h : Fin 8} {i : S16x9x64x128.Idx} (h0 : (i0 i).val = 4 * b.val + r.val) (h1 : (i1 i).val = h.val) :
    T m c i = ovTile r (ovH m c b h) (ovIdx i) := by
  have hr := r.isLt
  unfold T
  rw [if_pos (h1 ▸ h.isLt), show chR (i0 i) = r from Fin.ext (by show (i0 i).val % 4 = r.val; omega),
    show chB (i0 i) = b from Fin.ext (by show (i0 i).val / 4 = b.val; omega),
    show hd (i1 i).val = h from Fin.ext (by show (i1 i).val % 8 = h.val; have := h.isLt; omega)]
theorem T_lv (c : Dev nD) {b : Fin 4} {r : Fin 4} {h : Fin 8} {i : S16x9x64x128.Idx} (h0 : (i0 i).val = 4 * b.val + r.val) (h1 : (i1 i).val = 8) (h3 : (i3 i).val = h.val) :
    T m c i = lvTile r (lvH m c b h) (lvIdx i) := by
  have hr := r.isLt
  unfold T
  rw [if_neg (by omega), show chR (i0 i) = r from Fin.ext (by show (i0 i).val % 4 = r.val; omega),
    show chB (i0 i) = b from Fin.ext (by show (i0 i).val / 4 = b.val; omega),
    show hd (i3 i).val = h from Fin.ext (by show (i3 i).val % 8 = h.val; have := h.isLt; omega)]

theorem store_ov (c : Dev nD) {b : Fin 4} {r : Fin 4} {h : Fin 8} {off : Fin 4 → ℕ} {inb} (ho : off = ![4 * b.val + r.val, h.val, 0, 0])
    {w} (hw : w = ovTile r (ovH m c b h)) {f : S16x9x64x128.Idx → Elt F .bf16}
    (hf : ∀ i, (i0 i).val / 4 = b.val → wrt (8 * h.val + 2 * r.val) i → f i = T m c i) (i : S16x9x64x128.Idx)
    (hi : (i0 i).val / 4 = b.val) (hn : wrt (8 * h.val + 2 * r.val + 1) i) :
    (partM.access (Rect.unit (s := S16x9x64x128) off S1x1x64x128.size inb)).write (Elt F) f w Finset.univ i = T m c i := by
  by_cases hm : i ∈ (partM.access (Rect.unit (s := S16x9x64x128) off S1x1x64x128.size inb)).set
  · obtain ⟨y, -, rfl⟩ := Finset.mem_map.1 hm
    rw [View.write_emb_of_mem _ _ (Finset.mem_univ _)]
    obtain ⟨e0, e1, e2⟩ := ov_at ho y
    refine Eq.trans ?_ (T_ov m c (r := r) e0 e1).symm
    rw [e2, hw]; rfl
  · rw [View.write_of_not_mem _ _ _ hm]
    refine hf i hi ?_
    have hr := r.isLt
    have hh := h.isLt
    have hnot : ¬((i0 i).val = 4 * b.val + r.val ∧ (i1 i).val = h.val) := fun hc => hm (ov_mem ho hc.1 hc.2)
    unfold wrt at hn ⊢
    split at hn
    · rename_i h8; rw [if_pos h8]; omega
    · rename_i h8; rw [if_neg h8]; omega

theorem store_lv (c : Dev nD) {b : Fin 4} {r : Fin 4} {h : Fin 8} {off : Fin 4 → ℕ} {inb} (ho : off = ![4 * b.val + r.val, 8, 0, h.val])
    {w} (hw : w = lvTile r (lvH m c b h)) {f : S16x9x64x128.Idx → Elt F .bf16}
    (hf : ∀ i, (i0 i).val / 4 = b.val → wrt (8 * h.val + 2 * r.val + 1) i → f i = T m c i) (i : S16x9x64x128.Idx)
    (hi : (i0 i).val / 4 = b.val) (hn : wrt (8 * h.val + 2 * r.val + 2) i) :
    (partM.access (Rect.unit (s := S16x9x64x128) off S1x1x64x1.size inb)).write (Elt F) f w Finset.univ i = T m c i := by
  by_cases hm : i ∈ (partM.access (Rect.unit (s := S16x9x64x128) off S1x1x64x1.size inb)).set
  · obtain ⟨y, -, rfl⟩ := Finset.mem_map.1 hm
    rw [View.write_emb_of_mem _ _ (Finset.mem_univ _)]
    obtain ⟨e0, e1, e3, e2⟩ := lv_at ho y
    refine Eq.trans ?_ (T_lv m c (r := r) e0 e1 e3).symm
    rw [e2, hw]; rfl
  · rw [View.write_of_not_mem _ _ _ hm]
    refine hf i hi ?_
    have hr := r.isLt
    have hh := h.isLt
    have h9 : (i1 i).val < 9 := (i1 i).isLt
    have hnot : ¬((i0 i).val = 4 * b.val + r.val ∧ (i1 i).val = 8 ∧ (i3 i).val = h.val) := fun hc => hm (lv_mem ho hc.1 hc.2.1 hc.2.2)
    unfold wrt at hn ⊢
    split at hn
    · rename_i h8; rw [if_pos h8]; omega
    · rename_i h8; rw [if_neg h8]; refine ⟨hn.1, ?_⟩; have := hn.2; have := hn.1; omega

section Stores
variable {α : Type} (c : Dev nD) {t : ℕ}

/-- A load of the partial results, whose value the program drops. -/
theorem ld_ov {Q : α → sProp 𝕄} {R : sProp 𝕄} {k : (S1x1x64x128.Idx → Elt F .bf16) → PT (F := F) α} {n h : ℕ} (r : Fin 4) {off : Fin 4 → ℕ} {inb hl} (ho : off = ![4 * bOf c.val t + r.val, h, 0, 0])
    (hk : ∀ v, iprop(CSt m c t n ∗ R) ⊢ WP c (k v) Q) :
    iprop(CSt m c t n ∗ R) ⊢ WP c (.op (.load partM (Rect.unit (s := S16x9x64x128) off S1x1x64x128.size inb).toLoadRect hl) k) Q := by
  unfold CSt PartSt
  iintro ⟨⟨Hq, Hk, Hv, ⟨%f, %hf, Hp⟩⟩, HR⟩
  iapply (wp_load_rect 𝒱₀ (c : Thread nD τ) none Set.univ (m := partM) (r := Rect.unit (s := S16x9x64x128) off S1x1x64x128.size inb) (q := fullShare) (f := f) (ov_sub ho)) $$ Hp
  iintro Hp
  iapply (hk _)
  unfold CSt PartSt
  isplitr [HR]
  · isplitl [Hq]; · iexact Hq
    isplitl [Hk]; · iexact Hk
    isplitl [Hv]; · iexact Hv
    iexists f; isplitr; · ipureintro; exact hf
    iexact Hp
  · iexact HR
theorem ld_lv {Q : α → sProp 𝕄} {R : sProp 𝕄} {k : (S1x1x64x1.Idx → Elt F .bf16) → PT (F := F) α} {n h : ℕ} (r : Fin 4) {off : Fin 4 → ℕ} {inb hl} (ho : off = ![4 * bOf c.val t + r.val, 8, 0, h])
    (hk : ∀ v, iprop(CSt m c t n ∗ R) ⊢ WP c (k v) Q) :
    iprop(CSt m c t n ∗ R) ⊢ WP c (.op (.load partM (Rect.unit (s := S16x9x64x128) off S1x1x64x1.size inb).toLoadRect hl) k) Q := by
  unfold CSt PartSt
  iintro ⟨⟨Hq, Hk, Hv, ⟨%f, %hf, Hp⟩⟩, HR⟩
  iapply (wp_load_rect 𝒱₀ (c : Thread nD τ) none Set.univ (m := partM) (r := Rect.unit (s := S16x9x64x128) off S1x1x64x1.size inb) (q := fullShare) (f := f) (lv_sub ho)) $$ Hp
  iintro Hp
  iapply (hk _)
  unfold CSt PartSt
  isplitr [HR]
  · isplitl [Hq]; · iexact Hq
    isplitl [Hk]; · iexact Hk
    isplitl [Hv]; · iexact Hv
    iexists f; isplitr; · ipureintro; exact hf
    iexact Hp
  · iexact HR

theorem st_ov {Q : α → sProp 𝕄} {R : sProp 𝕄} {k : PUnit → PT (F := F) α} {n : ℕ} (h : Fin 8) (r : Fin 4) {off : Fin 4 → ℕ} {inb w hx hm}
    (ho : off = ![4 * bOf c.val t + r.val, h.val, 0, 0]) (hw : w = ovTile r (ovH m c (bF c t) h)) (hn : n = 8 * h.val + 2 * r.val)
    (hk : iprop(CSt m c t (n + 1) ∗ R) ⊢ WP c (k ⟨⟩) Q) :
    iprop(CSt m c t n ∗ R) ⊢ WP c (.op (.store partM (Rect.unit (s := S16x9x64x128) off S1x1x64x128.size inb) w Finset.univ hx hm) k) Q := by
  subst hn
  unfold CSt PartSt
  iintro ⟨⟨Hq, Hk, Hv, ⟨%f, %hf, Hp⟩⟩, HR⟩
  iapply (wp_store 𝒱₀ (c : Thread nD τ) none Set.univ (m := partM) (r := Rect.unit (s := S16x9x64x128) off S1x1x64x128.size inb) (w := w) (Mk := Finset.univ) (hx := hx) (hm := hm) (f := f) (ov_sub ho)) $$ Hp
  iintro Hp
  iapply hk
  unfold CSt PartSt
  isplitr [HR]
  · isplitl [Hq]; · iexact Hq
    isplitl [Hk]; · iexact Hk
    isplitl [Hv]; · iexact Hv
    iexists _; isplitr
    rotate_left
    · iexact Hp
    · ipureintro; exact fun i hi hn => store_ov m c (b := bF c t) ho hw hf i hi hn
  · iexact HR
theorem st_lv {Q : α → sProp 𝕄} {R : sProp 𝕄} {k : PUnit → PT (F := F) α} {n : ℕ} (h : Fin 8) (r : Fin 4) {off : Fin 4 → ℕ} {inb w hx hm}
    (ho : off = ![4 * bOf c.val t + r.val, 8, 0, h.val]) (hw : w = lvTile r (lvH m c (bF c t) h)) (hn : n = 8 * h.val + 2 * r.val + 1)
    (hk : iprop(CSt m c t (n + 1) ∗ R) ⊢ WP c (k ⟨⟩) Q) :
    iprop(CSt m c t n ∗ R) ⊢ WP c (.op (.store partM (Rect.unit (s := S16x9x64x128) off S1x1x64x1.size inb) w Finset.univ hx hm) k) Q := by
  subst hn
  unfold CSt PartSt
  iintro ⟨⟨Hq, Hk, Hv, ⟨%f, %hf, Hp⟩⟩, HR⟩
  iapply (wp_store 𝒱₀ (c : Thread nD τ) none Set.univ (m := partM) (r := Rect.unit (s := S16x9x64x128) off S1x1x64x1.size inb) (w := w) (Mk := Finset.univ) (hx := hx) (hm := hm) (f := f) (lv_sub ho)) $$ Hp
  iintro Hp
  iapply hk
  unfold CSt PartSt
  isplitr [HR]
  · isplitl [Hq]; · iexact Hq
    isplitl [Hk]; · iexact Hk
    isplitl [Hv]; · iexact Hv
    iexists _; isplitr
    rotate_left
    · iexact Hp
    · ipureintro; exact fun i hi hn => store_lv m c (b := bF c t) ho hw hf i hi hn
  · iexact HR

end Stores

end Cert.KProof

end
-- ==== Proof.Parts.lean ====
/-
# The parts of a trip

Each part of a trip's program, from the state it finds to the state it leaves.
-/
module

public import proofs.«01_k».proof.Proof.Comp

@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ UU ℕ

variable (m : (ℓ : Loc nD τ sig) → Buf (Elt F) ℓ) (K : Dev nD × CK → ℕ)

section Parts
variable {α : Type} (c : Dev nD) (t : Trip)

theorem p4 {v2665} {Q : α → sProp 𝕄} {R : sProp 𝕄} {k : _ → PT (F := F) α}
    (h : iprop(CSt m c t.val 5 ∗ R) ⊢ WP c (k (k0_pay10 (k0_pay3 (qTile m c (bF c t.val) 0) (kTile m c (bF c t.val) 0)))) Q) :
    iprop(CSt m c t.val 1 ∗ R) ⊢ WP c (App k0_part4 c t v2665 (k0_pay2 (qTile m c (bF c t.val) 0) (kTile m c (bF c t.val) 0) (vTile m c (bF c t.val) 0)) (k0_pay3 (qTile m c (bF c t.val) 0) (kTile m c (bF c t.val) 0)) (k0_pay5 (qTile m c (bF c t.val) 0) (kTile m c (bF c t.val) 0)) >>= k) Q := by
  simp only [App, k0_part4_eq_skeleton, k0_part4_skel, Prog.lift, Prog.bind_op, Prog.bind_ret, Prog.pure_eq_ret]
  refine ld_lv m c 0 (off12_eq c t 0) fun v => ?_
  refine st_lv m c 0 0 (off12_eq c t 0) rfl rfl ?_
  refine ld_ov m c 1 (off11_eq c t 1) fun v => ?_
  refine st_ov m c 0 1 (off11_eq c t 1) rfl rfl ?_
  refine ld_lv m c 1 (off12_eq c t 1) fun v => ?_
  refine st_lv m c 0 1 (off12_eq c t 1) rfl rfl ?_
  refine ld_ov m c 2 (off11_eq c t 2) fun v => ?_
  refine st_ov m c 0 2 (off11_eq c t 2) rfl rfl ?_
  refine ld_lv m c 2 (off12_eq c t 2) fun v => ?_
  exact h

theorem p5 {v2665 v2675} {Q : α → sProp 𝕄} {R : sProp 𝕄} {k : _ → PT (F := F) α}
    (h : ∀ (v2787 : BitVec 32), iprop(CSt m c t.val 8 ∗ R) ⊢ WP c (k ⟨k0_pay14 (qTile m c (bF c t.val) 1) (kTile m c (bF c t.val) 1) (vTile m c (bF c t.val) 1), k0_pay15 (qTile m c (bF c t.val) 1) (kTile m c (bF c t.val) 1), k0_pay16 (qTile m c (bF c t.val) 1) (kTile m c (bF c t.val) 1) (vTile m c (bF c t.val) 1), v2787⟩) Q) :
    iprop(CSt m c t.val 5 ∗ R) ⊢ WP c (App k0_part5 c t v2665 v2675 (k0_pay2 (qTile m c (bF c t.val) 0) (kTile m c (bF c t.val) 0) (vTile m c (bF c t.val) 0)) (k0_pay3 (qTile m c (bF c t.val) 0) (kTile m c (bF c t.val) 0)) (k0_pay10 (k0_pay3 (qTile m c (bF c t.val) 0) (kTile m c (bF c t.val) 0))) >>= k) Q := by
  simp only [App, k0_part5_eq_skeleton, k0_part5_skel, Prog.lift, Prog.bind_op, Prog.bind_ret, Prog.pure_eq_ret]
  refine st_lv m c 0 2 (off12_eq c t 2) rfl rfl ?_
  refine ld_ov m c 3 (off11_eq c t 3) fun v => ?_
  refine st_ov m c 0 3 (off11_eq c t 3) rfl rfl ?_
  refine ld_lv m c 3 (off12_eq c t 3) fun v => ?_
  refine st_lv m c 0 3 (off12_eq c t 3) rfl rfl ?_
  refine ld_q m c 1 (off13_eq c t) ?_
  refine ld_k m c 1 (off14_eq t) ?_
  refine ld_v m c 1 (off14_eq t) ?_
  exact h _

theorem p6 {v2665 v2787} {Q : α → sProp 𝕄} {R : sProp 𝕄} {k : _ → PT (F := F) α}
    (h : iprop(CSt m c t.val 12 ∗ R) ⊢ WP c (k (k0_pay21 (k0_pay14 (qTile m c (bF c t.val) 1) (kTile m c (bF c t.val) 1) (vTile m c (bF c t.val) 1)))) Q) :
    iprop(CSt m c t.val 8 ∗ R) ⊢ WP c (App k0_part6 c t v2665 (k0_pay14 (qTile m c (bF c t.val) 1) (kTile m c (bF c t.val) 1) (vTile m c (bF c t.val) 1)) (k0_pay15 (qTile m c (bF c t.val) 1) (kTile m c (bF c t.val) 1)) (k0_pay16 (qTile m c (bF c t.val) 1) (kTile m c (bF c t.val) 1) (vTile m c (bF c t.val) 1)) v2787 >>= k) Q := by
  simp only [App, k0_part6_eq_skeleton, k0_part6_skel, Prog.lift, Prog.bind_op, Prog.bind_ret, Prog.pure_eq_ret]
  refine ld_ov m c 0 (off15_eq c t 0) fun v => ?_
  refine st_ov m c 1 0 (off15_eq c t 0) rfl rfl ?_
  refine ld_lv m c 0 (off16_eq c t 0) fun v => ?_
  refine st_lv m c 1 0 (off16_eq c t 0) rfl rfl ?_
  refine ld_ov m c 1 (off15_eq c t 1) fun v => ?_
  refine st_ov m c 1 1 (off15_eq c t 1) rfl rfl ?_
  refine ld_lv m c 1 (off16_eq c t 1) fun v => ?_
  refine st_lv m c 1 1 (off16_eq c t 1) rfl rfl ?_
  exact h

theorem p7 {v2665 v2675} {Q : α → sProp 𝕄} {R : sProp 𝕄} {k : _ → PT (F := F) α}
    (h : iprop(CSt m c t.val 16 ∗ R) ⊢ WP c (k (k0_pay26 (qTile m c (bF c t.val) 2) (kTile m c (bF c t.val) 2))) Q) :
    iprop(CSt m c t.val 12 ∗ R) ⊢ WP c (App k0_part7 c t v2665 v2675 (k0_pay14 (qTile m c (bF c t.val) 1) (kTile m c (bF c t.val) 1) (vTile m c (bF c t.val) 1)) (k0_pay15 (qTile m c (bF c t.val) 1) (kTile m c (bF c t.val) 1)) (k0_pay21 (k0_pay14 (qTile m c (bF c t.val) 1) (kTile m c (bF c t.val) 1) (vTile m c (bF c t.val) 1))) >>= k) Q := by
  simp only [App, k0_part7_eq_skeleton, k0_part7_skel, Prog.lift, Prog.bind_op, Prog.bind_ret, Prog.pure_eq_ret]
  refine ld_ov m c 2 (off15_eq c t 2) fun v => ?_
  refine st_ov m c 1 2 (off15_eq c t 2) rfl rfl ?_
  refine ld_lv m c 2 (off16_eq c t 2) fun v => ?_
  refine st_lv m c 1 2 (off16_eq c t 2) rfl rfl ?_
  refine ld_ov m c 3 (off15_eq c t 3) fun v => ?_
  refine st_ov m c 1 3 (off15_eq c t 3) rfl rfl ?_
  refine ld_lv m c 3 (off16_eq c t 3) fun v => ?_
  refine st_lv m c 1 3 (off16_eq c t 3) rfl rfl ?_
  refine ld_q m c 2 (off17_eq c t) ?_
  refine ld_k m c 2 (off18_eq t) ?_
  exact h

theorem p8 {v2665 v2675} {Q : α → sProp 𝕄} {R : sProp 𝕄} {k : _ → PT (F := F) α}
    (h : iprop(CSt m c t.val 19 ∗ R) ⊢ WP c (k ⟨k0_pay27 (k0_pay26 (qTile m c (bF c t.val) 2) (kTile m c (bF c t.val) 2)) (vTile m c (bF c t.val) 2), k0_pay28 (k0_pay26 (qTile m c (bF c t.val) 2) (kTile m c (bF c t.val) 2)), k0_pay32 (k0_pay26 (qTile m c (bF c t.val) 2) (kTile m c (bF c t.val) 2))⟩) Q) :
    iprop(CSt m c t.val 16 ∗ R) ⊢ WP c (App k0_part8 c t v2665 v2675 (k0_pay26 (qTile m c (bF c t.val) 2) (kTile m c (bF c t.val) 2)) >>= k) Q := by
  simp only [App, k0_part8_eq_skeleton, k0_part8_skel, Prog.lift, Prog.bind_op, Prog.bind_ret, Prog.pure_eq_ret]
  refine ld_v m c 2 (off18_eq t) ?_
  refine ld_ov m c 0 (off19_eq c t 0) fun v => ?_
  refine st_ov m c 2 0 (off19_eq c t 0) rfl rfl ?_
  refine ld_lv m c 0 (off20_eq c t 0) fun v => ?_
  refine st_lv m c 2 0 (off20_eq c t 0) rfl rfl ?_
  refine ld_ov m c 1 (off19_eq c t 1) fun v => ?_
  refine st_ov m c 2 1 (off19_eq c t 1) rfl rfl ?_
  exact h

theorem p9 {v2665} {Q : α → sProp 𝕄} {R : sProp 𝕄} {k : _ → PT (F := F) α}
    (h : ∀ (v2923 : Vec F S1x1x64x1 .bf16), iprop(CSt m c t.val 23 ∗ R) ⊢ WP c (k ⟨k0_pay37 (k0_pay28 (k0_pay26 (qTile m c (bF c t.val) 2) (kTile m c (bF c t.val) 2))), v2923⟩) Q) :
    iprop(CSt m c t.val 19 ∗ R) ⊢ WP c (App k0_part9 c t v2665 (k0_pay27 (k0_pay26 (qTile m c (bF c t.val) 2) (kTile m c (bF c t.val) 2)) (vTile m c (bF c t.val) 2)) (k0_pay28 (k0_pay26 (qTile m c (bF c t.val) 2) (kTile m c (bF c t.val) 2))) (k0_pay32 (k0_pay26 (qTile m c (bF c t.val) 2) (kTile m c (bF c t.val) 2))) >>= k) Q := by
  simp only [App, k0_part9_eq_skeleton, k0_part9_skel, Prog.lift, Prog.bind_op, Prog.bind_ret, Prog.pure_eq_ret]
  refine ld_lv m c 1 (off20_eq c t 1) fun v => ?_
  refine st_lv m c 2 1 (off20_eq c t 1) rfl rfl ?_
  refine ld_ov m c 2 (off19_eq c t 2) fun v => ?_
  refine st_ov m c 2 2 (off19_eq c t 2) rfl rfl ?_
  refine ld_lv m c 2 (off20_eq c t 2) fun v => ?_
  refine st_lv m c 2 2 (off20_eq c t 2) rfl rfl ?_
  refine ld_ov m c 3 (off19_eq c t 3) fun v => ?_
  refine st_ov m c 2 3 (off19_eq c t 3) rfl rfl ?_
  refine ld_lv m c 3 (off20_eq c t 3) fun v2923 => ?_
  exact h _

theorem p10 {v2665 v2675 v2923} {Q : α → sProp 𝕄} {R : sProp 𝕄} {k : _ → PT (F := F) α}
    (h : ∀ (v2958 : BitVec 32), iprop(CSt m c t.val 26 ∗ R) ⊢ WP c (k ⟨k0_pay40 (qTile m c (bF c t.val) 3) (kTile m c (bF c t.val) 3) (vTile m c (bF c t.val) 3), k0_pay41 (qTile m c (bF c t.val) 3) (kTile m c (bF c t.val) 3), k0_pay44 (qTile m c (bF c t.val) 3) (kTile m c (bF c t.val) 3) (vTile m c (bF c t.val) 3), v2958⟩) Q) :
    iprop(CSt m c t.val 23 ∗ R) ⊢ WP c (App k0_part10 c t v2665 v2675 (k0_pay37 (k0_pay28 (k0_pay26 (qTile m c (bF c t.val) 2) (kTile m c (bF c t.val) 2)))) v2923 >>= k) Q := by
  simp only [App, k0_part10_eq_skeleton, k0_part10_skel, Prog.lift, Prog.bind_op, Prog.bind_ret, Prog.pure_eq_ret]
  refine st_lv m c 2 3 (off20_eq c t 3) rfl rfl ?_
  refine ld_q m c 3 (off21_eq c t) ?_
  refine ld_k m c 3 (off22_eq t) ?_
  refine ld_v m c 3 (off22_eq t) ?_
  refine ld_ov m c 0 (off23_eq c t 0) fun v => ?_
  refine st_ov m c 3 0 (off23_eq c t 0) rfl rfl ?_
  refine ld_lv m c 0 (off24_eq c t 0) fun v => ?_
  refine st_lv m c 3 0 (off24_eq c t 0) rfl rfl ?_
  exact h _

theorem p11 {v2665 v2958} {Q : α → sProp 𝕄} {R : sProp 𝕄} {k : _ → PT (F := F) α}
    (h : iprop(CSt m c t.val 30 ∗ R) ⊢ WP c (k (k0_pay49 (k0_pay40 (qTile m c (bF c t.val) 3) (kTile m c (bF c t.val) 3) (vTile m c (bF c t.val) 3)))) Q) :
    iprop(CSt m c t.val 26 ∗ R) ⊢ WP c (App k0_part11 c t v2665 (k0_pay40 (qTile m c (bF c t.val) 3) (kTile m c (bF c t.val) 3) (vTile m c (bF c t.val) 3)) (k0_pay41 (qTile m c (bF c t.val) 3) (kTile m c (bF c t.val) 3)) (k0_pay44 (qTile m c (bF c t.val) 3) (kTile m c (bF c t.val) 3) (vTile m c (bF c t.val) 3)) v2958 >>= k) Q := by
  simp only [App, k0_part11_eq_skeleton, k0_part11_skel, Prog.lift, Prog.bind_op, Prog.bind_ret, Prog.pure_eq_ret]
  refine ld_ov m c 1 (off23_eq c t 1) fun v => ?_
  refine st_ov m c 3 1 (off23_eq c t 1) rfl rfl ?_
  refine ld_lv m c 1 (off24_eq c t 1) fun v => ?_
  refine st_lv m c 3 1 (off24_eq c t 1) rfl rfl ?_
  refine ld_ov m c 2 (off23_eq c t 2) fun v => ?_
  refine st_ov m c 3 2 (off23_eq c t 2) rfl rfl ?_
  refine ld_lv m c 2 (off24_eq c t 2) fun v => ?_
  refine st_lv m c 3 2 (off24_eq c t 2) rfl rfl ?_
  exact h

theorem p12 {v2665 v2675} {Q : α → sProp 𝕄} {R : sProp 𝕄} {k : _ → PT (F := F) α}
    (h : iprop(CSt m c t.val 33 ∗ R) ⊢ WP c (k ⟨k0_pay53 (qTile m c (bF c t.val) 4) (kTile m c (bF c t.val) 4) (vTile m c (bF c t.val) 4), k0_pay54 (qTile m c (bF c t.val) 4) (kTile m c (bF c t.val) 4), k0_pay56 (qTile m c (bF c t.val) 4) (kTile m c (bF c t.val) 4)⟩) Q) :
    iprop(CSt m c t.val 30 ∗ R) ⊢ WP c (App k0_part12 c t v2665 v2675 (k0_pay41 (qTile m c (bF c t.val) 3) (kTile m c (bF c t.val) 3)) (k0_pay49 (k0_pay40 (qTile m c (bF c t.val) 3) (kTile m c (bF c t.val) 3) (vTile m c (bF c t.val) 3))) >>= k) Q := by
  simp only [App, k0_part12_eq_skeleton, k0_part12_skel, Prog.lift, Prog.bind_op, Prog.bind_ret, Prog.pure_eq_ret]
  refine ld_ov m c 3 (off23_eq c t 3) fun v => ?_
  refine st_ov m c 3 3 (off23_eq c t 3) rfl rfl ?_
  refine ld_lv m c 3 (off24_eq c t 3) fun v => ?_
  refine st_lv m c 3 3 (off24_eq c t 3) rfl rfl ?_
  refine ld_q m c 4 (off25_eq c t) ?_
  refine ld_k m c 4 (off26_eq t) ?_
  refine ld_v m c 4 (off26_eq t) ?_
  refine ld_ov m c 0 (off27_eq c t 0) fun v => ?_
  refine st_ov m c 4 0 (off27_eq c t 0) rfl rfl ?_
  exact h

theorem p13 {v2665} {Q : α → sProp 𝕄} {R : sProp 𝕄} {k : _ → PT (F := F) α}
    (h : ∀ (v3060 : BitVec 32) (c2_i32_1986 : BitVec 32), iprop(CSt m c t.val 37 ∗ R) ⊢ WP c (k ⟨k0_pay61 (k0_pay54 (qTile m c (bF c t.val) 4) (kTile m c (bF c t.val) 4)), v3060, c2_i32_1986⟩) Q) :
    iprop(CSt m c t.val 33 ∗ R) ⊢ WP c (App k0_part13 c t v2665 (k0_pay53 (qTile m c (bF c t.val) 4) (kTile m c (bF c t.val) 4) (vTile m c (bF c t.val) 4)) (k0_pay54 (qTile m c (bF c t.val) 4) (kTile m c (bF c t.val) 4)) (k0_pay56 (qTile m c (bF c t.val) 4) (kTile m c (bF c t.val) 4)) >>= k) Q := by
  simp only [App, k0_part13_eq_skeleton, k0_part13_skel, Prog.lift, Prog.bind_op, Prog.bind_ret, Prog.pure_eq_ret]
  refine ld_lv m c 0 (off28_eq c t 0) fun v => ?_
  refine st_lv m c 4 0 (off28_eq c t 0) rfl rfl ?_
  refine ld_ov m c 1 (off27_eq c t 1) fun v => ?_
  refine st_ov m c 4 1 (off27_eq c t 1) rfl rfl ?_
  refine ld_lv m c 1 (off28_eq c t 1) fun v => ?_
  refine st_lv m c 4 1 (off28_eq c t 1) rfl rfl ?_
  refine ld_ov m c 2 (off27_eq c t 2) fun v => ?_
  refine st_ov m c 4 2 (off27_eq c t 2) rfl rfl ?_
  exact h _ _

theorem p14 {v2665 v2675 v3060 c2_i32_1986} {Q : α → sProp 𝕄} {R : sProp 𝕄} {k : _ → PT (F := F) α}
    (h : iprop(CSt m c t.val 40 ∗ R) ⊢ WP c (k ⟨k0_pay65 (qTile m c (bF c t.val) 5) (kTile m c (bF c t.val) 5), k0_pay66 (qTile m c (bF c t.val) 5) (kTile m c (bF c t.val) 5) (vTile m c (bF c t.val) 5)⟩) Q) :
    iprop(CSt m c t.val 37 ∗ R) ⊢ WP c (App k0_part14 c t v2665 v2675 (k0_pay53 (qTile m c (bF c t.val) 4) (kTile m c (bF c t.val) 4) (vTile m c (bF c t.val) 4)) (k0_pay54 (qTile m c (bF c t.val) 4) (kTile m c (bF c t.val) 4)) (k0_pay61 (k0_pay54 (qTile m c (bF c t.val) 4) (kTile m c (bF c t.val) 4))) v3060 c2_i32_1986 >>= k) Q := by
  simp only [App, k0_part14_eq_skeleton, k0_part14_skel, Prog.lift, Prog.bind_op, Prog.bind_ret, Prog.pure_eq_ret]
  refine ld_lv m c 2 (off28_eq c t 2) fun v => ?_
  refine st_lv m c 4 2 (off28_eq c t 2) rfl rfl ?_
  refine ld_ov m c 3 (off27_eq c t 3) fun v => ?_
  refine st_ov m c 4 3 (off27_eq c t 3) rfl rfl ?_
  refine ld_lv m c 3 (off28_eq c t 3) fun v => ?_
  refine st_lv m c 4 3 (off28_eq c t 3) rfl rfl ?_
  refine ld_q m c 5 (off29_eq c t) ?_
  refine ld_k m c 5 (off30_eq t) ?_
  refine ld_v m c 5 (off30_eq t) ?_
  exact h

theorem p15 {v2665} {Q : α → sProp 𝕄} {R : sProp 𝕄} {k : _ → PT (F := F) α}
    (h : iprop(CSt m c t.val 44 ∗ R) ⊢ WP c (k ⟨k0_pay67 (k0_pay65 (qTile m c (bF c t.val) 5) (kTile m c (bF c t.val) 5)), k0_pay72 (k0_pay66 (qTile m c (bF c t.val) 5) (kTile m c (bF c t.val) 5) (vTile m c (bF c t.val) 5))⟩) Q) :
    iprop(CSt m c t.val 40 ∗ R) ⊢ WP c (App k0_part15 c t v2665 (k0_pay65 (qTile m c (bF c t.val) 5) (kTile m c (bF c t.val) 5)) (k0_pay66 (qTile m c (bF c t.val) 5) (kTile m c (bF c t.val) 5) (vTile m c (bF c t.val) 5)) >>= k) Q := by
  simp only [App, k0_part15_eq_skeleton, k0_part15_skel, Prog.lift, Prog.bind_op, Prog.bind_ret, Prog.pure_eq_ret]
  refine ld_ov m c 0 (off31_eq c t 0) fun v => ?_
  refine st_ov m c 5 0 (off31_eq c t 0) rfl rfl ?_
  refine ld_lv m c 0 (off32_eq c t 0) fun v => ?_
  refine st_lv m c 5 0 (off32_eq c t 0) rfl rfl ?_
  refine ld_ov m c 1 (off31_eq c t 1) fun v => ?_
  refine st_ov m c 5 1 (off31_eq c t 1) rfl rfl ?_
  refine ld_lv m c 1 (off32_eq c t 1) fun v => ?_
  refine st_lv m c 5 1 (off32_eq c t 1) rfl rfl ?_
  exact h

theorem p16 {v2665 v2675} {Q : α → sProp 𝕄} {R : sProp 𝕄} {k : _ → PT (F := F) α}
    (h : iprop(CSt m c t.val 48 ∗ R) ⊢ WP c (k (qTile m c (bF c t.val) 6)) Q) :
    iprop(CSt m c t.val 44 ∗ R) ⊢ WP c (App k0_part16 c t v2665 v2675 (k0_pay66 (qTile m c (bF c t.val) 5) (kTile m c (bF c t.val) 5) (vTile m c (bF c t.val) 5)) (k0_pay67 (k0_pay65 (qTile m c (bF c t.val) 5) (kTile m c (bF c t.val) 5))) (k0_pay72 (k0_pay66 (qTile m c (bF c t.val) 5) (kTile m c (bF c t.val) 5) (vTile m c (bF c t.val) 5))) >>= k) Q := by
  simp only [App, k0_part16_eq_skeleton, k0_part16_skel, Prog.lift, Prog.bind_op, Prog.bind_ret, Prog.pure_eq_ret]
  refine ld_ov m c 2 (off31_eq c t 2) fun v => ?_
  refine st_ov m c 5 2 (off31_eq c t 2) rfl rfl ?_
  refine ld_lv m c 2 (off32_eq c t 2) fun v => ?_
  refine st_lv m c 5 2 (off32_eq c t 2) rfl rfl ?_
  refine ld_ov m c 3 (off31_eq c t 3) fun v => ?_
  refine st_ov m c 5 3 (off31_eq c t 3) rfl rfl ?_
  refine ld_lv m c 3 (off32_eq c t 3) fun v => ?_
  refine st_lv m c 5 3 (off32_eq c t 3) rfl rfl ?_
  refine ld_q m c 6 (off33_eq c t) ?_
  exact h

theorem p17 {v2665 v2675} {Q : α → sProp 𝕄} {R : sProp 𝕄} {k : _ → PT (F := F) α}
    (h : iprop(CSt m c t.val 50 ∗ R) ⊢ WP c (k ⟨k0_pay78 (qTile m c (bF c t.val) 6) (kTile m c (bF c t.val) 6) (vTile m c (bF c t.val) 6), k0_pay79 (qTile m c (bF c t.val) 6) (kTile m c (bF c t.val) 6), k0_pay82 (qTile m c (bF c t.val) 6) (kTile m c (bF c t.val) 6) (vTile m c (bF c t.val) 6)⟩) Q) :
    iprop(CSt m c t.val 48 ∗ R) ⊢ WP c (App k0_part17 c t v2665 v2675 (qTile m c (bF c t.val) 6) >>= k) Q := by
  simp only [App, k0_part17_eq_skeleton, k0_part17_skel, Prog.lift, Prog.bind_op, Prog.bind_ret, Prog.pure_eq_ret]
  refine ld_k m c 6 (off34_eq t) ?_
  refine ld_v m c 6 (off34_eq t) ?_
  refine ld_ov m c 0 (off35_eq c t 0) fun v => ?_
  refine st_ov m c 6 0 (off35_eq c t 0) rfl rfl ?_
  refine ld_lv m c 0 (off36_eq c t 0) fun v => ?_
  refine st_lv m c 6 0 (off36_eq c t 0) rfl rfl ?_
  refine ld_ov m c 1 (off35_eq c t 1) fun v => ?_
  exact h

theorem p18 {v2665} {Q : α → sProp 𝕄} {R : sProp 𝕄} {k : _ → PT (F := F) α}
    (h : ∀ (c4_i32_2095 : BitVec 32), iprop(CSt m c t.val 55 ∗ R) ⊢ WP c (k ⟨k0_pay87 (k0_pay79 (qTile m c (bF c t.val) 6) (kTile m c (bF c t.val) 6)), c4_i32_2095⟩) Q) :
    iprop(CSt m c t.val 50 ∗ R) ⊢ WP c (App k0_part18 c t v2665 (k0_pay78 (qTile m c (bF c t.val) 6) (kTile m c (bF c t.val) 6) (vTile m c (bF c t.val) 6)) (k0_pay79 (qTile m c (bF c t.val) 6) (kTile m c (bF c t.val) 6)) (k0_pay82 (qTile m c (bF c t.val) 6) (kTile m c (bF c t.val) 6) (vTile m c (bF c t.val) 6)) >>= k) Q := by
  simp only [App, k0_part18_eq_skeleton, k0_part18_skel, Prog.lift, Prog.bind_op, Prog.bind_ret, Prog.pure_eq_ret]
  refine st_ov m c 6 1 (off35_eq c t 1) rfl rfl ?_
  refine ld_lv m c 1 (off36_eq c t 1) fun v => ?_
  refine st_lv m c 6 1 (off36_eq c t 1) rfl rfl ?_
  refine ld_ov m c 2 (off35_eq c t 2) fun v => ?_
  refine st_ov m c 6 2 (off35_eq c t 2) rfl rfl ?_
  refine ld_lv m c 2 (off36_eq c t 2) fun v => ?_
  refine st_lv m c 6 2 (off36_eq c t 2) rfl rfl ?_
  refine ld_ov m c 3 (off35_eq c t 3) fun v => ?_
  refine st_ov m c 6 3 (off35_eq c t 3) rfl rfl ?_
  exact h _

theorem p19 {v2665 v2675 c4_i32_2095} {Q : α → sProp 𝕄} {R : sProp 𝕄} {k : _ → PT (F := F) α}
    (h : iprop(CSt m c t.val 57 ∗ R) ⊢ WP c (k ⟨k0_pay90 (qTile m c (bF c t.val) 7) (kTile m c (bF c t.val) 7) (vTile m c (bF c t.val) 7), k0_pay91 (qTile m c (bF c t.val) 7) (kTile m c (bF c t.val) 7), k0_pay93 (qTile m c (bF c t.val) 7) (kTile m c (bF c t.val) 7)⟩) Q) :
    iprop(CSt m c t.val 55 ∗ R) ⊢ WP c (App k0_part19 c t v2665 v2675 (k0_pay87 (k0_pay79 (qTile m c (bF c t.val) 6) (kTile m c (bF c t.val) 6))) c4_i32_2095 >>= k) Q := by
  simp only [App, k0_part19_eq_skeleton, k0_part19_skel, Prog.lift, Prog.bind_op, Prog.bind_ret, Prog.pure_eq_ret]
  refine ld_lv m c 3 (off36_eq c t 3) fun v => ?_
  refine st_lv m c 6 3 (off36_eq c t 3) rfl rfl ?_
  refine ld_q m c 7 (off37_eq c t) ?_
  refine ld_k m c 7 (off38_eq t) ?_
  refine ld_v m c 7 (off38_eq t) ?_
  refine ld_ov m c 0 (off39_eq c t 0) fun v => ?_
  refine st_ov m c 7 0 (off39_eq c t 0) rfl rfl ?_
  exact h

theorem p20 {v2665} {Q : α → sProp 𝕄} {R : sProp 𝕄} {k : _ → PT (F := F) α}
    (h : iprop(CSt m c t.val 62 ∗ R) ⊢ WP c (k ⟨⟩) Q) :
    iprop(CSt m c t.val 57 ∗ R) ⊢ WP c (App k0_part20 c t v2665 (k0_pay90 (qTile m c (bF c t.val) 7) (kTile m c (bF c t.val) 7) (vTile m c (bF c t.val) 7)) (k0_pay91 (qTile m c (bF c t.val) 7) (kTile m c (bF c t.val) 7)) (k0_pay93 (qTile m c (bF c t.val) 7) (kTile m c (bF c t.val) 7)) >>= k) Q := by
  simp only [App, k0_part20_eq_skeleton, k0_part20_skel, Prog.lift, Prog.bind_op, Prog.bind_ret, Prog.pure_eq_ret]
  refine ld_lv m c 0 (off40_eq c t 0) fun v => ?_
  refine st_lv m c 7 0 (off40_eq c t 0) rfl rfl ?_
  refine ld_ov m c 1 (off39_eq c t 1) fun v => ?_
  refine st_ov m c 7 1 (off39_eq c t 1) rfl rfl ?_
  refine ld_lv m c 1 (off40_eq c t 1) fun v => ?_
  refine st_lv m c 7 1 (off40_eq c t 1) rfl rfl ?_
  refine ld_ov m c 2 (off39_eq c t 2) fun v => ?_
  refine st_ov m c 7 2 (off39_eq c t 2) rfl rfl ?_
  refine ld_lv m c 2 (off40_eq c t 2) fun v => ?_
  refine st_lv m c 7 2 (off40_eq c t 2) rfl rfl ?_
  exact h

end Parts

end Cert.KProof

end
-- ==== Proof.Trip.lean ====
/-
# The pieces of a trip

The double buffer of keys and values, and the sending of a trip's four chunks.
-/
module

public import proofs.«01_k».proof.Proof.Xfer
public import proofs.«01_k».proof.Proof.Parts

@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ UU ℕ

variable (m : (ℓ : Loc nD τ sig) → Buf (Elt F) ℓ) (K : Dev nD × CK → ℕ)

/-! ## The double buffer -/

abbrev sl (j : ℕ) : Fin 2 := ⟨j % 2, Nat.mod_lt _ (by decide)⟩

theorem j_eq (j : ℕ) : 2 * (j / 2) + (sl j).val = j := by show 2 * (j / 2) + j % 2 = j; omega

/-- The cell of copy `j` of the keys (`v = 0`) or values (`v = 1`), before that copy's round. -/
def CellAt (c : Dev nD) (j : ℕ) (v : Fin 2) : sProp 𝕄 :=
  iprop(atPos ER (kcell c (lc (sl j) v)) (j / 2) ∅ 0 ∗ reached ER (kcell c (lc (sl j) v)) (j / 2))
/-- Copy `j` under way. -/
def FlyKV (c : Dev nD) (j : ℕ) (v : Fin 2) : sProp 𝕄 := iprop(cred (tallyAt (kcell c (lc (sl j) v)) () N3) ∗ CellAt c j v)
def SlotK (c : Dev nD) (j : ℕ) : sProp 𝕄 := iprop(kbAny c (j % 2) ∗ CellAt c j 0)
def SlotV (c : Dev nD) (j : ℕ) : sProp 𝕄 := iprop(vbAny c (j % 2) ∗ CellAt c j 1)
def Tok (c : Dev nD) (j : ℕ) (v : Fin 2) : sProp 𝕄 := dutyTok ER (kcell c (lc (sl j) v)) (j / 2) 0

/-- Copy `j` under way if there is one, and otherwise its slot. -/
def CurK (c : Dev nD) (j : ℕ) : sProp 𝕄 := if j < 4 then FlyKV c j 0 else SlotK c j
def CurV (c : Dev nD) (j : ℕ) : sProp 𝕄 := if j < 4 then FlyKV c j 1 else SlotV c j

theorem start_k {α : Type} (c : Dev nD) (j : ℕ) (hj : j < 4) {off off' : Fin 4 → ℕ} {inb inb'}
    (ho : off = ![bOf c.val j, 0, 0, 0]) (ho' : off' = ![j % 2, 0, 0, 0]) {so : Fin 2 → ℕ} {sinb} (hs : so = ![j % 2, 0]) {h1 h2 h3}
    {kk : PUnit → PT (F := F) α} {Q : α → sProp 𝕄} :
    iprop(Rec m K ∗ kPts m c (bOf c.val j) ∗ SlotK c j ∗ Tok c j 0)
      ⊢ iprop((CurK c j -∗ WP c (kk ⟨⟩) Q)
          -∗ WP c (.op (.enqueueDma (kSl off inb) (.here (kbSl off' inb')) (.dma (s22 so sinb)) h1 h2 h3) kk) Q) := by
  have hs' : SemLoc.dma (s22 so sinb) = csem (lc (sl j) 0) := congrArg SemLoc.dma (loc_sem sinb (sl j) 0 hs)
  have hst := step_kcopy m K c (sl j) (j / 2) (by omega) (inb := inb) (inb' := inb') (by rw [j_eq]; exact ho) ho' hs' (h1 := h1) (h2 := h2) (h3 := h3) (kk := kk) (Q := Q)
  rw [j_eq] at hst
  unfold SlotK Tok CurK FlyKV CellAt
  rw [if_pos hj]
  iintro ⟨#HR, Hk, ⟨Hb, Ha, #Hr⟩, Ht⟩ Hw
  iapply hst $$ [Hk Hb Ht]
  · isplitr; · iexact HR
    isplitl [Hk]; · iexact Hk
    isplitl [Hb]; · iexact Hb
    isplitl [Ht]; · iexact Ht
    iexact Hr
  iintro Hc
  iapply Hw
  isplitl [Hc]; · iexact Hc
  isplitl [Ha]; · iexact Ha
  iexact Hr

theorem start_v {α : Type} (c : Dev nD) (j : ℕ) (hj : j < 4) {off off' : Fin 4 → ℕ} {inb inb'}
    (ho : off = ![bOf c.val j, 0, 0, 0]) (ho' : off' = ![j % 2, 0, 0, 0]) {so : Fin 2 → ℕ} {sinb} (hs : so = ![j % 2, 1]) {h1 h2 h3}
    {kk : PUnit → PT (F := F) α} {Q : α → sProp 𝕄} :
    iprop(Rec m K ∗ vPts m c (bOf c.val j) ∗ SlotV c j ∗ Tok c j 1)
      ⊢ iprop((CurV c j -∗ WP c (kk ⟨⟩) Q)
          -∗ WP c (.op (.enqueueDma (vSl off inb) (.here (vbSl off' inb')) (.dma (s22 so sinb)) h1 h2 h3) kk) Q) := by
  have hs' : SemLoc.dma (s22 so sinb) = csem (lc (sl j) 1) := congrArg SemLoc.dma (loc_sem sinb (sl j) 1 hs)
  have hst := step_vcopy m K c (sl j) (j / 2) (by omega) (inb := inb) (inb' := inb') (by rw [j_eq]; exact ho) ho' hs' (h1 := h1) (h2 := h2) (h3 := h3) (kk := kk) (Q := Q)
  rw [j_eq] at hst
  unfold SlotV Tok CurV FlyKV CellAt
  rw [if_pos hj]
  iintro ⟨#HR, Hk, ⟨Hb, Ha, #Hr⟩, Ht⟩ Hw
  iapply hst $$ [Hk Hb Ht]
  · isplitr; · iexact HR
    isplitl [Hk]; · iexact Hk
    isplitl [Hb]; · iexact Hb
    isplitl [Ht]; · iexact Ht
    iexact Hr
  iintro Hc
  iapply Hw
  isplitl [Hc]; · iexact Hc
  isplitl [Ha]; · iexact Ha
  iexact Hr

theorem above_mid (c : Dev nD) (t : ℕ) : Above 0 (oRs c t + oAg c 1) :=
  above_add (above_oRs c t (by decide)) (above_oAg c 1 (by decide))

theorem sl_two (j : ℕ) : sl (j + 2) = sl j := Fin.ext (by show (j + 2) % 2 = j % 2; omega)
theorem half_two (j : ℕ) : (j + 2) / 2 = j / 2 + 1 := by omega

/-- The wait for copy `j` of the keys. -/
theorem wait_k {α : Type} (c : Dev nD) (j : ℕ) (hj : j < 4) {O : Tally} (hO : Above 0 O)
    {sp sp' : Space} {s s' : Shape} {e e' : EltTy} {so : Fin 2 → ℕ} {sinb} (hs : so = ![j % 2, 0]) {src : Memref sig .tc sp' s' e'} {κ' : Kind}
    {dst : Memref sig κ' sp s e} {hsrc hdst} (hN : dst.view.dmaCredit = N3)
    {kk : PUnit → PT (F := F) α} {Q : α → sProp 𝕄} :
    iprop(Rec m K ∗ OW c O ∗ CurK c j)
      ⊢ iprop(((OW c O ∗ kbGot m c (bF c j) (j % 2) ∗ kPts m c (bOf c.val j) ∗ CellAt c (j + 2) 0) -∗ WP c (kk ⟨⟩) Q)
          -∗ WP c (.op (.waitDma2 (s22 so sinb) src dst hsrc hdst) kk) Q) := by
  have hs' : SemLoc.dma (s22 so sinb) = csem (lc (sl j) 0) := congrArg SemLoc.dma (loc_sem sinb (sl j) 0 hs)
  have hst := step_wait m K c (lc (sl j) 0) (j / 2) 0 (O := O) (Nat.le_refl 0) hO (duties_lc (by omega)) hs' (src := src) (dst := dst) (hsrc := hsrc) (hdst := hdst) hN (kk := kk) (Q := Q)
  have e : payloadK m c (lc (sl j) 0) (j / 2) 0 = iprop(kbGot m c (bF c (2 * (j / 2) + (sl j).val)) (sl j).val ∗ kPts m c (bOf c.val (2 * (j / 2) + (sl j).val))) := rfl
  rw [e, j_eq] at hst
  unfold CurK FlyKV CellAt
  rw [if_pos hj, sl_two, half_two]
  iintro ⟨#HR, HO, Hc, Ha, -⟩ Hw
  iapply hst $$ [HO Ha Hc]
  · isplitr; · iexact HR
    isplitl [HO]; · iexact HO
    isplitl [Ha]; · iexact Ha
    iexact Hc
  iintro ⟨HO, Ha, Hr, Hb, Hk⟩
  iapply Hw
  isplitl [HO]; · iexact HO
  isplitl [Hb]; · iexact Hb
  isplitl [Hk]; · iexact Hk
  isplitl [Ha]; · iexact Ha
  iexact Hr

/-- The wait for copy `j` of the values. -/
theorem wait_v {α : Type} (c : Dev nD) (j : ℕ) (hj : j < 4) {O : Tally} (hO : Above 0 O)
    {sp sp' : Space} {s s' : Shape} {e e' : EltTy} {so : Fin 2 → ℕ} {sinb} (hs : so = ![j % 2, 1]) {src : Memref sig .tc sp' s' e'} {κ' : Kind}
    {dst : Memref sig κ' sp s e} {hsrc hdst} (hN : dst.view.dmaCredit = N3)
    {kk : PUnit → PT (F := F) α} {Q : α → sProp 𝕄} :
    iprop(Rec m K ∗ OW c O ∗ CurV c j)
      ⊢ iprop(((OW c O ∗ vbGot m c (bF c j) (j % 2) ∗ vPts m c (bOf c.val j) ∗ CellAt c (j + 2) 1) -∗ WP c (kk ⟨⟩) Q)
          -∗ WP c (.op (.waitDma2 (s22 so sinb) src dst hsrc hdst) kk) Q) := by
  have hs' : SemLoc.dma (s22 so sinb) = csem (lc (sl j) 1) := congrArg SemLoc.dma (loc_sem sinb (sl j) 1 hs)
  have hst := step_wait m K c (lc (sl j) 1) (j / 2) 0 (O := O) (Nat.le_refl 0) hO (duties_lc (by omega)) hs' (src := src) (dst := dst) (hsrc := hsrc) (hdst := hdst) hN (kk := kk) (Q := Q)
  have e : payloadK m c (lc (sl j) 1) (j / 2) 0 = iprop(vbGot m c (bF c (2 * (j / 2) + (sl j).val)) (sl j).val ∗ vPts m c (bOf c.val (2 * (j / 2) + (sl j).val))) := rfl
  rw [e, j_eq] at hst
  unfold CurV FlyKV CellAt
  rw [if_pos hj, sl_two, half_two]
  iintro ⟨#HR, HO, Hc, Ha, -⟩ Hw
  iapply hst $$ [HO Ha Hc]
  · isplitr; · iexact HR
    isplitl [HO]; · iexact HO
    isplitl [Ha]; · iexact Ha
    iexact Hc
  iintro ⟨HO, Ha, Hr, Hb, Hk⟩
  iapply Hw
  isplitl [HO]; · iexact HO
  isplitl [Hb]; · iexact Hb
  isplitl [Hk]; · iexact Hk
  isplitl [Ha]; · iexact Ha
  iexact Hr

/-! ## The chunks of a trip -/

abbrev kq (b : Fin 4) (q : ℕ) : Fin 16 := ⟨(4 * b.val + q) % 16, Nat.mod_lt _ (by decide)⟩

theorem kq_val (b : Fin 4) {q : ℕ} (hq : q < 4) : (kq b q).val = 4 * b.val + q := by
  show (4 * b.val + q) % 16 = _; omega

/-- What sending chunk `k` needs besides the chunk. -/
def ToSend (c : Dev nD) (k : Fin 16) : sProp 𝕄 :=
  if k = nx c then iprop(emp)
  else iprop(dutyTok ER (kcell c (rsS k)) 0 0 ∗ dutyTok ER (kcell (pl 15 k.val) (rsR c)) 0 0 ∗ commAny (pl 15 k.val) c.val)
/-- Chunk `k` dealt with: kept, or on its way. -/
def Sent (c : Dev nD) (k : Fin 16) : sProp 𝕄 := if k = nx c then partGood m c k.val else cred (tallyAt (kcell c (rsS k)) () N1)

/-- A trip with `q` of its four chunks dealt with. -/
def PSt (c : Dev nD) (b : Fin 4) (O : Tally) (q : ℕ) : sProp 𝕄 :=
  iprop(OW c (oTrip c b.val q + O) ∗ bigSep (Finset.Ico q 4) (fun j => iprop(partGood m c (kq b j).val ∗ ToSend c (kq b j)))
    ∗ bigSep (Finset.range q) (fun j => Sent m c (kq b j)))

theorem range_succ (Φ : ℕ → sProp 𝕄) (q : ℕ) : bigSep (Finset.range (q + 1)) Φ = iprop(Φ q ∗ bigSep (Finset.range q) Φ) := by
  rw [Finset.range_add_one, bigSep_insert Finset.notMem_range_self]; rfl

theorem oTrip_step (c : Dev nD) (b : Fin 4) (q : ℕ) (hq : q < 4) : oTrip c b.val q = oChunk c (kq b q).val + oTrip c b.val (q + 1) := by
  unfold oTrip; rw [Finset.sum_eq_sum_Ico_succ_bot hq, kq_val b hq]

theorem psend_no (c : Dev nD) (b : Fin 4) {O : Tally} (q : ℕ) (hq : q < 4) (hne : 4 * b.val + q = (c.val + 1) % 16) {R G : sProp 𝕄}
    (h : iprop(Rec m K ∗ PSt m c b O (q + 1) ∗ R) ⊢ G) : iprop(Rec m K ∗ PSt m c b O q ∗ R) ⊢ G := by
  refine BIBase.Entails.trans ?_ h
  have hk : kq b q = nx c := Fin.ext (by rw [kq_val b hq]; exact hne)
  unfold PSt
  rw [oTrip_step c b q hq, bigSep_Ico_succ_bot hq, range_succ]
  unfold ToSend Sent oChunk
  rw [if_pos hk, if_pos hk, if_pos (congrArg Fin.val hk), zero_add]
  iintro ⟨HR, ⟨HO, ⟨⟨Hp, -⟩, Hs⟩, Hd⟩, HF⟩
  isplitl [HR]; · iexact HR
  isplitr [HF]
  · isplitl [HO]; · iexact HO
    isplitl [Hs]; · iexact Hs
    isplitl [Hp]; · iexact Hp
    iexact Hd
  · iexact HF

theorem psend_yes {α : Type} (c : Dev nD) (b : Fin 4) {O : Tally} (q : ℕ) (hq : q < 4) (hne : 4 * b.val + q ≠ (c.val + 1) % 16)
    {dn : ℕ} {hd} (hdn : dn = (4 * b.val + q + 15) % 16) {off off' : Fin 4 → ℕ} {inb inb'} (ho : off = ![4 * b.val + q, 0, 0, 0]) (ho' : off' = ![c.val, 0, 0, 0])
    {so so' : Fin 1 → ℕ} {sinb sinb'} (hs : so = ![4 * b.val + q]) (hs' : so' = ![c.val]) {h0 h1 h2 h3}
    {kk : PUnit → PT (F := F) α} {Q : α → sProp 𝕄} {R : sProp 𝕄}
    (h : iprop(Rec m K ∗ PSt m c b O (q + 1) ∗ R) ⊢ WP c (kk ⟨⟩) Q) :
    iprop(Rec m K ∗ PSt m c b O q ∗ R)
      ⊢ WP c (.op (.enqueueDma (partSl off inb) (.remote (Dev.tc (⟨dn, hd⟩ : Dev nD)) (commSl off' inb') (.dma (s16 cc0_scratch7 so sinb)) h0) (.dma (s16 cc0_scratch8 so' sinb')) h1 h2 h3) kk) Q := by
  have hv := kq_val b hq
  have hk : kq b q ≠ nx c := fun e => hne (hv ▸ congrArg Fin.val e)
  have hst := step_psend m K c (kq b q) hk (d := (⟨dn, hd⟩ : Dev nD)) (by show dn = _; rw [hv]; exact hdn) (inb := inb) (inb' := inb') (by rw [hv]; exact ho) ho'
    (congrArg SemLoc.dma (rsS_sem sinb (kq b q) (by rw [hv]; exact hs))) (congrArg SemLoc.dma (rsR_sem sinb' c hs')) (h0 := h0) (h1 := h1) (h2 := h2) (h3 := h3)
    (oTrip c b.val (q + 1) + O) rfl (kk := kk) (Q := Q)
  unfold PSt at h ⊢
  rw [oTrip_step c b q hq, bigSep_Ico_succ_bot hq]
  rw [range_succ] at h
  unfold ToSend Sent at h ⊢
  rw [if_neg hk]
  rw [if_neg hk] at h
  have hOe : oChunk c (kq b q).val + oTrip c b.val (q + 1) + O = oTrip c b.val (q + 1) + O + tallyAt (kcell (pl 15 (kq b q).val) (rsR c)) () N1 := by
    unfold oChunk; rw [if_neg (fun e => hk (Fin.ext e)), add_assoc, add_comm]
  rw [hOe]
  iintro ⟨#HR, ⟨HO, ⟨⟨Hp, Ht, Ht', Hc⟩, Hs⟩, Hd⟩, HF⟩
  iapply hst $$ [HO Hp Ht Ht' Hc]
  · isplitr; · iexact HR
    isplitl [Hp]; · iexact Hp
    isplitl [Hc]; · iexact Hc
    isplitl [HO]; · iexact HO
    isplitl [Ht]; · iexact Ht
    iexact Ht'
  iintro ⟨Hc, HO⟩
  iapply h
  isplitr; · iexact HR
  isplitr [HF]
  · isplitl [HO]; · iexact HO
    isplitl [Hs]; · iexact Hs
    isplitl [Hc]; · iexact Hc
    iexact Hd
  · iexact HF

/-- A chunk's turn, whether it is sent or stays. -/
theorem send_if {α : Type} (c : Dev nD) (b : Fin 4) {O : Tally} (q : ℕ) (hq : q < 4) {P : Prop} [Decidable P] (hP : P ↔ 4 * b.val + q ≠ (c.val + 1) % 16)
    {A : P → PT (F := F) PUnit} {kk : PUnit → PT (F := F) α} {Q : α → sProp 𝕄} {R : sProp 𝕄}
    (hA : ∀ h : P, (iprop(Rec m K ∗ PSt m c b O (q + 1) ∗ R) ⊢ WP c (kk ⟨⟩) Q) → (iprop(Rec m K ∗ PSt m c b O q ∗ R) ⊢ WP c (A h >>= kk) Q))
    (h : iprop(Rec m K ∗ PSt m c b O (q + 1) ∗ R) ⊢ WP c (kk ⟨⟩) Q) :
    iprop(Rec m K ∗ PSt m c b O q ∗ R) ⊢ WP c ((if h : P then A h else Prog.ret ⟨⟩) >>= kk) Q := by
  by_cases hp : P
  · rw [dif_pos hp]; exact hA hp h
  · rw [dif_neg hp]
    exact psend_no m K c b q hq (by by_contra hc; exact hp (hP.2 hc)) h

/-! ## A trip's chunks joined and cut apart -/

theorem grp_eq (b : Fin 4) : grp b.val = (Finset.range 4).biUnion fun j => chunk (kq b j).val := by
  ext i
  rw [Finset.mem_biUnion]
  constructor
  · intro h
    have h' : (i0 i).val / 4 = b.val := (Finset.mem_filter.1 h).2
    refine ⟨(i0 i).val % 4, Finset.mem_range.2 (Nat.mod_lt _ (by decide)), ?_⟩
    rw [mem_slab, kq_val b (Nat.mod_lt _ (by decide))]
    show (i0 i).val = _
    omega
  · rintro ⟨j, hj, h⟩
    rw [mem_slab, kq_val b (Finset.mem_range.1 hj)] at h
    refine Finset.mem_filter.2 ⟨Finset.mem_univ _, ?_⟩
    have h' : (i0 i).val = 4 * b.val + j := h
    have := Finset.mem_range.1 hj
    omega

theorem kq_disj (b : Fin 4) : ∀ t ∈ Finset.range 4, ∀ t' ∈ Finset.range 4, t ≠ t' → Disjoint (chunk (kq b t).val) (chunk (kq b t').val) := fun t ht t' ht' hne => by
  apply slab_disjoint
  rw [kq_val b (Finset.mem_range.1 ht), kq_val b (Finset.mem_range.1 ht')]; omega

theorem part_join (c : Dev nD) (b : Fin 4) : (bigSep (Finset.range 4) fun j => partAny c (kq b j).val) ⊢ PartSt m c b.val 0 := by
  have h1 : (bigSep (Finset.range 4) fun j => partAny c (kq b j).val) ⊢ (iprop(∃ fs : ℕ → Buf (Elt F) (partL c), bigSep (Finset.range 4) fun j => partL c ↦[chunk (kq b j).val]{fullShare} fs j) : sProp 𝕄) :=
    bigSep_exists_pi (Y := fun _ : ℕ => Buf (Elt F) (partL c)) (Finset.range 4) (fun j y => iprop(partL c ↦[chunk (kq b j).val]{fullShare} y))
  refine h1.trans ?_
  unfold PartSt
  iintro ⟨%fs, H⟩
  ihave H := (pointsTo_biUnion_join (Finset.range 4) (fun j => chunk (kq b j).val) fs (fs 0) (kq_disj b)) $$ H
  icases H with ⟨%g, -, H⟩
  iexists g
  isplitr
  · ipureintro
    intro i hi hw
    unfold wrt at hw
    split at hw
    · omega
    · omega
  · rw [grp_eq b]; iexact H

theorem wrt_all {i : S16x9x64x128.Idx} (h : rel i) : wrt 64 i := by
  unfold wrt; unfold rel at h
  have := (i1 i).isLt
  split
  · omega
  · have h3 : (i3 i).val < 8 := h.resolve_left (by assumption)
    exact ⟨h3, by omega⟩

theorem part_split (c : Dev nD) (b : Fin 4) : PartSt m c b.val 64 ⊢ bigSep (Finset.range 4) fun j => partGood m c (kq b j).val := by
  unfold PartSt
  iintro ⟨%f, %hf, H⟩
  rw [grp_eq b]
  have hsp : (partL c ↦[(Finset.range 4).biUnion fun j => chunk (kq b j).val]{fullShare} f : sProp 𝕄) = bigSep (Finset.range 4) fun j => partL c ↦[chunk (kq b j).val]{fullShare} f :=
    pointsTo_biUnion (ℓ := partL c) (Finset.range 4) (fun j => chunk (kq b j).val) (kq_disj b)
  have hm : (bigSep (Finset.range 4) fun j => partL c ↦[chunk (kq b j).val]{fullShare} f) ⊢ bigSep (Finset.range 4) fun j => partGood m c (kq b j).val := by
    refine bigSep_mono fun j hj => ?_
    show (partL c ↦[chunk (kq b j).val]{fullShare} f : sProp 𝕄) ⊢ partGood m c (kq b j).val
    unfold partGood
    iintro H
    iexists f
    isplitr
    · ipureintro
      intro i hi hr
      refine hf i ?_ (wrt_all hr)
      rw [mem_slab, kq_val b (Finset.mem_range.1 hj)] at hi
      have h' : (i0 i).val = 4 * b.val + j := hi
      have := Finset.mem_range.1 hj
      omega
    · iexact H
  iapply ((BI.BIBase.Entails.of_eq hsp).trans hm)
  iexact H

end Cert.KProof

end
-- ==== Proof.Loop.lean ====
/-
# A trip

One trip of the loop over the batch, and the loop.
-/
module

public import proofs.«01_k».proof.Proof.Trip

@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ UU ℕ

variable (m : (ℓ : Loc nD τ sig) → Buf (Elt F) ℓ) (K : Dev nD × CK → ℕ)

/-- What the start of copy `j` needs: its tokens and the batch entry. -/
def Load (c : Dev nD) (j : ℕ) : sProp 𝕄 := iprop(Tok c j 0 ∗ Tok c j 1 ∗ kPts m c (bOf c.val j) ∗ vPts m c (bOf c.val j))

section Parts
variable {α : Type} (c : Dev nD) (t : Trip)

theorem p2 {v19 a b} {O : Tally} (hO : Above 0 O) {Q : α → sProp 𝕄} {R : sProp 𝕄} {k : _ → PT (F := F) α}
    (h : ∀ w : (Σ' (v2665 : BitVec 32), BitVec 32), iprop(Rec m K ∗ OW c O ∗ (kbGot m c (bF c t.val) (t.val % 2) ∗ kPts m c (bOf c.val t.val) ∗ CellAt c (t.val + 2) 0)
        ∗ CurK c (t.val + 1) ∗ CurV c (t.val + 1) ∗ (bigSep (Finset.Ico (t.val + 2) 4) (Load m c)) ∗ R) ⊢ WP c (k w) Q) :
    iprop(Rec m K ∗ OW c O ∗ CurK c t.val ∗ SlotK c (t.val + 1) ∗ SlotV c (t.val + 1) ∗ (bigSep (Finset.Ico (t.val + 1) 4) (Load m c)) ∗ R)
      ⊢ WP c (App k0_part2 c v19 a b t >>= k) Q := by
  simp only [App, k0_part2_eq_skeleton, k0_part2_skel, k0_part1_eq_skeleton, k0_part1_skel, Prog.lift, Prog.bind_op, Prog.bind_ret, Prog.pure_eq_ret]
  have ht : t.val < 4 := trip_lt t
  by_cases hc : k0_cond1 t = 1#1
  · have hj : t.val + 1 < 4 := (cond1_iff t).1 hc
    simp only [dif_pos hc, Prog.lift, Prog.bind_op, Prog.bind_ret, Prog.pure_eq_ret]
    rw [bigSep_Ico_succ_bot hj]
    iintro ⟨#HR, HO, HK, HsK, HsV, ⟨HL, HLs⟩, HF⟩
    ihave HL := (show Load m c (t.val + 1) ⊢ iprop(Tok c (t.val + 1) 0 ∗ Tok c (t.val + 1) 1 ∗ kPts m c (bOf c.val (t.val + 1)) ∗ vPts m c (bOf c.val (t.val + 1))) from Entails.refl _) $$ HL
    icases HL with ⟨HtK, HtV, Hk, Hv⟩
    iapply (start_k m K c (t.val + 1) hj (off4_eq c t) (off3_eq t) (off2_eq t)) $$ [Hk HsK HtK]
    · isplitr; · iexact HR
      isplitl [Hk]; · iexact Hk
      isplitl [HsK]; · iexact HsK
      iexact HtK
    iintro HK'
    iapply (start_v m K c (t.val + 1) hj (off4_eq c t) (off3_eq t) (off5_eq t)) $$ [Hv HsV HtV]
    · isplitr; · iexact HR
      isplitl [Hv]; · iexact Hv
      isplitl [HsV]; · iexact HsV
      iexact HtV
    iintro HV'
    iapply (wait_k m K c t.val ht hO (off6_eq t) (credit_kb _)) $$ [HO HK]
    · isplitr; · iexact HR
      isplitl [HO]; · iexact HO
      iexact HK
    iintro ⟨HO, HK⟩
    iapply (h _)
    isplitr; · iexact HR
    isplitl [HO]; · iexact HO
    isplitl [HK]; · iexact HK
    isplitl [HK']; · iexact HK'
    isplitl [HV']; · iexact HV'
    isplitl [HLs]; · iexact HLs
    iexact HF
  · have hj : ¬ t.val + 1 < 4 := fun h => hc ((cond1_iff t).2 h)
    simp only [dif_neg hc, Prog.lift, Prog.bind_op, Prog.bind_ret, Prog.pure_eq_ret]
    rw [Finset.Ico_eq_empty (by omega)]
    iintro ⟨#HR, HO, HK, HsK, HsV, HLs, HF⟩
    iapply (wait_k m K c t.val ht hO (off6_eq t) (credit_kb _)) $$ [HO HK]
    · isplitr; · iexact HR
      isplitl [HO]; · iexact HO
      iexact HK
    iintro ⟨HO, HK⟩
    iapply (h _)
    rw [Finset.Ico_eq_empty (show ¬ t.val + 2 < 4 by omega)]
    unfold CurK CurV
    rw [if_neg hj, if_neg hj]
    isplitr; · iexact HR
    isplitl [HO]; · iexact HO
    isplitl [HK]; · iexact HK
    isplitl [HsK]; · iexact HsK
    isplitl [HsV]; · iexact HsV
    isplitl [HLs]; · iexact HLs
    iexact HF

theorem p3 {v2665 v2675} {O : Tally} (hO : Above 0 O) {Q : α → sProp 𝕄} {R : sProp 𝕄} {k : _ → PT (F := F) α}
    (h : iprop(CSt m c t.val 1 ∗ (OW c O ∗ vPts m c (bOf c.val t.val) ∗ CellAt c (t.val + 2) 1) ∗ R)
      ⊢ WP c (k ⟨k0_pay2 (qTile m c (bF c t.val) 0) (kTile m c (bF c t.val) 0) (vTile m c (bF c t.val) 0), k0_pay3 (qTile m c (bF c t.val) 0) (kTile m c (bF c t.val) 0), k0_pay5 (qTile m c (bF c t.val) 0) (kTile m c (bF c t.val) 0)⟩) Q) :
    iprop(Rec m K ∗ OW c O ∗ CurV c t.val ∗ QsP m c ∗ kbGot m c (bF c t.val) (t.val % 2) ∗ PartSt m c (bOf c.val t.val) 0 ∗ R)
      ⊢ WP c (App k0_part3 c t v2665 v2675 >>= k) Q := by
  simp only [App, k0_part3_eq_skeleton, k0_part3_skel, Prog.lift, Prog.bind_op, Prog.bind_ret, Prog.pure_eq_ret]
  have ht : t.val < 4 := trip_lt t
  iintro ⟨#HR, HO, HV, Hq, Hk, Hp, HF⟩
  iapply (wait_v m K c t.val ht hO (off8_eq t) (credit_vb _)) $$ [HO HV]
  · isplitr; · iexact HR
    isplitl [HO]; · iexact HO
    iexact HV
  iintro ⟨HO, Hv, Hrest⟩
  ihave Hall := (show iprop(QsP m c ∗ kbGot m c (bF c t.val) (t.val % 2) ∗ vbGot m c (bF c t.val) (t.val % 2) ∗ PartSt m c (bOf c.val t.val) 0) ⊢ CSt m c t.val 0 from Entails.refl _) $$ [Hq Hk Hv Hp]
  · isplitl [Hq]; · iexact Hq
    isplitl [Hk]; · iexact Hk
    isplitl [Hv]; · iexact Hv
    iexact Hp
  iapply (show iprop(CSt m c t.val 0 ∗ (OW c O ∗ vPts m c (bOf c.val t.val) ∗ CellAt c (t.val + 2) 1) ∗ R) ⊢ _ from by
    refine ld_q m c 0 (off9_eq c t) ?_
    refine ld_k m c 0 (off10_eq t) ?_
    refine ld_v m c 0 (off10_eq t) ?_
    refine ld_ov m c 0 (off11_eq c t 0) fun v => ?_
    refine st_ov m c 0 0 (off11_eq c t 0) rfl rfl ?_
    exact h)
  isplitl [Hall]; · iexact Hall
  isplitr [HF]
  · isplitl [HO]; · iexact HO
    iexact Hrest
  · iexact HF

theorem to_pst {O : Tally} {R : sProp 𝕄} :
    iprop(CSt m c t.val 64 ∗ Rec m K ∗ OW c (oTrip c (bOf c.val t.val) 0 + O) ∗ (bigSep (Finset.range 4) fun q => ToSend c (kq (bF c t.val) q)) ∗ R)
      ⊢ iprop(Rec m K ∗ PSt m c (bF c t.val) O 0 ∗ QsP m c ∗ kbGot m c (bF c t.val) (t.val % 2) ∗ vbGot m c (bF c t.val) (t.val % 2) ∗ R) := by
  unfold CSt PSt
  rw [← Finset.range_eq_Ico, bigSep_sep', Finset.range_zero, bigSep_empty]
  iintro ⟨⟨Hq, Hk, Hv, Hp⟩, HR, HO, HT, HF⟩
  isplitl [HR]; · iexact HR
  isplitl [HO HT Hp]
  · isplitl [HO]; · iexact HO
    isplitl [HT Hp]
    · isplitl [Hp]
      · iapply (show PartSt m c (bOf c.val t.val) 64 ⊢ _ from part_split m c (bF c t.val)) $$ Hp
      · iexact HT
    · iempintro
  isplitl [Hq]; · iexact Hq
  isplitl [Hk]; · iexact Hk
  isplitl [Hv]; · iexact Hv
  iexact HF

/-- The last stores of a trip, with the first three of its chunks dealt with. -/
theorem p21 {v30 v2665} {O : Tally} {Q : α → sProp 𝕄} {R : sProp 𝕄} {k : _ → PT (F := F) α}
    (h : ∀ w : (Σ' (v3332 : BitVec 32), BitVec 1), iprop(Rec m K ∗ PSt m c (bF c t.val) O 3
        ∗ QsP m c ∗ kbGot m c (bF c t.val) (t.val % 2) ∗ vbGot m c (bF c t.val) (t.val % 2) ∗ R) ⊢ WP c (k w) Q) :
    iprop(CSt m c t.val 62 ∗ Rec m K ∗ OW c (oTrip c (bOf c.val t.val) 0 + O) ∗ (bigSep (Finset.range 4) fun q => ToSend c (kq (bF c t.val) q)) ∗ R)
      ⊢ WP c (App k0_part21 c v30 t v2665 (k0_pay90 (qTile m c (bF c t.val) 7) (kTile m c (bF c t.val) 7) (vTile m c (bF c t.val) 7)) (k0_pay91 (qTile m c (bF c t.val) 7) (kTile m c (bF c t.val) 7)) >>= k) Q := by
  simp only [App, k0_part21_eq_skeleton, k0_part21_skel, Prog.lift, Prog.bind_op, Prog.bind_ret, Prog.pure_eq_ret]
  refine ld_ov m c 3 (off39_eq c t 3) fun v => ?_
  refine st_ov m c 7 3 (off39_eq c t 3) rfl rfl ?_
  refine ld_lv m c 3 (off40_eq c t 3) fun v => ?_
  refine st_lv m c 7 3 (off40_eq c t 3) rfl rfl ?_
  refine (to_pst m K c t).trans ?_
  by_cases h2 : k0_cond2 c t = 1#1 <;> by_cases h3 : k0_cond3 c t = 1#1 <;> by_cases h4 : k0_cond4 c t = 1#1 <;>
    simp only [h2, h3, h4, dite_true, dite_false, Prog.bind_op, Prog.bind_ret] <;>
    (first
      | refine psend_yes m K c (bF c t.val) 0 (by decide) ((cond2_iff c t).1 h2) (dev16_eq c t) (off44_eq c t) (k0_off43_eq c) (off41_eq c t) (k0_off42_eq c) ?_
      | refine psend_no m K c (bF c t.val) 0 (by decide) (by by_contra hc; exact h2 ((cond2_iff c t).2 hc)) ?_) <;>
    (first
      | refine psend_yes m K c (bF c t.val) 1 (by decide) ((cond3_iff c t).1 h3) (dev17_eq c t) (off48_eq c t) (k0_off47_eq c) (off45_eq c t) (k0_off46_eq c) ?_
      | refine psend_no m K c (bF c t.val) 1 (by decide) (by by_contra hc; exact h3 ((cond3_iff c t).2 hc)) ?_) <;>
    (first
      | refine psend_yes m K c (bF c t.val) 2 (by decide) ((cond4_iff c t).1 h4) (dev18_eq c t) (off52_eq c t) (k0_off51_eq c) (off49_eq c t) (k0_off50_eq c) ?_
      | refine psend_no m K c (bF c t.val) 2 (by decide) (by by_contra hc; exact h4 ((cond4_iff c t).2 hc)) ?_) <;>
    exact h _

end Parts

/-! ## The loop -/

def HB (c : Dev nD) (j : ℕ) : sProp 𝕄 := iprop(kPts m c (bOf c.val j) ∗ vPts m c (bOf c.val j))
/-- What trip `j` starts from and leaves of its four chunks. -/
def Todo (c : Dev nD) (j : ℕ) : sProp 𝕄 := bigSep (Finset.range 4) fun q => iprop(partAny c (kq (bF c j) q).val ∗ ToSend c (kq (bF c j) q))
def DoneT (c : Dev nD) (j : ℕ) : sProp 𝕄 := bigSep (Finset.range 4) fun q => Sent m c (kq (bF c j) q)

/-- The state before trip `t`. -/
def LoopSt (c : Dev nD) (t : ℕ) : sProp 𝕄 :=
  iprop(OW c (oRs c t + oAg c 1) ∗ QsP m c ∗ CurK c t ∗ CurV c t ∗ SlotK c (t + 1) ∗ SlotV c (t + 1)
    ∗ bigSep (Finset.Ico (t + 1) 4) (Load m c) ∗ bigSep (Finset.range t) (HB m c)
    ∗ bigSep (Finset.Ico t 4) (Todo c) ∗ bigSep (Finset.range t) (DoneT m c))

theorem oRs_step (c : Dev nD) {t : ℕ} (ht : t < 4) : oRs c t + oAg c 1 = oTrip c (bOf c.val t) 0 + (oRs c (t + 1) + oAg c 1) := by
  unfold oRs; rw [Finset.sum_eq_sum_Ico_succ_bot ht, add_assoc]

theorem kbGot_any (c : Dev nD) (b : Fin 4) (s : ℕ) : kbGot m c b s ⊢ kbAny c s := by
  unfold kbGot kbAny; iintro ⟨%f, -, H⟩; iexists f; iexact H
theorem vbGot_any (c : Dev nD) (b : Fin 4) (s : ℕ) : vbGot m c b s ⊢ vbAny c s := by
  unfold vbGot vbAny; iintro ⟨%f, -, H⟩; iexists f; iexact H

theorem todo_split (c : Dev nD) (t : ℕ) :
    Todo c t ⊢ (iprop(PartSt m c (bOf c.val t) 0 ∗ (bigSep (Finset.range 4) fun q => ToSend c (kq (bF c t) q))) : sProp 𝕄) := by
  unfold Todo
  rw [bigSep_sep']
  iintro ⟨Hp, HT⟩
  isplitl [Hp]
  · iapply (show _ ⊢ PartSt m c (bOf c.val t) 0 from part_join m c (bF c t)) $$ Hp
  · iexact HT

/-- What a trip passes by. -/
def Away (c : Dev nD) (t : ℕ) : sProp 𝕄 :=
  iprop(CurK c (t + 1) ∗ CurV c (t + 1) ∗ bigSep (Finset.Ico (t + 1 + 1) 4) (Load m c) ∗ bigSep (Finset.range t) (HB m c)
    ∗ bigSep (Finset.Ico (t + 1) 4) (Todo c) ∗ bigSep (Finset.range t) (DoneT m c))

theorem trip_end (c : Dev nD) (t : Trip) :
    iprop(Rec m K ∗ PSt m c (bF c t.val) (oRs c (t.val + 1) + oAg c 1) 4
        ∗ QsP m c ∗ kbGot m c (bF c t.val) (t.val % 2) ∗ vbGot m c (bF c t.val) (t.val % 2)
        ∗ (vPts m c (bOf c.val t.val) ∗ CellAt c (t.val + 2) 1) ∗ (kPts m c (bOf c.val t.val) ∗ CellAt c (t.val + 2) 0) ∗ Away m c t.val)
      ⊢ iprop(Rec m K ∗ LoopSt m c (t.val + 1)) := by
  unfold PSt LoopSt Away SlotK SlotV
  have h0 : oTrip c (bF c t.val).val 4 = 0 := by unfold oTrip; rw [Finset.Ico_self, Finset.sum_empty]
  have h2 : (t.val + 1 + 1) % 2 = t.val % 2 := by omega
  rw [h0, zero_add, h2, range_succ (HB m c), range_succ (DoneT m c), Finset.Ico_self, bigSep_empty]
  iintro ⟨HR, ⟨HO, -, HS⟩, Hq, Hk, Hv, ⟨Hvp, HcV⟩, ⟨Hkp, HcK⟩, HK, HV, HL, HH, HT, HD⟩
  isplitl [HR]; · iexact HR
  isplitl [HO]; · iexact HO
  isplitl [Hq]; · iexact Hq
  isplitl [HK]; · iexact HK
  isplitl [HV]; · iexact HV
  isplitl [Hk HcK]
  · isplitl [Hk]
    · iapply (kbGot_any m c (bF c t.val) (t.val % 2)) $$ Hk
    · iexact HcK
  isplitl [Hv HcV]
  · isplitl [Hv]
    · iapply (vbGot_any m c (bF c t.val) (t.val % 2)) $$ Hv
    · iexact HcV
  isplitl [HL]; · iexact HL
  isplitl [HH Hkp Hvp]
  · isplitl [Hkp Hvp]
    · unfold HB
      isplitl [Hkp]; · iexact Hkp
      iexact Hvp
    · iexact HH
  isplitl [HT]; · iexact HT
  isplitl [HS]
  · unfold DoneT; iexact HS
  · iexact HD

theorem trip_ok (c : Dev nD) (t : Trip) (v2 v19 v30 : BitVec 32) :
    iprop(Rec m K ∗ LoopSt m c t.val) ⊢ WP c (App k0_t1_body c v2 v19 v30 t ()) (fun _ => iprop(Rec m K ∗ LoopSt m c (t.val + 1))) := by
  have ht : t.val < 4 := trip_lt t
  unfold LoopSt
  rw [bigSep_Ico_succ_bot ht]
  iintro ⟨#HR, HO, Hq, HK, HV, HsK, HsV, HL, HH, ⟨HT, HTs⟩, HD⟩
  ihave HT := (todo_split m c t.val) $$ HT
  icases HT with ⟨Hp, HT⟩
  iapply (show iprop(Rec m K ∗ OW c (oRs c t.val + oAg c 1) ∗ CurK c t.val ∗ SlotK c (t.val + 1) ∗ SlotV c (t.val + 1) ∗ (bigSep (Finset.Ico (t.val + 1) 4) (Load m c))
      ∗ (CurV c t.val ∗ QsP m c ∗ PartSt m c (bOf c.val t.val) 0 ∗ (bigSep (Finset.range 4) fun q => ToSend c (kq (bF c t.val) q))
        ∗ bigSep (Finset.range t.val) (HB m c) ∗ bigSep (Finset.Ico (t.val + 1) 4) (Todo c) ∗ bigSep (Finset.range t.val) (DoneT m c))) ⊢ _ from by
    simp only [App, k0_t1_body]
    refine p2 m K c t (above_mid c t.val) fun w => ?_
    refine BIBase.Entails.trans (Q := iprop(Rec m K ∗ OW c (oRs c t.val + oAg c 1) ∗ CurV c t.val ∗ QsP m c ∗ kbGot m c (bF c t.val) (t.val % 2) ∗ PartSt m c (bOf c.val t.val) 0
      ∗ (Rec m K ∗ (bigSep (Finset.range 4) fun q => ToSend c (kq (bF c t.val) q)) ∗ (kPts m c (bOf c.val t.val) ∗ CellAt c (t.val + 2) 0) ∗ Away m c t.val))) ?_ ?_
    · unfold Away
      iintro ⟨#HR, HO, ⟨Hk, HkR⟩, HK', HV', HL, HV, Hq, Hp, HT, HH, HTs, HD⟩
      isplitr; · iexact HR
      isplitl [HO]; · iexact HO
      isplitl [HV]; · iexact HV
      isplitl [Hq]; · iexact Hq
      isplitl [Hk]; · iexact Hk
      isplitl [Hp]; · iexact Hp
      isplitr; · iexact HR
      isplitl [HT]; · iexact HT
      isplitl [HkR]; · iexact HkR
      isplitl [HK']; · iexact HK'
      isplitl [HV']; · iexact HV'
      isplitl [HL]; · iexact HL
      isplitl [HH]; · iexact HH
      isplitl [HTs]; · iexact HTs
      iexact HD
    obtain ⟨w1, w2⟩ := w
    refine p3 m K c t (above_mid c t.val) ?_
    refine p4 m c t ?_
    refine p5 m c t fun _ => ?_
    refine p6 m c t ?_
    refine p7 m c t ?_
    refine p8 m c t ?_
    refine p9 m c t fun _ => ?_
    refine p10 m c t fun _ => ?_
    refine p11 m c t ?_
    refine p12 m c t ?_
    refine p13 m c t fun _ _ => ?_
    refine p14 m c t ?_
    refine p15 m c t ?_
    refine p16 m c t ?_
    refine p17 m c t ?_
    refine p18 m c t fun _ => ?_
    refine p19 m c t ?_
    refine p20 m c t ?_
    refine BIBase.Entails.trans (Q := iprop(CSt m c t.val 62 ∗ Rec m K ∗ OW c (oTrip c (bOf c.val t.val) 0 + (oRs c (t.val + 1) + oAg c 1))
      ∗ (bigSep (Finset.range 4) fun q => ToSend c (kq (bF c t.val) q))
      ∗ ((vPts m c (bOf c.val t.val) ∗ CellAt c (t.val + 2) 1) ∗ (kPts m c (bOf c.val t.val) ∗ CellAt c (t.val + 2) 0) ∗ Away m c t.val))) ?_ ?_
    · rw [oRs_step c ht]
      iintro ⟨HC, ⟨HO, Hv⟩, #HR, HT, Hk, HA⟩
      isplitl [HC]; · iexact HC
      isplitr; · iexact HR
      isplitl [HO]; · iexact HO
      isplitl [HT]; · iexact HT
      isplitl [Hv]; · iexact Hv
      isplitl [Hk]; · iexact Hk
      iexact HA
    refine p21 m K c t fun w => ?_
    obtain ⟨w1, w2⟩ := w
    have hend : ∀ {G : sProp 𝕄}, (iprop(Rec m K ∗ LoopSt m c (t.val + 1)) ⊢ G) → iprop(Rec m K ∗ PSt m c (bF c t.val) (oRs c (t.val + 1) + oAg c 1) 4
        ∗ QsP m c ∗ kbGot m c (bF c t.val) (t.val % 2) ∗ vbGot m c (bF c t.val) (t.val % 2)
        ∗ (vPts m c (bOf c.val t.val) ∗ CellAt c (t.val + 2) 1) ∗ (kPts m c (bOf c.val t.val) ∗ CellAt c (t.val + 2) 0) ∗ Away m c t.val) ⊢ G := fun h => (trip_end m K c t).trans h
    have hfin : iprop(Rec m K ∗ LoopSt m c (t.val + 1)) ⊢ WP c (Prog.ret () : PT (F := F) Unit) (fun _ => iprop(Rec m K ∗ LoopSt m c (t.val + 1))) := by
      show _ ⊢ wp _ _ _ _ _
      rw [wp_ret]
      iintro H
      imodintro
      iexact H
    by_cases h5 : k0_cond5 c t = 1#1 <;>
      simp only [h5, dite_true, dite_false, Prog.lift, Prog.bind_op, Prog.bind_ret, Prog.pure_eq_ret] <;>
      (first
        | refine psend_yes m K c (bF c t.val) 3 (by decide) ((cond5_iff c t).1 h5) (dev19_eq c t) (off56_eq c t) (k0_off55_eq c) (off53_eq c t) (k0_off54_eq c) ?_
        | refine psend_no m K c (bF c t.val) 3 (by decide) (by by_contra hc; exact h5 ((cond5_iff c t).2 hc)) ?_) <;>
      exact hend hfin)
  isplitr; · iexact HR
  isplitl [HO]; · iexact HO
  isplitl [HK]; · iexact HK
  isplitl [HsK]; · iexact HsK
  isplitl [HsV]; · iexact HsV
  isplitl [HL]; · iexact HL
  isplitl [HV]; · iexact HV
  isplitl [Hq]; · iexact Hq
  isplitl [Hp]; · iexact Hp
  isplitl [HT]; · iexact HT
  isplitl [HH]; · iexact HH
  isplitl [HTs]; · iexact HTs
  iexact HD

theorem trips_ok (c : Dev nD) (v2 v19 v30 : BitVec 32) {α : Type} {kk : Unit → PT (F := F) α} {Q : α → sProp 𝕄} {R : sProp 𝕄}
    (h : iprop(Rec m K ∗ LoopSt m c 4 ∗ R) ⊢ WP c (kk ()) Q) :
    iprop(Rec m K ∗ LoopSt m c 0 ∗ R) ⊢ WP c (Scf.Loop.for k0_t1_loop k0_t1_ok () (App k0_t1_body c v2 v19 v30) >>= kk) Q := by
  have hl := Scf.wp_for_bind (frame (nD := nD)) (wpE (defs₀ (F := F)) 𝒱₀ (c : Thread nD τ) none) Set.univ _ _ _ k0_t1_ok () (App k0_t1_body c v2 v19 v30)
    (fun n (_ : Unit) => iprop(Rec m K ∗ LoopSt m c n)) (fun k acc => trip_ok m K c k v2 v19 v30) (kk := kk) (Q := Q)
  iintro ⟨HR, HL, HF⟩
  iapply hl $$ [HR HL]
  · isplitl [HR]; · iexact HR
    iexact HL
  iintro %acc ⟨HR, HL⟩
  iapply h
  isplitl [HR]; · iexact HR
  isplitl [HL]; · iexact HL
  iexact HF

end Cert.KProof

end
-- ==== Proof.Tail.lean ====
/-
# Sends and waits after the loop

The waits for the partial results, the sends of the finished chunk, the chunks received and stored, and the waits for what was sent.
-/
module

public import proofs.«01_k».proof.Proof.Loop

@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ UU ℕ

variable (m : (ℓ : Loc nD τ sig) → Buf (Elt F) ℓ) (K : Dev nD × CK → ℕ)

theorem ico_succ (Φ : ℕ → sProp 𝕄) {n : ℕ} (h : 1 ≤ n) : bigSep (Finset.Ico 1 (n + 1)) Φ = iprop(Φ n ∗ bigSep (Finset.Ico 1 n) Φ) :=
  bigSep_Ico_succ_top h Φ

/-! ## The waits for the partial results -/

def RsW (c : Dev nD) (o : ℕ) : sProp 𝕄 := iprop(atPos ER (kcell c (rsR (pl c o))) 0 ∅ 0 ∗ cred (tallyAt (kcell c (rsR (pl c o))) () N1))
def RsD (c : Dev nD) (o : ℕ) : sProp 𝕄 := iprop(atPos ER (kcell c (rsR (pl c o))) 1 ∅ 0 ∗ commGot m c (pl c o))

/-- The first `n` of the partial results received. -/
def DSt (c : Dev nD) (n : ℕ) : sProp 𝕄 :=
  iprop(OW c (oAg c 1) ∗ bigSep (Finset.Ico n 16) (RsW (F := F) c) ∗ bigSep (Finset.Ico 1 n) (RsD m c))

theorem step_rs {α : Type} (c : Dev nD) (n : ℕ) (h1 : 1 ≤ n) (h2 : n < 16) {so : Fin 1 → ℕ} {sinb} (hs : so = ![(c.val + n) % 16])
    {sp' : Space} {s' : Shape} {e' : EltTy} {src : Memref sig .tc sp' s' e'} {off : Fin 4 → ℕ} {inb} {hsrc hdst}
    {kk : PUnit → PT (F := F) α} {Q : α → sProp 𝕄} {R : sProp 𝕄}
    (h : iprop(Rec m K ∗ DSt m c (n + 1) ∗ R) ⊢ WP c (kk ⟨⟩) Q) :
    iprop(Rec m K ∗ DSt m c n ∗ R) ⊢ WP c (.op (.waitDma2 (s16 cc0_scratch8 so sinb) src (commSl off inb) hsrc hdst) kk) Q := by
  have hst := step_wait m K c (rsR (pl c n)) 0 2 (O := oAg c 1) (Nat.le_refl 2) (above_oAg c 1 (by decide))
    (duties_fam (live_ne (by decide) (pl_ne' h1 h2).symm)) (congrArg SemLoc.dma (rsR_sem sinb (pl c n) hs)) (src := src) (dst := commSl off inb) (hsrc := hsrc) (hdst := hdst)
    (credit_comm inb) (kk := kk) (Q := Q)
  unfold DSt RsW RsD at h ⊢
  rw [bigSep_Ico_succ_bot h2]
  rw [ico_succ _ h1] at h
  iintro ⟨#HR, ⟨HO, ⟨⟨Ha, Hc⟩, Hs⟩, Hd⟩, HF⟩
  iapply hst $$ [HO Ha Hc]
  · isplitr; · iexact HR
    isplitl [HO]; · iexact HO
    isplitl [Ha]; · iexact Ha
    iexact Hc
  iintro ⟨HO, Ha, -, Hp⟩
  ihave Hp := (Entails.of_eq (show payloadK m c (rsR (pl c n)) 0 0 = commGot m c (pl c n) from rfl)) $$ Hp
  iapply h
  isplitr; · iexact HR
  isplitr [HF]
  · isplitl [HO]; · iexact HO
    isplitl [Hs]; · iexact Hs
    isplitr [Hd]
    · isplitl [Ha]; · iexact Ha
      iexact Hp
    · iexact Hd
  · iexact HF

/-! ## The sends of the finished chunk -/

def AgT (c : Dev nD) (f : S16x64x1024.Idx → Elt F .bf16) (o : ℕ) : sProp 𝕄 :=
  iprop((comm2L c ↦[crow c.val]{ShareLeaves.leaf 4 fullShare (pl c o)} f) ∗ comm2Any (pl c o) c.val
    ∗ dutyTok ER (kcell c (agS (pl c o))) 0 0 ∗ dutyTok ER (kcell (pl c o) (agR c)) 0 0)
def AgC (c : Dev nD) (o : ℕ) : sProp 𝕄 := cred (tallyAt (kcell c (agS (pl c o))) () N2)

def ESt (c : Dev nD) (f : S16x64x1024.Idx → Elt F .bf16) (n : ℕ) : sProp 𝕄 :=
  iprop(OW c (oAg c n) ∗ bigSep (Finset.Ico n 16) (AgT c f) ∗ bigSep (Finset.Ico 1 n) (AgC (F := F) c))

theorem step_ag {α : Type} (c : Dev nD) {f : S16x64x1024.Idx → Elt F .bf16} (hf : C2Good m c f) (n : ℕ) (h1 : 1 ≤ n) (h2 : n < 16)
    {dn : ℕ} {hd} (hdn : dn = (c.val + n) % 16) {so so' : Fin 1 → ℕ} {sinb sinb'} (hs : so = ![(c.val + n) % 16]) (hs' : so' = ![c.val])
    {off off' : Fin 3 → ℕ} {inb inb'} (ho : off = ![c.val, 0, 0]) (ho' : off' = ![c.val, 0, 0]) {h0 h3 h4 h5}
    {kk : PUnit → PT (F := F) α} {Q : α → sProp 𝕄} {R : sProp 𝕄}
    (h : iprop(Rec m K ∗ ESt c f (n + 1) ∗ R) ⊢ WP c (kk ⟨⟩) Q) :
    iprop(Rec m K ∗ ESt c f n ∗ R)
      ⊢ WP c (.op (.enqueueDma (comm2Sl off inb) (.remote (Dev.tc (⟨dn, hd⟩ : Dev nD)) (comm2Sl off' inb') (.dma (s16 cc0_scratch9 so sinb)) h0) (.dma (s16 cc0_scratch10 so' sinb')) h3 h4 h5) kk) Q := by
  have hst := step_agsend m K c n h1 h2 (d := (⟨dn, hd⟩ : Dev nD)) hdn (inb := inb) (inb' := inb') ho ho'
    (congrArg SemLoc.dma (agS_sem sinb (pl c n) hs)) (congrArg SemLoc.dma (agR_sem sinb' c hs')) (h0 := h0) (h3 := h3) (h4 := h4) (h5 := h5)
    (oAg c (n + 1)) rfl hf (kk := kk) (Q := Q)
  have hOe : oAg c n = oAg c (n + 1) + tallyAt (kcell (pl c n) (agR c)) () N2 := by
    unfold oAg; rw [Finset.sum_eq_sum_Ico_succ_bot h2, add_comm]
  unfold ESt AgT AgC at h ⊢
  rw [hOe, bigSep_Ico_succ_bot h2]
  rw [ico_succ _ h1] at h
  iintro ⟨#HR, ⟨HO, ⟨⟨Hp, Hc, Ht, Ht'⟩, Hs⟩, Hd⟩, HF⟩
  iapply hst $$ [HO Hp Ht Ht' Hc]
  · isplitr; · iexact HR
    isplitl [Hp]; · iexact Hp
    isplitl [Hc]; · iexact Hc
    isplitl [HO]; · iexact HO
    isplitl [Ht]; · iexact Ht
    iexact Ht'
  iintro ⟨Hc, HO⟩
  iapply h
  isplitr; · iexact HR
  isplitr [HF]
  · isplitl [HO]; · iexact HO
    isplitl [Hs]; · iexact Hs
    isplitl [Hc]; · iexact Hc
    iexact Hd
  · iexact HF

/-! ## The finished chunks received and stored -/

abbrev outL (c : Dev nD) : Loc nD τ sig := (c : Thread nD τ).loc cc0_stg3_0

def AgW (c : Dev nD) (o : ℕ) : sProp 𝕄 := iprop(atPos ER (kcell c (agR (pl c o))) 0 ∅ 0 ∗ cred (tallyAt (kcell c (agR (pl c o))) () N2))
def AgD (c : Dev nD) (o : ℕ) : sProp 𝕄 := iprop(atPos ER (kcell c (agR (pl c o))) 1 ∅ 0 ∗ comm2Any (F := F) c (pl c o).val)
/-- The result with the chunks of the first `n` devices, from this one on, in place. -/
def OutSt (c : Dev nD) (n : ℕ) : sProp 𝕄 := iprop(∃ X, ⌜∀ o, o < n → OutAt m c (pl c o) X⌝ ∗ outL c ↦{fullShare} X)

def FSt (c : Dev nD) (n : ℕ) : sProp 𝕄 :=
  iprop(OW c 0 ∗ bigSep (Finset.Ico n 16) (AgW (F := F) c) ∗ bigSep (Finset.Ico 1 n) (AgD c) ∗ OutSt m c n)
/-- Between the wait for a chunk and its store. -/
def FMid (c : Dev nD) (n : ℕ) (f : S16x64x1024.Idx → Elt F .bf16) : sProp 𝕄 :=
  iprop((comm2L c ↦[crow (pl c n).val]{fullShare} f) ∗ atPos ER (kcell c (agR (pl c n))) 1 ∅ 0
    ∗ OW c 0 ∗ bigSep (Finset.Ico (n + 1) 16) (AgW (F := F) c) ∗ bigSep (Finset.Ico 1 n) (AgD c) ∗ OutSt m c n)

theorem step_agw {α : Type} (c : Dev nD) (n : ℕ) (h1 : 1 ≤ n) (h2 : n < 16) {so : Fin 1 → ℕ} {sinb} (hs : so = ![(c.val + n) % 16])
    {sp' : Space} {s' : Shape} {e' : EltTy} {src : Memref sig .tc sp' s' e'} {off : Fin 3 → ℕ} {inb} {hsrc hdst}
    {kk : PUnit → PT (F := F) α} {Q : α → sProp 𝕄} {R : sProp 𝕄}
    (h : ∀ f, C2Good m (pl c n) f → (iprop(Rec m K ∗ FMid m c n f ∗ R) ⊢ WP c (kk ⟨⟩) Q)) :
    iprop(Rec m K ∗ FSt m c n ∗ R) ⊢ WP c (.op (.waitDma2 (s16 cc0_scratch10 so sinb) src (comm2Sl off inb) hsrc hdst) kk) Q := by
  have hst := step_wait m K c (agR (pl c n)) 0 3 (O := 0) (Nat.le_refl 3) (above_zero 3)
    (duties_fam (live_ne (by decide) (pl_ne' h1 h2).symm)) (congrArg SemLoc.dma (agR_sem sinb (pl c n) hs)) (src := src) (dst := comm2Sl off inb) (hsrc := hsrc) (hdst := hdst)
    (credit_comm2 inb) (kk := kk) (Q := Q)
  unfold FSt
  rw [bigSep_Ico_succ_bot h2]
  iintro ⟨#HR, ⟨HO, ⟨Hw, Hs⟩, Hd, HX⟩, HF⟩
  unfold AgW at hst ⊢
  icases Hw with ⟨Ha, Hc⟩
  iapply hst $$ [HO Ha Hc]
  · isplitr; · iexact HR
    isplitl [HO]; · iexact HO
    isplitl [Ha]; · iexact Ha
    iexact Hc
  iintro ⟨HO, Ha, -, Hp⟩
  ihave Hp := (show payloadK m c (agR (pl c n)) 0 0 ⊢ (iprop(∃ f, ⌜C2Good m (pl c n) f⌝ ∗ comm2L c ↦[crow (pl c n).val]{fullShare} f) : sProp 𝕄) from
    Entails.of_eq rfl) $$ Hp
  icases Hp with ⟨%f, %hf, Hp⟩
  iapply (h f hf)
  unfold FMid AgW
  isplitr; · iexact HR
  isplitr [HF]
  · isplitl [Hp]; · iexact Hp
    isplitl [Ha]; · iexact Ha
    isplitl [HO]; · iexact HO
    isplitl [Hs]; · iexact Hs
    isplitl [Hd]; · iexact Hd
    iexact HX
  · iexact HF

theorem crow_sub {k : ℕ} {off : Fin 3 → ℕ} {inb} (ho : off = ![k, 0, 0]) :
    (comm2M.access (Rect.unit (s := S16x64x1024) off S1x64x1024.size inb)).set ⊆ crow k := by
  rw [View.set_slice_whole, crow_unit inb ho]

theorem read_row {o : Fin 16} {off : Fin 3 → ℕ} {inb} (ho : off = ![o.val, 0, 0]) (f : S16x64x1024.Idx → Elt F .bf16) :
    (comm2M.access (Rect.unit (s := S16x64x1024) off S1x64x1024.size inb)).read (Elt F) f = fun y => f (rowEmb o y) := by
  subst ho; rfl

/-- The load of a chunk received. -/
theorem ld_c2 {α : Type} (c : Dev nD) {n : ℕ} {f : S16x64x1024.Idx → Elt F .bf16} (hf : C2Good m (pl c n) f)
    {off : Fin 3 → ℕ} {inb hl} (ho : off = ![(c.val + n) % 16, 0, 0]) {k : (S1x64x1024.Idx → Elt F .bf16) → PT (F := F) α} {Q : α → sProp 𝕄} {R : sProp 𝕄}
    (h : ∀ cm, CommGood m (pl c n) cm → (iprop(Rec m K ∗ FMid m c n f ∗ R) ⊢ WP c (k (c2Of cm (wostg m (pl c n)))) Q)) :
    iprop(Rec m K ∗ FMid m c n f ∗ R) ⊢ WP c (.op (.load comm2M (Rect.unit (s := S16x64x1024) off S1x64x1024.size inb).toLoadRect hl) k) Q := by
  obtain ⟨cm, hcm, hv⟩ := hf
  unfold FMid at h ⊢
  iintro ⟨HR, ⟨Hp, HS⟩, HF⟩
  iapply (wp_load_rect 𝒱₀ (c : Thread nD τ) none Set.univ (m := comm2M) (r := Rect.unit (s := S16x64x1024) off S1x64x1024.size inb) (q := fullShare) (f := f) (crow_sub (k := (pl c n).val) ho)) $$ Hp
  rw [read_row (o := pl c n) ho f, show (fun y => f (rowEmb (pl c n) y)) = c2Of cm (wostg m (pl c n)) from funext hv]
  iintro Hp
  iapply (h cm hcm)
  isplitl [HR]; · iexact HR
  isplitr [HF]
  · isplitl [Hp]; · iexact Hp
    iexact HS
  · iexact HF

/-! ### The result's chunks -/

theorem outEmb_of {k : Fin 16} {off : Fin 3 → ℕ} {inb} (ho : off = ![k.val / 4, 64 * (k.val % 4), 0]) (y) :
    (Rect.unit (s := S4x256x1024) off S1x64x1024.size inb).emb y = outEmb k y := by
  subst ho; rfl

theorem out_mem {k : Fin 16} (y) : ((outEmb k y) (0 : Fin 3)).val = k.val / 4 ∧ ((outEmb k y) (1 : Fin 3)).val / 64 = k.val % 4 := by
  have h0 : (y (0 : Fin 3)).val < 1 := (y (0 : Fin 3)).isLt
  have h1 : (y (1 : Fin 3)).val < 64 := (y (1 : Fin 3)).isLt
  constructor
  · show k.val / 4 + 1 * (y (0 : Fin 3)).val = _; omega
  · show (64 * (k.val % 4) + 1 * (y (1 : Fin 3)).val) / 64 = _; omega

theorem out_inj {k k' : Fin 16} {y y'} (h : outEmb k y = outEmb k' y') : k = k' := by
  have h1 := out_mem (k := k) y
  have h2 := out_mem (k := k') y'
  rw [h] at h1
  apply Fin.ext; omega

theorem nx_inj {a b : Fin 16} (h : nx a = nx b) : a = b := by
  have h' : (a.val + 1) % 16 = (b.val + 1) % 16 := congrArg Fin.val h
  have := a.isLt; have := b.isLt
  apply Fin.ext; omega

/-- A store of a chunk leaves the others. -/
theorem store_out (c : Dev nD) {o : Fin 16} {off : Fin 3 → ℕ} {inb} (ho : off = ![(nx o).val / 4, 64 * ((nx o).val % 4), 0])
    {X : S4x256x1024.Idx → Elt F .f32} {w : S1x64x1024.Idx → Elt F .f32} (o' : Fin 16)
    (h : if o' = o then ∃ cm, CommGood m o cm ∧ w = outVal m c o cm else OutAt m c o' X) :
    OutAt m c o' ((oM.access (Rect.unit (s := S4x256x1024) off S1x64x1024.size inb)).write (Elt F) X w Finset.univ) := by
  by_cases he : o' = o
  · rw [if_pos he] at h; subst he
    obtain ⟨cm, hcm, rfl⟩ := h
    refine ⟨cm, hcm, fun y => ?_⟩
    rw [← outEmb_of (k := nx o') (inb := inb) ho y]
    exact View.write_emb_of_mem _ _ (Finset.mem_univ _)
  · rw [if_neg he] at h
    obtain ⟨cm, hcm, hv⟩ := h
    refine ⟨cm, hcm, fun y => ?_⟩
    rw [← hv y]
    refine View.write_of_not_mem _ _ _ fun hm => ?_
    have hm' : outEmb (nx o') y ∈ (oM.access (Rect.unit (s := S4x256x1024) off S1x64x1024.size inb)).set := hm
    obtain ⟨y', -, hy⟩ := Finset.mem_map.1 hm'
    exact he (nx_inj (out_inj ((outEmb_of (k := nx o) (inb := inb) ho y').symm.trans hy).symm))

theorem pl_inj {c : Fin 16} {a b : ℕ} (ha : a < 16) (hb : b < 16) (h : pl c a = pl c b) : a = b := by
  have h' : (c.val + a) % 16 = (c.val + b) % 16 := congrArg Fin.val h
  have := c.isLt
  omega

theorem nx_pl_val (c : Fin 16) (n : ℕ) : (nx (pl c n)).val = (c.val + n + 1) % 16 := by
  show ((c.val + n) % 16 + 1) % 16 = _; omega

/-- A load of the result, whose value the program drops. -/
theorem ld_out {α : Type} (c : Dev nD) {n : ℕ} {f : S16x64x1024.Idx → Elt F .bf16} {off : Fin 3 → ℕ} {inb hl}
    {k : (S1x64x1024.Idx → Elt F .f32) → PT (F := F) α} {Q : α → sProp 𝕄} {R : sProp 𝕄}
    (h : ∀ v, iprop(Rec m K ∗ FMid m c n f ∗ R) ⊢ WP c (k v) Q) :
    iprop(Rec m K ∗ FMid m c n f ∗ R) ⊢ WP c (.op (.load oM (Rect.unit (s := S4x256x1024) off S1x64x1024.size inb).toLoadRect hl) k) Q := by
  unfold FMid OutSt at h ⊢
  iintro ⟨HR, ⟨Hp, Ha, HO, Hw, Hd, ⟨%X, %hX, HX⟩⟩, HF⟩
  iapply (wp_load_rect 𝒱₀ (c : Thread nD τ) none Set.univ (m := oM) (r := Rect.unit (s := S4x256x1024) off S1x64x1024.size inb) (q := fullShare) (f := X) (Finset.subset_univ _)) $$ HX
  iintro HX
  iapply (h _)
  isplitl [HR]; · iexact HR
  isplitr [HF]
  · isplitl [Hp]; · iexact Hp
    isplitl [Ha]; · iexact Ha
    isplitl [HO]; · iexact HO
    isplitl [Hw]; · iexact Hw
    isplitl [Hd]; · iexact Hd
    iexists X; isplitr; · ipureintro; exact hX
    iexact HX
  · iexact HF

theorem st_out {α : Type} (c : Dev nD) (n : ℕ) (h1 : 1 ≤ n) (h2 : n < 16) {f : S16x64x1024.Idx → Elt F .bf16} {cm} (hcm : CommGood m (pl c n) cm)
    {off : Fin 3 → ℕ} {inb w hx hm} (ho : off = ![(c.val + n + 1) % 16 / 4, 64 * ((c.val + n + 1) % 16 % 4), 0])
    (hw : w = k0_pay119 (k0_pay118 (c2Of cm (wostg m (pl c n)))))
    {k : PUnit → PT (F := F) α} {Q : α → sProp 𝕄} {R : sProp 𝕄}
    (h : iprop(Rec m K ∗ FSt m c (n + 1) ∗ R) ⊢ WP c (k ⟨⟩) Q) :
    iprop(Rec m K ∗ FMid m c n f ∗ R) ⊢ WP c (.op (.store oM (Rect.unit (s := S4x256x1024) off S1x64x1024.size inb) w Finset.univ hx hm) k) Q := by
  rw [← nx_pl_val] at ho
  have hwv : w = outVal m c (pl c n) cm := by
    unfold outVal; rw [if_neg (pl_ne' h1 h2).symm]; exact hw
  unfold FMid
  unfold FSt at h
  rw [ico_succ _ h1] at h
  unfold AgD comm2Any at h
  unfold AgD comm2Any OutSt
  unfold OutSt at h
  iintro ⟨HR, ⟨Hp, Ha, HO, Hw, Hd, ⟨%X, %hX, HX⟩⟩, HF⟩
  iapply (wp_store 𝒱₀ (c : Thread nD τ) none Set.univ (m := oM) (r := Rect.unit (s := S4x256x1024) off S1x64x1024.size inb) (w := w) (Mk := Finset.univ) (hx := hx) (hm := hm) (f := X) (Finset.subset_univ _)) $$ HX
  iintro HX
  iapply h
  isplitl [HR]; · iexact HR
  isplitr [HF]
  · isplitl [HO]; · iexact HO
    isplitl [Hw]; · iexact Hw
    isplitr [HX]
    · isplitr [Hd]
      · isplitl [Ha]; · iexact Ha
        iexists f; iexact Hp
      · iexact Hd
    iexists _; isplitr
    rotate_left
    · iexact HX
    · ipureintro
      intro o ho'
      refine store_out m c ho (pl c o) ?_
      by_cases he : o = n
      · subst he; rw [if_pos rfl]; exact ⟨cm, hcm, hwv⟩
      · rw [if_neg (fun e => he (pl_inj (by omega) h2 e))]; exact hX o (by omega)
  · iexact HF

/-! ## The waits for what was sent -/

def SndW (c : Dev nD) (o : ℕ) : sProp 𝕄 := iprop(atPos ER (kcell c (rsS (pl (nx c) o))) 0 ∅ 0 ∗ cred (tallyAt (kcell c (rsS (pl (nx c) o))) () N1))
def SndD (c : Dev nD) (o : ℕ) : sProp 𝕄 := iprop(atPos ER (kcell c (rsS (pl (nx c) o))) 1 ∅ 0 ∗ partAny (F := F) c (pl (nx c) o).val)
def AsW (c : Dev nD) (o : ℕ) : sProp 𝕄 := iprop(atPos ER (kcell c (agS (pl c o))) 0 ∅ 0 ∗ cred (tallyAt (kcell c (agS (pl c o))) () N2))
def AsD (c : Dev nD) (o : ℕ) : sProp 𝕄 := iprop(atPos ER (kcell c (agS (pl c o))) 1 ∅ 0 ∗ comm2Leaf (F := F) c c.val (pl c o))

def GSt (c : Dev nD) (n n' : ℕ) : sProp 𝕄 :=
  iprop(OW c 0 ∗ bigSep (Finset.Ico n 16) (SndW (F := F) c) ∗ bigSep (Finset.Ico 1 n) (SndD (F := F) c)
    ∗ bigSep (Finset.Ico n' 16) (AsW (F := F) c) ∗ bigSep (Finset.Ico 1 n') (AsD (F := F) c))

theorem step_snd {α : Type} (c : Dev nD) (n n' : ℕ) (h1 : 1 ≤ n) (h2 : n < 16) {so : Fin 1 → ℕ} {sinb} (hs : so = ![(c.val + 1 + n) % 16])
    {sp' : Space} {s' : Shape} {e' : EltTy} {src : Memref sig .tc sp' s' e'} {off : Fin 4 → ℕ} {inb} {hsrc hdst}
    {kk : PUnit → PT (F := F) α} {Q : α → sProp 𝕄} {R : sProp 𝕄}
    (h : iprop(Rec m K ∗ GSt c (n + 1) n' ∗ R) ⊢ WP c (kk ⟨⟩) Q) :
    iprop(Rec m K ∗ GSt c n n' ∗ R) ⊢ WP c (.op (.waitDma2 (s16 cc0_scratch7 so sinb) src (partSl off inb) hsrc hdst) kk) Q := by
  have hst := step_wait m K c (rsS (pl (nx c) n)) 0 0 (O := 0) (Nat.le_refl 0) (above_zero 0)
    (duties_fam (live_rsS (pl_ne' h1 h2).symm)) (congrArg SemLoc.dma (rsS_sem sinb (pl (nx c) n) (hs.trans (by
      rw [show (pl (nx c) n).val = (c.val + 1 + n) % 16 from by show ((c.val + 1) % 16 + n) % 16 = _; omega]))))
    (src := src) (dst := partSl off inb) (hsrc := hsrc) (hdst := hdst)
    (credit_part inb) (kk := kk) (Q := Q)
  unfold GSt SndW SndD at h ⊢
  rw [bigSep_Ico_succ_bot h2]
  rw [ico_succ _ h1] at h
  iintro ⟨#HR, ⟨HO, ⟨⟨Ha, Hc⟩, Hs⟩, Hd, HA⟩, HF⟩
  iapply hst $$ [HO Ha Hc]
  · isplitr; · iexact HR
    isplitl [HO]; · iexact HO
    isplitl [Ha]; · iexact Ha
    iexact Hc
  iintro ⟨HO, Ha, -, Hp⟩
  ihave Hp := (Entails.of_eq (show payloadK m c (rsS (pl (nx c) n)) 0 0 = partAny (F := F) c (pl (nx c) n).val from rfl)) $$ Hp
  iapply h
  isplitr; · iexact HR
  isplitr [HF]
  · isplitl [HO]; · iexact HO
    isplitl [Hs]; · iexact Hs
    isplitr [HA]
    · isplitr [Hd]
      · isplitl [Ha]; · iexact Ha
        iexact Hp
      · iexact Hd
    · iexact HA
  · iexact HF

theorem step_asw {α : Type} (c : Dev nD) (n n' : ℕ) (h1 : 1 ≤ n') (h2 : n' < 16) {so : Fin 1 → ℕ} {sinb} (hs : so = ![(c.val + n') % 16])
    {sp' : Space} {s' : Shape} {e' : EltTy} {src : Memref sig .tc sp' s' e'} {off : Fin 3 → ℕ} {inb} {hsrc hdst}
    {kk : PUnit → PT (F := F) α} {Q : α → sProp 𝕄} {R : sProp 𝕄}
    (h : iprop(Rec m K ∗ GSt c n (n' + 1) ∗ R) ⊢ WP c (kk ⟨⟩) Q) :
    iprop(Rec m K ∗ GSt c n n' ∗ R) ⊢ WP c (.op (.waitDma2 (s16 cc0_scratch9 so sinb) src (comm2Sl off inb) hsrc hdst) kk) Q := by
  have hst := step_wait m K c (agS (pl c n')) 0 0 (O := 0) (Nat.le_refl 0) (above_zero 0)
    (duties_fam (live_ne (by decide) (pl_ne' h1 h2).symm)) (congrArg SemLoc.dma (agS_sem sinb (pl c n') hs))
    (src := src) (dst := comm2Sl off inb) (hsrc := hsrc) (hdst := hdst)
    (credit_comm2 inb) (kk := kk) (Q := Q)
  unfold GSt AsW AsD at h ⊢
  rw [bigSep_Ico_succ_bot h2]
  rw [ico_succ _ h1] at h
  iintro ⟨#HR, ⟨HO, HS, HD, ⟨⟨Ha, Hc⟩, Hs⟩, Hd⟩, HF⟩
  iapply hst $$ [HO Ha Hc]
  · isplitr; · iexact HR
    isplitl [HO]; · iexact HO
    isplitl [Ha]; · iexact Ha
    iexact Hc
  iintro ⟨HO, Ha, -, Hp⟩
  ihave Hp := (Entails.of_eq (show payloadK m c (agS (pl c n')) 0 0 = comm2Leaf (F := F) c c.val (pl c n') from rfl)) $$ Hp
  iapply h
  isplitr; · iexact HR
  isplitr [HF]
  · isplitl [HO]; · iexact HO
    isplitl [HS]; · iexact HS
    isplitl [HD]; · iexact HD
    isplitl [Hs]; · iexact Hs
    isplitr [Hd]
    · isplitl [Ha]; · iexact Ha
      iexact Hp
    · iexact Hd
  · iexact HF

end Cert.KProof

end
-- ==== Proof.Mid.lean ====
/-
# Finishing a chunk

The chunk that stays, the receive buffer filled, the quotient, and the finished chunk stored.
-/
module

public import proofs.«01_k».proof.Proof.Tail
public import Idealize.ShloMosaic.Lib.Pipeline.Value

@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ UU ℕ

variable (m : (ℓ : Loc nD τ sig) → Buf (Elt F) ℓ) (K : Dev nD × CK → ℕ)

theorem pl_zero (c : Fin 16) : pl c 0 = c := Fin.ext (by show (c.val + 0) % 16 = c.val; have := c.isLt; omega)

theorem chunk_sub_part {k : ℕ} {off : Fin 4 → ℕ} {inb} (ho : off = ![k, 0, 0, 0]) :
    (partM.access (Rect.unit (s := S16x9x64x128) off S1x9x64x128.size inb)).set ⊆ chunk k := by
  rw [View.set_slice_whole, chunk_unit inb ho]
theorem chunk_sub_comm {k : ℕ} {off : Fin 4 → ℕ} {inb} (ho : off = ![k, 0, 0, 0]) :
    (commM.access (Rect.unit (s := S16x9x64x128) off S1x9x64x128.size inb)).set ⊆ chunk k := by
  rw [View.set_slice_whole, chunk_unit inb ho]

/-! ## The chunk that stays -/

/-- The load of the chunk this device finishes. -/
theorem ld_part {α : Type} (c : Dev nD) {j : ℕ} {f : S16x9x64x128.Idx → Elt F .bf16} {off : Fin 4 → ℕ} {inb hl} (ho : off = ![j, 0, 0, 0])
    {k : (S1x9x64x128.Idx → Elt F .bf16) → PT (F := F) α} {Q : α → sProp 𝕄} {R : sProp 𝕄}
    (h : iprop((partL c ↦[chunk j]{fullShare} f) ∗ R) ⊢ WP c (k (fun y => f ((Rect.unit (s := S16x9x64x128) off S1x9x64x128.size inb).emb y))) Q) :
    iprop((partL c ↦[chunk j]{fullShare} f) ∗ R) ⊢ WP c (.op (.load partM (Rect.unit (s := S16x9x64x128) off S1x9x64x128.size inb).toLoadRect hl) k) Q := by
  iintro ⟨Hp, HF⟩
  iapply (wp_load_rect 𝒱₀ (c : Thread nD τ) none Set.univ (m := partM) (r := Rect.unit (s := S16x9x64x128) off S1x9x64x128.size inb) (q := fullShare) (f := f) (chunk_sub_part ho)) $$ Hp
  iintro Hp
  iapply h
  isplitl [Hp]
  · iexact Hp
  · iexact HF

/-- A load of this device's own slot, whose value the program drops. -/
theorem ld_own {α : Type} (c : Dev nD) {off : Fin 4 → ℕ} {inb hl} (ho : off = ![c.val, 0, 0, 0])
    {k : (S1x9x64x128.Idx → Elt F .bf16) → PT (F := F) α} {Q : α → sProp 𝕄} {R : sProp 𝕄}
    (h : ∀ v, iprop(commAny c c.val ∗ R) ⊢ WP c (k v) Q) :
    iprop(commAny c c.val ∗ R) ⊢ WP c (.op (.load commM (Rect.unit (s := S16x9x64x128) off S1x9x64x128.size inb).toLoadRect hl) k) Q := by
  unfold commAny at h ⊢
  iintro ⟨⟨%f, Hp⟩, HF⟩
  iapply (wp_load_rect 𝒱₀ (c : Thread nD τ) none Set.univ (m := commM) (r := Rect.unit (s := S16x9x64x128) off S1x9x64x128.size inb) (q := fullShare) (f := f) (chunk_sub_comm ho)) $$ Hp
  iintro Hp
  iapply (h _)
  isplitl [Hp]
  · iexists f; iexact Hp
  · iexact HF

theorem pay_id (v : Vec F S1x9x64x128 .bf16) : k0_pay103 (k0_pay102 v) = v := shapeCast_shapeCast v _ _

/-- The store of the chunk that stays into this device's own slot. -/
theorem st_own {α : Type} (c : Dev nD) {f : S16x9x64x128.Idx → Elt F .bf16} (hf : PartGood m c (nx c).val f)
    {off off' : Fin 4 → ℕ} {inb inb'} (ho : off = ![(nx c).val, 0, 0, 0]) (ho' : off' = ![c.val, 0, 0, 0]) {hx hm}
    {k : PUnit → PT (F := F) α} {Q : α → sProp 𝕄} {R : sProp 𝕄}
    (h : iprop(commGot m c c ∗ R) ⊢ WP c (k ⟨⟩) Q) :
    iprop(commAny c c.val ∗ R) ⊢ WP c (.op (.store commM (Rect.unit (s := S16x9x64x128) off' S1x9x64x128.size inb')
      (k0_pay103 (k0_pay102 (fun y => f ((Rect.unit (s := S16x9x64x128) off S1x9x64x128.size inb).emb y)))) Finset.univ hx hm) k) Q := by
  rw [pay_id]
  unfold commAny commGot at *
  iintro ⟨⟨%fd, Hp⟩, HF⟩
  iapply (wp_store 𝒱₀ (c : Thread nD τ) none Set.univ (m := commM) (r := Rect.unit (s := S16x9x64x128) off' S1x9x64x128.size inb')
    (w := fun y => f ((Rect.unit (s := S16x9x64x128) off S1x9x64x128.size inb).emb y)) (Mk := Finset.univ) (hx := hx) (hm := hm) (f := fd) (chunk_sub_comm ho')) $$ Hp
  iintro Hp
  iapply h
  isplitl [Hp]
  · iexists _; isplitr
    rotate_left
    · iexact Hp
    · ipureintro
      intro i hi hr
      have hi' : i ∈ (commM.access (Rect.unit (s := S16x9x64x128) off' S1x9x64x128.size inb')).set := by
        rw [View.set_slice_whole, chunk_unit inb' ho']; exact hi
      obtain ⟨y, -, hy⟩ := Finset.mem_map.1 hi'
      have hw : (commM.access (Rect.unit (s := S16x9x64x128) off' S1x9x64x128.size inb')).write (Elt F) fd (fun y => f ((Rect.unit (s := S16x9x64x128) off S1x9x64x128.size inb).emb y)) Finset.univ i
          = f ((Rect.unit (s := S16x9x64x128) off S1x9x64x128.size inb).emb y) := by
        rw [← hy]; exact View.write_emb_of_mem _ _ (Finset.mem_univ _)
      rw [hw]
      have he : (Rect.unit (s := S16x9x64x128) off S1x9x64x128.size inb).emb y = Function.update i (0 : Fin 4) (nx c) := by
        rw [← hy]; subst ho ho'
        exact unit_emb_update (S := S16x9x64x128) (0 : Fin 4) inb' inb rfl (ax4.2 ⟨rfl, rfl, rfl⟩) (nx c) rfl y
      rw [he]
      exact hf _ (upd_mem (k := nx c) (o := nx c) hr).1 (upd_mem (k := nx c) (o := nx c) hr).2
  · iexact HF

/-- All sixteen slots filled. -/
theorem comm_join (c : Dev nD) : iprop(commGot m c c ∗ bigSep (Finset.Ico 1 16) (fun o => commGot m c (pl c o)))
    ⊢ (iprop(∃ g, ⌜CommGood m c g⌝ ∗ commL c ↦{fullShare} g) : sProp 𝕄) := by
  have h0 : iprop(commGot m c c ∗ bigSep (Finset.Ico 1 16) (fun o => commGot m c (pl c o))) = bigSep (Finset.Ico 0 16) (fun o => commGot m c (pl c o)) := by
    rw [bigSep_Ico_succ_bot (show 0 < 16 by decide), pl_zero]
  rw [h0]
  have h1 : (bigSep (Finset.Ico 0 16) fun o => commGot m c (pl c o)) ⊢ (iprop(∃ fs : ℕ → Buf (Elt F) (commL c), bigSep (Finset.Ico 0 16) fun o => iprop(⌜CommAt m c (pl c o) (fs o)⌝ ∗ commL c ↦[chunk (pl c o).val]{fullShare} fs o)) : sProp 𝕄) :=
    bigSep_exists_pi (Y := fun _ : ℕ => Buf (Elt F) (commL c)) (Finset.Ico 0 16) (fun o y => iprop(⌜CommAt m c (pl c o) y⌝ ∗ commL c ↦[chunk (pl c o).val]{fullShare} y))
  refine h1.trans ?_
  have hdisj : ∀ t ∈ Finset.Ico 0 16, ∀ t' ∈ Finset.Ico 0 16, t ≠ t' → Disjoint (chunk (pl c t).val) (chunk (pl c t').val) := fun t ht t' ht' hne =>
    slab_disjoint _ _ fun e => hne (pl_inj (Finset.mem_Ico.1 ht).2 (Finset.mem_Ico.1 ht').2 (Fin.ext e))
  have hcov : (Finset.Ico 0 16).biUnion (fun o => chunk (pl c o).val) = Finset.univ := by
    ext i; simp only [Finset.mem_biUnion, Finset.mem_univ, iff_true]
    have hi : (i (0 : Fin 4)).val < 16 := (i (0 : Fin 4)).isLt
    have hc : c.val < 16 := c.isLt
    refine ⟨((i (0 : Fin 4)).val + 16 - c.val) % 16, Finset.mem_Ico.2 ⟨Nat.zero_le _, Nat.mod_lt _ (by decide)⟩, mem_slab.2 ?_⟩
    show (i (0 : Fin 4)).val = (c.val + ((i (0 : Fin 4)).val + 16 - c.val) % 16) % 16
    omega
  iintro ⟨%fs, H⟩
  ihave H := (bigSep_pure_sep (Finset.Ico 0 16) (fun o => CommAt m c (pl c o) (fs o)) (fun o => commL c ↦[chunk (pl c o).val]{fullShare} fs o)) $$ H
  icases H with ⟨%hg, H⟩
  ihave H := (pointsTo_biUnion_join (Finset.Ico 0 16) (fun o => chunk (pl c o).val) fs (fs 0) hdisj) $$ H
  icases H with ⟨%g, %hv, H⟩
  rw [hcov]
  iexists g
  isplitr
  · ipureintro
    intro o i hi hr
    have ho := o.isLt
    have hc : c.val < 16 := c.isLt
    have hm : (o.val + 16 - c.val) % 16 ∈ Finset.Ico 0 16 := Finset.mem_Ico.2 ⟨Nat.zero_le _, Nat.mod_lt _ (by decide)⟩
    have he : pl c ((o.val + 16 - c.val) % 16) = o := Fin.ext (by show (c.val + (o.val + 16 - c.val) % 16) % 16 = o.val; omega)
    have h1 := hv _ hm i (by rw [he]; exact hi)
    have h2 := hg _ hm
    rw [he] at h2
    rw [h1]; exact h2 i hi hr
  · iexact H

/-! ## The quotient, column block by column block -/

abbrev nckL (c : Dev nD) : Loc nD τ sig := (c : Thread nD τ).loc cc0_scratch2
abbrev woL (c : Dev nD) : Loc nD τ sig := (c : Thread nD τ).loc cc0_stg2_0

def NckSt (c : Dev nD) (cm : Vec F S16x9x64x128 .bf16) (n : ℕ) : sProp 𝕄 :=
  iprop(∃ f : S64x1024.Idx → Elt F .f32, ⌜∀ j, (j (1 : Fin 2)).val / 128 < n → f j = nckOf cm j⌝ ∗ nckL c ↦{fullShare} f)

theorem ld_comm {α : Type} (c : Dev nD) {cm : S16x9x64x128.Idx → Elt F .bf16} {off : Fin 4 → ℕ} {inb hl} (ho : off = fun _ => 0)
    {k : (S16x9x64x128.Idx → Elt F .bf16) → PT (F := F) α} {Q : α → sProp 𝕄} {R : sProp 𝕄}
    (h : iprop((commL c ↦{fullShare} cm) ∗ R) ⊢ WP c (k cm) Q) :
    iprop((commL c ↦{fullShare} cm) ∗ R) ⊢ WP c (.op (.load commM (Rect.unit (s := S16x9x64x128) off S16x9x64x128.size inb).toLoadRect hl) k) Q := by
  iintro ⟨Hp, HF⟩
  iapply (wp_load_rect 𝒱₀ (c : Thread nD τ) none Set.univ (m := commM) (r := Rect.unit (s := S16x9x64x128) off S16x9x64x128.size inb) (q := fullShare) (f := cm) (Finset.subset_univ _)) $$ Hp
  rw [show (commM.access (Rect.unit (s := S16x9x64x128) off S16x9x64x128.size inb)).read (Elt F) cm = cm from
    Memref.read_access_unit_zero (Elt F) cc0_scratch3 ho inb cm]
  iintro Hp
  iapply h
  isplitl [Hp]
  · iexact Hp
  · iexact HF

theorem ld_nck {α : Type} (c : Dev nD) {cm : Vec F S16x9x64x128 .bf16} {n : ℕ} {off : Fin 2 → ℕ} {inb hl}
    {k : (S64x128.Idx → Elt F .f32) → PT (F := F) α} {Q : α → sProp 𝕄} {R : sProp 𝕄}
    (h : ∀ v, iprop(NckSt c cm n ∗ R) ⊢ WP c (k v) Q) :
    iprop(NckSt c cm n ∗ R) ⊢ WP c (.op (.load nckM (Rect.unit (s := S64x1024) off S64x128.size inb).toLoadRect hl) k) Q := by
  unfold NckSt at h ⊢
  iintro ⟨⟨%f, %hf, Hp⟩, HF⟩
  iapply (wp_load_rect 𝒱₀ (c : Thread nD τ) none Set.univ (m := nckM) (r := Rect.unit (s := S64x1024) off S64x128.size inb) (q := fullShare) (f := f) (Finset.subset_univ _)) $$ Hp
  iintro Hp
  iapply (h _)
  isplitl [Hp]
  · iexists f; isplitr; · ipureintro; exact hf
    iexact Hp
  · iexact HF

theorem st_nck {α : Type} (c : Dev nD) {cm : Vec F S16x9x64x128 .bf16} (h : Fin 8) {off : Fin 2 → ℕ} {inb w hx hm}
    (ho : off = ![0, 128 * h.val]) (hw : w = colTile h (k0_pay104 cm))
    {k : PUnit → PT (F := F) α} {Q : α → sProp 𝕄} {R : sProp 𝕄}
    (hk : iprop(NckSt c cm (h.val + 1) ∗ R) ⊢ WP c (k ⟨⟩) Q) :
    iprop(NckSt c cm h.val ∗ R) ⊢ WP c (.op (.store nckM (Rect.unit (s := S64x1024) off S64x128.size inb) w Finset.univ hx hm) k) Q := by
  unfold NckSt at hk ⊢
  iintro ⟨⟨%f, %hf, Hp⟩, HF⟩
  iapply (wp_store 𝒱₀ (c : Thread nD τ) none Set.univ (m := nckM) (r := Rect.unit (s := S64x1024) off S64x128.size inb) (w := w) (Mk := Finset.univ) (hx := hx) (hm := hm) (f := f) (Finset.subset_univ _)) $$ Hp
  iintro Hp
  iapply hk
  isplitl [Hp]
  · iexists _; isplitr
    rotate_left
    · iexact Hp
    · ipureintro
      intro j hj
      have h8 := h.isLt
      have hj1 : (j (1 : Fin 2)).val < 1024 := (j (1 : Fin 2)).isLt
      have hj0 : (j (0 : Fin 2)).val < 64 := (j (0 : Fin 2)).isLt
      by_cases hm' : j ∈ (nckM.access (Rect.unit (s := S64x1024) off S64x128.size inb)).set
      · obtain ⟨y, -, hy⟩ := Finset.mem_map.1 hm'
        have hv : (nckM.access (Rect.unit (s := S64x1024) off S64x128.size inb)).write (Elt F) f w Finset.univ j = w y := by
          rw [← hy]; exact View.write_emb_of_mem _ _ (Finset.mem_univ _)
        refine hv.trans ?_
        have hy1 : (y (1 : Fin 2)).val < 128 := (y (1 : Fin 2)).isLt
        have e1 : (j (1 : Fin 2)).val = 128 * h.val + (y (1 : Fin 2)).val := by
          rw [← hy]; subst ho
          show 128 * h.val + 1 * (y (1 : Fin 2)).val = _; omega
        have e0 : (j (0 : Fin 2)).val = (y (0 : Fin 2)).val := by
          rw [← hy]; subst ho
          show 0 + 1 * (y (0 : Fin 2)).val = _; omega
        unfold nckOf
        rw [show hd ((j (1 : Fin 2)).val / 128) = h from Fin.ext (by show (j (1 : Fin 2)).val / 128 % 8 = h.val; omega),
          show colIdx j = y from by
            funext a; apply Fin.ext
            match a with
            | 0 => exact e0
            | 1 => show (j (1 : Fin 2)).val % 128 = _; omega, hw]
      · refine (View.write_of_not_mem _ _ _ hm').trans (hf j ?_)
        have hnot : ¬((j (1 : Fin 2)).val / 128 = h.val) := fun e => hm' (by
          rw [View.set_slice_whole, Rect.mem_set_unit]
          subst ho
          intro a
          fin_cases a
          · show 0 ≤ (j (0 : Fin 2)).val ∧ (j (0 : Fin 2)).val < 0 + 64; omega
          · show 128 * h.val ≤ (j (1 : Fin 2)).val ∧ (j (1 : Fin 2)).val < 128 * h.val + 128; omega)
        omega
  · iexact HF

theorem ld_nck_all {α : Type} (c : Dev nD) {cm : Vec F S16x9x64x128 .bf16} {off : Fin 2 → ℕ} {inb hl} (ho : off = fun _ => 0)
    {k : (S64x1024.Idx → Elt F .f32) → PT (F := F) α} {Q : α → sProp 𝕄} {R : sProp 𝕄}
    (h : iprop(NckSt c cm 8 ∗ R) ⊢ WP c (k (nckOf cm)) Q) :
    iprop(NckSt c cm 8 ∗ R) ⊢ WP c (.op (.load nckM (Rect.unit (s := S64x1024) off S64x1024.size inb).toLoadRect hl) k) Q := by
  unfold NckSt at h ⊢
  iintro ⟨⟨%f, %hf, Hp⟩, HF⟩
  iapply (wp_load_rect 𝒱₀ (c : Thread nD τ) none Set.univ (m := nckM) (r := Rect.unit (s := S64x1024) off S64x1024.size inb) (q := fullShare) (f := f) (Finset.subset_univ _)) $$ Hp
  have hfe : f = nckOf cm := funext fun j => hf j (by have : (j (1 : Fin 2)).val < 1024 := (j (1 : Fin 2)).isLt; omega)
  rw [show (nckM.access (Rect.unit (s := S64x1024) off S64x1024.size inb)).read (Elt F) f = nckOf cm from
    (Memref.read_access_unit_zero (Elt F) cc0_scratch2 ho inb f).trans hfe]
  iintro Hp
  iapply h
  isplitl [Hp]
  · iexists f; isplitr; · ipureintro; exact hf
    iexact Hp
  · iexact HF

theorem ld_wo {α : Type} (c : Dev nD) {off : Fin 2 → ℕ} {inb hl} (ho : off = fun _ => 0)
    {k : (S1024x1024.Idx → Elt F .f32) → PT (F := F) α} {Q : α → sProp 𝕄} {R : sProp 𝕄}
    (h : iprop((woL c ↦{fullShare} wostg m c) ∗ R) ⊢ WP c (k (wostg m c)) Q) :
    iprop((woL c ↦{fullShare} wostg m c) ∗ R) ⊢ WP c (.op (.load woM (Rect.unit (s := S1024x1024) off S1024x1024.size inb).toLoadRect hl) k) Q := by
  iintro ⟨Hp, HF⟩
  iapply (wp_load_rect 𝒱₀ (c : Thread nD τ) none Set.univ (m := woM) (r := Rect.unit (s := S1024x1024) off S1024x1024.size inb) (q := fullShare) (f := wostg m c) (Finset.subset_univ _)) $$ Hp
  rw [show (woM.access (Rect.unit (s := S1024x1024) off S1024x1024.size inb)).read (Elt F) (wostg m c) = wostg m c from
    Memref.read_access_unit_zero (Elt F) cc0_stg2_0 ho inb (wostg m c)]
  iintro Hp
  iapply h
  isplitl [Hp]
  · iexact Hp
  · iexact HF

/-! ## The finished chunk stored -/

theorem ld_row {α : Type} (c : Dev nD) {off : Fin 3 → ℕ} {inb hl} (ho : off = ![c.val, 0, 0])
    {k : (S1x64x1024.Idx → Elt F .bf16) → PT (F := F) α} {Q : α → sProp 𝕄} {R : sProp 𝕄}
    (h : ∀ v, iprop(comm2Any c c.val ∗ R) ⊢ WP c (k v) Q) :
    iprop(comm2Any c c.val ∗ R) ⊢ WP c (.op (.load comm2M (Rect.unit (s := S16x64x1024) off S1x64x1024.size inb).toLoadRect hl) k) Q := by
  unfold comm2Any at h ⊢
  iintro ⟨⟨%f, Hp⟩, HF⟩
  iapply (wp_load_rect 𝒱₀ (c : Thread nD τ) none Set.univ (m := comm2M) (r := Rect.unit (s := S16x64x1024) off S1x64x1024.size inb) (q := fullShare) (f := f) (crow_sub ho)) $$ Hp
  iintro Hp
  iapply (h _)
  isplitl [Hp]
  · iexists f; iexact Hp
  · iexact HF

theorem st_row {α : Type} (c : Dev nD) {cm} (hcm : CommGood m c cm) {off : Fin 3 → ℕ} {inb hx hm} (ho : off = ![c.val, 0, 0])
    {k : PUnit → PT (F := F) α} {Q : α → sProp 𝕄} {R : sProp 𝕄}
    (h : iprop((∃ f, ⌜C2Good m c f⌝ ∗ comm2L c ↦[crow c.val]{fullShare} f) ∗ R) ⊢ WP c (k ⟨⟩) Q) :
    iprop(comm2Any c c.val ∗ R) ⊢ WP c (.op (.store comm2M (Rect.unit (s := S16x64x1024) off S1x64x1024.size inb) (k0_pay116 (nckOf cm) (wostg m c)) Finset.univ hx hm) k) Q := by
  unfold comm2Any
  iintro ⟨⟨%f, Hp⟩, HF⟩
  iapply (wp_store 𝒱₀ (c : Thread nD τ) none Set.univ (m := comm2M) (r := Rect.unit (s := S16x64x1024) off S1x64x1024.size inb) (w := k0_pay116 (nckOf cm) (wostg m c)) (Mk := Finset.univ) (hx := hx) (hm := hm) (f := f) (crow_sub ho)) $$ Hp
  iintro Hp
  iapply h
  isplitl [Hp]
  · iexists _; isplitr
    rotate_left
    · iexact Hp
    · ipureintro
      refine ⟨cm, hcm, fun y => ?_⟩
      subst ho
      exact View.write_emb_of_mem (v := comm2M.access (Rect.unit (s := S16x64x1024) ![c.val, 0, 0] S1x64x1024.size inb)) f _ (Finset.mem_univ y)
  · iexact HF

theorem ld_out0 {α : Type} (c : Dev nD) {off : Fin 3 → ℕ} {inb hl}
    {k : (S1x64x1024.Idx → Elt F .f32) → PT (F := F) α} {Q : α → sProp 𝕄} {R : sProp 𝕄}
    (h : ∀ v, iprop((∃ X, outL c ↦{fullShare} X) ∗ R) ⊢ WP c (k v) Q) :
    iprop((∃ X, outL c ↦{fullShare} X) ∗ R) ⊢ WP c (.op (.load oM (Rect.unit (s := S4x256x1024) off S1x64x1024.size inb).toLoadRect hl) k) Q := by
  iintro ⟨⟨%X, HX⟩, HF⟩
  iapply (wp_load_rect 𝒱₀ (c : Thread nD τ) none Set.univ (m := oM) (r := Rect.unit (s := S4x256x1024) off S1x64x1024.size inb) (q := fullShare) (f := X) (Finset.subset_univ _)) $$ HX
  iintro HX
  iapply (h _)
  isplitl [HX]
  · iexists X; iexact HX
  · iexact HF

theorem st_out0 {α : Type} (c : Dev nD) {cm} (hcm : CommGood m c cm) {off : Fin 3 → ℕ} {inb hx hm}
    (ho : off = ![(c.val + 1) % 16 / 4, 64 * ((c.val + 1) % 16 % 4), 0])
    {k : PUnit → PT (F := F) α} {Q : α → sProp 𝕄} {R : sProp 𝕄}
    (h : iprop(OutSt m c 1 ∗ R) ⊢ WP c (k ⟨⟩) Q) :
    iprop((∃ X, outL c ↦{fullShare} X) ∗ R) ⊢ WP c (.op (.store oM (Rect.unit (s := S4x256x1024) off S1x64x1024.size inb) (k0_pay117 (k0_pay115 (nckOf cm) (wostg m c))) Finset.univ hx hm) k) Q := by
  unfold OutSt at h
  iintro ⟨⟨%X, HX⟩, HF⟩
  iapply (wp_store 𝒱₀ (c : Thread nD τ) none Set.univ (m := oM) (r := Rect.unit (s := S4x256x1024) off S1x64x1024.size inb) (w := k0_pay117 (k0_pay115 (nckOf cm) (wostg m c))) (Mk := Finset.univ) (hx := hx) (hm := hm) (f := X) (Finset.subset_univ _)) $$ HX
  iintro HX
  iapply h
  isplitl [HX]
  · iexists _; isplitr
    rotate_left
    · iexact HX
    · ipureintro
      intro o ho'
      obtain rfl : o = 0 := by omega
      rw [pl_zero]
      refine store_out m c (o := c) ho c ?_
      rw [if_pos rfl]
      refine ⟨cm, hcm, ?_⟩
      unfold outVal resOf; rw [if_pos rfl]
  · iexact HF

end Cert.KProof

end
-- ==== Proof.Reidx.lean ====
/-
# Running over the ring

Every family of the body's resources, place by place from here on.
-/
module

public import proofs.«01_k».proof.Proof.Mid
public import Idealize.ShloMosaic.Lib.Ring

@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ UU ℕ

variable (m : (ℓ : Loc nD τ sig) → Buf (Elt F) ℓ) (K : Dev nD × CK → ℕ)

/-! ## Running over the ring -/

theorem ring_bij (d : Fin 16) : Function.Bijective fun o : Fin 16 => pl d o.val := by
  refine Finite.injective_iff_bijective.1 fun a b h => ?_
  have h' : (d.val + a.val) % 16 = (d.val + b.val) % 16 := congrArg Fin.val h
  exact Fin.ext (by omega)

/-- Over all places: the one here, and those 1, …, 15 places on. -/
theorem ring_split (d : Fin 16) (Φ : Fin 16 → sProp 𝕄) :
    bigSep Finset.univ Φ = iprop(Φ d ∗ bigSep (Finset.Ico 1 16) fun o => Φ (pl d o)) := by
  rw [bigSep_univ_equiv (Equiv.ofBijective _ (ring_bij d)) Φ,
    Ring.bigSep_fin_eq_range 16 (fun a => Φ ((Equiv.ofBijective _ (ring_bij d)) a)) (fun o => Φ (pl d o)) (fun t h => rfl), Finset.range_eq_Ico, bigSep_Ico_succ_bot (by decide : 0 < 16), pl_zero]

/-- The same without the place here. -/
theorem ring_erase (d : Fin 16) (Φ : Fin 16 → sProp 𝕄) :
    bigSep (Finset.univ.erase d) Φ ⊢ bigSep (Finset.Ico 1 16) fun o => Φ (pl d o) := by
  have h := ring_split d (fun k => if k = d then iprop(emp) else Φ k)
  have h1 : bigSep Finset.univ (fun k => if k = d then iprop(emp) else Φ k) = iprop((if d = d then iprop(emp) else Φ d) ∗ bigSep (Finset.univ.erase d) fun k => if k = d then iprop(emp) else Φ k) :=
    bigSep_univ_at _ d
  have h2 : bigSep (Finset.univ.erase d) (fun k => if k = d then iprop(emp) else Φ k) = bigSep (Finset.univ.erase d) Φ :=
    bigSep_congr fun k hk => if_neg (Finset.ne_of_mem_erase hk)
  have h3 : (bigSep (Finset.Ico 1 16) fun o => if pl d o = d then iprop(emp) else Φ (pl d o)) = bigSep (Finset.Ico 1 16) fun o => Φ (pl d o) :=
    bigSep_congr fun o ho => if_neg fun e => pl_ne' (c := d) (Finset.mem_Ico.1 ho).1 (Finset.mem_Ico.1 ho).2 e.symm
  rw [h1, h2, h3, if_pos rfl] at h
  iintro H
  ihave H := (Entails.of_eq (show iprop(emp ∗ bigSep (Finset.univ.erase d) Φ) = iprop(emp ∗ bigSep (Finset.Ico 1 16) fun o => Φ (pl d o)) from h)) $$ [H]
  · isplitr; · iempintro
    iexact H
  icases H with ⟨-, H⟩
  iexact H

theorem trip_bij (c : Dev nD) : Function.Bijective fun p : Fin 4 × Fin 4 => kq (bF c p.1.val) p.2.val := by
  refine ⟨fun a b h => ?_, ?_⟩
  · have hc : c.val < 16 := c.isLt
    have h' : (4 * ((c.val / 4 + 4 - a.1.val) % 4) + a.2.val) % 16 = (4 * ((c.val / 4 + 4 - b.1.val) % 4) + b.2.val) % 16 := congrArg Fin.val h
    have := a.1.isLt; have := a.2.isLt; have := b.1.isLt; have := b.2.isLt
    exact Prod.ext (Fin.ext (by omega)) (Fin.ext (by omega))
  · intro k
    have hc : c.val < 16 := c.isLt
    have hk := k.isLt
    refine ⟨(⟨(c.val / 4 + 4 - k.val / 4) % 4, by omega⟩, ⟨k.val % 4, by omega⟩), Fin.ext ?_⟩
    show (4 * ((c.val / 4 + 4 - (c.val / 4 + 4 - k.val / 4) % 4) % 4) + k.val % 4) % 16 = k.val
    omega

/-- Over all chunks: trip by trip, a quarter of them each. -/
theorem trip_split (c : Dev nD) (Φ : Fin 16 → sProp 𝕄) :
    bigSep Finset.univ Φ = bigSep (Finset.range 4) fun j => bigSep (Finset.range 4) fun q => Φ (kq (bF c j) q) := by
  rw [bigSep_univ_equiv (Equiv.ofBijective _ (trip_bij c)) Φ, bigSep_univ_prod,
    Ring.bigSep_fin_eq_range 4 (fun a => bigSep Finset.univ fun b => Φ ((Equiv.ofBijective _ (trip_bij c)) (a, b)))
      (fun j => bigSep (Finset.range 4) fun q => Φ (kq (bF c j) q)) (fun t h => (Ring.bigSep_fin_eq_range 4 _ (fun q => Φ (kq (bF c t) q)) (fun _ _ => rfl)).symm)]

/-! ## Putting a row's shares together -/

theorem comm2_join (c : Dev nD) (f : S16x64x1024.Idx → Elt F .bf16) :
    iprop((comm2L c ↦[crow c.val]{ShareLeaves.leaf 4 fullShare (pl c 0)} f) ∗ bigSep (Finset.Ico 1 16) fun o => comm2Leaf (F := F) c c.val (pl c o))
      ⊢ (comm2L c ↦[crow c.val]{fullShare} f : sProp 𝕄) := by
  have hstep : ∀ n, n ≤ 16 → 1 ≤ n → iprop((comm2L c ↦[crow c.val]{ShareLeaves.leaf 4 fullShare (pl c 0)} f) ∗ bigSep (Finset.Ico 1 n) fun o => comm2Leaf (F := F) c c.val (pl c o))
      ⊢ iprop((comm2L c ↦[crow c.val]{ShareLeaves.leaf 4 fullShare (pl c 0)} f)
        ∗ bigSep (Finset.Ico 1 n) fun o => (comm2L c ↦[crow c.val]{ShareLeaves.leaf 4 fullShare (pl c o)} f : sProp 𝕄)) := by
    intro n
    induction n with
    | zero => intro _ h; omega
    | succ n ih =>
      intro h2 h1
      rcases Nat.eq_zero_or_pos n with rfl | h0
      · rw [Finset.Ico_self, bigSep_empty, bigSep_empty]
      · rw [ico_succ _ h0, ico_succ _ h0]
        unfold comm2Leaf
        iintro ⟨H, ⟨%g, Hg⟩, HS⟩
        ihave H := (ih (by omega) h0) $$ [H HS]
        · isplitl [H]; · iexact H
          unfold comm2Leaf
          iexact HS
        icases H with ⟨H, HS⟩
        ihave %he := pointsTo_agree $$ [H Hg]
        · isplitl [H]; · iexact H
          iexact Hg
        isplitl [H]; · iexact H
        isplitl [Hg]
        · iapply (Entails.of_eq (pointsTo_congr (ℓ := comm2L c) (I := crow c.val) (f := g) (g := f) fun i hi => (he i (Finset.mem_inter.2 ⟨hi, hi⟩)).1.symm))
          iexact Hg
        · iexact HS
  refine (hstep 16 (Nat.le_refl _) (by decide)).trans ?_
  refine BIBase.Entails.trans ?_ (Entails.of_eq (ShareLeaves.pointsTo_leaves (ℓ := comm2L c) (crow c.val) f 4 fullShare).symm)
  rw [pl_zero]
  exact Entails.of_eq (ring_split c (fun k => (comm2L c ↦[crow c.val]{ShareLeaves.leaf 4 fullShare k} f : sProp 𝕄))).symm

end Cert.KProof

end
-- ==== Proof.Groups.lean ====
/-
# From stage to stage

How the resources of the body are grouped at its stages, and what one stage leaves for the next.
-/
module

public import proofs.«01_k».proof.Proof.Reidx

@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ UU ℕ

variable (m : (ℓ : Loc nD τ sig) → Buf (Elt F) ℓ) (K : Dev nD × CK → ℕ)

/-! ## The groups of resources the body's stages use -/

abbrev xL (c : Dev nD) : Loc nD τ sig := (c : Thread nD τ).loc cc0_stg0_0
abbrev wqL (c : Dev nD) : Loc nD τ sig := (c : Thread nD τ).loc cc0_stg1_0
abbrev qsL (c : Dev nD) : Loc nD τ sig := (c : Thread nD τ).loc cc0_scratch0
def XW (c : Dev nD) : sProp 𝕄 := iprop((xL c ↦{fullShare} xstg m c) ∗ (wqL c ↦{fullShare} wqstg m c))
def RsTok (c : Dev nD) (o : ℕ) : sProp 𝕄 := iprop(dutyTok ER (kcell c (rsS (pl (nx c) o))) 0 0 ∗ dutyTok ER (kcell (pl c o) (rsR c)) 0 0)
/-- What the loop starts from, apart from what the peers lend. -/
def S0 (c : Dev nD) : sProp 𝕄 :=
  iprop(XW m c ∗ (∃ f, qsL c ↦{fullShare} f) ∗ SlotK c 0 ∗ SlotV c 0 ∗ SlotK c 1 ∗ SlotV c 1 ∗ bigSep (Finset.Ico 0 4) (Load m c)
    ∗ bigSep Finset.univ (fun k : Fin 16 => partAny (F := F) c k.val) ∗ bigSep (Finset.Ico 1 16) (RsTok c))
def S1 (c : Dev nD) : sProp 𝕄 :=
  iprop(OW c (oRs c 0 + oAg c 1) ∗ XW m c ∗ (∃ f, qsL c ↦{fullShare} f) ∗ SlotK c 0 ∗ SlotV c 0 ∗ SlotK c 1 ∗ SlotV c 1 ∗ bigSep (Finset.Ico 0 4) (Load m c)
    ∗ bigSep (Finset.Ico 0 4) (Todo (F := F) c))
def nckAny (c : Dev nD) : sProp 𝕄 := iprop(∃ f, nckL c ↦{fullShare} f)
def outAny (c : Dev nD) : sProp 𝕄 := iprop(∃ X, outL c ↦{fullShare} X)
def woP (c : Dev nD) : sProp 𝕄 := woL c ↦{fullShare} wostg m c
/-- What the finish uses. -/
def NS (c : Dev nD) : sProp 𝕄 := iprop(nckAny (F := F) c ∗ woP m c ∗ comm2Any c c.val ∗ outAny c)
def Ws (c : Dev nD) : sProp 𝕄 := bigSep (Finset.Ico 1 16) (RsW (F := F) c)
def AgTok (c : Dev nD) (o : ℕ) : sProp 𝕄 := iprop(dutyTok ER (kcell c (agS (pl c o))) 0 0 ∗ dutyTok ER (kcell (pl c o) (agR c)) 0 0)
def Ag (c : Dev nD) : sProp 𝕄 := bigSep (Finset.Ico 1 16) (AgTok (F := F) c)
def Ag2 (c : Dev nD) : sProp 𝕄 := bigSep (Finset.Ico 1 16) fun o => iprop(comm2Any (F := F) (pl c o) c.val ∗ AgTok c o)
def AgWs (c : Dev nD) : sProp 𝕄 := bigSep (Finset.Ico 1 16) (AgW (F := F) c)
def AtS (c : Dev nD) : sProp 𝕄 := bigSep (Finset.Ico 1 16) fun o => atPos ER (kcell c (rsS (pl (nx c) o))) 0 ∅ 0
def AtA (c : Dev nD) : sProp 𝕄 := bigSep (Finset.Ico 1 16) fun o => atPos ER (kcell c (agS (pl c o))) 0 ∅ 0
/-- The four cells nothing ever signals. -/
def Idle (c : Dev nD) : sProp 𝕄 :=
  iprop(atPos ER (kcell c (rsS (nx c))) 0 ∅ 0 ∗ atPos ER (kcell c (rsR c)) 0 ∅ 0 ∗ atPos ER (kcell c (agS c)) 0 ∅ 0 ∗ atPos ER (kcell c (agR c)) 0 ∅ 0)
def En (c : Dev nD) : sProp 𝕄 := iprop(AgWs (F := F) c ∗ AtS c ∗ AtA c ∗ Idle c)
def CrS (c : Dev nD) : sProp 𝕄 := bigSep (Finset.Ico 1 16) fun o => cred (tallyAt (kcell c (rsS (pl (nx c) o))) () N1)
def CrA (c : Dev nD) : sProp 𝕄 := bigSep (Finset.Ico 1 16) (AgC (F := F) c)
/-- What the loop leaves. -/
def LR (c : Dev nD) : sProp 𝕄 :=
  iprop(XW m c ∗ QsP m c ∗ SlotK c 4 ∗ SlotV c 4 ∗ SlotK c 5 ∗ SlotV c 5 ∗ bigSep (Finset.range 4) (HB m c))
def Bar (c : Dev nD) (n : ℕ) : sProp 𝕄 := atPos ER (kcell c bar) n ∅ 0
def RsP (c : Dev nD) : sProp 𝕄 := bigSep (Finset.Ico 1 16) fun o => atPos ER (kcell c (rsR (pl c o))) 1 ∅ 0
def commAll (c : Dev nD) : sProp 𝕄 := iprop(∃ g, commL c ↦{fullShare} g)
def Z1 (c : Dev nD) : sProp 𝕄 := iprop(partAny c (nx c).val ∗ CrS c ∗ LR m c ∗ En c ∗ Bar (F := F) c 1)
def Z2 (c : Dev nD) : sProp 𝕄 := iprop(nckAny c ∗ commAll c ∗ RsP c ∗ Z1 m c)
def OwnLeaf (c : Dev nD) (f : S16x64x1024.Idx → Elt F .bf16) : sProp 𝕄 := comm2L c ↦[crow c.val]{ShareLeaves.leaf 4 fullShare (pl c 0)} f
/-- What is left when only the waits for the sends remain. -/
def Zend (c : Dev nD) (f : S16x64x1024.Idx → Elt F .bf16) : sProp 𝕄 :=
  iprop(OutSt m c 16 ∗ bigSep (Finset.Ico 1 16) (AgD c) ∗ OwnLeaf c f ∗ woP m c ∗ nckAny c ∗ commAll c ∗ RsP c ∗ partAny c (nx c).val ∗ LR m c ∗ Idle c ∗ Bar c 1)

/-! ## From one stage to the next -/

theorem to_barrier (c : Dev nD) {R : sProp 𝕄} :
    iprop(Rec m K ∗ StA c 16 ∗ (Bar c 0 ∗ cred (tallyAt (kcell c bar) () 15)) ∗ R)
      ⊢ iprop(Rec m K ∗ (StA c 16 ∗ atPos ER (kcell c bar) 0 ∅ 0 ∗ cred (tallyAt (kcell c bar) () 15)) ∗ R) := by
  unfold Bar
  iintro ⟨HR, HA, ⟨HB, HC⟩, HF⟩
  isplitl [HR]; · iexact HR
  isplitr [HF]
  · isplitl [HA]; · iexact HA
    isplitl [HB]; · iexact HB
    iexact HC
  · iexact HF

theorem pl15 (c : Fin 16) (o : ℕ) : pl 15 (pl (nx c) o).val = pl c o :=
  Fin.ext (by show (15 + ((c.val + 1) % 16 + o) % 16) % 16 = (c.val + o) % 16; omega)
theorem pl_nx_ne (c : Fin 16) {o : ℕ} (ho : o ∈ Finset.Ico 1 16) : pl (nx c) o ≠ nx c :=
  fun e => pl_ne' (Finset.mem_Ico.1 ho).1 (Finset.mem_Ico.1 ho).2 e.symm

theorem todo_of (c : Dev nD) : iprop(bigSep Finset.univ (fun k : Fin 16 => partAny (F := F) c k.val) ∗ bigSep (Finset.Ico 1 16) (RsTok c)
      ∗ bigSep (Finset.Ico 1 16) (fun o => commAny (F := F) (pl c o) c.val)) ⊢ bigSep (Finset.Ico 0 4) (Todo (F := F) c) := by
  have h1 : bigSep (Finset.Ico 0 4) (Todo (F := F) c) = iprop(bigSep Finset.univ (fun k : Fin 16 => partAny (F := F) c k.val) ∗ bigSep Finset.univ (fun k : Fin 16 => ToSend (F := F) c k)) := by
    rw [show iprop(bigSep Finset.univ (fun k : Fin 16 => partAny (F := F) c k.val) ∗ bigSep Finset.univ (fun k : Fin 16 => ToSend (F := F) c k))
      = bigSep Finset.univ (fun k : Fin 16 => iprop(partAny (F := F) c k.val ∗ ToSend (F := F) c k)) from (bigSep_sep' _ _ _).symm, trip_split c]
    rfl
  have h2 : bigSep Finset.univ (fun k : Fin 16 => ToSend (F := F) c k)
      = iprop(emp ∗ bigSep (Finset.Ico 1 16) fun o => iprop(RsTok (F := F) c o ∗ commAny (F := F) (pl c o) c.val)) := by
    rw [ring_split (nx c)]
    congr 1
    · unfold ToSend; rw [if_pos rfl]
    · refine bigSep_congr fun o ho => ?_
      unfold ToSend RsTok
      rw [if_neg (pl_nx_ne c ho), pl15]
      exact (equiv_iff.mp ⟨BI.sep_assoc, BI.sep_assoc'⟩).symm
  rw [h1, h2, show (bigSep (Finset.Ico 1 16) fun o => iprop(RsTok (F := F) c o ∗ commAny (F := F) (pl c o) c.val))
    = iprop(bigSep (Finset.Ico 1 16) (RsTok c) ∗ bigSep (Finset.Ico 1 16) (fun o => commAny (F := F) (pl c o) c.val)) from bigSep_sep' _ _ _]
  iintro ⟨HP, HT, HC⟩
  isplitl [HP]; · iexact HP
  isplitr; · iempintro
  isplitl [HT]; · iexact HT
  iexact HC

theorem from_barrier (c : Dev nD) :
    iprop(Rec m K ∗ StB c ∗ S0 m c ∗ commAny c c.val ∗ NS m c ∗ Ws c ∗ Ag c ∗ En c)
      ⊢ iprop(Rec m K ∗ S1 m c ∗ commAny c c.val ∗ NS m c ∗ Ws c ∗ Ag2 c ∗ En c ∗ Bar c 1) := by
  have hl : bigSep (Finset.univ.erase c) (Lent (F := F) c) ⊢ iprop(bigSep (Finset.Ico 1 16) (fun o => commAny (F := F) (pl c o) c.val) ∗ bigSep (Finset.Ico 1 16) (fun o => comm2Any (F := F) (pl c o) c.val)) :=
    (ring_erase c (Lent (F := F) c)).trans (Entails.of_eq (bigSep_sep' _ _ _))
  have ha : Ag2 (F := F) c = iprop(bigSep (Finset.Ico 1 16) (fun o => comm2Any (F := F) (pl c o) c.val) ∗ Ag c) := bigSep_sep' _ _ _
  rw [ha]
  unfold StB S0 S1 Bar
  iintro ⟨HR, ⟨HO, HL, HB⟩, ⟨HX, Hq, HK0, HV0, HK1, HV1, HLd, HP, HT⟩, Hc, HN, HW, HA, HE⟩
  ihave HL := hl $$ HL
  icases HL with ⟨HLc, HL2⟩
  isplitl [HR]; · iexact HR
  isplitr [Hc HN HW HL2 HA HE HB]
  · isplitl [HO]; · iexact HO
    isplitl [HX]; · iexact HX
    isplitl [Hq]; · iexact Hq
    isplitl [HK0]; · iexact HK0
    isplitl [HV0]; · iexact HV0
    isplitl [HK1]; · iexact HK1
    isplitl [HV1]; · iexact HV1
    isplitl [HLd]; · iexact HLd
    iapply (todo_of (F := F) c)
    isplitl [HP]; · iexact HP
    isplitl [HT]; · iexact HT
    iexact HLc
  · isplitl [Hc]; · iexact Hc
    isplitl [HN]; · iexact HN
    isplitl [HW]; · iexact HW
    isplitl [HL2 HA]
    · isplitl [HL2]; · iexact HL2
      iexact HA
    isplitl [HE]; · iexact HE
    iexact HB

theorem oRs_four (c : Dev nD) : oRs c 4 = 0 := by unfold oRs; rw [Finset.Ico_self, Finset.sum_empty]
theorem oAg_end (c : Dev nD) : oAg c 16 = 0 := by unfold oAg; rw [Finset.Ico_self, Finset.sum_empty]

theorem from_loop (c : Dev nD) {R : sProp 𝕄} :
    iprop(Rec m K ∗ LoopSt m c 4 ∗ XW m c ∗ R)
      ⊢ iprop(∃ f, ⌜PartGood m c (nx c).val f⌝ ∗ (partL c ↦[chunk (nx c).val]{fullShare} f) ∗ Rec m K ∗ OW c (oAg c 1) ∗ CrS c ∗ LR m c ∗ R) := by
  have h1 : bigSep (Finset.range 4) (DoneT m c) = iprop(partGood m c (nx c).val ∗ CrS c) := by
    rw [show bigSep (Finset.range 4) (DoneT m c) = bigSep Finset.univ (fun k : Fin 16 => Sent m c k) from (trip_split c (fun k => Sent m c k)).symm, ring_split (nx c)]
    congr 1
    · unfold Sent; rw [if_pos rfl]
    · exact bigSep_congr fun o ho => by unfold Sent; rw [if_neg (pl_nx_ne c ho)]
  have hk : ∀ j, 4 ≤ j → CurK (F := F) c j = SlotK c j := fun j hj => if_neg (by omega)
  have hv : ∀ j, 4 ≤ j → CurV (F := F) c j = SlotV c j := fun j hj => if_neg (by omega)
  unfold LoopSt
  rw [h1, hk 4 (by decide), hv 4 (by decide), oRs_four, zero_add]
  unfold partGood LR
  iintro ⟨HR, ⟨HO, Hq, HK, HV, HK1, HV1, -, HH, -, ⟨%f, %hf, Hp⟩, HC⟩, HX, HF⟩
  iexists f
  isplitr; · ipureintro; exact hf
  isplitl [Hp]; · iexact Hp
  isplitl [HR]; · iexact HR
  isplitl [HO]; · iexact HO
  isplitl [HC]; · iexact HC
  isplitr [HF]
  · isplitl [HX]; · iexact HX
    isplitl [Hq]; · iexact Hq
    isplitl [HK]; · iexact HK
    isplitl [HV]; · iexact HV
    isplitl [HK1]; · iexact HK1
    isplitl [HV1]; · iexact HV1
    iexact HH
  · iexact HF

theorem to_own (c : Dev nD) {f : S16x9x64x128.Idx → Elt F .bf16} :
    iprop((partL c ↦[chunk (nx c).val]{fullShare} f) ∗ Rec m K ∗ OW c (oAg c 1) ∗ CrS c ∗ LR m c ∗ commAny c c.val ∗ NS m c ∗ Ws c ∗ Ag2 c ∗ En c ∗ Bar c 1)
      ⊢ iprop(commAny c c.val ∗ Rec m K ∗ OW c (oAg c 1) ∗ NS m c ∗ Ws c ∗ Ag2 c ∗ Z1 m c) := by
  unfold Z1 partAny
  iintro ⟨Hp, HR, HO, HC, HL, Hc, HN, HW, HA, HE, HB⟩
  isplitl [Hc]; · iexact Hc
  isplitl [HR]; · iexact HR
  isplitl [HO]; · iexact HO
  isplitl [HN]; · iexact HN
  isplitl [HW]; · iexact HW
  isplitl [HA]; · iexact HA
  isplitl [Hp]; · iexists f; iexact Hp
  isplitl [HC]; · iexact HC
  isplitl [HL]; · iexact HL
  isplitl [HE]; · iexact HE
  iexact HB

theorem to_rs (c : Dev nD) {R : sProp 𝕄} :
    iprop(commGot m c c ∗ Rec m K ∗ OW c (oAg c 1) ∗ NS m c ∗ Ws c ∗ R)
      ⊢ iprop(Rec m K ∗ DSt m c 1 ∗ commGot m c c ∗ NS m c ∗ R) := by
  unfold DSt Ws
  rw [Finset.Ico_self 1, bigSep_empty]
  iintro ⟨Hc, HR, HO, HN, HW, HF⟩
  isplitl [HR]; · iexact HR
  isplitl [HO HW]
  · isplitl [HO]; · iexact HO
    isplitl [HW]; · iexact HW
    iempintro
  isplitl [Hc]; · iexact Hc
  isplitl [HN]; · iexact HN
  iexact HF

theorem from_rs (c : Dev nD) {R : sProp 𝕄} :
    iprop(Rec m K ∗ DSt m c 16 ∗ commGot m c c ∗ NS m c ∗ R)
      ⊢ iprop(∃ g, ⌜CommGood m c g⌝ ∗ (commL c ↦{fullShare} g) ∗ Rec m K ∗ OW c (oAg c 1) ∗ RsP c ∗ NS m c ∗ R) := by
  have h1 : bigSep (Finset.Ico 1 16) (RsD m c) = iprop(RsP c ∗ bigSep (Finset.Ico 1 16) fun o => commGot m c (pl c o)) := bigSep_sep' _ _ _
  unfold DSt
  rw [h1]
  iintro ⟨HR, ⟨HO, -, HP, HG⟩, Hc, HN, HF⟩
  ihave HG := (comm_join m c) $$ [Hc HG]
  · isplitl [Hc]; · iexact Hc
    iexact HG
  icases HG with ⟨%g, %hg, HG⟩
  iexists g
  isplitr; · ipureintro; exact hg
  isplitl [HG]; · iexact HG
  isplitl [HR]; · iexact HR
  isplitl [HO]; · iexact HO
  isplitl [HP]; · iexact HP
  isplitl [HN]; · iexact HN
  iexact HF

theorem to_nck (c : Dev nD) {g : S16x9x64x128.Idx → Elt F .bf16} :
    iprop((commL c ↦{fullShare} g) ∗ Rec m K ∗ OW c (oAg c 1) ∗ RsP c ∗ NS m c ∗ Ag2 c ∗ Z1 m c)
      ⊢ iprop(NckSt c g 0 ∗ woP m c ∗ comm2Any c c.val ∗ outAny c ∗ Rec m K ∗ OW c (oAg c 1) ∗ Ag2 c ∗ commAll c ∗ RsP c ∗ Z1 m c) := by
  unfold NckSt NS nckAny commAll
  iintro ⟨Hg, HR, HO, HP, ⟨⟨%f, Hf⟩, Hw, Hc, Ho⟩, HA, HZ⟩
  isplitl [Hf]
  · iexists f; isplitr
    · ipureintro; intro j hj; omega
    · iexact Hf
  isplitl [Hw]; · iexact Hw
  isplitl [Hc]; · iexact Hc
  isplitl [Ho]; · iexact Ho
  isplitl [HR]; · iexact HR
  isplitl [HO]; · iexact HO
  isplitl [HA]; · iexact HA
  isplitl [Hg]; · iexists g; iexact Hg
  isplitl [HP]; · iexact HP
  iexact HZ

theorem to_wo (c : Dev nD) {g : S16x9x64x128.Idx → Elt F .bf16} :
    iprop(NckSt c g 8 ∗ woP m c ∗ comm2Any c c.val ∗ outAny c ∗ Rec m K ∗ OW c (oAg c 1) ∗ Ag2 c ∗ commAll c ∗ RsP c ∗ Z1 m c)
      ⊢ iprop((woL c ↦{fullShare} wostg m c) ∗ comm2Any c c.val ∗ outAny c ∗ Rec m K ∗ OW c (oAg c 1) ∗ Ag2 c ∗ Z2 m c) := by
  unfold NckSt Z2 nckAny woP
  iintro ⟨⟨%f, -, Hf⟩, Hw, Hc, Ho, HR, HO, HA, HG, HP, HZ⟩
  isplitl [Hw]; · iexact Hw
  isplitl [Hc]; · iexact Hc
  isplitl [Ho]; · iexact Ho
  isplitl [HR]; · iexact HR
  isplitl [HO]; · iexact HO
  isplitl [HA]; · iexact HA
  isplitl [Hf]; · iexists f; iexact Hf
  isplitl [HG]; · iexact HG
  isplitl [HP]; · iexact HP
  iexact HZ

theorem to_row (c : Dev nD) {R : sProp 𝕄} :
    iprop((woL c ↦{fullShare} wostg m c) ∗ comm2Any c c.val ∗ R) ⊢ iprop(comm2Any c c.val ∗ woP m c ∗ R) := by
  unfold woP
  iintro ⟨Hw, Hc, HF⟩
  isplitl [Hc]; · iexact Hc
  isplitl [Hw]; · iexact Hw
  iexact HF

theorem to_out (c : Dev nD) {P : sProp 𝕄} {R R' : sProp 𝕄}
    (h : ∀ f, C2Good m c f → (iprop((∃ X, outL c ↦{fullShare} X) ∗ (comm2L c ↦[crow c.val]{fullShare} f) ∗ R ∗ R') ⊢ P)) :
    iprop((∃ f, ⌜C2Good m c f⌝ ∗ comm2L c ↦[crow c.val]{fullShare} f) ∗ R ∗ outAny c ∗ R') ⊢ P := by
  unfold outAny
  iintro ⟨⟨%f, %hf, Hf⟩, HR, HO, HR'⟩
  iapply (h f hf)
  isplitl [HO]; · iexact HO
  isplitl [Hf]; · iexact Hf
  isplitl [HR]; · iexact HR
  iexact HR'

theorem to_ag (c : Dev nD) {f : S16x64x1024.Idx → Elt F .bf16} :
    iprop(OutSt m c 1 ∗ (comm2L c ↦[crow c.val]{fullShare} f) ∗ woP m c ∗ Rec m K ∗ OW c (oAg c 1) ∗ Ag2 c ∗ Z2 m c)
      ⊢ iprop(Rec m K ∗ ESt c f 1 ∗ OutSt m c 1 ∗ OwnLeaf c f ∗ woP m c ∗ Z2 m c) := by
  have h1 : (comm2L c ↦[crow c.val]{fullShare} f : sProp 𝕄)
      = iprop(OwnLeaf c f ∗ bigSep (Finset.Ico 1 16) fun o => (comm2L c ↦[crow c.val]{ShareLeaves.leaf 4 fullShare (pl c o)} f : sProp 𝕄)) := by
    unfold OwnLeaf; rw [pl_zero]
    exact (ShareLeaves.pointsTo_leaves (ℓ := comm2L c) (crow c.val) f 4 fullShare).trans
      (ring_split c (fun k => (comm2L c ↦[crow c.val]{ShareLeaves.leaf 4 fullShare k} f : sProp 𝕄)))
  have h2 : bigSep (Finset.Ico 1 16) (AgT c f) = iprop((bigSep (Finset.Ico 1 16) fun o => (comm2L c ↦[crow c.val]{ShareLeaves.leaf 4 fullShare (pl c o)} f : sProp 𝕄)) ∗ Ag2 c) :=
    bigSep_sep' _ _ _
  unfold ESt
  rw [h1, h2, Finset.Ico_self 1, bigSep_empty]
  iintro ⟨HX, ⟨Hl, Hs⟩, Hw, HR, HO, HA, HZ⟩
  isplitl [HR]; · iexact HR
  isplitl [HO Hs HA]
  · isplitl [HO]; · iexact HO
    isplitl [Hs HA]
    · isplitl [Hs]; · iexact Hs
      iexact HA
    iempintro
  isplitl [HX]; · iexact HX
  isplitl [Hl]; · iexact Hl
  isplitl [Hw]; · iexact Hw
  iexact HZ

/-- What waits while the finished chunks come in. -/
def Z5 (c : Dev nD) (f : S16x64x1024.Idx → Elt F .bf16) : sProp 𝕄 :=
  iprop(CrA c ∗ OwnLeaf c f ∗ woP m c ∗ nckAny c ∗ commAll c ∗ RsP c ∗ partAny c (nx c).val ∗ CrS c ∗ LR m c ∗ AtS c ∗ AtA c ∗ Idle c ∗ Bar c 1)

theorem from_ag (c : Dev nD) {f : S16x64x1024.Idx → Elt F .bf16} :
    iprop(Rec m K ∗ ESt c f 16 ∗ OutSt m c 1 ∗ OwnLeaf c f ∗ woP m c ∗ Z2 m c) ⊢ iprop(Rec m K ∗ FSt m c 1 ∗ Z5 m c f) := by
  unfold ESt FSt Z2 Z1 En Z5 CrA AgWs
  rw [oAg_end, Finset.Ico_self 1, bigSep_empty]
  iintro ⟨HR, ⟨HO, -, HC⟩, HX, HL, Hw, Hn, Hg, HP, Hp, HS, HLR, ⟨HW, HtS, HtA, HI⟩, HB⟩
  isplitl [HR]; · iexact HR
  isplitl [HO HW HX]
  · isplitl [HO]; · iexact HO
    isplitl [HW]; · iexact HW
    isplitr; · iempintro
    iexact HX
  isplitl [HC]; · iexact HC
  isplitl [HL]; · iexact HL
  isplitl [Hw]; · iexact Hw
  isplitl [Hn]; · iexact Hn
  isplitl [Hg]; · iexact Hg
  isplitl [HP]; · iexact HP
  isplitl [Hp]; · iexact Hp
  isplitl [HS]; · iexact HS
  isplitl [HLR]; · iexact HLR
  isplitl [HtS]; · iexact HtS
  isplitl [HtA]; · iexact HtA
  isplitl [HI]; · iexact HI
  iexact HB

theorem to_send (c : Dev nD) {f : S16x64x1024.Idx → Elt F .bf16} :
    iprop(Rec m K ∗ FSt m c 16 ∗ Z5 m c f) ⊢ iprop(Rec m K ∗ GSt c 1 1 ∗ Zend m c f) := by
  have h1 : bigSep (Finset.Ico 1 16) (SndW (F := F) c) = iprop(AtS c ∗ CrS c) := bigSep_sep' _ _ _
  have h2 : bigSep (Finset.Ico 1 16) (AsW (F := F) c) = iprop(AtA c ∗ CrA c) := bigSep_sep' _ _ _
  unfold FSt GSt Z5 Zend
  rw [h1, h2, Finset.Ico_self 1, bigSep_empty, bigSep_empty]
  iintro ⟨HR, ⟨HO, -, HD, HX⟩, HC, HL, Hw, Hn, Hg, HP, Hp, HS, HLR, HtS, HtA, HI, HB⟩
  isplitl [HR]; · iexact HR
  isplitl [HO HtS HS HtA HC]
  · isplitl [HO]; · iexact HO
    isplitl [HtS HS]
    · isplitl [HtS]; · iexact HtS
      iexact HS
    isplitr; · iempintro
    isplitl [HtA HC]
    · isplitl [HtA]; · iexact HtA
      iexact HC
    iempintro
  isplitl [HX]; · iexact HX
  isplitl [HD]; · iexact HD
  isplitl [HL]; · iexact HL
  isplitl [Hw]; · iexact Hw
  isplitl [Hn]; · iexact Hn
  isplitl [Hg]; · iexact Hg
  isplitl [HP]; · iexact HP
  isplitl [Hp]; · iexact Hp
  isplitl [HLR]; · iexact HLR
  isplitl [HI]; · iexact HI
  iexact HB

end Cert.KProof

end
-- ==== Proof.Start.lean ====
/-
# The start of the body

The queries projected, the first copies started, the loop, and the load of the chunk that stays.
-/
module

public import proofs.«01_k».proof.Proof.Groups

@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ UU ℕ

variable (m : (ℓ : Loc nD τ sig) → Buf (Elt F) ℓ) (K : Dev nD × CK → ℕ)

/-! ## The queries projected, and the loop -/

theorem ld_x {α : Type} (c : Dev nD) {off : Fin 3 → ℕ} {inb hl} (ho : off = fun _ => 0)
    {k : (S4x256x1024.Idx → Elt F .f32) → PT (F := F) α} {Q : α → sProp 𝕄} {R : sProp 𝕄}
    (h : iprop(XW m c ∗ R) ⊢ WP c (k (xstg m c)) Q) :
    iprop(XW m c ∗ R) ⊢ WP c (.op (.load xM (Rect.unit (s := S4x256x1024) off S4x256x1024.size inb).toLoadRect hl) k) Q := by
  unfold XW at h ⊢
  iintro ⟨⟨Hp, Hw⟩, HF⟩
  iapply (wp_load_rect 𝒱₀ (c : Thread nD τ) none Set.univ (m := xM) (r := Rect.unit (s := S4x256x1024) off S4x256x1024.size inb) (q := fullShare) (f := xstg m c) (Finset.subset_univ _)) $$ Hp
  rw [show (xM.access (Rect.unit (s := S4x256x1024) off S4x256x1024.size inb)).read (Elt F) (xstg m c) = xstg m c from
    Memref.read_access_unit_zero (Elt F) cc0_stg0_0 ho inb (xstg m c)]
  iintro Hp
  iapply h
  isplitl [Hp Hw]
  · isplitl [Hp]; · iexact Hp
    iexact Hw
  · iexact HF

theorem ld_wq {α : Type} (c : Dev nD) {off : Fin 2 → ℕ} {inb hl} (ho : off = fun _ => 0)
    {k : (S1024x1024.Idx → Elt F .f32) → PT (F := F) α} {Q : α → sProp 𝕄} {R : sProp 𝕄}
    (h : iprop(XW m c ∗ R) ⊢ WP c (k (wqstg m c)) Q) :
    iprop(XW m c ∗ R) ⊢ WP c (.op (.load wqM (Rect.unit (s := S1024x1024) off S1024x1024.size inb).toLoadRect hl) k) Q := by
  unfold XW at h ⊢
  iintro ⟨⟨Hx, Hp⟩, HF⟩
  iapply (wp_load_rect 𝒱₀ (c : Thread nD τ) none Set.univ (m := wqM) (r := Rect.unit (s := S1024x1024) off S1024x1024.size inb) (q := fullShare) (f := wqstg m c) (Finset.subset_univ _)) $$ Hp
  rw [show (wqM.access (Rect.unit (s := S1024x1024) off S1024x1024.size inb)).read (Elt F) (wqstg m c) = wqstg m c from
    Memref.read_access_unit_zero (Elt F) cc0_stg1_0 ho inb (wqstg m c)]
  iintro Hp
  iapply h
  isplitl [Hx Hp]
  · isplitl [Hx]; · iexact Hx
    iexact Hp
  · iexact HF

theorem ld_qs {α : Type} (c : Dev nD) {off : Fin 2 → ℕ} {inb hl}
    {k : (S1024x1024.Idx → Elt F .f32) → PT (F := F) α} {Q : α → sProp 𝕄} {R : sProp 𝕄}
    (h : ∀ v, iprop(XW m c ∗ (∃ f, qsL c ↦{fullShare} f) ∗ R) ⊢ WP c (k v) Q) :
    iprop(XW m c ∗ (∃ f, qsL c ↦{fullShare} f) ∗ R) ⊢ WP c (.op (.load qsM (Rect.unit (s := S1024x1024) off S1024x1024.size inb).toLoadRect hl) k) Q := by
  iintro ⟨HX, ⟨%f, Hp⟩, HF⟩
  iapply (wp_load_rect 𝒱₀ (c : Thread nD τ) none Set.univ (m := qsM) (r := Rect.unit (s := S1024x1024) off S1024x1024.size inb) (q := fullShare) (f := f) (Finset.subset_univ _)) $$ Hp
  iintro Hp
  iapply (h _)
  isplitl [HX]; · iexact HX
  isplitl [Hp]; · iexists f; iexact Hp
  iexact HF

theorem st_qs {α : Type} (c : Dev nD) {off : Fin 2 → ℕ} {inb hx hm} (ho : off = fun _ => 0)
    {k : PUnit → PT (F := F) α} {Q : α → sProp 𝕄} {R : sProp 𝕄}
    (h : iprop(XW m c ∗ QsP m c ∗ R) ⊢ WP c (k ⟨⟩) Q) :
    iprop(XW m c ∗ (∃ f, qsL c ↦{fullShare} f) ∗ R)
      ⊢ WP c (.op (.store qsM (Rect.unit (s := S1024x1024) off S1024x1024.size inb) (k0_pay101 (xstg m c) (wqstg m c)) Finset.univ hx hm) k) Q := by
  unfold QsP at h
  iintro ⟨HX, ⟨%f, Hp⟩, HF⟩
  iapply (wp_store 𝒱₀ (c : Thread nD τ) none Set.univ (m := qsM) (r := Rect.unit (s := S1024x1024) off S1024x1024.size inb)
    (w := k0_pay101 (xstg m c) (wqstg m c)) (Mk := Finset.univ) (hx := hx) (hm := hm) (f := f) (Finset.subset_univ _)) $$ Hp
  rw [show (qsM.access (Rect.unit (s := S1024x1024) off S1024x1024.size inb)).write (Elt F) f (k0_pay101 (xstg m c) (wqstg m c)) Finset.univ = qsOf m c from
    Memref.write_access_unit_zero_univ (Elt F) cc0_scratch0 ho inb f _]
  iintro Hp
  iapply h
  isplitl [HX]; · iexact HX
  isplitl [Hp]; · iexact Hp
  iexact HF

theorem zero2 : (![0, 0] : Fin 2 → ℕ) = fun _ => 0 := by funext a; fin_cases a <;> rfl
theorem zero3 : (![0, 0, 0] : Fin 3 → ℕ) = fun _ => 0 := by funext a; fin_cases a <;> rfl
theorem zero4 : (![0, 0, 0, 0] : Fin 4 → ℕ) = fun _ => 0 := by funext a; fin_cases a <;> rfl

/-- The first copies started, with what the loop needs set apart. -/
def S1b (c : Dev nD) : sProp 𝕄 :=
  iprop(OW c (oRs c 0 + oAg c 1) ∗ CurK c 0 ∗ CurV c 0 ∗ SlotK c 1 ∗ SlotV c 1 ∗ bigSep (Finset.Ico 1 4) (Load m c)
    ∗ bigSep (Finset.Ico 0 4) (Todo (F := F) c))

theorem first_copies {α : Type} (c : Dev nD) {off1 off2 off3 off4 : Fin 4 → ℕ} {i1 i2 i3 i4} {so so' : Fin 2 → ℕ} {s1 s2}
    (h1 : off1 = ![bOf c.val 0, 0, 0, 0]) (h2 : off2 = ![0, 0, 0, 0]) (h3 : so = ![0, 0])
    (h4 : off3 = ![bOf c.val 0, 0, 0, 0]) (h5 : off4 = ![0, 0, 0, 0]) (h6 : so' = ![0, 1]) {a1 a2 a3 b1 b2 b3}
    {kk : PUnit → PT (F := F) α} {Q : α → sProp 𝕄} {R : sProp 𝕄}
    (h : iprop(XW m c ∗ (∃ f, qsL c ↦{fullShare} f) ∗ S1b m c ∗ Rec m K ∗ R) ⊢ WP c (kk ⟨⟩) Q) :
    iprop(Rec m K ∗ S1 m c ∗ R) ⊢ WP c (.op (.enqueueDma (kSl off1 i1) (.here (kbSl off2 i2)) (.dma (s22 so s1)) a1 a2 a3) fun _ =>
      .op (.enqueueDma (vSl off3 i3) (.here (vbSl off4 i4)) (.dma (s22 so' s2)) b1 b2 b3) kk) Q := by
  unfold S1 S1b at *
  rw [bigSep_Ico_succ_bot (show 0 < 4 by decide) (Load m c),
    show Load m c 0 = iprop(Tok c 0 0 ∗ Tok c 0 1 ∗ kPts m c (bOf c.val 0) ∗ vPts m c (bOf c.val 0)) from rfl]
  iintro ⟨#HR, ⟨HO, HX, Hq, HK, HV, HK1, HV1, ⟨⟨Ht, Ht', Hk, Hv⟩, HL⟩, HT⟩, HF⟩
  iapply (start_k m K c 0 (by decide) h1 h2 h3) $$ [Hk HK Ht]
  · isplitr; · iexact HR
    isplitl [Hk]; · iexact Hk
    isplitl [HK]; · iexact HK
    iexact Ht
  iintro HCK
  iapply (start_v m K c 0 (by decide) h4 h5 h6) $$ [Hv HV Ht']
  · isplitr; · iexact HR
    isplitl [Hv]; · iexact Hv
    isplitl [HV]; · iexact HV
    iexact Ht'
  iintro HCV
  iapply h
  isplitl [HX]; · iexact HX
  isplitl [Hq]; · iexact Hq
  isplitr [HF]
  · isplitl [HO]; · iexact HO
    isplitl [HCK]; · iexact HCK
    isplitl [HCV]; · iexact HCV
    isplitl [HK1]; · iexact HK1
    isplitl [HV1]; · iexact HV1
    isplitl [HL]; · iexact HL
    iexact HT
  isplitr; · iexact HR
  iexact HF

theorem to_loop (c : Dev nD) {R : sProp 𝕄} :
    iprop(XW m c ∗ QsP m c ∗ S1b m c ∗ Rec m K ∗ R) ⊢ iprop(Rec m K ∗ LoopSt m c 0 ∗ XW m c ∗ R) := by
  unfold S1b LoopSt
  rw [Finset.range_zero, bigSep_empty, bigSep_empty]
  iintro ⟨HX, Hq, ⟨HO, HK, HV, HK1, HV1, HL, HT⟩, HR, HF⟩
  isplitl [HR]; · iexact HR
  isplitr [HX HF]
  · isplitl [HO]; · iexact HO
    isplitl [Hq]; · iexact Hq
    isplitl [HK]; · iexact HK
    isplitl [HV]; · iexact HV
    isplitl [HK1]; · iexact HK1
    isplitl [HV1]; · iexact HV1
    isplitl [HL]; · iexact HL
    isplitr; · iempintro
    isplitl [HT]; · iexact HT
    iempintro
  isplitl [HX]; · iexact HX
  iexact HF

theorem p29 {α : Type} (c : Dev nD) (v2 v19 v30 : BitVec 32) {k : _ → PT (F := F) α} {Q : α → sProp 𝕄} {R : sProp 𝕄}
    (h : ∀ f, PartGood m c (nx c).val f → (iprop((partL c ↦[chunk (nx c).val]{fullShare} f) ∗ Rec m K ∗ OW c (oAg c 1) ∗ CrS c ∗ LR m c ∗ R)
      ⊢ WP c (k (k0_pay102 (fun y => f ((Rect.unit (s := S16x9x64x128) (k0_off57 c) S1x9x64x128.size (k0_off57_inb c)).emb y)))) Q)) :
    iprop(Rec m K ∗ S1 m c ∗ R) ⊢ WP c (App k0_part29 c v2 v19 v30 >>= k) Q := by
  simp only [App, k0_part29_eq_skeleton, k0_part29_skel, Prog.lift, Prog.bind_op, Prog.bind_ret, Prog.pure_eq_ret, Prog.bind_assoc, bind_assoc]
  refine first_copies m K c (off1_eq c) rfl rfl (off1_eq c) rfl rfl ?_
  refine ld_x m c zero3 ?_
  refine ld_wq m c zero2 ?_
  refine ld_qs m c fun v => ?_
  refine st_qs m c zero2 ?_
  refine (to_loop m K c).trans ?_
  refine trips_ok m K c v2 v19 v30 ?_
  refine (from_loop m K c).trans ?_
  iintro ⟨%f, %hf, H⟩
  iapply (show iprop((partL c ↦[chunk (nx c).val]{fullShare} f) ∗ Rec m K ∗ OW c (oAg c 1) ∗ CrS c ∗ LR m c ∗ R) ⊢ _ from by
    refine ld_part c (off57_eq c) ?_
    exact h f hf)
  iexact H

end Cert.KProof

end
-- ==== Proof.Body.lean ====
/-
# The whole body

The body of the kernel, run through from its first signal to its last wait.
-/
module

public import proofs.«01_k».proof.Proof.Start

@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ UU ℕ

variable (m : (ℓ : Loc nD τ sig) → Buf (Elt F) ℓ) (K : Dev nD × CK → ℕ)

/-- What the body starts from. -/
def Begin (c : Dev nD) : sProp 𝕄 :=
  iprop(StA c 1 ∗ (Bar c 0 ∗ cred (tallyAt (kcell c bar) () 15)) ∗ S0 m c ∗ commAny c c.val ∗ NS m c ∗ Ws c ∗ Ag c ∗ En c)

theorem p22 {α : Type} (c : Dev nD) {k : _ → PT (F := F) α} {Q : α → sProp 𝕄} {P : sProp 𝕄}
    (h : ∀ v2 v19 v30 v34 v35 v36 z, P ⊢ WP c (k ⟨c, v2, v19, v30, barA, v34, v35, v36, z⟩) Q) :
    P ⊢ WP c (App k0_part22 >>= k) Q := by
  simp only [App, k0_part22_eq_skeleton, k0_part22_skel, Prog.lift, Prog.bind_op, Prog.bind_ret, Prog.pure_eq_ret]
  show _ ⊢ wp _ _ _ _ _
  rw [wp_deviceId]
  exact h _ _ _ _ _ _ _

theorem take_comm {α : Type} (c : Dev nD) {p : PT (F := F) α} {Q : α → sProp 𝕄} {R : sProp 𝕄}
    (h : ∀ g, CommGood m c g → (iprop((commL c ↦{fullShare} g) ∗ R) ⊢ WP c p Q)) :
    iprop(∃ g, ⌜CommGood m c g⌝ ∗ (commL c ↦{fullShare} g) ∗ R) ⊢ WP c p Q := by
  iintro ⟨%g, %hg, H⟩
  iapply (h g hg)
  iexact H

/-- The whole body, from what it starts from to the last wait. -/
theorem body_run (c : Dev nD) {Q : PUnit → sProp 𝕄}
    (h : ∀ f, C2Good m c f → (iprop(Rec m K ∗ GSt c 16 16 ∗ Zend m c f) ⊢ iprop(|={Set.univ}=> Q ⟨⟩))) :
    iprop(Rec m K ∗ Begin m c) ⊢ WP c (App cc0_body : PT (F := F) PUnit) Q := by
  unfold Begin
  simp only [App, cc0_body_eq_skeleton, cc0_body_skel, k0_part97_eq_skeleton, k0_part97_skel, bind_assoc, Prog.bind_assoc, Prog.lift, Prog.bind_op, Prog.bind_ret, Prog.pure_eq_ret]
  refine p22 c fun v2 v19 v30 v34 v35 v36 z => ?_
  simp only [k0_part23_eq_skeleton, k0_part23_skel, semSignalWord, semWaitWord, Prog.lift, Prog.bind_op, Prog.bind_ret, Prog.pure_eq_ret]
  refine step_signal m K c 1 (by decide) (by decide) (dev1_eq c) ?_
  refine step_signal m K c 2 (by decide) (by decide) (dev2_eq c) ?_
  simp only [k0_part24_eq_skeleton, k0_part24_skel, semSignalWord, semWaitWord, Prog.lift, Prog.bind_op, Prog.bind_ret, Prog.pure_eq_ret]
  refine step_signal m K c 3 (by decide) (by decide) (dev3_eq c) ?_
  refine step_signal m K c 4 (by decide) (by decide) (dev4_eq c) ?_
  refine step_signal m K c 5 (by decide) (by decide) (dev5_eq c) ?_
  simp only [k0_part25_eq_skeleton, k0_part25_skel, semSignalWord, semWaitWord, Prog.lift, Prog.bind_op, Prog.bind_ret, Prog.pure_eq_ret]
  refine step_signal m K c 6 (by decide) (by decide) (dev6_eq c) ?_
  refine step_signal m K c 7 (by decide) (by decide) (dev7_eq c) ?_
  simp only [k0_part26_eq_skeleton, k0_part26_skel, semSignalWord, semWaitWord, Prog.lift, Prog.bind_op, Prog.bind_ret, Prog.pure_eq_ret]
  refine step_signal m K c 8 (by decide) (by decide) (dev8_eq c) ?_
  refine step_signal m K c 9 (by decide) (by decide) (dev9_eq c) ?_
  refine step_signal m K c 10 (by decide) (by decide) (dev10_eq c) ?_
  simp only [k0_part27_eq_skeleton, k0_part27_skel, semSignalWord, semWaitWord, Prog.lift, Prog.bind_op, Prog.bind_ret, Prog.pure_eq_ret]
  refine step_signal m K c 11 (by decide) (by decide) (dev11_eq c) ?_
  refine step_signal m K c 12 (by decide) (by decide) (dev12_eq c) ?_
  simp only [k0_part28_eq_skeleton, k0_part28_skel, semSignalWord, semWaitWord, Prog.lift, Prog.bind_op, Prog.bind_ret, Prog.pure_eq_ret]
  refine step_signal m K c 13 (by decide) (by decide) (dev13_eq c) ?_
  refine step_signal m K c 14 (by decide) (by decide) (dev14_eq c) ?_
  refine step_signal m K c 15 (by decide) (by decide) (dev15_eq c) ?_
  refine (to_barrier m K c).trans ?_
  refine step_barrier m K c ?_
  refine (from_barrier m K c).trans ?_
  refine p29 m K c _ _ _ fun f hf => ?_
  refine (to_own m K c).trans ?_
  simp only [k0_part30_eq_skeleton, k0_part30_skel, semSignalWord, semWaitWord, Prog.lift, Prog.bind_op, Prog.bind_ret, Prog.pure_eq_ret]
  refine ld_own c (k0_off58_eq c) fun v => ?_
  refine st_own m c hf (off57_eq c) (k0_off58_eq c) ?_
  refine (to_rs m K c).trans ?_
  refine step_rs m K c 1 (by decide) (by decide) (off59_eq c 1) ?_
  simp only [k0_part31_eq_skeleton, k0_part31_skel, semSignalWord, semWaitWord, Prog.lift, Prog.bind_op, Prog.bind_ret, Prog.pure_eq_ret]
  refine step_rs m K c 2 (by decide) (by decide) (off59_eq c 2) ?_
  refine step_rs m K c 3 (by decide) (by decide) (off59_eq c 3) ?_
  simp only [k0_part32_eq_skeleton, k0_part32_skel, semSignalWord, semWaitWord, Prog.lift, Prog.bind_op, Prog.bind_ret, Prog.pure_eq_ret]
  refine step_rs m K c 4 (by decide) (by decide) (off59_eq c 4) ?_
  simp only [k0_part33_eq_skeleton, k0_part33_skel, semSignalWord, semWaitWord, Prog.lift, Prog.bind_op, Prog.bind_ret, Prog.pure_eq_ret]
  refine step_rs m K c 5 (by decide) (by decide) (off59_eq c 5) ?_
  refine step_rs m K c 6 (by decide) (by decide) (off59_eq c 6) ?_
  simp only [k0_part34_eq_skeleton, k0_part34_skel, semSignalWord, semWaitWord, Prog.lift, Prog.bind_op, Prog.bind_ret, Prog.pure_eq_ret]
  refine step_rs m K c 7 (by decide) (by decide) (off59_eq c 7) ?_
  simp only [k0_part35_eq_skeleton, k0_part35_skel, semSignalWord, semWaitWord, Prog.lift, Prog.bind_op, Prog.bind_ret, Prog.pure_eq_ret]
  refine step_rs m K c 8 (by decide) (by decide) (off59_eq c 8) ?_
  refine step_rs m K c 9 (by decide) (by decide) (off59_eq c 9) ?_
  simp only [k0_part36_eq_skeleton, k0_part36_skel, semSignalWord, semWaitWord, Prog.lift, Prog.bind_op, Prog.bind_ret, Prog.pure_eq_ret]
  refine step_rs m K c 10 (by decide) (by decide) (off59_eq c 10) ?_
  refine step_rs m K c 11 (by decide) (by decide) (off59_eq c 11) ?_
  simp only [k0_part37_eq_skeleton, k0_part37_skel, semSignalWord, semWaitWord, Prog.lift, Prog.bind_op, Prog.bind_ret, Prog.pure_eq_ret]
  refine step_rs m K c 12 (by decide) (by decide) (off59_eq c 12) ?_
  simp only [k0_part38_eq_skeleton, k0_part38_skel, semSignalWord, semWaitWord, Prog.lift, Prog.bind_op, Prog.bind_ret, Prog.pure_eq_ret]
  refine step_rs m K c 13 (by decide) (by decide) (off59_eq c 13) ?_
  refine step_rs m K c 14 (by decide) (by decide) (off59_eq c 14) ?_
  simp only [k0_part39_eq_skeleton, k0_part39_skel, semSignalWord, semWaitWord, Prog.lift, Prog.bind_op, Prog.bind_ret, Prog.pure_eq_ret]
  refine step_rs m K c 15 (by decide) (by decide) (off59_eq c 15) ?_
  refine (from_rs m K c).trans ?_
  refine take_comm m c fun g hg => ?_
  refine ld_comm c zero4 ?_
  refine (to_nck m K c).trans ?_
  refine ld_nck c fun v => ?_
  refine st_nck c 0 rfl rfl ?_
  refine ld_nck c fun v => ?_
  refine st_nck c 1 rfl rfl ?_
  simp only [k0_part40_eq_skeleton, k0_part40_skel, semSignalWord, semWaitWord, Prog.lift, Prog.bind_op, Prog.bind_ret, Prog.pure_eq_ret]
  refine ld_nck c fun v => ?_
  refine st_nck c 2 rfl rfl ?_
  refine ld_nck c fun v => ?_
  refine st_nck c 3 rfl rfl ?_
  refine ld_nck c fun v => ?_
  refine st_nck c 4 rfl rfl ?_
  refine ld_nck c fun v => ?_
  refine st_nck c 5 rfl rfl ?_
  refine ld_nck c fun v => ?_
  refine st_nck c 6 rfl rfl ?_
  simp only [k0_part41_eq_skeleton, k0_part41_skel, semSignalWord, semWaitWord, Prog.lift, Prog.bind_op, Prog.bind_ret, Prog.pure_eq_ret]
  refine ld_nck c fun v => ?_
  refine st_nck c 7 rfl rfl ?_
  refine ld_nck_all c zero2 ?_
  refine (to_wo m K c).trans ?_
  refine ld_wo m c zero2 ?_
  refine (to_row m c).trans ?_
  refine ld_row c (k0_off61_eq c) fun v => ?_
  refine st_row m c hg (k0_off61_eq c) ?_
  refine to_out m c fun f hC => ?_
  simp only [k0_part42_eq_skeleton, k0_part42_skel, semSignalWord, semWaitWord, Prog.lift, Prog.bind_op, Prog.bind_ret, Prog.pure_eq_ret]
  refine ld_out0 c fun v => ?_
  refine st_out0 m c hg (off62_eq c) ?_
  refine (to_ag m K c).trans ?_
  refine step_ag m K c hC 1 (by decide) (by decide) (dev20_eq c) (off59_eq c 1) (k0_off63_eq c) (k0_off64_eq c) (k0_off64_eq c) ?_
  simp only [k0_part43_eq_skeleton, k0_part43_skel, semSignalWord, semWaitWord, Prog.lift, Prog.bind_op, Prog.bind_ret, Prog.pure_eq_ret]
  refine step_ag m K c hC 2 (by decide) (by decide) (dev21_eq c) (off59_eq c 2) (k0_off63_eq c) (k0_off64_eq c) (k0_off64_eq c) ?_
  refine step_ag m K c hC 3 (by decide) (by decide) (dev22_eq c) (off59_eq c 3) (k0_off63_eq c) (k0_off64_eq c) (k0_off64_eq c) ?_
  simp only [k0_part44_eq_skeleton, k0_part44_skel, semSignalWord, semWaitWord, Prog.lift, Prog.bind_op, Prog.bind_ret, Prog.pure_eq_ret]
  refine step_ag m K c hC 4 (by decide) (by decide) (dev23_eq c) (off59_eq c 4) (k0_off63_eq c) (k0_off64_eq c) (k0_off64_eq c) ?_
  simp only [k0_part45_eq_skeleton, k0_part45_skel, semSignalWord, semWaitWord, Prog.lift, Prog.bind_op, Prog.bind_ret, Prog.pure_eq_ret]
  refine step_ag m K c hC 5 (by decide) (by decide) (dev24_eq c) (off59_eq c 5) (k0_off63_eq c) (k0_off64_eq c) (k0_off64_eq c) ?_
  refine step_ag m K c hC 6 (by decide) (by decide) (dev25_eq c) (off59_eq c 6) (k0_off63_eq c) (k0_off64_eq c) (k0_off64_eq c) ?_
  simp only [k0_part46_eq_skeleton, k0_part46_skel, semSignalWord, semWaitWord, Prog.lift, Prog.bind_op, Prog.bind_ret, Prog.pure_eq_ret]
  refine step_ag m K c hC 7 (by decide) (by decide) (dev26_eq c) (off59_eq c 7) (k0_off63_eq c) (k0_off64_eq c) (k0_off64_eq c) ?_
  refine step_ag m K c hC 8 (by decide) (by decide) (dev27_eq c) (off59_eq c 8) (k0_off63_eq c) (k0_off64_eq c) (k0_off64_eq c) ?_
  simp only [k0_part47_eq_skeleton, k0_part47_skel, semSignalWord, semWaitWord, Prog.lift, Prog.bind_op, Prog.bind_ret, Prog.pure_eq_ret]
  refine step_ag m K c hC 9 (by decide) (by decide) (dev28_eq c) (off59_eq c 9) (k0_off63_eq c) (k0_off64_eq c) (k0_off64_eq c) ?_
  refine step_ag m K c hC 10 (by decide) (by decide) (dev29_eq c) (off59_eq c 10) (k0_off63_eq c) (k0_off64_eq c) (k0_off64_eq c) ?_
  simp only [k0_part48_eq_skeleton, k0_part48_skel, semSignalWord, semWaitWord, Prog.lift, Prog.bind_op, Prog.bind_ret, Prog.pure_eq_ret]
  refine step_ag m K c hC 11 (by decide) (by decide) (dev30_eq c) (off59_eq c 11) (k0_off63_eq c) (k0_off64_eq c) (k0_off64_eq c) ?_
  simp only [k0_part49_eq_skeleton, k0_part49_skel, semSignalWord, semWaitWord, Prog.lift, Prog.bind_op, Prog.bind_ret, Prog.pure_eq_ret]
  refine step_ag m K c hC 12 (by decide) (by decide) (dev31_eq c) (off59_eq c 12) (k0_off63_eq c) (k0_off64_eq c) (k0_off64_eq c) ?_
  refine step_ag m K c hC 13 (by decide) (by decide) (dev32_eq c) (off59_eq c 13) (k0_off63_eq c) (k0_off64_eq c) (k0_off64_eq c) ?_
  simp only [k0_part50_eq_skeleton, k0_part50_skel, semSignalWord, semWaitWord, Prog.lift, Prog.bind_op, Prog.bind_ret, Prog.pure_eq_ret]
  refine step_ag m K c hC 14 (by decide) (by decide) (dev33_eq c) (off59_eq c 14) (k0_off63_eq c) (k0_off64_eq c) (k0_off64_eq c) ?_
  refine step_ag m K c hC 15 (by decide) (by decide) (dev34_eq c) (off59_eq c 15) (k0_off63_eq c) (k0_off64_eq c) (k0_off64_eq c) ?_
  refine (from_ag m K c).trans ?_
  simp only [k0_part51_eq_skeleton, k0_part51_skel, semSignalWord, semWaitWord, Prog.lift, Prog.bind_op, Prog.bind_ret, Prog.pure_eq_ret]
  refine step_agw m K c 1 (by decide) (by decide) (off59_eq c 1) fun f1 hf1 => ?_
  refine ld_c2 m K c hf1 (off66_eq c 1) fun g1 hg1 => ?_
  simp only [k0_part52_eq_skeleton, k0_part52_skel, semSignalWord, semWaitWord, Prog.lift, Prog.bind_op, Prog.bind_ret, Prog.pure_eq_ret]
  refine ld_out m K c fun v => ?_
  refine st_out m K c 1 (by decide) (by decide) hg1 (off67_eq c 1) rfl ?_
  simp only [k0_part53_eq_skeleton, k0_part53_skel, semSignalWord, semWaitWord, Prog.lift, Prog.bind_op, Prog.bind_ret, Prog.pure_eq_ret]
  refine step_agw m K c 2 (by decide) (by decide) (off59_eq c 2) fun f2 hf2 => ?_
  refine ld_c2 m K c hf2 (off66_eq c 2) fun g2 hg2 => ?_
  simp only [k0_part54_eq_skeleton, k0_part54_skel, semSignalWord, semWaitWord, Prog.lift, Prog.bind_op, Prog.bind_ret, Prog.pure_eq_ret]
  refine ld_out m K c fun v => ?_
  refine st_out m K c 2 (by decide) (by decide) hg2 (off67_eq c 2) rfl ?_
  refine step_agw m K c 3 (by decide) (by decide) (off59_eq c 3) fun f3 hf3 => ?_
  simp only [k0_part55_eq_skeleton, k0_part55_skel, semSignalWord, semWaitWord, Prog.lift, Prog.bind_op, Prog.bind_ret, Prog.pure_eq_ret]
  refine ld_c2 m K c hf3 (off66_eq c 3) fun g3 hg3 => ?_
  simp only [k0_part56_eq_skeleton, k0_part56_skel, semSignalWord, semWaitWord, Prog.lift, Prog.bind_op, Prog.bind_ret, Prog.pure_eq_ret]
  refine ld_out m K c fun v => ?_
  refine st_out m K c 3 (by decide) (by decide) hg3 (off67_eq c 3) rfl ?_
  refine step_agw m K c 4 (by decide) (by decide) (off59_eq c 4) fun f4 hf4 => ?_
  simp only [k0_part57_eq_skeleton, k0_part57_skel, semSignalWord, semWaitWord, Prog.lift, Prog.bind_op, Prog.bind_ret, Prog.pure_eq_ret]
  refine ld_c2 m K c hf4 (off66_eq c 4) fun g4 hg4 => ?_
  refine ld_out m K c fun v => ?_
  refine st_out m K c 4 (by decide) (by decide) hg4 (off67_eq c 4) rfl ?_
  simp only [k0_part58_eq_skeleton, k0_part58_skel, semSignalWord, semWaitWord, Prog.lift, Prog.bind_op, Prog.bind_ret, Prog.pure_eq_ret]
  refine step_agw m K c 5 (by decide) (by decide) (off59_eq c 5) fun f5 hf5 => ?_
  refine ld_c2 m K c hf5 (off66_eq c 5) fun g5 hg5 => ?_
  simp only [k0_part59_eq_skeleton, k0_part59_skel, semSignalWord, semWaitWord, Prog.lift, Prog.bind_op, Prog.bind_ret, Prog.pure_eq_ret]
  refine ld_out m K c fun v => ?_
  refine st_out m K c 5 (by decide) (by decide) hg5 (off67_eq c 5) rfl ?_
  simp only [k0_part60_eq_skeleton, k0_part60_skel, semSignalWord, semWaitWord, Prog.lift, Prog.bind_op, Prog.bind_ret, Prog.pure_eq_ret]
  refine step_agw m K c 6 (by decide) (by decide) (off59_eq c 6) fun f6 hf6 => ?_
  refine ld_c2 m K c hf6 (off66_eq c 6) fun g6 hg6 => ?_
  simp only [k0_part61_eq_skeleton, k0_part61_skel, semSignalWord, semWaitWord, Prog.lift, Prog.bind_op, Prog.bind_ret, Prog.pure_eq_ret]
  refine ld_out m K c fun v => ?_
  refine st_out m K c 6 (by decide) (by decide) hg6 (off67_eq c 6) rfl ?_
  simp only [k0_part62_eq_skeleton, k0_part62_skel, semSignalWord, semWaitWord, Prog.lift, Prog.bind_op, Prog.bind_ret, Prog.pure_eq_ret]
  refine step_agw m K c 7 (by decide) (by decide) (off59_eq c 7) fun f7 hf7 => ?_
  refine ld_c2 m K c hf7 (off66_eq c 7) fun g7 hg7 => ?_
  simp only [k0_part63_eq_skeleton, k0_part63_skel, semSignalWord, semWaitWord, Prog.lift, Prog.bind_op, Prog.bind_ret, Prog.pure_eq_ret]
  refine ld_out m K c fun v => ?_
  refine st_out m K c 7 (by decide) (by decide) hg7 (off67_eq c 7) rfl ?_
  refine step_agw m K c 8 (by decide) (by decide) (off59_eq c 8) fun f8 hf8 => ?_
  simp only [k0_part64_eq_skeleton, k0_part64_skel, semSignalWord, semWaitWord, Prog.lift, Prog.bind_op, Prog.bind_ret, Prog.pure_eq_ret]
  refine ld_c2 m K c hf8 (off66_eq c 8) fun g8 hg8 => ?_
  refine ld_out m K c fun v => ?_
  simp only [k0_part65_eq_skeleton, k0_part65_skel, semSignalWord, semWaitWord, Prog.lift, Prog.bind_op, Prog.bind_ret, Prog.pure_eq_ret]
  refine st_out m K c 8 (by decide) (by decide) hg8 (off67_eq c 8) rfl ?_
  refine step_agw m K c 9 (by decide) (by decide) (off59_eq c 9) fun f9 hf9 => ?_
  refine ld_c2 m K c hf9 (off66_eq c 9) fun g9 hg9 => ?_
  simp only [k0_part66_eq_skeleton, k0_part66_skel, semSignalWord, semWaitWord, Prog.lift, Prog.bind_op, Prog.bind_ret, Prog.pure_eq_ret]
  refine ld_out m K c fun v => ?_
  refine st_out m K c 9 (by decide) (by decide) hg9 (off67_eq c 9) rfl ?_
  simp only [k0_part67_eq_skeleton, k0_part67_skel, semSignalWord, semWaitWord, Prog.lift, Prog.bind_op, Prog.bind_ret, Prog.pure_eq_ret]
  refine step_agw m K c 10 (by decide) (by decide) (off59_eq c 10) fun f10 hf10 => ?_
  refine ld_c2 m K c hf10 (off66_eq c 10) fun g10 hg10 => ?_
  simp only [k0_part68_eq_skeleton, k0_part68_skel, semSignalWord, semWaitWord, Prog.lift, Prog.bind_op, Prog.bind_ret, Prog.pure_eq_ret]
  refine ld_out m K c fun v => ?_
  refine st_out m K c 10 (by decide) (by decide) hg10 (off67_eq c 10) rfl ?_
  simp only [k0_part69_eq_skeleton, k0_part69_skel, semSignalWord, semWaitWord, Prog.lift, Prog.bind_op, Prog.bind_ret, Prog.pure_eq_ret]
  refine step_agw m K c 11 (by decide) (by decide) (off59_eq c 11) fun f11 hf11 => ?_
  refine ld_c2 m K c hf11 (off66_eq c 11) fun g11 hg11 => ?_
  simp only [k0_part70_eq_skeleton, k0_part70_skel, semSignalWord, semWaitWord, Prog.lift, Prog.bind_op, Prog.bind_ret, Prog.pure_eq_ret]
  refine ld_out m K c fun v => ?_
  refine st_out m K c 11 (by decide) (by decide) hg11 (off67_eq c 11) rfl ?_
  refine step_agw m K c 12 (by decide) (by decide) (off59_eq c 12) fun f12 hf12 => ?_
  simp only [k0_part71_eq_skeleton, k0_part71_skel, semSignalWord, semWaitWord, Prog.lift, Prog.bind_op, Prog.bind_ret, Prog.pure_eq_ret]
  refine ld_c2 m K c hf12 (off66_eq c 12) fun g12 hg12 => ?_
  simp only [k0_part72_eq_skeleton, k0_part72_skel, semSignalWord, semWaitWord, Prog.lift, Prog.bind_op, Prog.bind_ret, Prog.pure_eq_ret]
  refine ld_out m K c fun v => ?_
  refine st_out m K c 12 (by decide) (by decide) hg12 (off67_eq c 12) rfl ?_
  refine step_agw m K c 13 (by decide) (by decide) (off59_eq c 13) fun f13 hf13 => ?_
  simp only [k0_part73_eq_skeleton, k0_part73_skel, semSignalWord, semWaitWord, Prog.lift, Prog.bind_op, Prog.bind_ret, Prog.pure_eq_ret]
  refine ld_c2 m K c hf13 (off66_eq c 13) fun g13 hg13 => ?_
  refine ld_out m K c fun v => ?_
  refine st_out m K c 13 (by decide) (by decide) hg13 (off67_eq c 13) rfl ?_
  simp only [k0_part74_eq_skeleton, k0_part74_skel, semSignalWord, semWaitWord, Prog.lift, Prog.bind_op, Prog.bind_ret, Prog.pure_eq_ret]
  refine step_agw m K c 14 (by decide) (by decide) (off59_eq c 14) fun f14 hf14 => ?_
  refine ld_c2 m K c hf14 (off66_eq c 14) fun g14 hg14 => ?_
  simp only [k0_part75_eq_skeleton, k0_part75_skel, semSignalWord, semWaitWord, Prog.lift, Prog.bind_op, Prog.bind_ret, Prog.pure_eq_ret]
  refine ld_out m K c fun v => ?_
  refine st_out m K c 14 (by decide) (by decide) hg14 (off67_eq c 14) rfl ?_
  simp only [k0_part76_eq_skeleton, k0_part76_skel, semSignalWord, semWaitWord, Prog.lift, Prog.bind_op, Prog.bind_ret, Prog.pure_eq_ret]
  refine step_agw m K c 15 (by decide) (by decide) (off59_eq c 15) fun f15 hf15 => ?_
  refine ld_c2 m K c hf15 (off66_eq c 15) fun g15 hg15 => ?_
  simp only [k0_part77_eq_skeleton, k0_part77_skel, semSignalWord, semWaitWord, Prog.lift, Prog.bind_op, Prog.bind_ret, Prog.pure_eq_ret]
  refine ld_out m K c fun v => ?_
  refine st_out m K c 15 (by decide) (by decide) hg15 (off67_eq c 15) rfl ?_
  refine (to_send m K c).trans ?_
  simp only [k0_part78_eq_skeleton, k0_part78_skel, semSignalWord, semWaitWord, Prog.lift, Prog.bind_op, Prog.bind_ret, Prog.pure_eq_ret]
  refine step_snd m K c 1 1 (by decide) (by decide) (off68_eq c 1) ?_
  refine step_asw m K c 2 1 (by decide) (by decide) (off59_eq c 1) ?_
  simp only [k0_part79_eq_skeleton, k0_part79_skel, semSignalWord, semWaitWord, Prog.lift, Prog.bind_op, Prog.bind_ret, Prog.pure_eq_ret]
  refine step_snd m K c 2 2 (by decide) (by decide) (off68_eq c 2) ?_
  simp only [k0_part80_eq_skeleton, k0_part80_skel, semSignalWord, semWaitWord, Prog.lift, Prog.bind_op, Prog.bind_ret, Prog.pure_eq_ret]
  refine step_asw m K c 3 2 (by decide) (by decide) (off59_eq c 2) ?_
  refine step_snd m K c 3 3 (by decide) (by decide) (off68_eq c 3) ?_
  simp only [k0_part81_eq_skeleton, k0_part81_skel, semSignalWord, semWaitWord, Prog.lift, Prog.bind_op, Prog.bind_ret, Prog.pure_eq_ret]
  refine step_asw m K c 4 3 (by decide) (by decide) (off59_eq c 3) ?_
  simp only [k0_part82_eq_skeleton, k0_part82_skel, semSignalWord, semWaitWord, Prog.lift, Prog.bind_op, Prog.bind_ret, Prog.pure_eq_ret]
  refine step_snd m K c 4 4 (by decide) (by decide) (off68_eq c 4) ?_
  refine step_asw m K c 5 4 (by decide) (by decide) (off59_eq c 4) ?_
  simp only [k0_part83_eq_skeleton, k0_part83_skel, semSignalWord, semWaitWord, Prog.lift, Prog.bind_op, Prog.bind_ret, Prog.pure_eq_ret]
  refine step_snd m K c 5 5 (by decide) (by decide) (off68_eq c 5) ?_
  simp only [k0_part84_eq_skeleton, k0_part84_skel, semSignalWord, semWaitWord, Prog.lift, Prog.bind_op, Prog.bind_ret, Prog.pure_eq_ret]
  refine step_asw m K c 6 5 (by decide) (by decide) (off59_eq c 5) ?_
  refine step_snd m K c 6 6 (by decide) (by decide) (off68_eq c 6) ?_
  simp only [k0_part85_eq_skeleton, k0_part85_skel, semSignalWord, semWaitWord, Prog.lift, Prog.bind_op, Prog.bind_ret, Prog.pure_eq_ret]
  refine step_asw m K c 7 6 (by decide) (by decide) (off59_eq c 6) ?_
  simp only [k0_part86_eq_skeleton, k0_part86_skel, semSignalWord, semWaitWord, Prog.lift, Prog.bind_op, Prog.bind_ret, Prog.pure_eq_ret]
  refine step_snd m K c 7 7 (by decide) (by decide) (off68_eq c 7) ?_
  refine step_asw m K c 8 7 (by decide) (by decide) (off59_eq c 7) ?_
  simp only [k0_part87_eq_skeleton, k0_part87_skel, semSignalWord, semWaitWord, Prog.lift, Prog.bind_op, Prog.bind_ret, Prog.pure_eq_ret]
  refine step_snd m K c 8 8 (by decide) (by decide) (off68_eq c 8) ?_
  simp only [k0_part88_eq_skeleton, k0_part88_skel, semSignalWord, semWaitWord, Prog.lift, Prog.bind_op, Prog.bind_ret, Prog.pure_eq_ret]
  refine step_asw m K c 9 8 (by decide) (by decide) (off59_eq c 8) ?_
  refine step_snd m K c 9 9 (by decide) (by decide) (off68_eq c 9) ?_
  simp only [k0_part89_eq_skeleton, k0_part89_skel, semSignalWord, semWaitWord, Prog.lift, Prog.bind_op, Prog.bind_ret, Prog.pure_eq_ret]
  refine step_asw m K c 10 9 (by decide) (by decide) (off59_eq c 9) ?_
  simp only [k0_part90_eq_skeleton, k0_part90_skel, semSignalWord, semWaitWord, Prog.lift, Prog.bind_op, Prog.bind_ret, Prog.pure_eq_ret]
  refine step_snd m K c 10 10 (by decide) (by decide) (off68_eq c 10) ?_
  refine step_asw m K c 11 10 (by decide) (by decide) (off59_eq c 10) ?_
  simp only [k0_part91_eq_skeleton, k0_part91_skel, semSignalWord, semWaitWord, Prog.lift, Prog.bind_op, Prog.bind_ret, Prog.pure_eq_ret]
  refine step_snd m K c 11 11 (by decide) (by decide) (off68_eq c 11) ?_
  simp only [k0_part92_eq_skeleton, k0_part92_skel, semSignalWord, semWaitWord, Prog.lift, Prog.bind_op, Prog.bind_ret, Prog.pure_eq_ret]
  refine step_asw m K c 12 11 (by decide) (by decide) (off59_eq c 11) ?_
  refine step_snd m K c 12 12 (by decide) (by decide) (off68_eq c 12) ?_
  simp only [k0_part93_eq_skeleton, k0_part93_skel, semSignalWord, semWaitWord, Prog.lift, Prog.bind_op, Prog.bind_ret, Prog.pure_eq_ret]
  refine step_asw m K c 13 12 (by decide) (by decide) (off59_eq c 12) ?_
  simp only [k0_part94_eq_skeleton, k0_part94_skel, semSignalWord, semWaitWord, Prog.lift, Prog.bind_op, Prog.bind_ret, Prog.pure_eq_ret]
  refine step_snd m K c 13 13 (by decide) (by decide) (off68_eq c 13) ?_
  refine step_asw m K c 14 13 (by decide) (by decide) (off59_eq c 13) ?_
  simp only [k0_part95_eq_skeleton, k0_part95_skel, semSignalWord, semWaitWord, Prog.lift, Prog.bind_op, Prog.bind_ret, Prog.pure_eq_ret]
  refine step_snd m K c 14 14 (by decide) (by decide) (off68_eq c 14) ?_
  simp only [k0_part96_eq_skeleton, k0_part96_skel, semSignalWord, semWaitWord, Prog.lift, Prog.bind_op, Prog.bind_ret, Prog.pure_eq_ret]
  refine step_asw m K c 15 14 (by decide) (by decide) (off59_eq c 14) ?_
  refine step_snd m K c 15 15 (by decide) (by decide) (off68_eq c 15) ?_
  refine step_asw m K c 16 15 (by decide) (by decide) (off59_eq c 15) ?_
  refine (h f hC).trans ?_
  show _ ⊢ wp _ _ _ _ _
  rw [wp_ret]

end Cert.KProof

end
-- ==== Proof.Split.lean ====
/-
# Whole buffers and whole families of cells

How a device's buffers are cut up at the start and put together at the end, and how all its cells are closed.
-/
module

public import proofs.«01_k».proof.Proof.Body

@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ UU ℕ

variable (m : (ℓ : Loc nD τ sig) → Buf (Elt F) ℓ) (K : Dev nD × CK → ℕ)

/-! ## A buffer and its parts -/

theorem any_join {T : Type} [DecidableEq T] {ℓ : Loc nD τ sig} (S : Finset T) (Kf : T → Finset (Idx ℓ)) (t₀ : T)
    (hd : ∀ t ∈ S, ∀ t' ∈ S, t ≠ t' → Disjoint (Kf t) (Kf t')) (hc : S.biUnion Kf = Finset.univ) :
    bigSep S (fun t => iprop(∃ f, ℓ ↦[Kf t]{fullShare} f)) ⊢ (iprop(∃ f, ℓ ↦{fullShare} f) : sProp 𝕄) := by
  have h1 : bigSep S (fun t => iprop(∃ f, ℓ ↦[Kf t]{fullShare} f)) ⊢ (iprop(∃ fs : T → Buf (Elt F) ℓ, bigSep S fun t => ℓ ↦[Kf t]{fullShare} fs t) : sProp 𝕄) :=
    bigSep_exists_pi (Y := fun _ : T => Buf (Elt F) ℓ) S (fun t y => ℓ ↦[Kf t]{fullShare} y)
  refine h1.trans ?_
  iintro ⟨%fs, H⟩
  ihave H := (pointsTo_biUnion_join S Kf fs (fs t₀) hd) $$ H
  icases H with ⟨%g, -, H⟩
  rw [hc]
  iexists g
  iexact H

theorem any_split {T : Type} [DecidableEq T] {ℓ : Loc nD τ sig} (S : Finset T) (Kf : T → Finset (Idx ℓ))
    (hd : ∀ t ∈ S, ∀ t' ∈ S, t ≠ t' → Disjoint (Kf t) (Kf t')) (hc : S.biUnion Kf = Finset.univ) :
    (iprop(∃ f, ℓ ↦{fullShare} f) : sProp 𝕄) ⊢ bigSep S (fun t => iprop(∃ f, ℓ ↦[Kf t]{fullShare} f)) := by
  iintro ⟨%f, H⟩
  ihave H := (Entails.of_eq (show (ℓ ↦{fullShare} f : sProp 𝕄) = bigSep S fun t => ℓ ↦[Kf t]{fullShare} f by
    rw [← pointsTo_biUnion (ℓ := ℓ) S Kf hd, hc])) $$ H
  have hm : (bigSep S fun t => ℓ ↦[Kf t]{fullShare} f) ⊢ (bigSep S (fun t => iprop(∃ f, ℓ ↦[Kf t]{fullShare} f)) : sProp 𝕄) :=
    bigSep_mono fun t _ => by
      show (ℓ ↦[Kf t]{fullShare} f) ⊢ (iprop(∃ f, ℓ ↦[Kf t]{fullShare} f) : sProp 𝕄)
      iintro H; iexists f; iexact H
  iapply hm; iexact H

theorem cover16 (S : Shape) (a : Fin S.rank) (h : S.size a = 16) : (Finset.univ : Finset (Fin 16)).biUnion (fun k => slab S a k.val) = Finset.univ := by
  ext i; simp only [Finset.mem_biUnion, Finset.mem_univ, true_and, iff_true]
  exact ⟨⟨i a, h ▸ (i a).isLt⟩, mem_slab.2 rfl⟩

theorem part_whole (c : Dev nD) : bigSep Finset.univ (fun k : Fin 16 => partAny (F := F) c k.val) ⊢ iprop(∃ f, partL c ↦{fullShare} f) :=
  any_join (ℓ := partL c) Finset.univ (fun k : Fin 16 => chunk k.val) 0 (fun t _ t' _ h => slab_disjoint _ _ fun e => h (Fin.ext e)) (cover16 _ _ rfl)
theorem part_chunks (c : Dev nD) : iprop(∃ f, partL c ↦{fullShare} f) ⊢ bigSep Finset.univ (fun k : Fin 16 => partAny (F := F) c k.val) :=
  any_split (ℓ := partL c) Finset.univ (fun k : Fin 16 => chunk k.val) (fun t _ t' _ h => slab_disjoint _ _ fun e => h (Fin.ext e)) (cover16 _ _ rfl)
theorem comm_split (c : Dev nD) : iprop(∃ f, commL c ↦{fullShare} f) ⊢ bigSep Finset.univ (fun k : Fin 16 => commAny (F := F) c k.val) :=
  any_split (ℓ := commL c) Finset.univ (fun k : Fin 16 => chunk k.val) (fun t _ t' _ h => slab_disjoint _ _ fun e => h (Fin.ext e)) (cover16 _ _ rfl)
theorem comm2_whole (c : Dev nD) : bigSep Finset.univ (fun k : Fin 16 => comm2Any (F := F) c k.val) ⊢ iprop(∃ f, comm2L c ↦{fullShare} f) :=
  any_join (ℓ := comm2L c) Finset.univ (fun k : Fin 16 => crow k.val) 0 (fun t _ t' _ h => slab_disjoint _ _ fun e => h (Fin.ext e)) (cover16 _ _ rfl)
theorem comm2_split (c : Dev nD) : iprop(∃ f, comm2L c ↦{fullShare} f) ⊢ bigSep Finset.univ (fun k : Fin 16 => comm2Any (F := F) c k.val) :=
  any_split (ℓ := comm2L c) Finset.univ (fun k : Fin 16 => crow k.val) (fun t _ t' _ h => slab_disjoint _ _ fun e => h (Fin.ext e)) (cover16 _ _ rfl)

theorem two_range (Φ : ℕ → sProp 𝕄) : bigSep (Finset.range 2) Φ = iprop(Φ 1 ∗ Φ 0) := by
  rw [range_succ Φ 1, range_succ Φ 0, Finset.range_zero, bigSep_empty]
  exact congrArg _ (equiv_iff.mp sep_emp)

theorem kb_join (c : Dev nD) : iprop(kbAny (F := F) c 1 ∗ kbAny c 0) ⊢ iprop(∃ f, kbL c ↦{fullShare} f) := by
  rw [← two_range (kbAny (F := F) c)]
  exact any_join (ℓ := kbL c) (Finset.range 2) kslot 0 (fun t _ t' _ h => slab_disjoint _ _ h) (slab_cover _ _ rfl)
theorem kb_split (c : Dev nD) : iprop(∃ f, kbL c ↦{fullShare} f) ⊢ iprop(kbAny (F := F) c 1 ∗ kbAny c 0) := by
  rw [← two_range (kbAny (F := F) c)]
  exact any_split (ℓ := kbL c) (Finset.range 2) kslot (fun t _ t' _ h => slab_disjoint _ _ h) (slab_cover _ _ rfl)
theorem vb_join (c : Dev nD) : iprop(vbAny (F := F) c 1 ∗ vbAny c 0) ⊢ iprop(∃ f, vbL c ↦{fullShare} f) := by
  rw [← two_range (vbAny (F := F) c)]
  exact any_join (ℓ := vbL c) (Finset.range 2) kslot 0 (fun t _ t' _ h => slab_disjoint _ _ h) (slab_cover _ _ rfl)
theorem vb_split (c : Dev nD) : iprop(∃ f, vbL c ↦{fullShare} f) ⊢ iprop(vbAny (F := F) c 1 ∗ vbAny c 0) := by
  rw [← two_range (vbAny (F := F) c)]
  exact any_split (ℓ := vbL c) (Finset.range 2) kslot (fun t _ t' _ h => slab_disjoint _ _ h) (slab_cover _ _ rfl)

theorem bOf_disj (c : Dev nD) : ∀ t ∈ Finset.range 4, ∀ t' ∈ Finset.range 4, t ≠ t' → Disjoint (kblk (bOf c.val t)) (kblk (bOf c.val t')) := fun t ht t' ht' h =>
  slab_disjoint _ _ fun e => by
    have hc : c.val < 16 := c.isLt
    have h1 := Finset.mem_range.1 ht; have h2 := Finset.mem_range.1 ht'
    unfold bOf at e; omega
theorem bOf_cover (c : Dev nD) : (Finset.range 4).biUnion (fun j => kblk (bOf c.val j)) = Finset.univ := by
  ext i; simp only [Finset.mem_biUnion, Finset.mem_univ, iff_true]
  have hi : (i (0 : Fin 4)).val < 4 := (i (0 : Fin 4)).isLt
  have hc : c.val < 16 := c.isLt
  refine ⟨(c.val / 4 + 4 - (i (0 : Fin 4)).val) % 4, Finset.mem_range.2 (Nat.mod_lt _ (by decide)), mem_slab.2 ?_⟩
  show (i (0 : Fin 4)).val = (c.val / 4 + 4 - (c.val / 4 + 4 - (i (0 : Fin 4)).val) % 4) % 4
  omega

/-- The keys of a device, whole, are the four trips' batch entries. -/
theorem k_blocks (c : Dev nD) : (kL c ↦{fullShare} m (kL c) : sProp 𝕄) = bigSep (Finset.range 4) fun j => kPts m c (bOf c.val j) := by
  rw [← bOf_cover c]
  exact pointsTo_biUnion (ℓ := kL c) (Finset.range 4) (fun j => kblk (bOf c.val j)) (bOf_disj c)
theorem v_blocks (c : Dev nD) : (vL c ↦{fullShare} m (vL c) : sProp 𝕄) = bigSep (Finset.range 4) fun j => vPts m c (bOf c.val j) := by
  rw [← bOf_cover c]
  exact pointsTo_biUnion (ℓ := vL c) (Finset.range 4) (fun j => kblk (bOf c.val j)) (bOf_disj c)
theorem hb_blocks (c : Dev nD) : bigSep (Finset.range 4) (HB m c) = iprop((kL c ↦{fullShare} m (kL c)) ∗ vL c ↦{fullShare} m (vL c)) := by
  rw [k_blocks, v_blocks]
  exact bigSep_sep' _ _ _

/-! ## A device's cells -/

theorem ck_split (Φ : CK → sProp 𝕄) : bigSep Finset.univ Φ
    = iprop(Φ bar ∗ (bigSep Finset.univ (fun k => Φ (rsS k)) ∗ bigSep Finset.univ (fun k => Φ (rsR k)) ∗ bigSep Finset.univ (fun k => Φ (agS k)) ∗ bigSep Finset.univ (fun k => Φ (agR k)))
      ∗ (Φ (lc 0 0) ∗ Φ (lc 0 1)) ∗ (Φ (lc 1 0) ∗ Φ (lc 1 1))) := by
  rw [bigSep_univ_sum, bigSep_univ_sum, bigSep_univ_prod, bigSep_univ_prod,
    show (Finset.univ : Finset Unit) = {()} from rfl, bigSep_singleton,
    bigSep_univ_eq_bigSepL [(0 : Fin 4), 1, 2, 3] (by decide) (by decide), bigSep_univ_two, bigSep_univ_two, bigSep_univ_two]
  rfl

/-- A family's cells: the idle one, and the fifteen live ones. -/
theorem fam_split (c : Dev nD) (a : Fin 4) (d : Fin 16) (hd : ∀ k, live c a k = (k != d)) (Φ : Fin 16 → ℕ → sProp 𝕄) :
    bigSep Finset.univ (fun k => Φ k (lastR c (.inr (.inl (a, k))))) = iprop(Φ d 0 ∗ bigSep (Finset.Ico 1 16) fun o => Φ (pl d o) 1) := by
  rw [ring_split d]
  have h0 : lastR c (.inr (.inl (a, d))) = 0 := by
    show (if live c a d then 1 else 0) = 0
    rw [hd]; simp
  have h1 : ∀ o ∈ Finset.Ico 1 16, lastR c (.inr (.inl (a, pl d o))) = 1 := fun o ho => by
    show (if live c a (pl d o) then 1 else 0) = 1
    rw [hd]
    have : pl d o ≠ d := fun e => pl_ne' (Finset.mem_Ico.1 ho).1 (Finset.mem_Ico.1 ho).2 e.symm
    simp [this]
  rw [h0]
  exact congrArg _ (bigSep_congr fun o ho => by rw [h1 o ho])

/-- All the positions of a device's cells once everything is over. -/
def Over (c : Dev nD) : sProp 𝕄 := bigSep Finset.univ fun k : CK => atPos ER (kcell c k) (lastR c k) ∅ 0

theorem over_eq (c : Dev nD) : Over (F := F) c
    = iprop(Bar c 1
      ∗ ((atPos ER (kcell c (rsS (nx c))) 0 ∅ 0 ∗ bigSep (Finset.Ico 1 16) fun o => atPos ER (kcell c (rsS (pl (nx c) o))) 1 ∅ 0)
        ∗ (atPos ER (kcell c (rsR c)) 0 ∅ 0 ∗ RsP c)
        ∗ (atPos ER (kcell c (agS c)) 0 ∅ 0 ∗ bigSep (Finset.Ico 1 16) fun o => atPos ER (kcell c (agS (pl c o))) 1 ∅ 0)
        ∗ (atPos ER (kcell c (agR c)) 0 ∅ 0 ∗ bigSep (Finset.Ico 1 16) fun o => atPos ER (kcell c (agR (pl c o))) 1 ∅ 0))
      ∗ (atPos ER (kcell c (lc 0 0)) 2 ∅ 0 ∗ atPos ER (kcell c (lc 0 1)) 2 ∅ 0) ∗ (atPos ER (kcell c (lc 1 0)) 2 ∅ 0 ∗ atPos ER (kcell c (lc 1 1)) 2 ∅ 0)) := by
  unfold Over
  rw [ck_split, fam_split c 0 (nx c) (fun _ => rfl) (fun k r => atPos ER (kcell c (rsS k)) r ∅ 0),
    fam_split c 1 c (fun _ => rfl) (fun k r => atPos ER (kcell c (rsR k)) r ∅ 0),
    fam_split c 2 c (fun _ => rfl) (fun k r => atPos ER (kcell c (agS k)) r ∅ 0),
    fam_split c 3 c (fun _ => rfl) (fun k r => atPos ER (kcell c (agR k)) r ∅ 0)]
  rfl

theorem with_rec {T : Type} [DecidableEq T] {R : sProp 𝕄} [BI.Persistent R] {S : Finset T} {Φ Ψ : T → sProp 𝕄} (h : ∀ i ∈ S, iprop(R ∗ Φ i) ⊢ Ψ i) :
    iprop(R ∗ bigSep S Φ) ⊢ bigSep S Ψ := by
  have h1 : iprop(R ∗ bigSep S Φ) ⊢ iprop(bigSep S (fun _ => R) ∗ bigSep S Φ) := sep_mono_left (BI.bigSep_of_persistent S R)
  refine h1.trans ?_
  rw [show iprop(bigSep S (fun _ => R) ∗ bigSep S Φ) = bigSep S (fun i => iprop(R ∗ Φ i)) from (bigSep_sep' _ _ _).symm]
  exact bigSep_mono h

/-- Every cell is closed at zero. -/
theorem close_all (c : Dev nD) : iprop(Rec m K ∗ Over c) ⊢ iprop(|={Set.univ}=> bigSep Finset.univ fun k : CK => (semVal (kcell c k) 0 : sProp 𝕄)) := by
  unfold Over
  refine BIBase.Entails.trans (with_rec (R := Rec m K) (Ψ := fun k => iprop(|={Set.univ}=> semVal (kcell c k) 0)) fun k _ => ?_) (bigSep_fupd _ _)
  have h := cell_close (g := kcell c k) (κ := K (c, k)) (R := lastR c k) ER (Rd m) (Set.mem_univ _) (fun h => h) (fun r hr => Rd_over m c k r hr)
  exact (sep_mono_left (Rec_inv m K c k)).trans h

end Cert.KProof

end
-- ==== Proof.Close.lean ====
/-
# The end of a run

After the last wait: the result is complete, the buffers are whole again and every semaphore is at zero.
-/
module

public import proofs.«01_k».proof.Proof.Split

@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ UU ℕ

variable (m : (ℓ : Loc nD τ sig) → Buf (Elt F) ℓ) (K : Dev nD × CK → ℕ)

/-! ## The end of a device's run -/

/-- The scratch buffers, at any contents. -/
def Scr (c : Dev nD) : sProp 𝕄 :=
  iprop((∃ f, qsL c ↦{fullShare} f) ∗ (∃ f, partL c ↦{fullShare} f) ∗ nckAny c ∗ commAll c ∗ (∃ f, comm2L c ↦{fullShare} f)
    ∗ (∃ f, kbL c ↦{fullShare} f) ∗ (∃ f, vbL c ↦{fullShare} f))
def KV (c : Dev nD) : sProp 𝕄 := iprop((kL c ↦{fullShare} m (kL c)) ∗ vL c ↦{fullShare} m (vL c))
def Zero (c : Dev nD) : sProp 𝕄 := bigSep Finset.univ fun k : CK => semVal (kcell c k) 0
def OutP (c : Dev nD) : sProp 𝕄 := iprop(∃ X, ⌜OutGood m c X⌝ ∗ outL c ↦{fullShare} X)
/-- What a device ends with. -/
def Post (c : Dev nD) : sProp 𝕄 := iprop(OW c 0 ∗ XW m c ∗ woP m c ∗ OutP m c ∗ Scr c ∗ Zero c ∗ KV m c)

theorem out_good (c : Dev nD) : OutSt m c 16 ⊢ OutP m c := by
  unfold OutSt OutP
  iintro ⟨%X, %h, H⟩
  iexists X
  isplitr
  · ipureintro
    intro o
    have hc : c.val < 16 := c.isLt
    have ho := o.isLt
    have e : pl c ((o.val + 16 - c.val) % 16) = o := Fin.ext (by show (c.val + (o.val + 16 - c.val) % 16) % 16 = o.val; omega)
    have := h _ (Nat.mod_lt (o.val + 16 - c.val) (by decide))
    rwa [e] at this
  iexact H

/-- The positions and the memory of a family whose cells hold both. -/
theorem pair_out (A B : ℕ → sProp 𝕄) {Φ : ℕ → sProp 𝕄} (h : ∀ o, Φ o = iprop(A o ∗ B o)) :
    bigSep (Finset.Ico 1 16) Φ ⊢ iprop(bigSep (Finset.Ico 1 16) A ∗ bigSep (Finset.Ico 1 16) B) := by
  refine (bigSep_mono fun o _ => Entails.of_eq (h o)).trans ?_
  exact Entails.of_eq (bigSep_sep' _ _ _)

theorem slots_out (c : Dev nD) : iprop(SlotK (F := F) c 4 ∗ SlotV c 4 ∗ SlotK c 5 ∗ SlotV c 5)
    ⊢ iprop(((∃ f, kbL c ↦{fullShare} f) ∗ (∃ f, vbL c ↦{fullShare} f))
      ∗ (atPos ER (kcell c (lc 0 0)) 2 ∅ 0 ∗ atPos ER (kcell c (lc 0 1)) 2 ∅ 0) ∗ (atPos ER (kcell c (lc 1 0)) 2 ∅ 0 ∗ atPos ER (kcell c (lc 1 1)) 2 ∅ 0)) := by
  unfold SlotK SlotV CellAt
  iintro ⟨⟨A0, P0, -⟩, ⟨B0, Q0, -⟩, ⟨A1, P1, -⟩, ⟨B1, Q1, -⟩⟩
  isplitl [A0 A1 B0 B1]
  · isplitl [A0 A1]
    · iapply (kb_join c)
      isplitl [A1]; · iexact A1
      iexact A0
    · iapply (vb_join c)
      isplitl [B1]; · iexact B1
      iexact B0
  isplitl [P0 Q0]
  · isplitl [P0]; · iexact P0
    iexact Q0
  · isplitl [P1]; · iexact P1
    iexact Q1

theorem parts_out (c : Dev nD) : iprop(partAny (F := F) c (nx c).val ∗ bigSep (Finset.Ico 1 16) fun o => partAny c (pl (nx c) o).val) ⊢ iprop(∃ f, partL c ↦{fullShare} f) :=
  (Entails.of_eq (ring_split (nx c) fun k : Fin 16 => partAny (F := F) c k.val).symm).trans (part_whole c)

theorem rows_out (c : Dev nD) (f : S16x64x1024.Idx → Elt F .bf16) :
    iprop(OwnLeaf c f ∗ bigSep (Finset.Ico 1 16) (fun o => comm2Leaf (F := F) c c.val (pl c o)) ∗ bigSep (Finset.Ico 1 16) fun o => comm2Any (F := F) c (pl c o).val)
      ⊢ iprop(∃ f, comm2L c ↦{fullShare} f) := by
  refine BIBase.Entails.trans ?_ ((Entails.of_eq (ring_split c fun k : Fin 16 => comm2Any (F := F) c k.val).symm).trans (comm2_whole c))
  unfold OwnLeaf
  iintro ⟨H, HL, HR⟩
  isplitl [H HL]
  · unfold comm2Any
    iexists f
    iapply (comm2_join c f)
    isplitl [H]; · iexact H
    iexact HL
  · iexact HR

/-- After the last wait everything is put together, and the cells are closed. -/
theorem finish (c : Dev nD) (f : S16x64x1024.Idx → Elt F .bf16) :
    iprop(Rec m K ∗ GSt c 16 16 ∗ Zend m c f) ⊢ iprop(|={Set.univ}=> Post m c) := by
  unfold GSt Zend LR Idle QsP
  iintro ⟨#HR, ⟨HOW, -, HSn, -, HAs⟩, HOut, HAg, HLeaf, HWo, HNck, HComm, HRs, HPart, ⟨HXW, HQs, HS4, HV4, HS5, HV5, HHB⟩, ⟨I0, I1, I2, I3⟩, HBar⟩
  ihave HSn := (pair_out (fun o => atPos ER (kcell c (rsS (pl (nx c) o))) 1 ∅ 0) (fun o => partAny (F := F) c (pl (nx c) o).val) (Φ := SndD c) (fun _ => rfl)) $$ HSn
  ihave HAs := (pair_out (fun o => atPos ER (kcell c (agS (pl c o))) 1 ∅ 0) (fun o => comm2Leaf (F := F) c c.val (pl c o)) (Φ := AsD c) (fun _ => rfl)) $$ HAs
  ihave HAg := (pair_out (fun o => atPos ER (kcell c (agR (pl c o))) 1 ∅ 0) (fun o => comm2Any (F := F) c (pl c o).val) (Φ := AgD c) (fun _ => rfl)) $$ HAg
  icases HSn with ⟨PSn, MSn⟩
  icases HAs with ⟨PAs, MAs⟩
  icases HAg with ⟨PAg, MAg⟩
  ihave HSl := (slots_out c) $$ [HS4 HV4 HS5 HV5]
  · isplitl [HS4]; · iexact HS4
    isplitl [HV4]; · iexact HV4
    isplitl [HS5]; · iexact HS5
    iexact HV5
  icases HSl with ⟨⟨HKb, HVb⟩, HLc⟩
  ihave HZ := (close_all m K c) $$ [HBar PSn PAs PAg HRs HLc I0 I1 I2 I3]
  · isplitr; · iexact HR
    rw [over_eq]
    isplitl [HBar]; · iexact HBar
    isplitr [HLc]
    · isplitl [I0 PSn]
      · isplitl [I0]; · iexact I0
        iexact PSn
      isplitl [I1 HRs]
      · isplitl [I1]; · iexact I1
        iexact HRs
      isplitl [I2 PAs]
      · isplitl [I2]; · iexact I2
        iexact PAs
      · isplitl [I3]; · iexact I3
        iexact PAg
    · iexact HLc
  imod HZ with HZ
  imodintro
  unfold Post
  isplitl [HOW]; · iexact HOW
  isplitl [HXW]; · iexact HXW
  isplitl [HWo]; · iexact HWo
  isplitl [HOut]; · iapply (out_good m c); iexact HOut
  isplitl [HQs HPart MSn HNck HComm HLeaf MAs MAg HKb HVb]
  · unfold Scr
    isplitl [HQs]; · iexists _; iexact HQs
    isplitl [HPart MSn]
    · iapply (parts_out c)
      isplitl [HPart]; · iexact HPart
      iexact MSn
    isplitl [HNck]; · iexact HNck
    isplitl [HComm]; · iexact HComm
    isplitl [HLeaf MAs MAg]
    · iapply (rows_out c f)
      isplitl [HLeaf]; · iexact HLeaf
      isplitl [MAs]; · iexact MAs
      iexact MAg
    isplitl [HKb]; · iexact HKb
    iexact HVb
  isplitl [HZ]
  · unfold Zero; iexact HZ
  · unfold KV
    iapply (Entails.of_eq (hb_blocks m c))
    iexact HHB

end Cert.KProof

end
-- ==== Proof.Deal.lean ====
/-
# Cells and tokens at launch

The launch's ghost state: a cell for every semaphore, a token for every duty; each token goes to the device that pays the duty.
-/
module

public import proofs.«01_k».proof.Proof.Close
public import Idealize.ShloMosaic.Lib.Pipeline.CollectiveSegs

@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ UU ℕ

variable (m : (ℓ : Loc nD τ sig) → Buf (Elt F) ℓ) (K : Dev nD × CK → ℕ)

/-! ## Cells and tokens at launch -/

theorem kcell_inj {a b : Dev nD} {k k' : CK} (h : kcell a k = kcell b k') : a = b ∧ k = k' :=
  ⟨congrArg (fun g : GSem nD τ sig => g.1.1) h, csem_inj (congrArg Prod.snd h)⟩

def cellAt (p : Dev nD × CK) : GSem nD τ sig := kcell p.1 p.2
theorem cellAt_inj : Function.Injective cellAt := fun p q h => Prod.ext (kcell_inj h).1 (kcell_inj h).2
def allCells : Finset (GSem nD τ sig) := Finset.univ.map ⟨cellAt, cellAt_inj⟩

/-- The tokens of one device's cells: at its barrier one of each device, at each family's cell one, at each local
    cell one of each of two rounds. -/
abbrev TK : Type := Fin 16 ⊕ ((Fin 4 × Fin 16) ⊕ ((Fin 2 × Fin 2) × Fin 2))
def tkc : TK → CK
  | .inl _ => bar
  | .inr (.inl p) => .inr (.inl p)
  | .inr (.inr (p, _)) => .inr (.inr p)
def tkr : TK → ℕ
  | .inr (.inr (_, r)) => r.val
  | _ => 0
def tkd : TK → Fin 16
  | .inl d => d
  | _ => 0
def tokAt (c : Dev nD) (t : TK) : GSem nD τ sig × ℕ × Fin 16 := (kcell c (tkc t), tkr t, tkd t)
theorem tk_inj : ∀ t t' : TK, tkc t = tkc t' → tkr t = tkr t' → tkd t = tkd t' → t = t' := by
  rintro (d | p | ⟨p, r⟩) (d' | p' | ⟨p', r'⟩) hk hr hd
  · exact congrArg Sum.inl hd
  · cases hk
  · cases hk
  · cases hk
  · cases hk; rfl
  · cases hk
  · cases hk
  · cases hk
  · cases hk
    have h3 : r = r' := Fin.ext hr
    rw [h3]
theorem tokAt_inj : Function.Injective (fun p : Dev nD × TK => tokAt p.1 p.2) := by
  rintro ⟨c, t⟩ ⟨c', t'⟩ h
  have h1 := congrArg Prod.fst h
  have h2 := congrArg Prod.snd h
  exact Prod.ext (kcell_inj h1).1 (tk_inj t t' (kcell_inj h1).2 (congrArg Prod.fst h2) (congrArg Prod.snd h2))
def allToks : Finset (GSem nD τ sig × ℕ × Fin 16) := Finset.univ.map ⟨fun p : Dev nD × TK => tokAt p.1 p.2, tokAt_inj⟩

def u₀ : UU := (initOf (Pipeline.cells cfgs cellOf_inj) (Pipeline.launchToks cfgs cellOf_inj), initOf allCells allToks)

/-- The tokens of a device's own cells. -/
def Minted (c : Dev nD) : sProp 𝕄 := bigSep Finset.univ fun t : TK => dutyTok ER (tokAt c t).1 (tokAt c t).2.1 (tokAt c t).2.2
def Dealt (c : Dev nD) : sProp 𝕄 :=
  iprop((bigSep Finset.univ fun k : CK => roundState ER (Rd m) (kcell c k) 0)
    ∗ ((bigSep Finset.univ fun k : CK => atPos ER (kcell c k) 0 ∅ 0) ∗ bigSep Finset.univ fun k : CK => reached ER (kcell c k) 0) ∗ Minted c)

theorem sep3 {T : Type} [DecidableEq T] (S : Finset T) (A B C : T → sProp 𝕄) :
    bigSep S (fun c => iprop(A c ∗ B c ∗ C c)) = iprop(bigSep S A ∗ bigSep S B ∗ bigSep S C) := by
  rw [bigSep_sep' S A (fun c => iprop(B c ∗ C c)), bigSep_sep' S B C]

theorem fund_all : BI.own (ER (initOf allCells allToks)) ⊢ (|==> bigSep Finset.univ (Dealt m) : sProp 𝕄) := by
  have hX (Φ : GSem nD τ sig → sProp 𝕄) : bigSep allCells Φ = bigSep Finset.univ fun c : Dev nD => bigSep Finset.univ fun k : CK => Φ (kcell c k) := by
    unfold allCells; rw [bigSep_map, bigSep_univ_prod]; rfl
  have hT : bigSep allToks (fun x => (dutyTok ER x.1 x.2.1 x.2.2 : sProp 𝕄)) = bigSep Finset.univ fun c : Dev nD => Minted c := by
    unfold allToks; rw [bigSep_map, bigSep_univ_prod]; rfl
  have hD : bigSep Finset.univ (Dealt m) = iprop((bigSep Finset.univ fun c : Dev nD => bigSep Finset.univ fun k : CK => roundState ER (Rd m) (kcell c k) 0)
      ∗ (bigSep Finset.univ fun c : Dev nD => iprop((bigSep Finset.univ fun k : CK => atPos ER (kcell c k) 0 ∅ 0) ∗ bigSep Finset.univ fun k : CK => reached ER (kcell c k) 0))
      ∗ bigSep Finset.univ fun c : Dev nD => Minted c) := sep3 _ _ _ _
  rw [hD, bigSep_sep' Finset.univ (fun c : Dev nD => bigSep Finset.univ fun k : CK => atPos ER (kcell c k) 0 ∅ 0) (fun c : Dev nD => bigSep Finset.univ fun k : CK => reached ER (kcell c k) 0)]
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  isplitl [Hst]; · iexact Hst
  isplitl [Hat Hr]
  · isplitl [Hat]; · iexact Hat
    iexact Hr
  iexact Htok

/-! ## The semaphores at launch -/

theorem ownSemFacts : Pipeline.OwnSemFacts cfg0.spec osem := by decide +kernel

theorem unscoped_eq (c : Dev nD) : (unscopedSems0 c : sProp 𝕄) = semVal (kcell c bar) 0 := by
  unfold unscopedSems0; rw [bigSep_eq_bigSepL_of_eq [SemLoc.reg barS] (by decide) (by decide)]; rfl

/-- All of a device's cells at zero: the kernel's own ones and the barrier. -/
theorem zero_eq (c : Dev nD) : Zero (F := F) c
    = iprop(unscopedSems0 c ∗ Pipeline.ownSems0 (Ix := Unit) (Name := ℕ) (U := UU) (Lvl := ℕ) (Val := Elt F) (τ := τ) osem c) := by
  unfold Zero Pipeline.ownSems0
  rw [bigSep_univ_sum, show (Finset.univ : Finset Unit) = {()} from rfl, bigSep_singleton, unscoped_eq]
  rfl

/-- What a device holds once its cells' invariants are made. -/
theorem cells_alloc (c : Dev nD) :
    iprop(Pipeline.ownSems0 (Ix := Unit) (Name := ℕ) (U := UU) (Lvl := ℕ) (Val := Elt F) (τ := τ) osem c ∗ unscopedSems0 c ∗ Dealt m c)
      ⊢ iprop(|={Set.univ}=> ((bigSep Finset.univ fun k : CK => iprop(∃ κ : ℕ, cellInv ER (Rd m) κ (kcell c k)))
          ∗ ((bigSep Finset.univ fun k : CK => atPos ER (kcell c k) 0 ∅ 0) ∗ bigSep Finset.univ fun k : CK => reached ER (kcell c k) 0) ∗ Minted c)) := by
  have hinv : iprop(Zero (F := F) c ∗ bigSep Finset.univ fun k : CK => roundState ER (Rd m) (kcell c k) 0)
      ⊢ iprop(|={Set.univ}=> bigSep Finset.univ fun k : CK => iprop(∃ κ : ℕ, cellInv ER (Rd m) κ (kcell c k))) := by
    unfold Zero
    rw [show iprop((bigSep Finset.univ fun k : CK => semVal (kcell c k) 0) ∗ bigSep Finset.univ fun k : CK => roundState ER (Rd m) (kcell c k) 0)
      = (bigSep Finset.univ fun k : CK => iprop(semVal (kcell c k) 0 ∗ roundState ER (Rd m) (kcell c k) 0) : sProp 𝕄) from (bigSep_sep' _ _ _).symm]
    exact (bigSep_mono fun k _ => (Rounds.body_intro ER (Rd m) (kcell c k)).trans inv_alloc).trans (bigSep_fupd _ _)
  unfold Dealt
  iintro ⟨Hos, Hus, Hst, Hat, Htok⟩
  imod hinv $$ [Hos Hus Hst] with Hinv
  · isplitr [Hst]
    · iapply (Entails.of_eq (zero_eq (F := F) c).symm)
      isplitl [Hus]; · iexact Hus
      iexact Hos
    · iexact Hst
  imodintro
  isplitl [Hinv]; · iexact Hinv
  isplitl [Hat]; · iexact Hat
  iexact Htok

/-! ## Dealing the tokens -/

theorem swap (Φ : Fin 16 → Fin 16 → sProp 𝕄) :
    bigSep Finset.univ (fun c => bigSep Finset.univ (Φ c)) = bigSep Finset.univ fun d => bigSep Finset.univ fun c => Φ c d := by
  rw [← bigSep_univ_prod (fun p : Fin 16 × Fin 16 => Φ p.1 p.2), bigSep_univ_equiv (Equiv.prodComm (Fin 16) (Fin 16)) (fun p : Fin 16 × Fin 16 => Φ p.1 p.2), bigSep_univ_prod]
  rfl

/-- What is held at every device's cell of the pair with this one goes to this one. -/
theorem swap_ring (Φ : Fin 16 → Fin 16 → sProp 𝕄) :
    bigSep Finset.univ (fun c => bigSep Finset.univ (Φ c)) ⊢ bigSep Finset.univ fun d => bigSep (Finset.Ico 1 16) fun o => Φ (pl d o) d := by
  rw [swap]
  refine bigSep_mono fun d _ => ?_
  show (bigSep Finset.univ fun c => Φ c d) ⊢ (bigSep (Finset.Ico 1 16) fun o => Φ (pl d o) d)
  rw [ring_split d]
  iintro ⟨-, H⟩
  iexact H

/-- The tokens of the duties that device `c` pays. -/
def Mine (c : Dev nD) : sProp 𝕄 :=
  iprop((bigSep (Finset.Ico 1 16) fun o => dutyTok ER (kcell (pl c o) bar) 0 c)
    ∗ (bigSep (Finset.Ico 1 16) fun o => dutyTok ER (kcell c (rsS (pl (nx c) o))) 0 0)
    ∗ (bigSep (Finset.Ico 1 16) fun o => dutyTok ER (kcell (pl c o) (rsR c)) 0 0)
    ∗ (bigSep (Finset.Ico 1 16) fun o => dutyTok ER (kcell c (agS (pl c o))) 0 0)
    ∗ (bigSep (Finset.Ico 1 16) fun o => dutyTok ER (kcell (pl c o) (agR c)) 0 0)
    ∗ bigSep (Finset.Ico 0 4) fun j => iprop(Tok c j 0 ∗ Tok c j 1))

/-- A device's tokens, by what is done with them. -/
theorem minted_eq (c : Dev nD) : Minted (F := F) c ⊢
    iprop((bigSep Finset.univ fun d : Fin 16 => dutyTok ER (kcell c bar) 0 d)
      ∗ (bigSep Finset.univ fun k : Fin 16 => dutyTok ER (kcell c (rsS k)) 0 0)
      ∗ (bigSep Finset.univ fun k : Fin 16 => dutyTok ER (kcell c (rsR k)) 0 0)
      ∗ (bigSep Finset.univ fun k : Fin 16 => dutyTok ER (kcell c (agS k)) 0 0)
      ∗ (bigSep Finset.univ fun k : Fin 16 => dutyTok ER (kcell c (agR k)) 0 0)
      ∗ bigSep (Finset.Ico 0 4) fun j => iprop(Tok c j 0 ∗ Tok c j 1)) := by
  have e : Minted (F := F) c = iprop((bigSep Finset.univ fun d : Fin 16 => dutyTok ER (kcell c bar) 0 d)
      ∗ ((bigSep Finset.univ fun k : Fin 16 => dutyTok ER (kcell c (rsS k)) 0 0)
        ∗ (bigSep Finset.univ fun k : Fin 16 => dutyTok ER (kcell c (rsR k)) 0 0)
        ∗ (bigSep Finset.univ fun k : Fin 16 => dutyTok ER (kcell c (agS k)) 0 0)
        ∗ (bigSep Finset.univ fun k : Fin 16 => dutyTok ER (kcell c (agR k)) 0 0))
      ∗ ((Tok c 0 0 ∗ Tok c 2 0) ∗ (Tok c 0 1 ∗ Tok c 2 1))
      ∗ ((Tok c 1 0 ∗ Tok c 3 0) ∗ (Tok c 1 1 ∗ Tok c 3 1))) := by
    unfold Minted
    rw [bigSep_univ_sum, bigSep_univ_sum, bigSep_univ_prod, bigSep_univ_prod, bigSep_univ_prod,
      bigSep_univ_eq_bigSepL [(0 : Fin 4), 1, 2, 3] (by decide) (by decide)]
    simp only [bigSep_univ_two]
    rfl
  rw [e, ← Finset.range_eq_Ico, range_succ _ 3, range_succ _ 2, range_succ _ 1, range_succ _ 0, Finset.range_zero, bigSep_empty]
  iintro ⟨HB, ⟨H0, H1, H2, H3⟩, ⟨⟨A00, A01⟩, ⟨B00, B01⟩⟩, ⟨⟨A10, A11⟩, ⟨B10, B11⟩⟩⟩
  isplitl [HB]; · iexact HB
  isplitl [H0]; · iexact H0
  isplitl [H1]; · iexact H1
  isplitl [H2]; · iexact H2
  isplitl [H3]; · iexact H3
  isplitl [A11 B11]
  · isplitl [A11]; · iexact A11
    iexact B11
  isplitl [A01 B01]
  · isplitl [A01]; · iexact A01
    iexact B01
  isplitl [A10 B10]
  · isplitl [A10]; · iexact A10
    iexact B10
  isplitl [A00 B00]
  · isplitl [A00]; · iexact A00
    iexact B00
  iempintro

theorem sep6 {T : Type} [DecidableEq T] (S : Finset T) (A B C D E G : T → sProp 𝕄) :
    bigSep S (fun c => iprop(A c ∗ B c ∗ C c ∗ D c ∗ E c ∗ G c)) = iprop(bigSep S A ∗ bigSep S B ∗ bigSep S C ∗ bigSep S D ∗ bigSep S E ∗ bigSep S G) := by
  rw [bigSep_sep' S A (fun c => iprop(B c ∗ C c ∗ D c ∗ E c ∗ G c)), bigSep_sep' S B (fun c => iprop(C c ∗ D c ∗ E c ∗ G c)),
    bigSep_sep' S C (fun c => iprop(D c ∗ E c ∗ G c)), bigSep_sep' S D (fun c => iprop(E c ∗ G c)), bigSep_sep' S E G]

theorem own_ring (f : Fin 16 → Fin 16) (Φ : Fin 16 → Fin 16 → sProp 𝕄) :
    bigSep Finset.univ (fun c => bigSep Finset.univ (Φ c)) ⊢ bigSep Finset.univ fun c => bigSep (Finset.Ico 1 16) fun o => Φ c (pl (f c) o) := by
  refine bigSep_mono fun c _ => ?_
  show bigSep Finset.univ (Φ c) ⊢ (bigSep (Finset.Ico 1 16) fun o => Φ c (pl (f c) o))
  rw [ring_split (f c)]
  iintro ⟨-, H⟩
  iexact H

theorem deal : bigSep Finset.univ (fun c : Dev nD => Minted (F := F) c) ⊢ bigSep Finset.univ fun c : Dev nD => Mine (F := F) c := by
  refine (bigSep_mono fun c _ => minted_eq c).trans ?_
  refine (Entails.of_eq (sep6 _ _ _ _ _ _ _)).trans ?_
  refine BIBase.Entails.trans ?_ (Entails.of_eq (sep6 Finset.univ (fun c : Dev nD => bigSep (Finset.Ico 1 16) fun o => dutyTok ER (kcell (pl c o) bar) 0 c)
    (fun c : Dev nD => bigSep (Finset.Ico 1 16) fun o => dutyTok ER (kcell c (rsS (pl (nx c) o))) 0 0)
    (fun c : Dev nD => bigSep (Finset.Ico 1 16) fun o => dutyTok ER (kcell (pl c o) (rsR c)) 0 0)
    (fun c : Dev nD => bigSep (Finset.Ico 1 16) fun o => dutyTok ER (kcell c (agS (pl c o))) 0 0)
    (fun c : Dev nD => bigSep (Finset.Ico 1 16) fun o => dutyTok ER (kcell (pl c o) (agR c)) 0 0)
    (fun c : Dev nD => bigSep (Finset.Ico 0 4) fun j => iprop(Tok c j 0 ∗ Tok c j 1))).symm)
  iintro ⟨HB, H0, H1, H2, H3, HL⟩
  isplitl [HB]; · iapply (swap_ring (fun c d => dutyTok ER (kcell c bar) 0 d)); iexact HB
  isplitl [H0]; · iapply (own_ring nx (fun c d => dutyTok ER (kcell c (rsS d)) 0 0)); iexact H0
  isplitl [H1]; · iapply (swap_ring (fun c d => dutyTok ER (kcell c (rsR d)) 0 0)); iexact H1
  isplitl [H2]; · iapply (own_ring id (fun c d => dutyTok ER (kcell c (agS d)) 0 0)); iexact H2
  isplitl [H3]; · iapply (swap_ring (fun c d => dutyTok ER (kcell c (agR d)) 0 0)); iexact H3
  iexact HL

/-- The records without the levels. -/
def Rec0 : sProp 𝕄 :=
  iprop((bigSep Finset.univ fun ck : Dev nD × CK => cellInv ER (Rd m) (K ck) (kcell ck.1 ck.2))
    ∗ bigSep Finset.univ fun ck : Dev nD × CK => reached ER (kcell ck.1 ck.2) 0)
instance Rec0_persistent : BI.Persistent (Rec0 m K) := by unfold Rec0; infer_instance

def Pos0 (c : Dev nD) : sProp 𝕄 := bigSep Finset.univ fun k : CK => atPos ER (kcell c k) 0 ∅ 0
/-- What each device has after the launch's shared step. -/
def Ready (c : Dev nD) : sProp 𝕄 := iprop(∃ K, Rec0 m K ∗ Pos0 c ∗ Mine c)

theorem regroup :
    bigSep Finset.univ (fun c : Dev nD => iprop((bigSep Finset.univ fun k : CK => iprop(∃ κ : ℕ, cellInv ER (Rd m) κ (kcell c k)))
          ∗ ((bigSep Finset.univ fun k : CK => atPos ER (kcell c k) 0 ∅ 0) ∗ bigSep Finset.univ fun k : CK => reached ER (kcell c k) 0) ∗ Minted c))
      ⊢ bigSep Finset.univ (Ready m) := by
  refine (Entails.of_eq (sep3 _ _ _ _)).trans ?_
  rw [← bigSep_univ_prod (fun ck : Dev nD × CK => iprop(∃ κ : ℕ, cellInv ER (Rd m) κ (kcell ck.1 ck.2))),
    bigSep_sep' Finset.univ (fun c : Dev nD => bigSep Finset.univ fun k : CK => atPos ER (kcell c k) 0 ∅ 0) (fun c : Dev nD => bigSep Finset.univ fun k : CK => reached ER (kcell c k) 0),
    ← bigSep_univ_prod (fun ck : Dev nD × CK => (reached ER (kcell ck.1 ck.2) 0 : sProp 𝕄))]
  iintro ⟨HI, ⟨Hat, #HR⟩, Htok⟩
  ihave HK := (bigSep_exists_pi (Y := fun _ : Dev nD × CK => ℕ) Finset.univ (fun (ck : Dev nD × CK) (κ : ℕ) => (cellInv ER (Rd m) κ (kcell ck.1 ck.2) : sProp 𝕄))) $$ HI
  icases HK with ⟨%K, #HI⟩
  ihave Htk := (deal (F := F)) $$ Htok
  iapply (with_rec (R := Rec0 m K) (Φ := fun c : Dev nD => iprop(Pos0 (F := F) c ∗ Mine c)) (Ψ := Ready m) fun c _ => by
    show iprop(Rec0 m K ∗ (Pos0 (F := F) c ∗ Mine c)) ⊢ Ready m c
    unfold Ready
    iintro H; iexists K; iexact H)
  isplitr
  · unfold Rec0; isplitl; · iexact HI
    iexact HR
  · iapply (Entails.of_eq (bigSep_sep' Finset.univ (fun c : Dev nD => Pos0 (F := F) c) (fun c : Dev nD => Mine (F := F) c)).symm)
    isplitl [Hat]; · unfold Pos0; iexact Hat
    iexact Htk

theorem glob : bigSep Finset.univ (fun c : Dev nD => iprop(Pipeline.ownSems0 (Ix := Unit) (Name := ℕ) (U := UU) (Lvl := ℕ) (Val := Elt F) (τ := τ) osem c ∗ unscopedSems0 c ∗ Dealt m c))
    ⊢ iprop(|={Set.univ}=> bigSep Finset.univ (Ready m)) :=
  ((bigSep_mono fun c _ => cells_alloc m c).trans (bigSep_fupd _ _)).trans (BI.fupd_mono (regroup m))

end Cert.KProof

end
-- ==== Proof.Credit.lean ====
/-
# What a device starts from

What all devices owe each cell, the credit each device is given for it, and the body's run from what the launch hands out.
-/
module

public import proofs.«01_k».proof.Proof.Deal

@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ UU ℕ

variable (m : (ℓ : Loc nD τ sig) → Buf (Elt F) ℓ) (K : Dev nD × CK → ℕ)

/-! ## What is owed to a cell at launch -/

theorem tally_kcell (a b : Dev nD) (k k' : CK) (N : ℕ) :
    (tallyAt (kcell a k) () N : Tally) (kcell b k') () = if a = b ∧ k = k' then N else 0 := by
  rw [tallyAt_apply]
  by_cases h : a = b ∧ k = k'
  · rw [if_pos h, if_pos]; exact ⟨by rw [h.1, h.2], rfl⟩
  · rw [if_neg h, if_neg]; rintro ⟨e, -⟩; exact h ⟨(kcell_inj e).1.symm, (kcell_inj e).2.symm⟩

theorem tsum_apply {ι : Type} (s : Finset ι) (f : ι → Tally) (g : GSem nD τ sig) : (∑ i ∈ s, f i) g () = ∑ i ∈ s, f i g () := by
  classical
  induction s using Finset.induction_on with
  | empty => rfl
  | insert a s ha ih => rw [Finset.sum_insert ha, Finset.sum_insert ha, Pi.add_apply, Finsupp.add_apply, ih]

theorem oBar_at (d c : Dev nD) (k : CK) : oBar d 1 (kcell c k) () = ∑ o ∈ Finset.Ico 1 16, if pl d o = c ∧ bar = k then 1 else 0 := by
  unfold oBar; rw [tsum_apply]; exact Finset.sum_congr rfl fun o _ => tally_kcell _ _ _ _ _
theorem oAg_at (d c : Dev nD) (k : CK) : oAg d 1 (kcell c k) () = ∑ o ∈ Finset.Ico 1 16, if pl d o = c ∧ agR d = k then N2 else 0 := by
  unfold oAg; rw [tsum_apply]; exact Finset.sum_congr rfl fun o _ => tally_kcell _ _ _ _ _
theorem oChunk_at (d c : Dev nD) (x : ℕ) (k : CK) : oChunk d x (kcell c k) () = if x ≠ (nx d).val ∧ pl 15 x = c ∧ rsR d = k then N1 else 0 := by
  unfold oChunk
  by_cases h : x = (nx d).val
  · rw [if_pos h, if_neg (fun h' => h'.1 h)]; rfl
  · rw [if_neg h, tally_kcell]
    exact if_congr ⟨fun h' => ⟨h, h'⟩, fun h' => h'.2⟩ rfl rfl
theorem oRs_at (d c : Dev nD) (k : CK) : oRs d 0 (kcell c k) ()
    = ∑ j ∈ Finset.Ico 0 4, ∑ q ∈ Finset.Ico 0 4, if 4 * bOf d.val j + q ≠ (nx d).val ∧ pl 15 (4 * bOf d.val j + q) = c ∧ rsR d = k then N1 else 0 := by
  unfold oRs oTrip; rw [tsum_apply]
  refine Finset.sum_congr rfl fun j _ => ?_
  rw [tsum_apply]
  exact Finset.sum_congr rfl fun q _ => oChunk_at _ _ _ _

theorem O₀_at (d : Dev nD) (g : GSem nD τ sig) : O₀ d g () = oBar d 1 g () + oRs d 0 g () + oAg d 1 g () := by
  unfold O₀; rw [Pi.add_apply, Finsupp.add_apply, Pi.add_apply, Finsupp.add_apply]

theorem count_bar : ∀ c : Fin 16, (∑ d : Fin 16, ∑ o ∈ Finset.Ico 1 16, if pl d o = c then 1 else 0) = 15 := by decide +kernel
theorem count_ag : ∀ d c : Fin 16, d ≠ c → (∑ o ∈ Finset.Ico 1 16, if pl d o = c then 1 else 0) = 1 := by decide +kernel
theorem count_rs : ∀ d c : Fin 16, d ≠ c → (∑ j ∈ Finset.Ico 0 4, ∑ q ∈ Finset.Ico 0 4,
    if 4 * bOf d.val j + q ≠ (nx d).val ∧ pl 15 (4 * bOf d.val j + q) = c then 1 else 0) = 1 := by decide +kernel

theorem count_ag' (N : ℕ) (d c : Fin 16) (h : d ≠ c) (P : Prop) [Decidable P] (hP : P) : (∑ o ∈ Finset.Ico 1 16, if pl d o = c ∧ P then N else 0) = N := by
  calc _ = ∑ o ∈ Finset.Ico 1 16, (if pl d o = c then 1 else 0) * N := by
        refine Finset.sum_congr rfl fun o _ => ?_
        rw [ite_mul, Nat.one_mul, Nat.zero_mul]
        exact if_congr ⟨fun h => h.1, fun h => ⟨h, hP⟩⟩ rfl rfl
    _ = N := by rw [← Finset.sum_mul, count_ag d c h, Nat.one_mul]

theorem owed_bar (c : Dev nD) : ∑ d : Dev nD, O₀ d (kcell c bar) () = 15 := by
  have hd : ∀ d : Dev nD, O₀ d (kcell c bar) () = ∑ o ∈ Finset.Ico 1 16, if pl d o = c then 1 else 0 := by
    intro d
    rw [O₀_at, oBar_at, oRs_at, oAg_at]
    have h2 : (∑ j ∈ Finset.Ico 0 4, ∑ q ∈ Finset.Ico 0 4, if 4 * bOf d.val j + q ≠ (nx d).val ∧ pl 15 (4 * bOf d.val j + q) = c ∧ rsR d = bar then N1 else 0) = 0 :=
      Finset.sum_eq_zero fun j _ => Finset.sum_eq_zero fun q _ => if_neg fun h => by cases h.2.2
    have h3 : (∑ o ∈ Finset.Ico 1 16, if pl d o = c ∧ agR d = bar then N2 else 0) = 0 :=
      Finset.sum_eq_zero fun o _ => if_neg fun h => by cases h.2
    rw [h2, h3, Nat.add_zero]
    refine Finset.sum_congr rfl fun o _ => ?_
    by_cases h : pl d o = c
    · rw [if_pos h, if_pos ⟨h, rfl⟩]
    · rw [if_neg h, if_neg fun h' => h h'.1]
  rw [Finset.sum_congr rfl fun d _ => hd d]
  exact count_bar c

theorem owed_rs (c : Dev nD) (k : Fin 16) (hk : k ≠ c) : ∑ d : Dev nD, O₀ d (kcell c (rsR k)) () = N1 := by
  have hd : ∀ d : Dev nD, O₀ d (kcell c (rsR k)) () = if d = k then N1 else 0 := by
    intro d
    rw [O₀_at, oBar_at, oRs_at, oAg_at]
    have h1 : (∑ o ∈ Finset.Ico 1 16, if pl d o = c ∧ bar = rsR k then 1 else 0) = 0 :=
      Finset.sum_eq_zero fun o _ => if_neg fun h => by cases h.2
    have h3 : (∑ o ∈ Finset.Ico 1 16, if pl d o = c ∧ agR d = rsR k then N2 else 0) = 0 :=
      Finset.sum_eq_zero fun o _ => if_neg fun h => by cases h.2
    rw [h1, h3, Nat.add_zero, Nat.zero_add]
    by_cases h : d = k
    · subst h
      rw [if_pos rfl]
      have := count_rs d c hk
      calc _ = ∑ j ∈ Finset.Ico 0 4, ∑ q ∈ Finset.Ico 0 4, (if 4 * bOf d.val j + q ≠ (nx d).val ∧ pl 15 (4 * bOf d.val j + q) = c then 1 else 0) * N1 := by
            refine Finset.sum_congr rfl fun j _ => Finset.sum_congr rfl fun q _ => ?_
            rw [ite_mul, Nat.one_mul, Nat.zero_mul]
            exact if_congr ⟨fun h => ⟨h.1, h.2.1⟩, fun h => ⟨h.1, h.2, rfl⟩⟩ rfl rfl
        _ = N1 := by simp only [← Finset.sum_mul]; rw [this, Nat.one_mul]
    · rw [if_neg h]
      exact Finset.sum_eq_zero fun j _ => Finset.sum_eq_zero fun q _ => if_neg fun h' => h (by have := h'.2.2; cases this; rfl)
  rw [Finset.sum_congr rfl fun d _ => hd d, Finset.sum_ite_eq' Finset.univ k fun _ => N1, if_pos (Finset.mem_univ _)]

theorem owed_ag (c : Dev nD) (k : Fin 16) (hk : k ≠ c) : ∑ d : Dev nD, O₀ d (kcell c (agR k)) () = N2 := by
  have hd : ∀ d : Dev nD, O₀ d (kcell c (agR k)) () = if d = k then N2 else 0 := by
    intro d
    rw [O₀_at, oBar_at, oRs_at, oAg_at]
    have h1 : (∑ o ∈ Finset.Ico 1 16, if pl d o = c ∧ bar = agR k then 1 else 0) = 0 :=
      Finset.sum_eq_zero fun o _ => if_neg fun h => by cases h.2
    have h2 : (∑ j ∈ Finset.Ico 0 4, ∑ q ∈ Finset.Ico 0 4, if 4 * bOf d.val j + q ≠ (nx d).val ∧ pl 15 (4 * bOf d.val j + q) = c ∧ rsR d = agR k then N1 else 0) = 0 :=
      Finset.sum_eq_zero fun j _ => Finset.sum_eq_zero fun q _ => if_neg fun h => by cases h.2.2
    rw [h1, h2, Nat.zero_add]
    by_cases h : d = k
    · subst h
      rw [if_pos rfl]
      exact count_ag' N2 d c hk _ rfl
    · rw [if_neg h]
      exact Finset.sum_eq_zero fun o _ => if_neg fun h' => h (by have := h'.2; cases this; rfl)
  rw [Finset.sum_congr rfl fun d _ => hd d, Finset.sum_ite_eq' Finset.univ k fun _ => N2, if_pos (Finset.mem_univ _)]

theorem credit_of (c : Dev nD) (k : CK) (n : ℕ) (h : ∑ d : Dev nD, O₀ d (kcell c k) () = n) :
    tallyOn (kcell c k) (launchCredit (Pipeline.owing O₀) 0 (kcell c k)) = (tallyAt (kcell c k) () n : Tally) := by
  unfold tallyAt; refine congrArg _ (Finsupp.ext fun u => ?_); cases u
  rw [Pipeline.launchCredit_owing, Finsupp.single_eq_same, h]

/-- The credit a device waits with. -/
def Creds (c : Dev nD) : sProp 𝕄 :=
  iprop(cred (tallyAt (kcell c bar) () 15) ∗ (bigSep (Finset.Ico 1 16) fun o => cred (tallyAt (kcell c (rsR (pl c o))) () N1))
    ∗ bigSep (Finset.Ico 1 16) fun o => cred (tallyAt (kcell c (agR (pl c o))) () N2))

theorem creds (c : Dev nD) : (Pipeline.launchCred O₀ c : sProp 𝕄) ⊢ Creds c := by
  have h1 : (Pipeline.launchCred O₀ c : sProp 𝕄) ⊢ (bigSep Finset.univ fun k : CK => cred (tallyOn (kcell c k) (launchCredit (Pipeline.owing O₀) 0 (kcell c k)))) := by
    unfold Pipeline.launchCred
    refine (bigSep_subset (Finset.subset_univ ((Finset.univ : Finset CK).map ⟨csem, csem_inj⟩))).trans ?_
    rw [bigSep_map]
    exact BI.Entails.refl _
  refine h1.trans ?_
  rw [ck_split, ring_split c, ring_split c (fun k => cred (tallyOn (kcell c (rsR k)) (launchCredit (Pipeline.owing O₀) 0 (kcell c (rsR k))))),
    ring_split c (fun k => cred (tallyOn (kcell c (agS k)) (launchCredit (Pipeline.owing O₀) 0 (kcell c (agS k))))),
    ring_split c (fun k => cred (tallyOn (kcell c (agR k)) (launchCredit (Pipeline.owing O₀) 0 (kcell c (agR k)))))]
  have hne : ∀ o ∈ Finset.Ico 1 16, pl c o ≠ c := fun o ho e => pl_ne' (Finset.mem_Ico.1 ho).1 (Finset.mem_Ico.1 ho).2 e.symm
  rw [credit_of c bar 15 (owed_bar c),
    bigSep_congr (s := Finset.Ico 1 16) (Φ := fun o => cred (tallyOn (kcell c (rsR (pl c o))) (launchCredit (Pipeline.owing O₀) 0 (kcell c (rsR (pl c o))))))
      (Ψ := fun o => cred (tallyAt (kcell c (rsR (pl c o))) () N1)) (fun o ho => by rw [credit_of c (rsR (pl c o)) N1 (owed_rs c _ (hne o ho))]),
    bigSep_congr (s := Finset.Ico 1 16) (Φ := fun o => cred (tallyOn (kcell c (agR (pl c o))) (launchCredit (Pipeline.owing O₀) 0 (kcell c (agR (pl c o))))))
      (Ψ := fun o => cred (tallyAt (kcell c (agR (pl c o))) () N2)) (fun o ho => by rw [credit_of c (agR (pl c o)) N2 (owed_ag c _ (hne o ho))])]
  unfold Creds
  iintro ⟨HB, ⟨-, ⟨-, HR⟩, -, ⟨-, HA⟩⟩, -⟩
  isplitl [HB]; · iexact HB
  isplitl [HR]; · iexact HR
  iexact HA

/-! ## What a device's body starts from -/

/-- From the launch: the records, the positions, the tokens, the credit, and the keys and values. -/
def Start (c : Dev nD) : sProp 𝕄 := iprop(∃ K, Rec m K ∗ Pos0 c ∗ Mine c ∗ Creds c ∗ KV m c)

theorem lend_of (c : Dev nD) : iprop((bigSep (Finset.Ico 1 16) fun o => dutyTok ER (kcell (pl c o) bar) 0 c) ∗ (bigSep (Finset.Ico 1 16) fun o => commAny (F := F) c (pl c o).val)
      ∗ bigSep (Finset.Ico 1 16) fun o => comm2Any (F := F) c (pl c o).val) ⊢ bigSep (Finset.Ico 1 16) (Lend (F := F) c) :=
  Entails.of_eq (sep3 (Finset.Ico 1 16) (fun o => dutyTok ER (kcell (pl c o) bar) 0 c) (fun o => commAny (F := F) c (pl c o).val) (fun o => comm2Any (F := F) c (pl c o).val)).symm

theorem zip2 (A B : ℕ → sProp 𝕄) (Φ : ℕ → sProp 𝕄) (h : ∀ o, Φ o = iprop(A o ∗ B o)) (S : Finset ℕ) :
    iprop(bigSep S A ∗ bigSep S B) ⊢ bigSep S Φ := by
  rw [show bigSep S Φ = bigSep S (fun o => iprop(A o ∗ B o)) from bigSep_congr fun o _ => h o]
  exact Entails.of_eq (bigSep_sep' S A B).symm

theorem load_of (c : Dev nD) : iprop((bigSep (Finset.Ico 0 4) fun j => iprop(Tok (F := F) c j 0 ∗ Tok c j 1)) ∗ KV m c) ⊢ bigSep (Finset.Ico 0 4) (Load m c) := by
  unfold KV
  rw [show iprop((kL c ↦{fullShare} m (kL c)) ∗ vL c ↦{fullShare} m (vL c)) = bigSep (Finset.Ico 0 4) (HB m c) from (hb_blocks m c).symm]
  refine (Entails.of_eq (bigSep_sep' (Finset.Ico 0 4) (fun j => iprop(Tok (F := F) c j 0 ∗ Tok c j 1)) (HB m c)).symm).trans ?_
  refine bigSep_mono fun j _ => ?_
  show iprop((Tok (F := F) c j 0 ∗ Tok c j 1) ∗ HB m c j) ⊢ Load m c j
  unfold HB Load
  iintro ⟨⟨H1, H2⟩, H3, H4⟩
  isplitl [H1]; · iexact H1
  isplitl [H2]; · iexact H2
  isplitl [H3]; · iexact H3
  iexact H4

/-- The positions at the start, by what waits with them. -/
theorem pos_split (c : Dev nD) : Pos0 (F := F) c = iprop(Bar c 0
      ∗ ((atPos ER (kcell c (rsS (nx c))) 0 ∅ 0 ∗ AtS c)
        ∗ (atPos ER (kcell c (rsR c)) 0 ∅ 0 ∗ bigSep (Finset.Ico 1 16) fun o => atPos ER (kcell c (rsR (pl c o))) 0 ∅ 0)
        ∗ (atPos ER (kcell c (agS c)) 0 ∅ 0 ∗ AtA c)
        ∗ (atPos ER (kcell c (agR c)) 0 ∅ 0 ∗ bigSep (Finset.Ico 1 16) fun o => atPos ER (kcell c (agR (pl c o))) 0 ∅ 0))
      ∗ (atPos ER (kcell c (lc 0 0)) 0 ∅ 0 ∗ atPos ER (kcell c (lc 0 1)) 0 ∅ 0) ∗ (atPos ER (kcell c (lc 1 0)) 0 ∅ 0 ∗ atPos ER (kcell c (lc 1 1)) 0 ∅ 0)) := by
  unfold Pos0
  rw [ck_split, ring_split (nx c) (fun k => atPos ER (kcell c (rsS k)) 0 ∅ 0), ring_split c (fun k => atPos ER (kcell c (rsR k)) 0 ∅ 0),
    ring_split c (fun k => atPos ER (kcell c (agS k)) 0 ∅ 0), ring_split c (fun k => atPos ER (kcell c (agR k)) 0 ∅ 0)]
  rfl

theorem slots_in (c : Dev nD) : iprop(Rec m K ∗ ((∃ f, kbL c ↦{fullShare} f) ∗ (∃ f, vbL c ↦{fullShare} f))
      ∗ (atPos ER (kcell c (lc 0 0)) 0 ∅ 0 ∗ atPos ER (kcell c (lc 0 1)) 0 ∅ 0) ∗ (atPos ER (kcell c (lc 1 0)) 0 ∅ 0 ∗ atPos ER (kcell c (lc 1 1)) 0 ∅ 0))
    ⊢ iprop(SlotK (F := F) c 0 ∗ SlotV c 0 ∗ SlotK c 1 ∗ SlotV c 1) := by
  unfold SlotK SlotV CellAt
  iintro ⟨#HR, ⟨HK, HV⟩, ⟨P0, Q0⟩, ⟨P1, Q1⟩⟩
  ihave HK := (kb_split c) $$ HK
  ihave HV := (vb_split c) $$ HV
  icases HK with ⟨K1, K0⟩
  icases HV with ⟨V1, V0⟩
  isplitl [K0 P0]
  · isplitl [K0]; · iexact K0
    isplitl [P0]; · iexact P0
    iapply (Rec_reached m K c (lc 0 0)); iexact HR
  isplitl [V0 Q0]
  · isplitl [V0]; · iexact V0
    isplitl [Q0]; · iexact Q0
    iapply (Rec_reached m K c (lc 0 1)); iexact HR
  isplitl [K1 P1]
  · isplitl [K1]; · iexact K1
    isplitl [P1]; · iexact P1
    iapply (Rec_reached m K c (lc 1 0)); iexact HR
  · isplitl [V1]; · iexact V1
    isplitl [Q1]; · iexact Q1
    iapply (Rec_reached m K c (lc 1 1)); iexact HR

/-- All that the body starts from. -/
theorem begin_of (c : Dev nD) :
    iprop(Rec m K ∗ (Pos0 c ∗ Mine c ∗ Creds c ∗ KV m c) ∗ Scr c ∗ OW c (O₀ c) ∗ XW m c ∗ woP m c ∗ outAny c) ⊢ Begin m c := by
  rw [pos_split]
  unfold Mine Creds Scr
  iintro ⟨#HR, ⟨⟨PB, ⟨⟨I0, PS⟩, ⟨I1, PR⟩, ⟨I2, PA⟩, ⟨I3, PG⟩⟩, PL⟩, ⟨TB, T0, T1, T2, T3, TL⟩, ⟨CB, CR, CA⟩, HKV⟩, ⟨HQ, HP, HN, HC, HC2, HKb, HVb⟩, HO, HX, HW, HOut⟩
  unfold commAll
  ihave HC := (comm_split c) $$ HC
  ihave HC := (Entails.of_eq (ring_split c fun k : Fin 16 => commAny (F := F) c k.val)) $$ HC
  icases HC with ⟨HC0, HCL⟩
  ihave HC2 := (comm2_split c) $$ HC2
  ihave HC2 := (Entails.of_eq (ring_split c fun k : Fin 16 => comm2Any (F := F) c k.val)) $$ HC2
  icases HC2 with ⟨HD0, HDL⟩
  ihave HS := (slots_in m K c) $$ [HKb HVb PL]
  · isplitr; · iexact HR
    isplitl [HKb HVb]
    · isplitl [HKb]; · iexact HKb
      iexact HVb
    iexact PL
  icases HS with ⟨S1, S2, S3, S4⟩
  unfold Begin
  isplitl [HO TB HCL HDL]
  · unfold StA
    isplitl [HO]; · iexact HO
    iapply (lend_of c)
    isplitl [TB]; · iexact TB
    isplitl [HCL]; · iexact HCL
    iexact HDL
  isplitl [PB CB]
  · isplitl [PB]; · iexact PB
    iexact CB
  isplitl [HX HQ S1 S2 S3 S4 TL HKV HP T0 T1]
  · unfold S0
    isplitl [HX]; · iexact HX
    isplitl [HQ]; · iexact HQ
    isplitl [S1]; · iexact S1
    isplitl [S2]; · iexact S2
    isplitl [S3]; · iexact S3
    isplitl [S4]; · iexact S4
    isplitl [TL HKV]
    · iapply (load_of m c)
      isplitl [TL]; · iexact TL
      iexact HKV
    isplitl [HP]
    · iapply (part_chunks c); iexact HP
    · iapply (zip2 (fun o => dutyTok ER (kcell c (rsS (pl (nx c) o))) 0 0) (fun o => dutyTok ER (kcell (pl c o) (rsR c)) 0 0) (RsTok c) (fun _ => rfl) (Finset.Ico 1 16))
      isplitl [T0]; · iexact T0
      iexact T1
  isplitl [HC0]; · iexact HC0
  isplitl [HN HW HD0 HOut]
  · unfold NS
    isplitl [HN]; · iexact HN
    isplitl [HW]; · iexact HW
    isplitl [HD0]; · iexact HD0
    iexact HOut
  isplitl [PR CR]
  · unfold Ws
    iapply (zip2 (fun o => atPos ER (kcell c (rsR (pl c o))) 0 ∅ 0) (fun o => cred (tallyAt (kcell c (rsR (pl c o))) () N1)) (RsW (F := F) c) (fun _ => rfl) (Finset.Ico 1 16))
    isplitl [PR]; · iexact PR
    iexact CR
  isplitl [T2 T3]
  · unfold Ag
    iapply (zip2 (fun o => dutyTok ER (kcell c (agS (pl c o))) 0 0) (fun o => dutyTok ER (kcell (pl c o) (agR c)) 0 0) (AgTok (F := F) c) (fun _ => rfl) (Finset.Ico 1 16))
    isplitl [T2]; · iexact T2
    iexact T3
  · unfold En AgWs Idle
    isplitl [PG CA]
    · iapply (zip2 (fun o => atPos ER (kcell c (agR (pl c o))) 0 ∅ 0) (fun o => cred (tallyAt (kcell c (agR (pl c o))) () N2)) (AgW (F := F) c) (fun _ => rfl) (Finset.Ico 1 16))
      isplitl [PG]; · iexact PG
      iexact CA
    isplitl [PS]; · iexact PS
    isplitl [PA]; · iexact PA
    isplitl [I0]; · iexact I0
    isplitl [I1]; · iexact I1
    isplitl [I2]; · iexact I2
    iexact I3

/-- The body, from all that to what a device ends with. -/
theorem body_whole (c : Dev nD) {Q : PUnit → sProp 𝕄} (hQ : Post m c ⊢ Q ⟨⟩) :
    iprop(Start m c ∗ Scr c ∗ OW c (O₀ c) ∗ XW m c ∗ woP m c ∗ outAny c) ⊢ WP c (App cc0_body : PT (F := F) PUnit) Q := by
  unfold Start
  iintro ⟨⟨%K, #HR, H1⟩, H2⟩
  iapply (body_run m K c (Q := Q) fun f _ => (finish m K c f).trans (BI.fupd_mono hQ))
  isplitr; · iexact HR
  iapply (begin_of m K c)
  isplitr; · iexact HR
  isplitl [H1]; · iexact H1
  iexact H2

end Cert.KProof

end
-- ==== Proof.Run.lean ====
/-
# The run of the sixteen devices

The region's proof data, the body's obligation, entering and leaving the region, and the run of the whole program over any float values.
-/
module

public import proofs.«01_k».proof.Proof.Credit

@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ UU ℕ

variable (m : (ℓ : Loc nD τ sig) → Buf (Elt F) ℓ) (K : Dev nD × CK → ℕ)

/-! ## The proof data of the one region -/

variable (ρ : Dev nD → PrngReg)

def Phi0 (c : Dev nD) : sProp 𝕄 := iprop(Start m c ∗ Scr c)
def Phi1 (c : Dev nD) : sProp 𝕄 := iprop(Scr c ∗ Zero c ∗ KV m c)

/-- Of the result array's window: it may be left at any contents that are the device's whole result. -/
def aft (c : Dev nD) : (w : Fin cfg0.W) → (X : (cfg0.win w).block.Idx → Elt F (cfg0.win w).elt) → Prop
  | 0 => fun _ => True
  | 1 => fun _ => True
  | 2 => fun _ => True
  | 3 => fun X => OutGood m c X

def rdat (c : Dev nD) : Pipeline.RDat τ (Elt F) Unit ℕ UU ℕ cfg0 c where
  A w := m ((cfg0.win w).arr.view.loc (c : Thread nD τ))
  after w _ _ X := aft m c w X
  Φ t := match t with
    | ⟨0, _⟩ => Phi0 m c
    | ⟨_ + 1, _⟩ => Phi1 m c
  q _ := fullShare
  owed t := match t with
    | ⟨0, _⟩ => O₀ c
    | ⟨_ + 1, _⟩ => 0

def rdats (_ : Fin 1) (c : Dev nD) : Pipeline.RDat τ (Elt F) Unit ℕ UU ℕ cfg0 c := rdat m c

theorem rshare (c : Dev nD) (w : Fin cfg0.W) : (rdat m c).share w = fullShare := by unfold Pipeline.RDat.share; split <;> rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem found_x (c : Dev nD) (Y) (h : (rdat m c).Finds 0 t0_0 Y) : Y = xstg m c := by
  obtain ⟨d, rfl⟩ := ((rdat m c).finds_of_fetch (fetch0_0 t0_0) Y).1 h; rfl
theorem found_wq (c : Dev nD) (Y) (h : (rdat m c).Finds 1 t0_0 Y) : Y = wqstg m c := by
  obtain ⟨d, rfl⟩ := ((rdat m c).finds_of_fetch (fetch0_1 t0_0) Y).1 h; rfl
theorem found_wo (c : Dev nD) (Y) (h : (rdat m c).Finds 2 t0_0 Y) : Y = wostg m c := by
  obtain ⟨d, rfl⟩ := ((rdat m c).finds_of_fetch (fetch0_2 t0_0) Y).1 h; rfl

def bodyPre (c : Dev nD) (Y0 : Vec F S4x256x1024 .f32) (Y1 Y2 : Vec F S1024x1024 .f32) (Y3 : Vec F S4x256x1024 .f32) : sProp 𝕄 :=
  iprop(Phi0 m c ∗ (rdat m c).owesAt () t0_0.castSucc
    ∗ (∃ f : Buf (Elt F) (xL c), ⌜f = Y0⌝ ∗ xL c ↦{fullShare} f) ∗ (∃ f : Buf (Elt F) (wqL c), ⌜f = Y1⌝ ∗ wqL c ↦{fullShare} f)
    ∗ (∃ f : Buf (Elt F) (woL c), ⌜f = Y2⌝ ∗ woL c ↦{fullShare} f) ∗ (∃ f : Buf (Elt F) (outL c), ⌜f = Y3⌝ ∗ outL c ↦{fullShare} f))
def bodyPost (c : Dev nD) : sProp 𝕄 :=
  iprop(Phi1 m c ∗ (rdat m c).owesAt () t0_0.succ
    ∗ (∃ X : Vec F S4x256x1024 .f32, ⌜True⌝ ∗ ∃ f : Buf (Elt F) (xL c), ⌜f = X⌝ ∗ xL c ↦{fullShare} f)
    ∗ (∃ X : Vec F S1024x1024 .f32, ⌜True⌝ ∗ ∃ f : Buf (Elt F) (wqL c), ⌜f = X⌝ ∗ wqL c ↦{fullShare} f)
    ∗ (∃ X : Vec F S1024x1024 .f32, ⌜True⌝ ∗ ∃ f : Buf (Elt F) (woL c), ⌜f = X⌝ ∗ woL c ↦{fullShare} f)
    ∗ (∃ X : Vec F S4x256x1024 .f32, ⌜OutGood m c X⌝ ∗ ∃ f : Buf (Elt F) (outL c), ⌜f = X⌝ ∗ outL c ↦{fullShare} f))

theorem some_at {c : Dev nD} {b : Ref sig .tc} {P : b.ty.Contents (Elt F) → Prop} (X : b.ty.Contents (Elt F)) (h : P X) :
    ((((c : Thread nD τ).loc b) ↦{fullShare} X) : sProp 𝕄)
      ⊢ iprop(∃ X : b.ty.Contents (Elt F), ⌜P X⌝ ∗ ∃ f : Buf (Elt F) (((c : Dev nD) : Thread nD τ).loc b), ⌜f = X⌝ ∗ (((c : Thread nD τ).loc b) ↦{fullShare} f)) := by
  iintro H
  iexists X; isplitr; · ipureintro; exact h
  iexists X; isplitr; · ipureintro; rfl
  iexact H

theorem post_of (c : Dev nD) : Post m c ⊢ bodyPost m c := by
  unfold Post bodyPost Phi1 Pipeline.RDat.owesAt Pipeline.owesWithin OW XW woP OutP
  rw [show (rdat m c).owed t0_0.succ = 0 from rfl]
  iintro ⟨⟨%W, HO⟩, ⟨HX, HWq⟩, HWo, ⟨%X, %hX, HOut⟩, HS, HZ, HKV⟩
  isplitl [HS HZ HKV]
  · isplitl [HS]; · iexact HS
    isplitl [HZ]; · iexact HZ
    iexact HKV
  isplitl [HO]
  · iexists W
    isplitr; · ipureintro; exact fun _ _ => Or.inl trivial
    iexact HO
  isplitl [HX]
  · iapply (some_at (c := c) (b := cc0_stg0_0) (P := fun _ => True) (xstg m c) trivial) $$ HX
  isplitl [HWq]
  · iapply (some_at (c := c) (b := cc0_stg1_0) (P := fun _ => True) (wqstg m c) trivial) $$ HWq
  isplitl [HWo]
  · iapply (some_at (c := c) (b := cc0_stg2_0) (P := fun _ => True) (wostg m c) trivial) $$ HWo
  · iapply (some_at (c := c) (b := cc0_stg3_0) (P := OutGood m c) X hX) $$ HOut

theorem pre_of (c : Dev nD) (Y3 : Vec F S4x256x1024 .f32) : bodyPre m c (xstg m c) (wqstg m c) (wostg m c) Y3
    ⊢ iprop(Start m c ∗ Scr c ∗ OW c (O₀ c) ∗ XW m c ∗ woP m c ∗ outAny c) := by
  unfold bodyPre Phi0 Pipeline.RDat.owesAt Pipeline.owesWithin OW XW woP outAny
  rw [show (rdat m c).owed t0_0.castSucc = O₀ c from rfl]
  iintro ⟨⟨HSt, HScr⟩, ⟨%W, -, HO⟩, ⟨%f0, %h0, H0⟩, ⟨%f1, %h1, H1⟩, ⟨%f2, %h2, H2⟩, ⟨%f3, %h3, H3⟩⟩
  subst h0 h1 h2
  isplitl [HSt]; · iexact HSt
  isplitl [HScr]; · iexact HScr
  isplitl [HO]; · iexists W; iexact HO
  isplitl [H0 H1]
  · isplitl [H0]; · iexact H0
    iexact H1
  isplitl [H2]; · iexact H2
  iexists f3
  iexact H3

/-- The library's obligation for the body on a device. -/
theorem obligation (c : Dev nD) : (rdat m c).BodyObligation (defs₀ (F := F)) 𝒱₀ () Set.univ := fun t Y hY => by
  obtain rfl : t = t0_0 := fin_N0 t
  have h0 := found_x m c (Y 0) (hY 0)
  have h1 := found_wq m c (Y 1) (hY 1)
  have h2 := found_wo m c (Y 2) (hY 2)
  rw [bigSep_W0, bigSep_W0]
  have hp := (pre_of m c (Y 3)).trans (body_whole m c (Q := fun _ => bodyPost m c) (post_of m c))
  rw [← h0, ← h1, ← h2] at hp
  simp only [owns_whole_eq]
  exact hp

/-! ## Entering the region, and leaving it -/

theorem start_in (c : Dev nD) :
    iprop(Pipeline.unscopedRestP Pipeline.Prefetch.none cfg0.spec c (fun b => m ((c : Thread nD τ).loc b)) ∗ levAts L lv
      ∗ Pipeline.launchCred O₀ c ∗ prngReg c (ρ c) ∗ Ready m c)
      ⊢ |={Set.univ}=> iprop(Start m c ∗ emp) := by
  rw [Pipeline.unscopedRestP_none, show cfg0.spec = spec0 from rfl, unscopedRest0_eq]
  unfold Ready Start KV Rec Rec0
  iintro ⟨HKV, HL, HC, -, ⟨%K, ⟨H1, H2⟩, HP, HM⟩⟩
  ihave HC := (creds (F := F) c) $$ HC
  imodintro
  isplitl
  · iexists K
    isplitl [H1 H2 HL]
    · isplitl [H1]; · iexact H1
      isplitl [H2]; · iexact H2
      iexact HL
    isplitl [HP]; · iexact HP
    isplitl [HM]; · iexact HM
    isplitl [HC]; · iexact HC
    iexact HKV
  · iempintro

theorem phi_in (c : Dev nD) :
    iprop(Start m c ∗ Pipeline.prefHeld Pipeline.Prefetch.none c (fun _ => fullShare.right) (fun k => k.elim0) ∗ Pipeline.scopedRest cfg0.spec c)
      ⊢ (rdats m 0 c).Φ 0 := by
  rw [show (rdats m 0 c).Φ 0 = Phi0 m c from rfl, show cfg0.spec = spec0 from rfl, scopedRest0_eq]
  unfold Phi0
  iintro ⟨HS, -, HR⟩
  isplitl [HS]; · iexact HS
  unfold Scr nckAny commAll
  iexact HR

theorem phi_out (c : Dev nD) :
    (rdats m 0 c).Φ (Fin.last cfg0.N) ⊢ iprop((unscopedSems0 c ∗ KV m c) ∗ Pipeline.ownSems0 osem c ∗ Pipeline.scopedRest cfg0.spec c) := by
  rw [show (rdats m 0 c).Φ (Fin.last cfg0.N) = Phi1 m c from rfl, show cfg0.spec = spec0 from rfl, scopedRest0_eq]
  unfold Phi1
  rw [zero_eq]
  iintro ⟨HS, ⟨HU, HO⟩, HKV⟩
  isplitl [HU HKV]
  · isplitl [HU]; · iexact HU
    iexact HKV
  isplitl [HO]; · iexact HO
  unfold Scr nckAny commAll
  iexact HS

theorem stage_waits (c : Dev nD) : (levAts L lv : sProp 𝕄) ⊢ Pipeline.RDat.cellsWaits cfgs (rdats m) () 0 c :=
  Pipeline.RDat.cellsWaits_intro cfgs (rdats m) () 0 c fun w s t => by
    have h : Above 0 ((rdats m 0 c).owed t) := by
      rcases t with ⟨_ | _, ht⟩
      · exact above_O₀ c
      · exact above_zero 0
    exact mayWait_of c _ (by show (match kindOf (.dma (((cfgs 0).win w).sem s)) with | some k => lvK k | none => 0) ≤ 0; fin_cases w <;> fin_cases s <;> decide) h

/-- What is read of a final memory beside the windows' arrays. -/
def AtEnd (c : Dev nD) (s : MemSt nD τ sig (Elt F)) : Prop :=
  (∀ sm : SemLoc sig, sm.isScoped .tc = false → s.sem ((c : Thread nD τ), sm) = 0) ∧ s.mem (kL c) = m (kL c) ∧ s.mem (vL c) = m (vL c)

theorem read_one (ℓ : Loc nD τ sig) (f : Buf (Elt F) ℓ) (s' : Phys nD τ sig (Elt F)) :
    iprop((ℓ ↦{fullShare} f) ∗ SI s' : sProp 𝕄) ⊢ iprop(⌜s'.mem.mem ℓ = f⌝ ∗ SI s') := by
  have h := pointsTo_read_all (Ix := Unit) (Name := ℕ) (U := UU) (Lvl := ℕ) ({()} : Finset Unit) (fun _ => ℓ) (fun _ => f) s'
  rw [bigSep_singleton] at h
  refine h.trans ?_
  iintro ⟨%h, H⟩
  isplitr; · ipureintro; exact h () (Finset.mem_singleton_self _)
  iexact H

theorem at_end (c : Dev nD) (s' : Phys nD τ sig (Elt F)) :
    iprop((unscopedSems0 c ∗ KV m c) ∗ emp ∗ SI s' : sProp 𝕄) ⊢ |={Set.univ}=> iprop(⌜AtEnd m c s'.mem⌝ ∗ SI s') := by
  unfold KV
  iintro ⟨⟨HU, HK, HV⟩, -, HS⟩
  ihave H := (read_one (kL c) (m (kL c)) s') $$ [HK HS]
  · isplitl [HK] <;> iassumption
  icases H with ⟨%h1, HS⟩
  ihave H := (read_one (vL c) (m (vL c)) s') $$ [HV HS]
  · isplitl [HV] <;> iassumption
  icases H with ⟨%h2, HS⟩
  imod (Pipeline.unscopedSems0_read (X := unscopedSems0 c) (c := c) fupd_intro s') $$ [HU HS] with ⟨%h3, HS⟩
  · isplitl [HU] <;> iassumption
  imodintro
  isplitr; · ipureintro; exact ⟨h3, h1, h2⟩
  iexact HS

/-! ## The arrays after the region -/

theorem emb_x (t : Fin cfg0.N) (y : S4x256x1024.Idx) : ((win0_0.blk t).view.emb y : S4x256x1024.Idx) = y :=
  funext fun a => Fin.ext (win0_0.rect_emb_val_of_index_zero t a rfl y)
theorem emb_out (t : Fin cfg0.N) (y : S4x256x1024.Idx) : ((win0_3.blk t).view.emb y : S4x256x1024.Idx) = y :=
  funext fun a => Fin.ext (win0_3.rect_emb_val_of_index_zero t a rfl y)
theorem emb_wq (t : Fin cfg0.N) (y : S1024x1024.Idx) : ((win0_1.blk t).view.emb y : S1024x1024.Idx) = y :=
  funext fun a => Fin.ext (win0_1.rect_emb_val_of_index_zero t a rfl y)
theorem emb_wo (t : Fin cfg0.N) (y : S1024x1024.Idx) : ((win0_2.blk t).view.emb y : S1024x1024.Idx) = y :=
  funext fun a => Fin.ext (win0_2.rect_emb_val_of_index_zero t a rfl y)

theorem out_write (t : Fin cfg0.N) (G X : Vec F S4x256x1024 .f32) :
    ((win0_3.blk t).view.write (Elt F) G X Finset.univ : Vec F S4x256x1024 .f32) = X := by
  funext i
  have h := View.write_emb_of_mem (v := (win0_3.blk t).view) (Val := Elt F) (G : (win0_3.blk t).view.ref.ty.Contents (Elt F)) X (Finset.mem_univ i)
  rw [emb_out t i] at h
  exact h

theorem arr_out (c : Dev nD) (G : Vec F S4x256x1024 .f32) (h : (rdat m c).ArrAt 3 cfg0.N G) : OutGood m c G := by
  have e : (rdat m c).ArrAt 3 1 = (rdat m c).ArrStep 3 t0_0 ((rdat m c).ArrAt 3 0) := by
    show (if h : 0 < cfg0.N then (if (cfg0.win 3).flush ⟨0, h⟩ then (rdat m c).ArrStep 3 ⟨0, h⟩ ((rdat m c).ArrAt 3 0) else (rdat m c).ArrAt 3 0) else (rdat m c).ArrAt 3 0) = _
    rw [dif_pos (by decide : 0 < cfg0.N), if_pos (flush0_3 _)]
    rfl
  rw [show cfg0.N = 1 from N_0, e] at h
  obtain ⟨G0, X, -, ⟨Y, -, hX⟩, rfl⟩ := h
  have := out_write t0_0 G0 X
  rw [← this] at hX
  exact hX
theorem arr_in (c : Dev nD) (w : Fin cfg0.W) (hw : (cfg0.win w).isOut = false) {G} (h : (rdat m c).ArrAt w cfg0.N G) :
    G = m ((cfg0.win w).arr.view.loc (c : Thread nD τ)) := by
  rw [(rdat m c).ArrAt_in w hw] at h; exact h

/-! ## The run -/

/-- What a final memory holds: on every device the whole result, and the arguments as they were. -/
def Fin₀ (s : MemSt nD τ sig (Elt F)) : Prop :=
  ∀ c : Dev nD, OutGood m c (s.mem ((c : Thread nD τ).loc main_v1)) ∧ s.mem ((c : Thread nD τ).loc main_arg0) = m ((c : Thread nD τ).loc main_arg0)
    ∧ s.mem ((c : Thread nD τ).loc main_arg1) = m ((c : Thread nD τ).loc main_arg1) ∧ s.mem ((c : Thread nD τ).loc main_arg2) = m ((c : Thread nD τ).loc main_arg2)
    ∧ s.mem ((c : Thread nD τ).loc main_arg3) = m ((c : Thread nD τ).loc main_arg3) ∧ s.mem ((c : Thread nD τ).loc main_arg4) = m ((c : Thread nD τ).loc main_arg4)

/-- For any float values, from any memory with zero counters: every fair execution of the sixteen devices' kernels
    terminates, and each final state has on every device the whole result, the arguments unchanged and every counter at zero. -/
theorem run_main : θ_run defs (onTc (τ := τ) (main (F := F))) ⟨m, fun _ => 0, ρ⟩ (fun r => Fin₀ m r.2 ∧ r.2.sem = fun _ => 0) :=
  Pipeline.RDat.θ_run_region_owing_glob_pf (fun p => (cfgs p).toPCfg) (fun p => (cfgs p).toPCfg_adm) (rdats m) () cellOf_inj (0 : Fin 1)
    winFacts0.to₀ ownSemFacts (Pipeline.PreFacts.none _) EP defs₀ 𝒱₀ m ρ main
    (hmain := fun _ => rfl)
    (hbody := obligation m) (hne := block_pos0) (harr := arr_whole0) (hstage := stage_whole0) (hshare := rshare m)
    (hdistinct := winFacts0.arr_inj)
    (O₀ := O₀) (howed₀ := fun _ => rfl) (howedN := fun _ => rfl)
    (L := L) (lv := lv) (hL := L_of_ne) (hwaits := stage_waits m)
    (G := Dealt m) (G' := Ready m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := Start m) (Y := fun c => iprop(unscopedSems0 c ∗ KV m c)) (Z := fun _ => iprop(emp))
    (hX := start_in m ρ) (hin := phi_in m) (hout := phi_out m)
    (QY := AtEnd m) (hY := at_end m)
    (hQ := fun _ h hs => ⟨fun c => ⟨arr_out m c _ ((h c).1 3), arr_in m c 0 rfl ((h c).1 0), arr_in m c 1 rfl ((h c).1 1),
      (h c).2.2.2.1, (h c).2.2.2.2, arr_in m c 2 rfl ((h c).1 2)⟩, sem_eq_zero hs fun c => (h c).2.2.1⟩)

end Cert.KProof

end
-- ==== Proof.Value.lean ====
/-
# The values over the extended reals

The kernel's results entry by entry, as sums, exponentials and one quotient.
-/
module

public import proofs.«01_k».proof.Proof.Run
public import Idealize.ShloMosaic.Lib.Pointwise

@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig Unit (Elt F) ℕ UU ℕ

variable (m : (ℓ : Loc nD τ sig) → Buf (Elt F) ℓ) (K : Dev nD × CK → ℕ)

/-! ## The operations at an index -/

open Idealize.ShloMosaic.Pointwise in
section

/-- The scale of the scores. -/
def SC : EReal := Ideal.ofBits .f32 0x3DB504F3#32

theorem qs_at (x : Vec Ideal S4x256x1024 .f32) (w : Vec Ideal S1024x1024 .f32) (r n : Fin 1024) :
    k0_pay101 x w (ix2 r n) = (∑ e : Fin 1024, x (ix3 ⟨r.val / 256, by omega⟩ ⟨r.val % 256, by omega⟩ e) * w (ix2 e n)) * SC := by
  pointwise [k0_pay101]
  rfl

theorem pay2_at (q : Vec Ideal S256x128 .f32) (k v : Vec Ideal S1x1024x1x128 .f32) (r : Fin 256) (d : Fin 128) :
    k0_pay2 q k v (ix2 r d) = ∑ j : Fin 1024, Ideal.exp (∑ e : Fin 128, q (ix2 r e) * k (ix4 0 j 0 e)) * v (ix4 0 j 0 d) := by
  pointwise [k0_pay2, k0_pay1]

theorem pay3_at (q : Vec Ideal S256x128 .f32) (k : Vec Ideal S1x1024x1x128 .f32) (r : Fin 256) (u : Fin 1) :
    k0_pay3 q k (ix2 r u) = ∑ j : Fin 1024, Ideal.exp (∑ e : Fin 128, q (ix2 r e) * k (ix4 0 j 0 e)) := by
  pointwise [k0_pay3, k0_pay1]

theorem fin_at (cm : Vec Ideal S16x9x64x128 .bf16) (h : Fin 9) (y : Fin 64) (d : Fin 128) :
    k0_pay104 cm (ix3 h y d) = ∑ o : Fin 16, cm (ix4 o h y d) := by
  pointwise [k0_pay104]

theorem col_at (h : Fin 8) (fin : FVec Ideal S9x64x128 .f32) (y : Fin 64) (d : Fin 128) :
    colTile h fin (ix2 y d) = Ideal.div (fin (ix3 ⟨h.val, by omega⟩ y d)) (fin (ix3 8 y ⟨h.val, by omega⟩)) := by
  pointwise [colTile]

theorem res_at (f : Vec Ideal S64x1024 .f32) (w : Vec Ideal S1024x1024 .f32) (y : Fin 64) (n : Fin 1024) :
    k0_pay115 f w (ix2 y n) = ∑ e : Fin 1024, f (ix2 y e) * w (ix2 e n) := by
  pointwise [k0_pay115]

theorem own_at (f : FVec Ideal S64x1024 .f32) (u : Fin 1) (y : Fin 64) (n : Fin 1024) :
    k0_pay117 f (ix3 u y n) = f (ix2 y n) := by
  pointwise [k0_pay117]

theorem other_at (f : Vec Ideal S64x1024 .f32) (w : Vec Ideal S1024x1024 .f32) (u : Fin 1) (y : Fin 64) (n : Fin 1024) :
    k0_pay119 (k0_pay118 (k0_pay116 f w)) (ix3 u y n) = k0_pay115 f w (ix2 y n) := by
  pointwise [k0_pay119, k0_pay118, k0_pay116]

theorem ovTile_at (r : Fin 4) (ov : FVec Ideal S256x128 .f32) (a b : Fin 1) (y : Fin 64) (d : Fin 128) :
    ovTile r ov (ix4 a b y d) = ov (ix2 ⟨64 * r.val + y.val, by omega⟩ d) := by
  pointwise [ovTile]

theorem lvTile_at (r : Fin 4) (lv : FVec Ideal S256x1 .f32) (a b : Fin 1) (y : Fin 64) (d : Fin 1) :
    lvTile r lv (ix4 a b y d) = lv (ix2 ⟨64 * r.val + y.val, by omega⟩ d) := by
  pointwise [lvTile]
  rw [Subsingleton.elim d 0]

/-! ## The buffers at an index -/

variable (M : (ℓ : Loc nD τ sig) → Buf (Elt Ideal) ℓ)

theorem xstg_eq (c : Dev nD) : xstg M c = M ((c : Thread nD τ).loc main_arg0) := by
  funext y; exact congrArg (M ((c : Thread nD τ).loc main_arg0)) (emb_x _ y)
theorem wqstg_eq (c : Dev nD) : wqstg M c = M ((c : Thread nD τ).loc main_arg1) := by
  funext y; exact congrArg (M ((c : Thread nD τ).loc main_arg1)) (emb_wq _ y)
theorem wostg_eq (c : Dev nD) : wostg M c = M ((c : Thread nD τ).loc main_arg4) := by
  funext y; exact congrArg (M ((c : Thread nD τ).loc main_arg4)) (emb_wo _ y)

theorem qTile_at (c : Dev nD) (b : Fin 4) (h : Fin 8) (r : Fin 256) (e : Fin 128) :
    qTile M c b h (ix2 r e) = qsOf M c (ix2 ⟨256 * b.val + r.val, by omega⟩ ⟨128 * h.val + e.val, by omega⟩) := by
  unfold qTile
  congr 1
  funext a
  fin_cases a <;> exact Fin.ext (by simp [Rect.emb, Rect.unit, ix2])

theorem kTile_at (c : Dev nD) (b : Fin 4) (h : Fin 8) (j : Fin 1024) (e : Fin 128) :
    kTile M c b h (ix4 0 j 0 e) = kfun M c (ix4 b j h e) := by
  unfold kTile
  congr 1
  funext a
  fin_cases a <;> exact Fin.ext (by simp [Rect.emb, Rect.unit, ix4])

theorem vTile_at (c : Dev nD) (b : Fin 4) (h : Fin 8) (j : Fin 1024) (e : Fin 128) :
    vTile M c b h (ix4 0 j 0 e) = vfun M c (ix4 b j h e) := by
  unfold vTile
  congr 1
  funext a
  fin_cases a <;> exact Fin.ext (by simp [Rect.emb, Rect.unit, ix4])

/-- The projected query of row `i` of batch entry `b`, before scaling. -/
def qf (x : FVec Ideal S4x256x1024 .f32) (w : FVec Ideal S1024x1024 .f32) (b : Fin 4) (i : Fin 256) (h : Fin 8) (e : Fin 128) : EReal :=
  ∑ e' : Fin 1024, x (ix3 b i e') * w (ix2 e' ⟨128 * h.val + e.val, by omega⟩)

/-- A score as the kernel forms it: the query scaled, then met with a key. -/
def ks (x : FVec Ideal S4x256x1024 .f32) (w : FVec Ideal S1024x1024 .f32) (k : FVec Ideal S4x1024x8x128 .f32)
    (b : Fin 4) (i : Fin 256) (h : Fin 8) (j : Fin 1024) : EReal :=
  ∑ e : Fin 128, (qf x w b i h e * SC) * k (ix4 b j h e)

theorem qTile_val (c : Dev nD) (b : Fin 4) (h : Fin 8) (r : Fin 256) (e : Fin 128) :
    qTile M c b h (ix2 r e) = qf (xstg M c) (wqstg M c) b r h e * SC := by
  rw [qTile_at]; unfold qsOf qf
  rw [qs_at]
  have h1 : (⟨(256 * b.val + r.val) / 256, by omega⟩ : Fin 4) = b := Fin.ext (by show (256 * b.val + r.val) / 256 = b.val; omega)
  have h2 : (⟨(256 * b.val + r.val) % 256, by omega⟩ : Fin 256) = r := Fin.ext (by show (256 * b.val + r.val) % 256 = r.val; omega)
  simp only [h1, h2]

theorem ovH_val (c : Dev nD) (b : Fin 4) (h : Fin 8) (r : Fin 256) (d : Fin 128) :
    ovH M c b h (ix2 r d) = ∑ j : Fin 1024, Ideal.exp (ks (xstg M c) (wqstg M c) (kfun M c) b r h j) * vfun M c (ix4 b j h d) := by
  unfold ovH ks
  rw [pay2_at]
  simp only [qTile_val, kTile_at, vTile_at]

theorem lvH_val (c : Dev nD) (b : Fin 4) (h : Fin 8) (r : Fin 256) (u : Fin 1) :
    lvH M c b h (ix2 r u) = ∑ j : Fin 1024, Ideal.exp (ks (xstg M c) (wqstg M c) (kfun M c) b r h j) := by
  unfold lvH ks
  rw [pay3_at]
  simp only [qTile_val, kTile_at]

/-- The row of a batch entry a chunk's row is. -/
def rw4 (k : Fin 16) (y : Fin 64) : Fin 256 := ⟨64 * (k.val % 4) + y.val, by omega⟩

theorem T_lo (c : Dev nD) (k : Fin 16) (h : Fin 8) (y : Fin 64) (d : Fin 128) :
    T M c (ix4 k ⟨h.val, by omega⟩ y d) = ovH M c (chB k) h (ix2 (rw4 k y) d) := by
  unfold T
  rw [if_pos (show (i1 (ix4 k (⟨h.val, by omega⟩ : Fin 9) y d)).val < 8 from h.isLt)]
  have e : hd (i1 (ix4 k (⟨h.val, by omega⟩ : Fin 9) y d)).val = h := Fin.ext (by show h.val % 8 = h.val; omega)
  rw [e]
  have e2 : ovIdx (ix4 k (⟨h.val, by omega⟩ : Fin 9) y d) = ix4 0 0 y d := by
    funext a; fin_cases a <;> rfl
  rw [e2, ovTile_at]
  rfl

theorem T_hi (c : Dev nD) (k : Fin 16) (h : Fin 8) (y : Fin 64) :
    T M c (ix4 k 8 y ⟨h.val, by omega⟩) = lvH M c (chB k) h (ix2 (rw4 k y) 0) := by
  unfold T
  rw [if_neg (show ¬ (i1 (ix4 k (8 : Fin 9) y (⟨h.val, by omega⟩ : Fin 128))).val < 8 from by show ¬ 8 < 8; omega)]
  have e : hd (i3 (ix4 k (8 : Fin 9) y (⟨h.val, by omega⟩ : Fin 128))).val = h := Fin.ext (by show h.val % 8 = h.val; omega)
  rw [e]
  have e2 : lvIdx (ix4 k (8 : Fin 9) y (⟨h.val, by omega⟩ : Fin 128)) = ix4 0 0 y 0 := by
    funext a; fin_cases a <;> rfl
  rw [e2, lvTile_at]
  rfl

theorem upd_ix4 (o k : Fin 16) (h : Fin 9) (y : Fin 64) (d : Fin 128) :
    Function.update (ix4 o h y d : S16x9x64x128.Idx) (0 : Fin 4) k = ix4 k h y d := by
  funext a; fin_cases a <;> rfl

theorem comm_lo (dv : Fin 16) (cm : Vec Ideal S16x9x64x128 .bf16) (hc : CommGood M dv cm) (h : Fin 8) (y : Fin 64) (d : Fin 128) :
    k0_pay104 cm (ix3 ⟨h.val, by omega⟩ y d) = ∑ o : Fin 16, ovH M o (chB (nx dv)) h (ix2 (rw4 (nx dv) y) d) := by
  rw [fin_at]
  refine Finset.sum_congr rfl fun o _ => ?_
  rw [hc o (ix4 o ⟨h.val, by omega⟩ y d) (mem_slab.2 rfl) (Or.inl h.isLt), upd_ix4, T_lo]

theorem comm_hi (dv : Fin 16) (cm : Vec Ideal S16x9x64x128 .bf16) (hc : CommGood M dv cm) (h : Fin 8) (y : Fin 64) :
    k0_pay104 cm (ix3 8 y ⟨h.val, by omega⟩) = ∑ o : Fin 16, lvH M o (chB (nx dv)) h (ix2 (rw4 (nx dv) y) 0) := by
  rw [fin_at]
  refine Finset.sum_congr rfl fun o _ => ?_
  rw [hc o (ix4 o 8 y ⟨h.val, by omega⟩) (mem_slab.2 rfl) (Or.inr h.isLt), upd_ix4, T_hi]

/-- What the kernel leaves at an entry of the result, whoever stores it. -/
theorem out_val (c o : Fin 16) (cm : Vec Ideal S16x9x64x128 .bf16) (hc : CommGood M o cm) (y : Fin 64) (n : Fin 1024) :
    outVal M c o cm (ix3 0 y n) = ∑ e : Fin 1024,
      Ideal.div (∑ p : Fin 16, ovH M p (chB (nx o)) (hd (e.val / 128)) (ix2 (rw4 (nx o) y) ⟨e.val % 128, by omega⟩))
        (∑ p : Fin 16, lvH M p (chB (nx o)) (hd (e.val / 128)) (ix2 (rw4 (nx o) y) 0)) * wostg M o (ix2 e n) := by
  have key : k0_pay115 (nckOf cm) (wostg M o) (ix2 y n) = ∑ e : Fin 1024,
      Ideal.div (∑ p : Fin 16, ovH M p (chB (nx o)) (hd (e.val / 128)) (ix2 (rw4 (nx o) y) ⟨e.val % 128, by omega⟩))
        (∑ p : Fin 16, lvH M p (chB (nx o)) (hd (e.val / 128)) (ix2 (rw4 (nx o) y) 0)) * wostg M o (ix2 e n) := by
    rw [res_at]
    refine Finset.sum_congr rfl fun e _ => ?_
    congr 1
    show colTile (hd (e.val / 128)) (k0_pay104 cm) (colIdx (ix2 y e)) = _
    have e1 : colIdx (ix2 y e) = ix2 y ⟨e.val % 128, by omega⟩ := by funext a; fin_cases a <;> rfl
    rw [e1, col_at, comm_lo M o cm hc, comm_hi M o cm hc]
  unfold outVal
  split
  · rw [own_at]; exact key
  · show k0_pay119 (k0_pay118 (k0_pay116 (nckOf cm) (wostg M o))) (ix3 0 y n) = _
    rw [other_at]; exact key

end

end Cert.KProof

end
-- ==== Proof.RefVal.lean ====
/-
# The reference's result over the extended reals

The reference's result entry by entry, as sums, a maximum, exponentials and one quotient.
-/
module

public import proofs.«01_k».proof.Proof.Gen.ReferenceIdeal.Run
public import Idealize.ShloMosaic.Lib.Pointwise

@[expose] public section

set_option maxRecDepth 20000

noncomputable section

namespace Cert.RProof

open Cert.ReferenceIdeal Cert.ReferenceIdeal.Gen
open Idealize.ShloMosaic Idealize.ShloMosaic.Pointwise

variable (x : FVec Ideal S4x256x1024 .f32) (wq wo : FVec Ideal S1024x1024 .f32) (k v : FVec Ideal S4x16384x8x128 .f32)

/-- The scaled scores. -/
def sco : FVec Ideal S4x8x256x16384 .f32 :=
  mulf (Host.dotGeneral dot_S4x256x8x128_S4x16384x8x128_S4x8x256x16384_3_3_1_1_02_02 none
      (shapeCast _ (Host.dotGeneral dot_S4x256x1024_S1024x1024_S4x256x1024_2_0_01_1_n_n none x wq) shapeCasts_S4x256x1024_S4x256x8x128) k)
    (broadcastInDim S4x8x256x16384 ![] bcast_S_S4x8x256x16384 (constant S_ .f32 0x3DB504F3#32))

/-- Each row's largest score. -/
def mx (s : FVec Ideal S4x8x256x16384 .f32) : FVec Ideal S4x8x256 .f32 :=
  Host.reduce FloatOps.maximumf s (constant S_ .f32 0xFF800000#32) reducesTo_S4x8x256x16384_S4x8x256_d3 h_S_

/-- The weights, before they are normalised. -/
def wts (s : FVec Ideal S4x8x256x16384 .f32) : FVec Ideal S4x8x256x16384 .f32 :=
  Host.exp (subf s (broadcastInDim S4x8x256x16384 ![0, 1, 2, 3] bcast_S4x8x256x1_S4x8x256x16384_0_1_2_3
    (broadcastInDim S4x8x256x1 ![0, 1, 2] bcast_S4x8x256_S4x8x256x1_0_1_2 (mx s))))

/-- The normalised attention, times the output weights. -/
def outp (p : FVec Ideal S4x8x256x16384 .f32) : FVec Ideal S4x256x1024 .f32 :=
  Host.dotGeneral dot_S4x256x1024_S1024x1024_S4x256x1024_2_0_01_1_n_n none
    (shapeCast _ (Host.divf
      (transpose S4x256x8x128 [0, 3, 1, 2] (Host.dotGeneral dot_S4x16384x8x128_S4x8x256x16384_S4x8x128x256_1_3_3_2_02_01 none v p)
        transposes_S4x8x128x256_S4x256x8x128_0_3_1_2)
      (broadcastInDim S4x256x8x128 ![0, 1, 2, 3] bcast_S4x256x8x1_S4x256x8x128_0_1_2_3
        (transpose S4x256x8x1 [0, 2, 1, 3]
          (broadcastInDim S4x8x256x1 ![0, 1, 2] bcast_S4x8x256_S4x8x256x1_0_1_2
            (Host.reduceAdd p (constant S_ .f32 0x00000000#32) reducesTo_S4x8x256x16384_S4x8x256_d3 h_S_))
          transposes_S4x8x256x1_S4x256x8x1_0_2_1_3)))
      shapeCasts_S4x256x8x128_S4x256x1024) wo

theorem sco_at (b : Fin 4) (h : Fin 8) (i : Fin 256) (J : Fin 16384) :
    sco x wq k (ix4 b h i J) = (∑ e : Fin 128, (∑ e' : Fin 1024, x (ix3 b i e') * wq (ix2 e' ⟨h.val * 128 + e.val, by omega⟩)) * k (ix4 b J h e))
      * Ideal.ofBits .f32 0x3DB504F3#32 := by
  pointwise [sco]

theorem mx_at (s : FVec Ideal S4x8x256x16384 .f32) (b : Fin 4) (h : Fin 8) (i : Fin 256) :
    mx s (ix3 b h i) = Finset.univ.fold max (Ideal.ofBits .f32 0xFF800000#32) (fun J : Fin 16384 => s (ix4 b h i J)) := by
  pointwise [mx]

theorem wts_at (s : FVec Ideal S4x8x256x16384 .f32) (b : Fin 4) (h : Fin 8) (i : Fin 256) (J : Fin 16384) :
    wts s (ix4 b h i J) = Ideal.exp (s (ix4 b h i J) - mx s (ix3 b h i)) := by
  pointwise [wts]

theorem outp_at (p : FVec Ideal S4x8x256x16384 .f32) (b : Fin 4) (i : Fin 256) (n : Fin 1024) :
    outp wo v p (ix3 b i n) = ∑ e : Fin 1024,
      Ideal.div (∑ J : Fin 16384, v (ix4 b J ⟨e.val / 128, by omega⟩ ⟨e.val % 128, by omega⟩) * p (ix4 b ⟨e.val / 128, by omega⟩ i J))
        (∑ J : Fin 16384, p (ix4 b ⟨e.val / 128, by omega⟩ i J)) * wo (ix2 e n) := by
  pointwise [outp]

theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = outp (m ((c.tc : Thread nD τ).loc main_arg4)) (m ((c.tc : Thread nD τ).loc main_arg3))
        (wts (sco (m ((c.tc : Thread nD τ).loc main_arg0)) (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run m ρ

end Cert.RProof

end
-- ==== Proof.Soft.lean ====
/-
# Softmax over the extended reals

A softmax does not change when its largest score is not taken off first, whatever is averaged, so long as the
scores are real; and a sum over all the keys is the sum over the devices of the sums over their own keys.
-/
module

public import Idealize.ShloMosaic.PureOps.Ideal.Laws

@[expose] public section

noncomputable section

namespace Cert.Soft

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

/-- The largest of finitely many reals is real. -/
theorem fold_max_real {ι : Type} (s : Finset ι) (f : ι → ℝ) :
    (s = ∅ ∨ ∃ μ : ℝ, s.fold max (⊥ : EReal) (fun i => (f i : EReal)) = μ) := by
  classical
  induction s using Finset.induction_on with
  | empty => exact Or.inl rfl
  | insert a s ha ih =>
    right
    rw [Finset.fold_insert ha]
    rcases ih with rfl | ⟨μ, h⟩
    · exact ⟨f a, by simp⟩
    · exact ⟨max (f a) μ, by rw [h]; exact (EReal.coe_strictMono.monotone.map_max).symm⟩

theorem exp_coe (r : ℝ) : Ideal.exp (r : EReal) = (Real.exp r : EReal) := rfl

theorem div_scale (A : EReal) {l r : ℝ} (hl : 0 < l) (hr : 0 < r) :
    Ideal.div (A * (r : EReal)) ((l * r : ℝ) : EReal) = Ideal.div A (l : EReal) := by
  have h1 : ((l * r : ℝ) : EReal) ≠ 0 := EReal.coe_ne_zero.2 (mul_pos hl hr).ne'
  have h2 : (l : EReal) ≠ 0 := EReal.coe_ne_zero.2 hl.ne'
  unfold Ideal.div
  rw [if_neg h1, if_neg h2, ← EReal.coe_inv, ← EReal.coe_inv, mul_assoc, ← EReal.coe_mul]
  congr 2
  field_simp

/-- Taking `μ` off every score changes nothing. -/
theorem shift {N : ℕ} (hN : 0 < N) (σ : Fin N → ℝ) (v : Fin N → EReal) (μ : ℝ) :
    Ideal.div (∑ J, v J * Ideal.exp ((σ J : EReal) - (μ : EReal))) (∑ J, Ideal.exp ((σ J : EReal) - (μ : EReal)))
      = Ideal.div (∑ J, Ideal.exp (σ J : EReal) * v J) (∑ J, Ideal.exp (σ J : EReal)) := by
  have : Nonempty (Fin N) := ⟨⟨0, hN⟩⟩
  have e0 : ∀ J, Ideal.exp ((σ J : EReal) - (μ : EReal)) = (Real.exp (σ J - μ) : EReal) := fun J => by
    rw [← EReal.coe_sub, exp_coe]
  have e1 : ∀ J, Real.exp (σ J) = Real.exp (σ J - μ) * Real.exp μ := fun J => by
    rw [← Real.exp_add, sub_add_cancel]
  have hl : 0 < ∑ J, Real.exp (σ J - μ) := Finset.sum_pos (fun J _ => Real.exp_pos _) Finset.univ_nonempty
  simp only [e0, exp_coe]
  rw [← coe_sum, ← coe_sum]
  have num : ∑ J, (Real.exp (σ J) : EReal) * v J = (∑ J, v J * (Real.exp (σ J - μ) : EReal)) * (Real.exp μ : EReal) := by
    rw [sum_mul_coe _ _ (Real.exp_pos μ).le]
    refine Finset.sum_congr rfl fun J _ => ?_
    rw [e1, EReal.coe_mul, mul_comm, mul_assoc]
  have den : ∑ J, Real.exp (σ J) = (∑ J, Real.exp (σ J - μ)) * Real.exp μ := by
    rw [Finset.sum_mul]; exact Finset.sum_congr rfl fun J _ => e1 J
  rw [num, den, div_scale _ hl (Real.exp_pos μ)]

/-- Key `j` of device `p`'s block. -/
def at_ (p : Fin 16) (j : Fin 1024) : Fin 16384 := ⟨p.val * 1024 + j.val, by omega⟩

theorem sum_blocks (f : Fin 16384 → EReal) : ∑ p : Fin 16, ∑ j : Fin 1024, f (at_ p j) = ∑ J, f J := by
  rw [← Fintype.sum_prod_type' (f := fun p j => f (at_ p j))]
  refine Fintype.sum_equiv (finProdFinEquiv (m := 16) (n := 1024)) _ _ fun x => ?_
  congr 1
  refine Fin.ext ?_
  show x.1.val * 1024 + x.2.val = x.2.val + 1024 * x.1.val
  omega

/-- The scale of the scores is real. -/
theorem scale_real : ∃ r : ℝ, Ideal.ofBits .f32 0x3DB504F3#32 = (r : EReal) := by
  refine ⟨(Ideal.ofBits .f32 0x3DB504F3#32 : EReal).toReal, (EReal.coe_toReal ?_ ?_).symm⟩ <;>
    simp [Ideal.ofBits, Ideal.ieee, -EReal.coe_mul]

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

/-- The two ways of scaling a score agree on reals. -/
theorem score {n k : ℕ} (s : ℝ) (x : Fin k → ℝ) (w : Fin k → Fin n → ℝ) (y : Fin n → ℝ) :
    (∑ e, (∑ e', (x e' : EReal) * (w e' e : EReal)) * (s : EReal) * (y e : EReal) : EReal)
        = (((∑ e, (∑ e', x e' * w e' e) * y e) * s : ℝ) : EReal)
      ∧ (∑ e, (∑ e', (x e' : EReal) * (w e' e : EReal)) * (y e : EReal) : EReal) * (s : EReal)
        = (((∑ e, (∑ e', x e' * w e' e) * y e) * s : ℝ) : EReal) := by
  simp only [← EReal.coe_mul, ← coe_sum, true_and, and_true]
  rw [Finset.sum_mul]
  congr 1
  refine Finset.sum_congr rfl fun e _ => ?_
  ring

end Cert.Soft

end
-- ==== Proof.Alg.lean ====
/-
# The kernel's result is the reference's

Entry by entry, what the kernel leaves is what the reference computes of the whole arrays, where the input, the
query weights and the keys are real.
-/
module

public import proofs.«01_k».proof.Proof.Value
public import proofs.«01_k».proof.Proof.RefVal
public import proofs.«01_k».proof.Proof.Soft
public import proofs.«01_k».proof.Proof.Gen.Pre_finite_KernelIdeal
public import Idealize.ShloMosaic.Lib.ReduceAll
public import Idealize.ShloMosaic.Lib.WordArith
public import proofs.«01_k».proof.Defs

@[expose] public section

set_option maxRecDepth 20000

noncomputable section

namespace Cert.KProof

open Cert.KernelIdeal Cert.KernelIdeal.Gen
open Idealize.ShloMosaic Idealize.ShloMosaic.TcCoe Idealize.ShloMosaic.Pointwise
open Cert.RProof (sco sco_at wts wts_at mx mx_at outp outp_at)

abbrev SK : Shape := ⟨4, ![4, 16384, 8, 128]⟩

variable (M : (ℓ : Loc nD τ sig) → Buf (Elt Ideal) ℓ)
variable (x : FVec Ideal S4x256x1024 .f32) (wq wo : FVec Ideal S1024x1024 .f32) (k v : FVec Ideal SK .f32)

/-- Every device's arguments are its parts of the whole arrays. -/
structure Fed : Prop where
  x : ∀ c : Dev nD, M ((c : Thread nD τ).loc main_arg0) = x
  wq : ∀ c : Dev nD, M ((c : Thread nD τ).loc main_arg1) = wq
  wo : ∀ c : Dev nD, M ((c : Thread nD τ).loc main_arg4) = wo
  k : ∀ (c : Dev nD) b j h e, kfun M c (ix4 b j h e) = k (ix4 b (Soft.at_ c j) h e)
  v : ∀ (c : Dev nD) b j h e, vfun M c (ix4 b j h e) = v (ix4 b (Soft.at_ c j) h e)

/-- An array of reals. -/
def Real' {s : Shape} (f : FVec Ideal s .f32) : Prop := ∀ i, ∃ r : ℝ, f i = (r : EReal)

variable {M x wq wo k v}

theorem scores (H : Fed M x wq wo k v) (hx : Real' x) (hw : Real' wq) (hk : Real' k) :
    ∃ σ : Fin 4 → Fin 8 → Fin 256 → Fin 16384 → ℝ,
      (∀ b h i J, sco x wq k (ix4 b h i J) = (σ b h i J : EReal))
      ∧ ∀ (p : Dev nD) b h i j, ks (xstg M p) (wqstg M p) (kfun M p) b i h j = (σ b h i (Soft.at_ p j) : EReal) := by
  choose xr hx using hx
  choose wr hw using hw
  choose kr hk using hk
  obtain ⟨s, hs⟩ := Soft.scale_real
  refine ⟨fun b h i J => (∑ e : Fin 128, (∑ e' : Fin 1024, xr (ix3 b i e') * wr (ix2 e' ⟨h.val * 128 + e.val, by omega⟩)) * kr (ix4 b J h e)) * s, ?_, ?_⟩
  · intro b h i J
    rw [sco_at, hs]
    simp only [hx, hw, hk]
    exact (Soft.score s _ (fun e' e => wr (ix2 e' ⟨h.val * 128 + e.val, by omega⟩)) _).2
  · intro p b h i j
    unfold ks qf SC
    rw [xstg_eq, wqstg_eq, H.x, H.wq, hs]
    simp only [H.k, hx, hw, hk, Nat.mul_comm 128]
    exact (Soft.score s _ (fun e' e => wr (ix2 e' ⟨h.val * 128 + e.val, by omega⟩)) _).1

theorem entry (H : Fed M x wq wo k v) (hx : Real' x) (hw : Real' wq) (hk : Real' k) (b : Fin 4) (h : Fin 8) (i : Fin 256) (d : Fin 128) :
    Ideal.div (∑ p : Fin 16, ovH M p b h (ix2 i d)) (∑ p : Fin 16, lvH M p b h (ix2 i 0))
      = Ideal.div (∑ J : Fin 16384, v (ix4 b J h d) * wts (sco x wq k) (ix4 b h i J)) (∑ J : Fin 16384, wts (sco x wq k) (ix4 b h i J)) := by
  obtain ⟨σ, h1, h2⟩ := scores H hx hw hk
  obtain ⟨μ, hμ⟩ : ∃ μ : ℝ, mx (sco x wq k) (ix3 b h i) = (μ : EReal) := by
    rw [mx_at, Soft.neg_inf]
    simp only [h1]
    rcases Soft.fold_max_real Finset.univ (σ b h i) with e | e
    · exact absurd (Finset.mem_univ (0 : Fin 16384)) (by rw [e]; simp)
    · exact e
  simp only [wts_at, hμ, h1, ovH_val, lvH_val, h2, H.v]
  rw [Soft.sum_blocks (fun J => Ideal.exp (σ b h i J : EReal) * v (ix4 b J h d)), Soft.sum_blocks (fun J => Ideal.exp (σ b h i J : EReal))]
  exact (Soft.shift (by decide) (σ b h i) (fun J => v (ix4 b J h d)) μ).symm

/-- Every row of the result is a row of some device's chunk. -/
theorem covered (b : Fin 4) (i : Fin 256) : ∃ (o : Fin 16) (y : Fin 64), chB (nx o) = b ∧ rw4 (nx o) y = i
    ∧ ∀ n : Fin 1024, outEmb (nx o) (ix3 0 y n) = ix3 b i n := by
  have key : ∃ o : Fin 16, (nx o).val = 4 * b.val + i.val / 64 :=
    ⟨⟨(4 * b.val + i.val / 64 + 15) % 16, Nat.mod_lt _ (by decide)⟩, by
      show ((4 * b.val + i.val / 64 + 15) % 16 + 1) % 16 = _
      omega⟩
  obtain ⟨o, ho⟩ := key
  refine ⟨o, ⟨i.val % 64, Nat.mod_lt _ (by decide)⟩, ?_, ?_, ?_⟩
  · refine Fin.ext ?_; show (nx o).val / 4 = _; omega
  · refine Fin.ext ?_; show 64 * ((nx o).val % 4) + i.val % 64 = _; omega
  · intro n
    unfold outEmb
    funext a
    fin_cases a
    · refine Fin.ext ?_
      show (nx o).val / 4 + 1 * 0 = b.val; omega
    · refine Fin.ext ?_
      show 64 * ((nx o).val % 4) + 1 * (i.val % 64) = i.val; omega
    · refine Fin.ext ?_
      show 0 + 1 * n.val = n.val; omega

theorem out_at (H : Fed M x wq wo k v) (hx : Real' x) (hw : Real' wq) (hk : Real' k) (c : Dev nD) (X : FVec Ideal S4x256x1024 .f32)
    (hX : OutGood M c X) (b : Fin 4) (i : Fin 256) (n : Fin 1024) : X (ix3 b i n) = ∑ e : Fin 1024,
      Ideal.div (∑ J : Fin 16384, v (ix4 b J ⟨e.val / 128, by omega⟩ ⟨e.val % 128, by omega⟩) * wts (sco x wq k) (ix4 b ⟨e.val / 128, by omega⟩ i J))
        (∑ J : Fin 16384, wts (sco x wq k) (ix4 b ⟨e.val / 128, by omega⟩ i J)) * wo (ix2 e n) := by
  obtain ⟨o, y, e1, e2, e3⟩ := covered b i
  obtain ⟨cm, hc, hy⟩ := hX o
  have h1 := (hy (ix3 0 y n)).trans (out_val M c o cm hc y n)
  rw [e3 n, e1, e2, wostg_eq, H.wo] at h1
  refine h1.trans (Finset.sum_congr rfl fun e _ => ?_)
  have e4 : hd (e.val / 128) = ⟨e.val / 128, by omega⟩ := Fin.ext (by show e.val / 128 % 8 = e.val / 128; omega)
  rw [entry H hx hw hk, e4]

theorem out_eq (H : Fed M x wq wo k v) (hx : Real' x) (hw : Real' wq) (hk : Real' k) (c : Dev nD) (X : FVec Ideal S4x256x1024 .f32)
    (hX : OutGood M c X) : X = outp wo v (wts (sco x wq k)) := by
  funext j
  have hj : j = ix3 (j 0) (j 1) (j 2) := by funext a; fin_cases a <;> rfl
  rw [hj]
  exact (out_at H hx hw hk c X hX _ _ _).trans (outp_at wo v _ _ _ _).symm

/-! ## Reading the precondition -/

theorem real_of_all {s : Shape} (f : FVec Ideal s .f32) {lo hi : FVec Ideal s .f32} (hlo : ∀ i, lo i = ⊥) (hhi : ∀ i, hi i = ⊤)
    (h : ∀ i, andi (cmpf .ogt f lo) (cmpf .olt f hi) i = 1#1) : Real' f := fun i => by
  have h' : IntOp.andi (BitVec.ofBool (decide (lo i < f i))) (BitVec.ofBool (decide (f i < hi i))) = 1#1 := h i
  rw [WordArith.andi_ofBool, WordArith.ofBool_eq_one_iff, Bool.and_eq_true, decide_eq_true_eq, decide_eq_true_eq, hlo, hhi] at h'
  exact ⟨(f i).toReal, (EReal.coe_toReal h'.2.ne h'.1.ne').symm⟩

theorem pre_real (a0 : FVec Ideal Cert.Pre_finite_KernelIdeal.S4x256x1024 .f32) (a1 : FVec Ideal Cert.Pre_finite_KernelIdeal.S1024x1024 .f32)
    (a2 a3 : FVec Ideal Cert.Pre_finite_KernelIdeal.S4x1024x8x128 .f32) (a4 : FVec Ideal Cert.Pre_finite_KernelIdeal.S1024x1024 .f32)
    (h : (Cert.Pre_finite_KernelIdeal.fn (F := Ideal) a0 a1 a2 a3 a4).1 = (fun _ => 1#1)
      ∧ (Cert.Pre_finite_KernelIdeal.fn (F := Ideal) a0 a1 a2 a3 a4).2.1 = (fun _ => 1#1)
      ∧ (Cert.Pre_finite_KernelIdeal.fn (F := Ideal) a0 a1 a2 a3 a4).2.2 = (fun _ => 1#1)) : Real' a0 ∧ Real' a1 ∧ Real' a2 := by
  obtain ⟨h0, h1, h2⟩ := h
  dsimp only [Cert.Pre_finite_KernelIdeal.fn, Cert.Pre_finite_KernelIdeal.fn_part1] at h0 h1 h2
  have : Subsingleton Cert.Pre_finite_KernelIdeal.S_.Idx := ⟨fun a b => funext fun i => i.elim0⟩
  let j : Cert.Pre_finite_KernelIdeal.S_.Idx := fun i => i.elim0
  refine ⟨real_of_all a0 (fun _ => Soft.neg_inf) (fun _ => Soft.pos_inf) ?_, real_of_all a1 (fun _ => Soft.neg_inf) (fun _ => Soft.pos_inf) ?_,
    real_of_all a2 (fun _ => Soft.neg_inf) (fun _ => Soft.pos_inf) ?_⟩
  · exact fun i => Host.reduce_andi_all _ _ _ _ j (congrFun h0 j) i
  · exact fun i => Host.reduce_andi_all _ _ _ _ j (congrFun h1 j) i
  · exact fun i => Host.reduce_andi_all _ _ _ _ j (congrFun h2 j) i

/-! ## The claim -/

theorem block_at (K : FVec Ideal SK .f32) (c : Fin 16) (b : Fin 4) (j : Fin 1024) (h : Fin 8) (e : Fin 128) :
    Layout.block ⟨4, ![4, 1024, 8, 128]⟩ ⟨4, ![4, 16384, 8, 128]⟩ 1 16 c K (by decide) (ix4 b j h e) = K (ix4 b (Soft.at_ c j) h e) := by
  rw [Layout.block_apply]
  congr 1
  funext a
  fin_cases a <;> rfl

theorem real_of_blocks {K : FVec Ideal SK .f32}
    (h : ∀ c : Fin 16, Real' (Layout.block ⟨4, ![4, 1024, 8, 128]⟩ ⟨4, ![4, 16384, 8, 128]⟩ 1 16 c K (by decide) : FVec Ideal S4x1024x8x128 .f32)) :
    Real' K := fun i => by
  have hJ : (i 1 : Fin 16384).val < 16384 := (i 1).isLt
  have e : i = ix4 (i 0) (Soft.at_ ⟨(i 1 : Fin 16384).val / 1024, by omega⟩ ⟨(i 1 : Fin 16384).val % 1024, by omega⟩) (i 2) (i 3) := by
    funext a
    fin_cases a
    · rfl
    · refine Fin.ext ?_
      show (i 1 : Fin 16384).val = (i 1 : Fin 16384).val / 1024 * 1024 + (i 1 : Fin 16384).val % 1024
      omega
    · rfl
    · rfl
  obtain ⟨r, hr⟩ := h ⟨(i 1 : Fin 16384).val / 1024, by omega⟩ (ix4 (i 0) ⟨(i 1 : Fin 16384).val % 1024, by omega⟩ (i 2) (i 3))
  exact ⟨r, (congrArg K e).trans ((block_at K _ _ _ _ _).symm.trans hr)⟩

theorem algebraic : Cert.algebraic_KernelIdeal_ReferenceIdeal_pre_finite_KernelIdeal := fun m g m' g' hp ha => by
  have hr := fun c => pre_real _ _ _ _ _ (hp c)
  have H : Fed m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg4))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) :=
    ⟨fun c => (ha c).1, fun c => (ha c).2.1, fun c => (ha c).2.2.2.2,
      fun c b j h e => (congrFun (ha c).2.2.1 (ix4 b j h e)).trans (block_at _ c b j h e),
      fun c b j h e => (congrFun (ha c).2.2.2.1 (ix4 b j h e)).trans (block_at _ c b j h e)⟩
  have hx : Real' (s := S4x256x1024) (m' (((0 : Dev Cert.ReferenceIdeal.nD).tc : Thread Cert.ReferenceIdeal.nD Cert.ReferenceIdeal.τ).loc Cert.ReferenceIdeal.main_arg0)) :=
    fun i => by have := (hr 0).1 i; rw [(ha 0).1] at this; exact this
  have hw : Real' (s := S1024x1024) (m' (((0 : Dev Cert.ReferenceIdeal.nD).tc : Thread Cert.ReferenceIdeal.nD Cert.ReferenceIdeal.τ).loc Cert.ReferenceIdeal.main_arg1)) :=
    fun i => by have := (hr 0).2.1 i; rw [(ha 0).2.1] at this; exact this
  have hk : Real' (s := SK) (m' (((0 : Dev Cert.ReferenceIdeal.nD).tc : Thread Cert.ReferenceIdeal.nD Cert.ReferenceIdeal.τ).loc Cert.ReferenceIdeal.main_arg2)) :=
    real_of_blocks fun c i => by have := (hr c).2.2 i; rw [(ha c).2.2.1] at this; exact this
  refine ⟨_, (θ_run Cert.KernelIdeal.defs _ _).mono (fun r h c => ?_) (run_main m g),
    (θ_run Cert.ReferenceIdeal.defs _ _).mono (fun r h => h 0) (Cert.RProof.run_out m' g')⟩
  exact ⟨out_eq H hx hw hk c _ (h.1 c).1, (h.1 c).2⟩

end Cert.KProof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Run
public import proofs.«01_k».proof.Proof.Alg
public import Idealize.ShloMosaic.Adequacy
public import Idealize.ShloMosaic.Init

@[expose] public section

noncomputable section

namespace Cert.Proof

open Idealize.ShloMosaic Idealize.SL Idealize.SL.Sem
open Cert.KProof (run_main Fin₀)

/-! The two printed kernels have one text; a table of bodies is compared entry by entry. -/

theorem same_body : @Cert.Kernel.cc0_body Bits _ _ = @Cert.KernelIdeal.cc0_body Bits _ _ := by rfl
theorem same_table : @Cert.Kernel.defs₀ Bits _ _ = @Cert.KernelIdeal.defs₀ Bits _ _ := by
  funext p k a
  cases p
  · rcases k with ⟨_ | _, h⟩
    · rfl
    · exact absurd h (by simp)
  all_goals rfl
theorem same_defs : @Cert.Kernel.defs Bits _ _ = @Cert.KernelIdeal.defs Bits _ _ :=
  congrArg (Pipeline.defs Cert.KernelIdeal.pcfgs) same_table

/-- What a kernel's frame claims of a run: the arguments as they were, and every counter at zero. -/
def Quiet {F : FTy → Type} (m : (ℓ : Loc Cert.KernelIdeal.nD Cert.KernelIdeal.τ Cert.KernelIdeal.sig) → Buf (Elt F) ℓ)
    (r : PUnit × MemSt Cert.KernelIdeal.nD Cert.KernelIdeal.τ Cert.KernelIdeal.sig (Elt F)) : Prop :=
  (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
    ∧ r.2.sem = fun _ => 0

theorem quiet_run {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (Quiet m) :=
  (θ_run Cert.KernelIdeal.defs _ _).mono (fun _ h => ⟨fun c => (h.1 c).2, h.2⟩) (run_main m ρ)

/-- The kernel over the machine's floats runs, its arguments unchanged and every counter back at zero: its program is
    the idealized kernel's own text, and that program's run holds for any float values. -/
theorem frame_kernel : Cert.quiescent_Kernel := fun m ρ _ => by
  rw [same_defs]
  exact quiet_run (F := Bits) m ρ

theorem frame_ideal : Cert.quiescent_KernelIdeal := fun m ρ _ =>
  quiet_run (F := Ideal) m ρ

theorem frame_reference : Cert.quiescent_ReferenceIdeal := fun m ρ _ =>
  (θ_run Cert.ReferenceIdeal.defs _ _).mono
    (fun r h => ⟨fun c => (h c).2, sem_eq_zero_of_no_sems rfl r.2⟩) (Cert.ReferenceIdeal.Value.run m ρ)

theorem frame_ideal_finite : Cert.quiescent_KernelIdeal_pre_finite_KernelIdeal := fun m ρ _ =>
  quiet_run (F := Ideal) m ρ

theorem frame_reference_finite : Cert.quiescent_ReferenceIdeal_pre_finite_ReferenceIdeal := fun m ρ _ =>
  frame_reference m ρ trivial

theorem claim : Cert.Claim :=
  ⟨Cert.Kernel.Gen.facts, Cert.KernelIdeal.Gen.facts, Cert.ReferenceIdeal.Gen.facts,
    Cert.Pre_finite_KernelIdeal.Gen.facts, Cert.Pre_finite_ReferenceIdeal.Gen.facts,
    frame_kernel, frame_ideal, frame_ideal_finite, frame_reference, frame_reference_finite, trivial, Cert.KProof.algebraic⟩

end Cert.Proof

end
